-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)) (v3 : (c : Dev Cert.Kernel2Ideal.nD) → Buf (Elt Ideal) ((c.tc : Thread Cert.Kernel2Ideal.nD Cert.Kernel2Ideal.τ).loc Cert.Kernel2Ideal.main_v31_3)) (v4 : (c : Dev Cert.Kernel2Ideal.nD) → Buf (Elt Ideal) ((c.tc : Thread Cert.Kernel2Ideal.nD Cert.Kernel2Ideal.τ).loc Cert.Kernel2Ideal.main_v31_4)) (v5 : (c : Dev Cert.Kernel2Ideal.nD) → Buf (Elt Ideal) ((c.tc : Thread Cert.Kernel2Ideal.nD Cert.Kernel2Ideal.τ).loc Cert.Kernel2Ideal.main_v31_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_v31_3) = v3 c
          ∧ r.2.mem ((c.tc : Thread Cert.Kernel2Ideal.nD Cert.Kernel2Ideal.τ).loc Cert.Kernel2Ideal.main_v31_4) = v4 c
          ∧ r.2.mem ((c.tc : Thread Cert.Kernel2Ideal.nD Cert.Kernel2Ideal.τ).loc Cert.Kernel2Ideal.main_v31_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_v34) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v15) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)) (v2 : (c : Dev Cert.Kernel19Ideal.nD) → Buf (Elt Ideal) ((c.tc : Thread Cert.Kernel19Ideal.nD Cert.Kernel19Ideal.τ).loc Cert.Kernel19Ideal.main_v8_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_v8_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v25) = v0 c
          ∧ r.2.mem ((c.tc : Thread Cert.Reference19Ideal.nD Cert.Reference19Ideal.τ).loc Cert.Reference19Ideal.main_v27) = v1 c
          ∧ r.2.mem ((c.tc : Thread Cert.Reference19Ideal.nD Cert.Reference19Ideal.τ).loc Cert.Reference19Ideal.main_v29) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)) (v2 : (c : Dev Cert.Kernel20Ideal.nD) → Buf (Elt Ideal) ((c.tc : Thread Cert.Kernel20Ideal.nD Cert.Kernel20Ideal.τ).loc Cert.Kernel20Ideal.main_v8_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_v8_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v25) = v0 c
          ∧ r.2.mem ((c.tc : Thread Cert.Reference20Ideal.nD Cert.Reference20Ideal.τ).loc Cert.Reference20Ideal.main_v27) = v1 c
          ∧ r.2.mem ((c.tc : Thread Cert.Reference20Ideal.nD Cert.Reference20Ideal.τ).loc Cert.Reference20Ideal.main_v29) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v4_0)) (v1 : (c : Dev Cert.Kernel22Ideal.nD) → Buf (Elt Ideal) ((c.tc : Thread Cert.Kernel22Ideal.nD Cert.Kernel22Ideal.τ).loc Cert.Kernel22Ideal.main_v4_1)) (v2 : (c : Dev Cert.Kernel22Ideal.nD) → Buf (Elt Ideal) ((c.tc : Thread Cert.Kernel22Ideal.nD Cert.Kernel22Ideal.τ).loc Cert.Kernel22Ideal.main_v4_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4_0) = v0 c
          ∧ r.2.mem ((c.tc : Thread Cert.Kernel22Ideal.nD Cert.Kernel22Ideal.τ).loc Cert.Kernel22Ideal.main_v4_1) = v1 c
          ∧ r.2.mem ((c.tc : Thread Cert.Kernel22Ideal.nD Cert.Kernel22Ideal.τ).loc Cert.Kernel22Ideal.main_v4_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v26) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)) (v2 : (c : Dev Cert.Kernel24Ideal.nD) → Buf (Elt Ideal) ((c.tc : Thread Cert.Kernel24Ideal.nD Cert.Kernel24Ideal.τ).loc Cert.Kernel24Ideal.main_v4_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_v4_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v26) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v4_0)) (v1 : (c : Dev Cert.Kernel25Ideal.nD) → Buf (Elt Ideal) ((c.tc : Thread Cert.Kernel25Ideal.nD Cert.Kernel25Ideal.τ).loc Cert.Kernel25Ideal.main_v4_1)) (v2 : (c : Dev Cert.Kernel25Ideal.nD) → Buf (Elt Ideal) ((c.tc : Thread Cert.Kernel25Ideal.nD Cert.Kernel25Ideal.τ).loc Cert.Kernel25Ideal.main_v4_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v4_0) = v0 c
          ∧ r.2.mem ((c.tc : Thread Cert.Kernel25Ideal.nD Cert.Kernel25Ideal.τ).loc Cert.Kernel25Ideal.main_v4_1) = v1 c
          ∧ r.2.mem ((c.tc : Thread Cert.Kernel25Ideal.nD Cert.Kernel25Ideal.τ).loc Cert.Kernel25Ideal.main_v4_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v26) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v17) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v3) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v2) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v7) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v3_0)) (v1 : (c : Dev Cert.Kernel31Ideal.nD) → Buf (Elt Ideal) ((c.tc : Thread Cert.Kernel31Ideal.nD Cert.Kernel31Ideal.τ).loc Cert.Kernel31Ideal.main_v3_1)) (v2 : (c : Dev Cert.Kernel31Ideal.nD) → Buf (Elt Ideal) ((c.tc : Thread Cert.Kernel31Ideal.nD Cert.Kernel31Ideal.τ).loc Cert.Kernel31Ideal.main_v3_2)) (v3 : (c : Dev Cert.Kernel31Ideal.nD) → Buf (Elt Ideal) ((c.tc : Thread Cert.Kernel31Ideal.nD Cert.Kernel31Ideal.τ).loc Cert.Kernel31Ideal.main_v3_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v3_0) = v0 c
          ∧ r.2.mem ((c.tc : Thread Cert.Kernel31Ideal.nD Cert.Kernel31Ideal.τ).loc Cert.Kernel31Ideal.main_v3_1) = v1 c
          ∧ r.2.mem ((c.tc : Thread Cert.Kernel31Ideal.nD Cert.Kernel31Ideal.τ).loc Cert.Kernel31Ideal.main_v3_2) = v2 c
          ∧ r.2.mem ((c.tc : Thread Cert.Kernel31Ideal.nD Cert.Kernel31Ideal.τ).loc Cert.Kernel31Ideal.main_v3_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v54) = v0 c
          ∧ r.2.mem ((c.tc : Thread Cert.Reference31Ideal.nD Cert.Reference31Ideal.τ).loc Cert.Reference31Ideal.main_v55) = v1 c
          ∧ r.2.mem ((c.tc : Thread Cert.Reference31Ideal.nD Cert.Reference31Ideal.τ).loc Cert.Reference31Ideal.main_v56) = v2 c
          ∧ r.2.mem ((c.tc : Thread Cert.Reference31Ideal.nD Cert.Reference31Ideal.τ).loc Cert.Reference31Ideal.main_v57) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v17) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v31) = v0 c
          ∧ r.2.mem ((c.tc : Thread Cert.Reference33Ideal.nD Cert.Reference33Ideal.τ).loc Cert.Reference33Ideal.main_v32) = v1 c
          ∧ r.2.mem ((c.tc : Thread Cert.Reference33Ideal.nD Cert.Reference33Ideal.τ).loc Cert.Reference33Ideal.main_v33) = v2 c
          ∧ r.2.mem ((c.tc : Thread Cert.Reference33Ideal.nD Cert.Reference33Ideal.τ).loc Cert.Reference33Ideal.main_v34) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v2) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v29) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v3) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v21) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_v27) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v5) = v0 c
          ∧ r.2.mem ((c.tc : Thread Cert.Reference39Ideal.nD Cert.Reference39Ideal.τ).loc Cert.Reference39Ideal.main_v27) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S8192x2816 .bf16 := Host.absf main_arg3
  let main_cst_1 : FVec F S_ .bf16 := constant S_ .bf16 0x7F80#16
  let main_v7 : FVec F S8192x2816 .bf16 := broadcastInDim S8192x2816 ![] bcast_S_S8192x2816 main_cst_1
  let main_v8 : IVec S8192x2816 1 := cmpf .olt main_v6 main_v7
  (main_v2, main_v5, main_v8)
-- ==== Kernel.lean ====
abbrev S4x8x32x64x64 : Shape := ⟨5, ![4, 8, 32, 64, 64]⟩
abbrev S4x8x32 : Shape := ⟨3, ![4, 8, 32]⟩
abbrev S4x4x2x32x64x64 : Shape := ⟨6, ![4, 4, 2, 32, 64, 64]⟩
abbrev S4x4x32x64x2x64 : Shape := ⟨6, ![4, 4, 32, 64, 2, 64]⟩
abbrev S4x4x2048x128 : Shape := ⟨4, ![4, 4, 2048, 128]⟩
abbrev S4x8x32x1x1 : Shape := ⟨5, ![4, 8, 32, 1, 1]⟩
abbrev S2x8x2048x128 : Shape := ⟨4, ![2, 8, 2048, 128]⟩
abbrev S2x2x4x2x32x1x1 : Shape := ⟨7, ![2, 2, 4, 2, 32, 1, 1]⟩
abbrev S2x2x2x4x32x1x1 : Shape := ⟨7, ![2, 2, 2, 4, 32, 1, 1]⟩
abbrev S2x16x32x1x1 : Shape := ⟨5, ![2, 16, 32, 1, 1]⟩
abbrev S2x16x32x64x64 : Shape := ⟨5, ![2, 16, 32, 64, 64]⟩
abbrev S1x8x256x128 : Shape := ⟨4, ![1, 8, 256, 128]⟩
abbrev S1x16x4x1x1 : Shape := ⟨5, ![1, 16, 4, 1, 1]⟩
abbrev S1x16x4x64x64 : Shape := ⟨5, ![1, 16, 4, 64, 64]⟩
abbrev S16x64x64 : Shape := ⟨3, ![16, 64, 64]⟩
abbrev S1x16x1x64x64 : Shape := ⟨5, ![1, 16, 1, 64, 64]⟩
abbrev S1x8x64x128 : Shape := ⟨4, ![1, 8, 64, 128]⟩
abbrev S8x64x128 : Shape := ⟨3, ![8, 64, 128]⟩
abbrev S8x64x64 : Shape := ⟨3, ![8, 64, 64]⟩
abbrev S1x16x1x1x1 : Shape := ⟨5, ![1, 16, 1, 1, 1]⟩
abbrev S16x1x1 : Shape := ⟨3, ![16, 1, 1]⟩

abbrev nBuf : Space → Nat
  | .hbm => 32
  | .vmem => 17
  | .smem => 0
  | _ => 0

abbrev bufTy : (tb : Table) → Fin (tcTables nBuf tb) → BufTy
  | .hbm, ⟨0, _⟩ => ⟨S4x8x32x64x64, .f32⟩
  | .hbm, ⟨1, _⟩ => ⟨S4x8x32x64x64, .f32⟩
  | .hbm, ⟨2, _⟩ => ⟨S4x8x32x64x64, .f32⟩
  | .hbm, ⟨3, _⟩ => ⟨S4x8x32x64x64, .f32⟩
  | .hbm, ⟨4, _⟩ => ⟨S4x8x32x64x64, .f32⟩
  | .hbm, ⟨5, _⟩ => ⟨S4x8x32, .f32⟩
  | .hbm, ⟨6, _⟩ => ⟨S4x4x2x32x64x64, .f32⟩
  | .hbm, ⟨7, _⟩ => ⟨S4x4x32x64x2x64, .f32⟩
  | .hbm, ⟨8, _⟩ => ⟨S4x4x2048x128, .f32⟩
  | .hbm, ⟨9, _⟩ => ⟨S4x4x2x32x64x64, .f32⟩
  | .hbm, ⟨10, _⟩ => ⟨S4x4x32x64x2x64, .f32⟩
  | .hbm, ⟨11, _⟩ => ⟨S4x4x2048x128, .f32⟩
  | .hbm, ⟨12, _⟩ => ⟨S4x4x2x32x64x64, .f32⟩
  | .hbm, ⟨13, _⟩ => ⟨S4x4x32x64x2x64, .f32⟩
  | .hbm, ⟨14, _⟩ => ⟨S4x4x2048x128, .f32⟩
  | .hbm, ⟨15, _⟩ => ⟨S4x4x2x32x64x64, .f32⟩
  | .hbm, ⟨16, _⟩ => ⟨S4x4x32x64x2x64, .f32⟩
  | .hbm, ⟨17, _⟩ => ⟨S4x4x2048x128, .f32⟩
  | .hbm, ⟨18, _⟩ => ⟨S4x4x2x32x64x64, .f32⟩
  | .hbm, ⟨19, _⟩ => ⟨S4x4x32x64x2x64, .f32⟩
  | .hbm, ⟨20, _⟩ => ⟨S4x4x2048x128, .f32⟩
  | .hbm, ⟨21, _⟩ => ⟨S4x8x32x1x1, .f32⟩
  | .hbm, ⟨22, _⟩ => ⟨S2x8x2048x128, .f32⟩
  | .hbm, ⟨23, _⟩ => ⟨S2x8x2048x128, .f32⟩
  | .hbm, ⟨24, _⟩ => ⟨S2x8x2048x128, .f32⟩
  | .hbm, ⟨25, _⟩ => ⟨S2x8x2048x128, .f32⟩
  | .hbm, ⟨26, _⟩ => ⟨S2x8x2048x128, .f32⟩
  | .hbm, ⟨27, _⟩ => ⟨S2x2x4x2x32x1x1, .f32⟩
  | .hbm, ⟨28, _⟩ => ⟨S2x2x2x4x32x1x1, .f32⟩
  | .hbm, ⟨29, _⟩ => ⟨S2x16x32x1x1, .f32⟩
  | .hbm, ⟨30, _⟩ => ⟨S2x8x2048x128, .f32⟩
  | .hbm, ⟨31, _⟩ => ⟨S2x16x32x64x64, .f32⟩
  | .local _ .vmem, ⟨0, _⟩ => ⟨S1x8x256x128, .f32⟩
  | .local _ .vmem, ⟨1, _⟩ => ⟨S1x8x256x128, .f32⟩
  | .local _ .vmem, ⟨2, _⟩ => ⟨S1x8x256x128, .f32⟩
  | .local _ .vmem, ⟨3, _⟩ => ⟨S1x8x256x128, .f32⟩
  | .local _ .vmem, ⟨4, _⟩ => ⟨S1x8x256x128, .f32⟩
  | .local _ .vmem, ⟨5, _⟩ => ⟨S1x8x256x128, .f32⟩
  | .local _ .vmem, ⟨6, _⟩ => ⟨S1x8x256x128, .f32⟩
  | .local _ .vmem, ⟨7, _⟩ => ⟨S1x8x256x128, .f32⟩
  | .local _ .vmem, ⟨8, _⟩ => ⟨S1x8x256x128, .f32⟩
  | .local _ .vmem, ⟨9, _⟩ => ⟨S1x8x256x128, .f32⟩
  | .local _ .vmem, ⟨10, _⟩ => ⟨S1x16x4x1x1, .f32⟩
  | .local _ .vmem, ⟨11, _⟩ => ⟨S1x16x4x1x1, .f32⟩
  | .local _ .vmem, ⟨12, _⟩ => ⟨S1x8x256x128, .f32⟩
  | .local _ .vmem, ⟨13, _⟩ => ⟨S1x8x256x128, .f32⟩
  | .local _ .vmem, ⟨14, _⟩ => ⟨S1x16x4x64x64, .f32⟩
  | .local _ .vmem, ⟨15, _⟩ => ⟨S1x16x4x64x64, .f32⟩
  | .local _ .vmem, ⟨16, _⟩ => ⟨S16x64x64, .f32⟩
  | _, _ => ⟨S4x8x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c4_i32 : BitVec 32 := 4#32
  let v4 : BitVec 32 := Scalar.addi c0_i32_3 c4_i32
  let c1_i32 : BitVec 32 := 1#32
  ⟨c0_i32_3, v4, c1_i32⟩
def k0_mult1 (k0_t1 : Fin k0_t1_loop.trips) : BitVec 32 :=
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  v9
def k0_off1 (k0_t1 : Fin k0_t1_loop.trips) : Fin 5 → Nat :=
  let c0_8 : Index := 0#32
  let c0_9 : Index := 0#32
  let c0_i32_3 : BitVec 32 := 0#32
  let c1_i32 : BitVec 32 := 1#32
  let arg11 : BitVec 32 := Scf.iv c0_i32_3 c1_i32 k0_t1
  let v11 : Index := Scalar.indexCast arg11
  let c0_10 : Index := 0#32
  let c0_11 : Index := 0#32
  ![0, 0, v11.toNat, 0, 0]
def k0_off2 (k0_t1 : Fin k0_t1_loop.trips) : Fin 4 → Nat :=
  let c0_12 : Index := 0#32
  let c0_13 : Index := 0#32
  let c0_i32_3 : BitVec 32 := 0#32
  let c1_i32 : BitVec 32 := 1#32
  let arg11 : BitVec 32 := Scf.iv c0_i32_3 c1_i32 k0_t1
  let c64_i32 : BitVec 32 := 64#32
  let v9 : BitVec 32 := Scalar.muli arg11 c64_i32
  let v10 : BitVec 32 := v9
  let v15 : Index := Scalar.indexCast v10
  let c0_14 : Index := 0#32
  ![0, 0, v15.toNat, 0]
def k0_off3 (k0_t1 : Fin k0_t1_loop.trips) : Fin 5 → Nat :=
  let c0_27 : Index := 0#32
  let c0_28 : Index := 0#32
  let c0_i32_3 : BitVec 32 := 0#32
  let c1_i32 : BitVec 32 := 1#32
  let arg11 : BitVec 32 := Scf.iv c0_i32_3 c1_i32 k0_t1
  let v45 : Index := Scalar.indexCast arg11
  let c0_29 : Index := 0#32
  let c0_30 : Index := 0#32
  ![0, 0, v45.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8x32x64x64 : Shape := ⟨5, ![4, 8, 32, 64, 64]⟩
abbrev S4x8x32 : Shape := ⟨3, ![4, 8, 32]⟩
abbrev S32x4x8x64x64 : Shape := ⟨5, ![32, 4, 8, 64, 64]⟩
abbrev S32x4x8 : Shape := ⟨3, ![32, 4, 8]⟩
abbrev S_ : Shape := ⟨0, ![]⟩
abbrev S4x8x64x64 : Shape := ⟨4, ![4, 8, 64, 64]⟩
abbrev S1x4x8x64x64 : Shape := ⟨5, ![1, 4, 8, 64, 64]⟩
abbrev S1x4x8 : Shape := ⟨3, ![1, 4, 8]⟩
abbrev S4x8 : Shape := ⟨2, ![4, 8]⟩
abbrev S4x8x1x1 : Shape := ⟨4, ![4, 8, 1, 1]⟩
abbrev S32x2x8x2x64x64 : Shape := ⟨6, ![32, 2, 8, 2, 64, 64]⟩
abbrev S2x8x32x64x2x64 : Shape := ⟨6, ![2, 8, 32, 64, 2, 64]⟩
abbrev S2x8x2048x128 : Shape := ⟨4, ![2, 8, 2048, 128]⟩
abbrev S32x2x2x4x2x64x64 : Shape := ⟨7, ![32, 2, 2, 4, 2, 64, 64]⟩
abbrev S2x2x2x4x32x64x64 : Shape := ⟨7, ![2, 2, 2, 4, 32, 64, 64]⟩
abbrev S2x16x32x64x64 : Shape := ⟨5, ![2, 16, 32, 64, 64]⟩

abbrev nBuf : Space → Nat
  | .hbm => 96
  | .vmem => 0
  | .smem => 0
  | _ => 0

abbrev bufTy : (tb : Table) → Fin (tcTables nBuf tb) → BufTy
  | .hbm, ⟨0, _⟩ => ⟨S4x8x32x64x64, .f32⟩
  | .hbm, ⟨1, _⟩ => ⟨S4x8x32x64x64, .f32⟩
  | .hbm, ⟨2, _⟩ => ⟨S4x8x32x64x64, .f32⟩
  | .hbm, ⟨3, _⟩ => ⟨S4x8x32x64x64, .f32⟩
  | .hbm, ⟨4, _⟩ => ⟨S4x8x32x64x64, .f32⟩
  | .hbm, ⟨5, _⟩ => ⟨S4x8x32, .f32⟩
  | .hbm, ⟨6, _⟩ => ⟨S32x4x8x64x64, .f32⟩
  | .hbm, ⟨7, _⟩ => ⟨S32x4x8x64x64, .f32⟩
  | .hbm, ⟨8, _⟩ => ⟨S32x4x8x64x64, .f32⟩
  | .hbm, ⟨9, _⟩ => ⟨S32x4x8x64x64, .f32⟩
  | .hbm, ⟨10, _⟩ => ⟨S32x4x8x64x64, .f32⟩
  | .hbm, ⟨11, _⟩ => ⟨S32x4x8, .f32⟩
  | .hbm, ⟨12, _⟩ => ⟨S_, .f32⟩
  | .hbm, ⟨13, _⟩ => ⟨S4x8x64x64, .f32⟩
  | .hbm, ⟨14, _⟩ => ⟨S_, .f32⟩
  | .hbm, ⟨15, _⟩ => ⟨S32x4x8x64x64, .f32⟩
  | .hbm, ⟨16, _⟩ => ⟨S_, .f32⟩
  | .hbm, ⟨17, _⟩ => ⟨S32x4x8x64x64, .f32⟩
  | .hbm, ⟨18, _⟩ => ⟨S_, .i32⟩
  | .hbm, ⟨19, _⟩ => ⟨S32x4x8x64x64, .f32⟩
  | .hbm, ⟨20, _⟩ => ⟨S32x4x8x64x64, .f32⟩
  | .hbm, ⟨21, _⟩ => ⟨S32x4x8x64x64, .f32⟩
  | .hbm, ⟨22, _⟩ => ⟨S32x4x8x64x64, .f32⟩
  | .hbm, ⟨23, _⟩ => ⟨S32x4x8x64x64, .f32⟩
  | .hbm, ⟨24, _⟩ => ⟨S32x4x8, .f32⟩
  | .hbm, ⟨25, _⟩ => ⟨S_, .i32⟩
  | .hbm, ⟨26, _⟩ => ⟨S4x8x64x64, .f32⟩
  | .hbm, ⟨27, _⟩ => ⟨S32x4x8x64x64, .f32⟩
  | .hbm, ⟨28, _⟩ => ⟨S32x4x8x64x64, .f32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1x4x8x64x64, .f32⟩
  | .hbm, ⟨36, _⟩ => ⟨S4x8x64x64, .f32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x8x64x64, .f32⟩
  | .hbm, ⟨42, _⟩ => ⟨S4x8x64x64, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x4x8x64x64, .f32⟩
  | .hbm, ⟨48, _⟩ => ⟨S4x8x64x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x4x8x64x64, .f32⟩
  | .hbm, ⟨54, _⟩ => ⟨S4x8x64x64, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x4x8x64x64, .f32⟩
  | .hbm, ⟨60, _⟩ => ⟨S4x8x64x64, .f32⟩
  | .hbm, ⟨61, _⟩ => ⟨S_, .i32⟩
  | .hbm, ⟨62, _⟩ => ⟨S_, .i32⟩
  | .hbm, ⟨63, _⟩ => ⟨S1x4x8, .f32⟩
  | .hbm, ⟨64, _⟩ => ⟨S4x8, .f32⟩
  | .hbm, ⟨65, _⟩ => ⟨S4x8x64x64, .f32⟩
  | .hbm, ⟨66, _⟩ => ⟨S4x8x64x64, .f32⟩
  | .hbm, ⟨67, _⟩ => ⟨S4x8x64x64, .f32⟩
  | .hbm, ⟨68, _⟩ => ⟨S4x8x64x64, .f32⟩
  | .hbm, ⟨69, _⟩ => ⟨S4x8x64x64, .f32⟩
  | .hbm, ⟨70, _⟩ => ⟨S4x8, .f32⟩
  | .hbm, ⟨71, _⟩ => ⟨S4x8x1x1, .f32⟩
  | .hbm, ⟨72, _⟩ => ⟨S4x8x64x64, .f32⟩
  | .hbm, ⟨73, _⟩ => ⟨S4x8x64x64, .f32⟩
  | .hbm, ⟨74, _⟩ => ⟨S4x8x64x64, .f32⟩
  | .hbm, ⟨75, _⟩ => ⟨S4x8x64x64, .f32⟩
  | .hbm, ⟨76, _⟩ => ⟨S1x4x8x64x64, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S32x4x8x64x64, .f32⟩
  | .hbm, ⟨82, _⟩ => ⟨S1x4x8x64x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S32x4x8x64x64, .f32⟩
  | .hbm, ⟨88, _⟩ => ⟨S_, .i32⟩
  | .hbm, ⟨89, _⟩ => ⟨S_, .i32⟩
  | .hbm, ⟨90, _⟩ => ⟨S32x2x8x2x64x64, .f32⟩
  | .hbm, ⟨91, _⟩ => ⟨S2x8x32x64x2x64, .f32⟩
  | .hbm, ⟨92, _⟩ => ⟨S2x8x2048x128, .f32⟩
  | .hbm, ⟨93, _⟩ => ⟨S32x2x2x4x2x64x64, .f32⟩
  | .hbm, ⟨94, _⟩ => ⟨S2x2x2x4x32x64x64, .f32⟩
  | .hbm, ⟨95, _⟩ => ⟨S2x16x32x64x64, .f32⟩
  | _, _ => ⟨S4x8x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_c : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev main_v9_8 : Ref sig .tc := ⟨.hbm, 27, rfl⟩
abbrev main_v9_9 : Ref sig .tc := ⟨.hbm, 28, rfl⟩
abbrev main_while0c_c_11 : Ref sig .tc := ⟨.hbm, 29, rfl⟩
abbrev main_while0c_v16 : Ref sig .tc := ⟨.hbm, 30, rfl⟩
abbrev main_while0b_call0_c : Ref sig .tc := ⟨.hbm, 31, rfl⟩
abbrev main_while0b_call0_c_0 : Ref sig .tc := ⟨.hbm, 32, rfl⟩
abbrev main_while0b_call0_c_1 : Ref sig .tc := ⟨.hbm, 33, rfl⟩
abbrev main_while0b_call0_c_2 : Ref sig .tc := ⟨.hbm, 34, rfl⟩
abbrev main_while0b_call0_v0 : Ref sig .tc := ⟨.hbm, 35, rfl⟩
abbrev main_while0b_v16 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v0 : Ref sig .tc := ⟨.hbm, 41, rfl⟩
abbrev main_while0b_v17 : Ref sig .tc := ⟨.hbm, 42, rfl⟩
abbrev main_while0b_call2_c : Ref sig .tc := ⟨.hbm, 43, rfl⟩
abbrev main_while0b_call2_c_0 : Ref sig .tc := ⟨.hbm, 44, rfl⟩
abbrev main_while0b_call2_c_1 : Ref sig .tc := ⟨.hbm, 45, rfl⟩
abbrev main_while0b_call2_c_2 : Ref sig .tc := ⟨.hbm, 46, rfl⟩
abbrev main_while0b_call2_v0 : Ref sig .tc := ⟨.hbm, 47, rfl⟩
abbrev main_while0b_v18 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_c_2 : Ref sig .tc := ⟨.hbm, 52, rfl⟩
abbrev main_while0b_call3_v0 : Ref sig .tc := ⟨.hbm, 53, rfl⟩
abbrev main_while0b_v19 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_call4_c_1 : Ref sig .tc := ⟨.hbm, 57, rfl⟩
abbrev main_while0b_call4_c_2 : Ref sig .tc := ⟨.hbm, 58, rfl⟩
abbrev main_while0b_call4_v0 : Ref sig .tc := ⟨.hbm, 59, rfl⟩
abbrev main_while0b_v20 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_v0 : Ref sig .tc := ⟨.hbm, 63, rfl⟩
abbrev main_while0b_v21 : Ref sig .tc := ⟨.hbm, 64, rfl⟩
abbrev main_while0b_v22 : Ref sig .tc := ⟨.hbm, 65, rfl⟩
abbrev main_while0b_v23 : Ref sig .tc := ⟨.hbm, 66, rfl⟩
abbrev main_while0b_v24 : Ref sig .tc := ⟨.hbm, 67, rfl⟩
abbrev main_while0b_v25 : Ref sig .tc := ⟨.hbm, 68, rfl⟩
abbrev main_while0b_v26 : Ref sig .tc := ⟨.hbm, 69, rfl⟩
abbrev main_while0b_v27 : Ref sig .tc := ⟨.hbm, 70, rfl⟩
abbrev main_while0b_v28 : Ref sig .tc := ⟨.hbm, 71, rfl⟩
abbrev main_while0b_v29 : Ref sig .tc := ⟨.hbm, 72, rfl⟩
abbrev main_while0b_v30 : Ref sig .tc := ⟨.hbm, 73, rfl⟩
abbrev main_while0b_v31 : Ref sig .tc := ⟨.hbm, 74, rfl⟩
abbrev main_while0b_v32 : Ref sig .tc := ⟨.hbm, 75, rfl⟩
abbrev main_while0b_call6_v0 : Ref sig .tc := ⟨.hbm, 76, rfl⟩
abbrev main_while0b_call6_c : Ref sig .tc := ⟨.hbm, 77, rfl⟩
abbrev main_while0b_call6_c_0 : Ref sig .tc := ⟨.hbm, 78, rfl⟩
abbrev main_while0b_call6_c_1 : Ref sig .tc := ⟨.hbm, 79, rfl⟩
abbrev main_while0b_call6_c_2 : Ref sig .tc := ⟨.hbm, 80, rfl⟩
abbrev main_while0b_v33 : Ref sig .tc := ⟨.hbm, 81, rfl⟩
abbrev main_while0b_call7_v0 : Ref sig .tc := ⟨.hbm, 82, rfl⟩
abbrev main_while0b_call7_c : Ref sig .tc := ⟨.hbm, 83, rfl⟩
abbrev main_while0b_call7_c_0 : Ref sig .tc := ⟨.hbm, 84, rfl⟩
abbrev main_while0b_call7_c_1 : Ref sig .tc := ⟨.hbm, 85, rfl⟩
abbrev main_while0b_call7_c_2 : Ref sig .tc := ⟨.hbm, 86, rfl⟩
abbrev main_while0b_v34 : Ref sig .tc := ⟨.hbm, 87, rfl⟩
abbrev main_while0b_c_11 : Ref sig .tc := ⟨.hbm, 88, rfl⟩
abbrev main_while0b_v35 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_v15 : Ref sig .tc := ⟨.hbm, 95, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x8x32x64x64 : Shape := ⟨5, ![4, 8, 32, 64, 64]⟩
abbrev S4x8x32 : Shape := ⟨3, ![4, 8, 32]⟩
abbrev S4x4x2x32x64x64 : Shape := ⟨6, ![4, 4, 2, 32, 64, 64]⟩
abbrev S4x4x32x64x2x64 : Shape := ⟨6, ![4, 4, 32, 64, 2, 64]⟩
abbrev S4x4x2048x128 : Shape := ⟨4, ![4, 4, 2048, 128]⟩
abbrev S4x8x32x1x1 : Shape := ⟨5, ![4, 8, 32, 1, 1]⟩
abbrev S2x2x4x2x32x64x64 : Shape := ⟨7, ![2, 2, 4, 2, 32, 64, 64]⟩
abbrev S2x2x2x4x32x64x64 : Shape := ⟨7, ![2, 2, 2, 4, 32, 64, 64]⟩
abbrev S2x16x32x64x64 : Shape := ⟨5, ![2, 16, 32, 64, 64]⟩
abbrev S2x8x2048x128 : Shape := ⟨4, ![2, 8, 2048, 128]⟩
abbrev S2x2x4x2x32x1x1 : Shape := ⟨7, ![2, 2, 4, 2, 32, 1, 1]⟩
abbrev S2x2x2x4x32x1x1 : Shape := ⟨7, ![2, 2, 2, 4, 32, 1, 1]⟩
abbrev S2x16x32x1x1 : Shape := ⟨5, ![2, 16, 32, 1, 1]⟩
abbrev S1x8x256x128 : Shape := ⟨4, ![1, 8, 256, 128]⟩
abbrev S1x16x4x1x1 : Shape := ⟨5, ![1, 16, 4, 1, 1]⟩
abbrev S1x16x4x64x64 : Shape := ⟨5, ![1, 16, 4, 64, 64]⟩
abbrev S16x64x64 : Shape := ⟨3, ![16, 64, 64]⟩
abbrev S1x16x1x64x64 : Shape := ⟨5, ![1, 16, 1, 64, 64]⟩
abbrev S1x8x64x128 : Shape := ⟨4, ![1, 8, 64, 128]⟩
abbrev S8x64x128 : Shape := ⟨3, ![8, 64, 128]⟩
abbrev S8x64x64 : Shape := ⟨3, ![8, 64, 64]⟩
abbrev S1x16x1x1x1 : Shape := ⟨5, ![1, 16, 1, 1, 1]⟩
abbrev S16x1x1 : Shape := ⟨3, ![16, 1, 1]⟩
abbrev S16 : Shape := ⟨1, ![16]⟩

abbrev nBuf : Space → Nat
  | .hbm => 45
  | .vmem => 29
  | .smem => 0
  | _ => 0

abbrev bufTy : (tb : Table) → Fin (tcTables nBuf tb) → BufTy
  | .hbm, ⟨0, _⟩ => ⟨S4x8x32x64x64, .f32⟩
  | .hbm, ⟨1, _⟩ => ⟨S4x8x32x64x64, .f32⟩
  | .hbm, ⟨2, _⟩ => ⟨S4x8x32x64x64, .f32⟩
  | .hbm, ⟨3, _⟩ => ⟨S4x8x32x64x64, .f32⟩
  | .hbm, ⟨4, _⟩ => ⟨S4x8x32x64x64, .f32⟩
  | .hbm, ⟨5, _⟩ => ⟨S4x8x32, .f32⟩
  | .hbm, ⟨6, _⟩ => ⟨S4x8x32x64x64, .f32⟩
  | .hbm, ⟨7, _⟩ => ⟨S4x8x32x64x64, .f32⟩
  | .hbm, ⟨8, _⟩ => ⟨S4x4x2x32x64x64, .f32⟩
  | .hbm, ⟨9, _⟩ => ⟨S4x4x32x64x2x64, .f32⟩
  | .hbm, ⟨10, _⟩ => ⟨S4x4x2048x128, .f32⟩
  | .hbm, ⟨11, _⟩ => ⟨S4x4x2x32x64x64, .f32⟩
  | .hbm, ⟨12, _⟩ => ⟨S4x4x32x64x2x64, .f32⟩
  | .hbm, ⟨13, _⟩ => ⟨S4x4x2048x128, .f32⟩
  | .hbm, ⟨14, _⟩ => ⟨S4x4x2x32x64x64, .f32⟩
  | .hbm, ⟨15, _⟩ => ⟨S4x4x32x64x2x64, .f32⟩
  | .hbm, ⟨16, _⟩ => ⟨S4x4x2048x128, .f32⟩
  | .hbm, ⟨17, _⟩ => ⟨S4x4x2x32x64x64, .f32⟩
  | .hbm, ⟨18, _⟩ => ⟨S4x4x32x64x2x64, .f32⟩
  | .hbm, ⟨19, _⟩ => ⟨S4x4x2048x128, .f32⟩
  | .hbm, ⟨20, _⟩ => ⟨S4x4x2x32x64x64, .f32⟩
  | .hbm, ⟨21, _⟩ => ⟨S4x4x32x64x2x64, .f32⟩
  | .hbm, ⟨22, _⟩ => ⟨S4x4x2048x128, .f32⟩
  | .hbm, ⟨23, _⟩ => ⟨S4x4x2x32x64x64, .f32⟩
  | .hbm, ⟨24, _⟩ => ⟨S4x4x32x64x2x64, .f32⟩
  | .hbm, ⟨25, _⟩ => ⟨S4x4x2048x128, .f32⟩
  | .hbm, ⟨26, _⟩ => ⟨S4x8x32x1x1, .f32⟩
  | .hbm, ⟨27, _⟩ => ⟨S2x2x4x2x32x64x64, .f32⟩
  | .hbm, ⟨28, _⟩ => ⟨S2x2x2x4x32x64x64, .f32⟩
  | .hbm, ⟨29, _⟩ => ⟨S2x16x32x64x64, .f32⟩
  | .hbm, ⟨30, _⟩ => ⟨S2x8x2048x128, .f32⟩
  | .hbm, ⟨31, _⟩ => ⟨S2x8x2048x128, .f32⟩
  | .hbm, ⟨32, _⟩ => ⟨S2x8x2048x128, .f32⟩
  | .hbm, ⟨33, _⟩ => ⟨S2x8x2048x128, .f32⟩
  | .hbm, ⟨34, _⟩ => ⟨S2x8x2048x128, .f32⟩
  | .hbm, ⟨35, _⟩ => ⟨S2x8x2048x128, .f32⟩
  | .hbm, ⟨36, _⟩ => ⟨S2x2x4x2x32x1x1, .f32⟩
  | .hbm, ⟨37, _⟩ => ⟨S2x2x2x4x32x1x1, .f32⟩
  | .hbm, ⟨38, _⟩ => ⟨S2x16x32x1x1, .f32⟩
  | .hbm, ⟨39, _⟩ => ⟨S2x8x2048x128, .f32⟩
  | .hbm, ⟨40, _⟩ => ⟨S2x8x2048x128, .f32⟩
  | .hbm, ⟨41, _⟩ => ⟨S2x8x2048x128, .f32⟩
  | .hbm, ⟨42, _⟩ => ⟨S2x8x2048x128, .f32⟩
  | .hbm, ⟨43, _⟩ => ⟨S2x8x2048x128, .f32⟩
  | .hbm, ⟨44, _⟩ => ⟨S2x16x32x1x1, .f32⟩
  | .local _ .vmem, ⟨0, _⟩ => ⟨S1x8x256x128, .f32⟩
  | .local _ .vmem, ⟨1, _⟩ => ⟨S1x8x256x128, .f32⟩
  | .local _ .vmem, ⟨2, _⟩ => ⟨S1x8x256x128, .f32⟩
  | .local _ .vmem, ⟨3, _⟩ => ⟨S1x8x256x128, .f32⟩
  | .local _ .vmem, ⟨4, _⟩ => ⟨S1x8x256x128, .f32⟩
  | .local _ .vmem, ⟨5, _⟩ => ⟨S1x8x256x128, .f32⟩
  | .local _ .vmem, ⟨6, _⟩ => ⟨S1x8x256x128, .f32⟩
  | .local _ .vmem, ⟨7, _⟩ => ⟨S1x8x256x128, .f32⟩
  | .local _ .vmem, ⟨8, _⟩ => ⟨S1x8x256x128, .f32⟩
  | .local _ .vmem, ⟨9, _⟩ => ⟨S1x8x256x128, .f32⟩
  | .local _ .vmem, ⟨10, _⟩ => ⟨S1x16x4x1x1, .f32⟩
  | .local _ .vmem, ⟨11, _⟩ => ⟨S1x16x4x1x1, .f32⟩
  | .local _ .vmem, ⟨12, _⟩ => ⟨S1x16x4x64x64, .f32⟩
  | .local _ .vmem, ⟨13, _⟩ => ⟨S1x16x4x64x64, .f32⟩
  | .local _ .vmem, ⟨14, _⟩ => ⟨S1x8x256x128, .f32⟩
  | .local _ .vmem, ⟨15, _⟩ => ⟨S1x8x256x128, .f32⟩
  | .local _ .vmem, ⟨16, _⟩ => ⟨S1x8x256x128, .f32⟩
  | .local _ .vmem, ⟨17, _⟩ => ⟨S1x8x256x128, .f32⟩
  | .local _ .vmem, ⟨18, _⟩ => ⟨S1x8x256x128, .f32⟩
  | .local _ .vmem, ⟨19, _⟩ => ⟨S1x8x256x128, .f32⟩
  | .local _ .vmem, ⟨20, _⟩ => ⟨S1x8x256x128, .f32⟩
  | .local _ .vmem, ⟨21, _⟩ => ⟨S1x8x256x128, .f32⟩
  | .local _ .vmem, ⟨22, _⟩ => ⟨S1x8x256x128, .f32⟩
  | .local _ .vmem, ⟨23, _⟩ => ⟨S1x8x256x128, .f32⟩
  | .local _ .vmem, ⟨24, _⟩ => ⟨S1x8x256x128, .f32⟩
  | .local _ .vmem, ⟨25, _⟩ => ⟨S1x8x256x128, .f32⟩
  | .local _ .vmem, ⟨26, _⟩ => ⟨S1x16x4x1x1, .f32⟩
  | .local _ .vmem, ⟨27, _⟩ => ⟨S1x16x4x1x1, .f32⟩
  | .local _ .vmem, ⟨28, _⟩ => ⟨S16x64x64, .f32⟩
  | _, _ => ⟨S4x8x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev main_v31_3 : Ref sig .tc := ⟨.hbm, 42, rfl⟩
abbrev main_v31_4 : Ref sig .tc := ⟨.hbm, 43, rfl⟩
abbrev main_v31_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_3 : BitVec 32 := 0#32
  let c4_i32 : BitVec 32 := 4#32
  let v4 : BitVec 32 := Scalar.addi c0_i32_3 c4_i32
  let c1_i32 : BitVec 32 := 1#32
  ⟨c0_i32_3, v4, c1_i32⟩
def k0_mult1 (k0_t1 : Fin k0_t1_loop.trips) : BitVec 32 :=
  let c3_i32 : BitVec 32 := 3#32
  let c0_i32_3 : BitVec 32 := 0#32
  let c1_i32 : BitVec 32 := 1#32
  let arg17 : BitVec 32 := Scf.iv c0_i32_3 c1_i32 k0_t1
  let v9 : BitVec 32 := Scalar.subi c3_i32 arg17
  let c64_i32 : BitVec 32 := 64#32
  let v10 : BitVec 32 := Scalar.muli v9 c64_i32
  v10
def k0_off1 (k0_t1 : Fin k0_t1_loop.trips) : Fin 5 → Nat :=
  let c0_8 : Index := 0#32
  let c0_9 : Index := 0#32
  let c3_i32 : BitVec 32 := 3#32
  let c0_i32_3 : BitVec 32 := 0#32
  let c1_i32 : BitVec 32 := 1#32
  let arg17 : BitVec 32 := Scf.iv c0_i32_3 c1_i32 k0_t1
  let v9 : BitVec 32 := Scalar.subi c3_i32 arg17
  let v12 : Index := Scalar.indexCast v9
  let c0_10 : Index := 0#32
  let c0_11 : Index := 0#32
  ![0, 0, v12.toNat, 0, 0]
def k0_off2 (k0_t1 : Fin k0_t1_loop.trips) : Fin 4 → Nat :=
  let c0_12 : Index := 0#32
  let c0_13 : Index := 0#32
  let c3_i32 : BitVec 32 := 3#32
  let c0_i32_3 : BitVec 32 := 0#32
  let c1_i32 : BitVec 32 := 1#32
  let arg17 : BitVec 32 := Scf.iv c0_i32_3 c1_i32 k0_t1
  let v9 : BitVec 32 := Scalar.subi c3_i32 arg17
  let c64_i32 : BitVec 32 := 64#32
  let v10 : BitVec 32 := Scalar.muli v9 c64_i32
  let v11 : BitVec 32 := v10
  let v15 : Index := Scalar.indexCast v11
  let c0_14 : Index := 0#32
  ![0, 0, v15.toNat, 0]
def k0_off3 (k0_t1 : Fin k0_t1_loop.trips) : Fin 5 → Nat :=
  let c0_27 : Index := 0#32
  let c0_28 : Index := 0#32
  let c3_i32 : BitVec 32 := 3#32
  let c0_i32_3 : BitVec 32 := 0#32
  let c1_i32 : BitVec 32 := 1#32
  let arg17 : BitVec 32 := Scf.iv c0_i32_3 c1_i32 k0_t1
  let v9 : BitVec 32 := Scalar.subi c3_i32 arg17
  let v45 : Index := Scalar.indexCast v9
  let c0_29 : Index := 0#32
  let c0_30 : Index := 0#32
  ![0, 0, v45.toNat, 0, 0]
def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_5 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_12 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_13 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x8x32x64x64 : Shape := ⟨5, ![4, 8, 32, 64, 64]⟩
abbrev S4x8x32 : Shape := ⟨3, ![4, 8, 32]⟩
abbrev S32x4x8x64x64 : Shape := ⟨5, ![32, 4, 8, 64, 64]⟩
abbrev S32x4x8 : Shape := ⟨3, ![32, 4, 8]⟩
abbrev S_ : Shape := ⟨0, ![]⟩
abbrev S4x8x64x64 : Shape := ⟨4, ![4, 8, 64, 64]⟩
abbrev S1x4x8x64x64 : Shape := ⟨5, ![1, 4, 8, 64, 64]⟩
abbrev S1x4x8 : Shape := ⟨3, ![1, 4, 8]⟩
abbrev S4x8 : Shape := ⟨2, ![4, 8]⟩
abbrev S4x8x1x1 : Shape := ⟨4, ![4, 8, 1, 1]⟩
abbrev S32x2x8x2x64x64 : Shape := ⟨6, ![32, 2, 8, 2, 64, 64]⟩
abbrev S2x8x32x64x2x64 : Shape := ⟨6, ![2, 8, 32, 64, 2, 64]⟩
abbrev S2x8x2048x128 : Shape := ⟨4, ![2, 8, 2048, 128]⟩
abbrev S32x4x8x1x1 : Shape := ⟨5, ![32, 4, 8, 1, 1]⟩
abbrev S32x2x2x4x2x1x1 : Shape := ⟨7, ![32, 2, 2, 4, 2, 1, 1]⟩
abbrev S2x2x2x4x32x1x1 : Shape := ⟨7, ![2, 2, 2, 4, 32, 1, 1]⟩
abbrev S2x16x32x1x1 : Shape := ⟨5, ![2, 16, 32, 1, 1]⟩

abbrev nBuf : Space → Nat
  | .hbm => 191
  | .vmem => 0
  | .smem => 0
  | _ => 0

abbrev hbmTy0_0 (i : Nat) : BufTy := match i % 128 with
  | 0 => ⟨S4x8x32x64x64, .f32⟩
  | 1 => ⟨S4x8x32x64x64, .f32⟩
  | 2 => ⟨S4x8x32x64x64, .f32⟩
  | 3 => ⟨S4x8x32x64x64, .f32⟩
  | 4 => ⟨S4x8x32x64x64, .f32⟩
  | 5 => ⟨S4x8x32, .f32⟩
  | 6 => ⟨S4x8x32x64x64, .f32⟩
  | 7 => ⟨S4x8x32x64x64, .f32⟩
  | 8 => ⟨S32x4x8x64x64, .f32⟩
  | 9 => ⟨S32x4x8x64x64, .f32⟩
  | 10 => ⟨S32x4x8x64x64, .f32⟩
  | 11 => ⟨S32x4x8x64x64, .f32⟩
  | 12 => ⟨S32x4x8x64x64, .f32⟩
  | 13 => ⟨S32x4x8, .f32⟩
  | 14 => ⟨S_, .f32⟩
  | 15 => ⟨S4x8x64x64, .f32⟩
  | 16 => ⟨S32x4x8x64x64, .f32⟩
  | 17 => ⟨S32x4x8x64x64, .f32⟩
  | 18 => ⟨S_, .f32⟩
  | 19 => ⟨S32x4x8x64x64, .f32⟩
  | 20 => ⟨S_, .f32⟩
  | 21 => ⟨S32x4x8x64x64, .f32⟩
  | 22 => ⟨S_, .f32⟩
  | 23 => ⟨S32x4x8x64x64, .f32⟩
  | 24 => ⟨S_, .f32⟩
  | 25 => ⟨S32x4x8x64x64, .f32⟩
  | 26 => ⟨S_, .f32⟩
  | 27 => ⟨S32x4x8x64x64, .f32⟩
  | 28 => ⟨S_, .f32⟩
  | 29 => ⟨S32x4x8, .f32⟩
  | 30 => ⟨S_, .i32⟩
  | 31 => ⟨S32x4x8x64x64, .f32⟩
  | 32 => ⟨S32x4x8x64x64, .f32⟩
  | 33 => ⟨S32x4x8x64x64, .f32⟩
  | 34 => ⟨S32x4x8x64x64, .f32⟩
  | 35 => ⟨S32x4x8x64x64, .f32⟩
  | 36 => ⟨S32x4x8, .f32⟩
  | 37 => ⟨S32x4x8x64x64, .f32⟩
  | 38 => ⟨S32x4x8x64x64, .f32⟩
  | 39 => ⟨S_, .i32⟩
  | 40 => ⟨S4x8x64x64, .f32⟩
  | 41 => ⟨S32x4x8x64x64, .f32⟩
  | 42 => ⟨S32x4x8x64x64, .f32⟩
  | 43 => ⟨S32x4x8x64x64, .f32⟩
  | 44 => ⟨S32x4x8x64x64, .f32⟩
  | 45 => ⟨S32x4x8x64x64, .f32⟩
  | 46 => ⟨S32x4x8, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x4x8x64x64, .f32⟩
  | 58 => ⟨S4x8x64x64, .f32⟩
  | 59 => ⟨S_, .i32⟩
  | 60 => ⟨S_, .i32⟩
  | 61 => ⟨S_, .i32⟩
  | 62 => ⟨S_, .i32⟩
  | 63 => ⟨S1x4x8x64x64, .f32⟩
  | 64 => ⟨S4x8x64x64, .f32⟩
  | 65 => ⟨S_, .i32⟩
  | 66 => ⟨S_, .i32⟩
  | 67 => ⟨S_, .i32⟩
  | 68 => ⟨S_, .i32⟩
  | 69 => ⟨S1x4x8x64x64, .f32⟩
  | 70 => ⟨S4x8x64x64, .f32⟩
  | 71 => ⟨S_, .i32⟩
  | 72 => ⟨S_, .i32⟩
  | 73 => ⟨S_, .i32⟩
  | 74 => ⟨S_, .i32⟩
  | 75 => ⟨S1x4x8x64x64, .f32⟩
  | 76 => ⟨S4x8x64x64, .f32⟩
  | 77 => ⟨S_, .i32⟩
  | 78 => ⟨S_, .i32⟩
  | 79 => ⟨S_, .i32⟩
  | 80 => ⟨S_, .i32⟩
  | 81 => ⟨S1x4x8x64x64, .f32⟩
  | 82 => ⟨S4x8x64x64, .f32⟩
  | 83 => ⟨S_, .i32⟩
  | 84 => ⟨S_, .i32⟩
  | 85 => ⟨S1x4x8, .f32⟩
  | 86 => ⟨S4x8, .f32⟩
  | 87 => ⟨S_, .i32⟩
  | 88 => ⟨S_, .i32⟩
  | 89 => ⟨S_, .i32⟩
  | 90 => ⟨S_, .i32⟩
  | 91 => ⟨S1x4x8x64x64, .f32⟩
  | 92 => ⟨S4x8x64x64, .f32⟩
  | 93 => ⟨S_, .i32⟩
  | 94 => ⟨S_, .i32⟩
  | 95 => ⟨S_, .i32⟩
  | 96 => ⟨S_, .i32⟩
  | 97 => ⟨S1x4x8x64x64, .f32⟩
  | 98 => ⟨S4x8x64x64, .f32⟩
  | 99 => ⟨S4x8x64x64, .f32⟩
  | 100 => ⟨S4x8x64x64, .f32⟩
  | 101 => ⟨S4x8x64x64, .f32⟩
  | 102 => ⟨S4x8x64x64, .f32⟩
  | 103 => ⟨S4x8x64x64, .f32⟩
  | 104 => ⟨S4x8, .f32⟩
  | 105 => ⟨S4x8x1x1, .f32⟩
  | 106 => ⟨S4x8x64x64, .f32⟩
  | 107 => ⟨S4x8x64x64, .f32⟩
  | 108 => ⟨S4x8x64x64, .f32⟩
  | 109 => ⟨S4x8x64x64, .f32⟩
  | 110 => ⟨S4x8x64x64, .f32⟩
  | 111 => ⟨S4x8x64x64, .f32⟩
  | 112 => ⟨S4x8x64x64, .f32⟩
  | 113 => ⟨S4x8x64x64, .f32⟩
  | 114 => ⟨S4x8x64x64, .f32⟩
  | 115 => ⟨S_, .f32⟩
  | 116 => ⟨S4x8, .f32⟩
  | 117 => ⟨S4x8x1x1, .f32⟩
  | 118 => ⟨S4x8x64x64, .f32⟩
  | 119 => ⟨S4x8x64x64, .f32⟩
  | 120 => ⟨S_, .f32⟩
  | 121 => ⟨S4x8, .f32⟩
  | 122 => ⟨S4x8, .f32⟩
  | 123 => ⟨S4x8x64x64, .f32⟩
  | 124 => ⟨S4x8x64x64, .f32⟩
  | 125 => ⟨S4x8x64x64, .f32⟩
  | 126 => ⟨S4x8x64x64, .f32⟩
  | 127 => ⟨S4x8x64x64, .f32⟩
  | _ => ⟨S4x8x32x64x64, .f32⟩

abbrev hbmTy0_1 (i : Nat) : BufTy := match i % 128 with
  | 0 => ⟨S4x8x64x64, .f32⟩
  | 1 => ⟨S4x8x64x64, .f32⟩
  | 2 => ⟨S4x8x64x64, .f32⟩
  | 3 => ⟨S4x8x64x64, .f32⟩
  | 4 => ⟨S4x8x64x64, .f32⟩
  | 5 => ⟨S4x8x64x64, .f32⟩
  | 6 => ⟨S4x8x64x64, .f32⟩
  | 7 => ⟨S4x8x64x64, .f32⟩
  | 8 => ⟨S1x4x8x64x64, .f32⟩
  | 9 => ⟨S_, .i32⟩
  | 10 => ⟨S_, .i32⟩
  | 11 => ⟨S_, .i32⟩
  | 12 => ⟨S_, .i32⟩
  | 13 => ⟨S32x4x8x64x64, .f32⟩
  | 14 => ⟨S1x4x8x64x64, .f32⟩
  | 15 => ⟨S_, .i32⟩
  | 16 => ⟨S_, .i32⟩
  | 17 => ⟨S_, .i32⟩
  | 18 => ⟨S_, .i32⟩
  | 19 => ⟨S32x4x8x64x64, .f32⟩
  | 20 => ⟨S1x4x8x64x64, .f32⟩
  | 21 => ⟨S_, .i32⟩
  | 22 => ⟨S_, .i32⟩
  | 23 => ⟨S_, .i32⟩
  | 24 => ⟨S_, .i32⟩
  | 25 => ⟨S32x4x8x64x64, .f32⟩
  | 26 => ⟨S1x4x8x64x64, .f32⟩
  | 27 => ⟨S_, .i32⟩
  | 28 => ⟨S_, .i32⟩
  | 29 => ⟨S_, .i32⟩
  | 30 => ⟨S_, .i32⟩
  | 31 => ⟨S32x4x8x64x64, .f32⟩
  | 32 => ⟨S1x4x8x64x64, .f32⟩
  | 33 => ⟨S_, .i32⟩
  | 34 => ⟨S_, .i32⟩
  | 35 => ⟨S_, .i32⟩
  | 36 => ⟨S_, .i32⟩
  | 37 => ⟨S32x4x8x64x64, .f32⟩
  | 38 => ⟨S1x4x8, .f32⟩
  | 39 => ⟨S_, .i32⟩
  | 40 => ⟨S_, .i32⟩
  | 41 => ⟨S32x4x8, .f32⟩
  | 42 => ⟨S_, .i32⟩
  | 43 => ⟨S_, .i32⟩
  | 44 => ⟨S32x2x8x2x64x64, .f32⟩
  | 45 => ⟨S2x8x32x64x2x64, .f32⟩
  | 46 => ⟨S2x8x2048x128, .f32⟩
  | 47 => ⟨S32x2x8x2x64x64, .f32⟩
  | 48 => ⟨S2x8x32x64x2x64, .f32⟩
  | 49 => ⟨S2x8x2048x128, .f32⟩
  | 50 => ⟨S32x2x8x2x64x64, .f32⟩
  | 51 => ⟨S2x8x32x64x2x64, .f32⟩
  | 52 => ⟨S2x8x2048x128, .f32⟩
  | 53 => ⟨S32x2x8x2x64x64, .f32⟩
  | 54 => ⟨S2x8x32x64x2x64, .f32⟩
  | 55 => ⟨S2x8x2048x128, .f32⟩
  | 56 => ⟨S32x2x8x2x64x64, .f32⟩
  | 57 => ⟨S2x8x32x64x2x64, .f32⟩
  | 58 => ⟨S2x8x2048x128, .f32⟩
  | 59 => ⟨S32x4x8x1x1, .f32⟩
  | 60 => ⟨S32x2x2x4x2x1x1, .f32⟩
  | 61 => ⟨S2x2x2x4x32x1x1, .f32⟩
  | 62 => ⟨S2x16x32x1x1, .f32⟩
  | _ => ⟨S4x8x32x64x64, .f32⟩

abbrev hbmTy (i : Nat) : BufTy := match i / 128 with
  | 0 => hbmTy0_0 i
  | 1 => hbmTy0_1 i
  | _ => ⟨S4x8x32x64x64, .f32⟩

abbrev bufTy : (tb : Table) → Fin (tcTables nBuf tb) → BufTy
  | .hbm, ⟨i, _⟩ => hbmTy i
  | _, _ => ⟨S4x8x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_c : Ref sig .tc := ⟨.hbm, 30, rfl⟩
abbrev main_v15_0 : Ref sig .tc := ⟨.hbm, 31, rfl⟩
abbrev main_v15_1 : Ref sig .tc := ⟨.hbm, 32, rfl⟩
abbrev main_v15_2 : Ref sig .tc := ⟨.hbm, 33, rfl⟩
abbrev main_v15_3 : Ref sig .tc := ⟨.hbm, 34, rfl⟩
abbrev main_v15_4 : Ref sig .tc := ⟨.hbm, 35, rfl⟩
abbrev main_v15_5 : Ref sig .tc := ⟨.hbm, 36, rfl⟩
abbrev main_v15_6 : Ref sig .tc := ⟨.hbm, 37, rfl⟩
abbrev main_v15_7 : Ref sig .tc := ⟨.hbm, 38, rfl⟩
abbrev main_v15_8 : Ref sig .tc := ⟨.hbm, 39, rfl⟩
abbrev main_v15_9 : Ref sig .tc := ⟨.hbm, 40, rfl⟩
abbrev main_v15_10 : Ref sig .tc := ⟨.hbm, 41, rfl⟩
abbrev main_v15_11 : Ref sig .tc := ⟨.hbm, 42, rfl⟩
abbrev main_v15_12 : Ref sig .tc := ⟨.hbm, 43, rfl⟩
abbrev main_v15_13 : Ref sig .tc := ⟨.hbm, 44, rfl⟩
abbrev main_v15_14 : Ref sig .tc := ⟨.hbm, 45, rfl⟩
abbrev main_v15_15 : Ref sig .tc := ⟨.hbm, 46, rfl⟩
abbrev main_while0c_c_21 : Ref sig .tc := ⟨.hbm, 47, rfl⟩
abbrev main_while0c_v35 : Ref sig .tc := ⟨.hbm, 48, rfl⟩
abbrev main_while0b_c_21 : Ref sig .tc := ⟨.hbm, 49, rfl⟩
abbrev main_while0b_v35 : Ref sig .tc := ⟨.hbm, 50, rfl⟩
abbrev main_while0b_c_22 : Ref sig .tc := ⟨.hbm, 51, rfl⟩
abbrev main_while0b_v36 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_c_1 : Ref sig .tc := ⟨.hbm, 55, rfl⟩
abbrev main_while0b_call0_c_2 : Ref sig .tc := ⟨.hbm, 56, rfl⟩
abbrev main_while0b_call0_v0 : Ref sig .tc := ⟨.hbm, 57, rfl⟩
abbrev main_while0b_v37 : Ref sig .tc := ⟨.hbm, 58, rfl⟩
abbrev main_while0b_call1_c : Ref sig .tc := ⟨.hbm, 59, rfl⟩
abbrev main_while0b_call1_c_0 : Ref sig .tc := ⟨.hbm, 60, rfl⟩
abbrev main_while0b_call1_c_1 : Ref sig .tc := ⟨.hbm, 61, rfl⟩
abbrev main_while0b_call1_c_2 : Ref sig .tc := ⟨.hbm, 62, rfl⟩
abbrev main_while0b_call1_v0 : Ref sig .tc := ⟨.hbm, 63, rfl⟩
abbrev main_while0b_v38 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_call2_v0 : Ref sig .tc := ⟨.hbm, 69, rfl⟩
abbrev main_while0b_v39 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_c_2 : Ref sig .tc := ⟨.hbm, 74, rfl⟩
abbrev main_while0b_call3_v0 : Ref sig .tc := ⟨.hbm, 75, rfl⟩
abbrev main_while0b_v40 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_c_2 : Ref sig .tc := ⟨.hbm, 80, rfl⟩
abbrev main_while0b_call4_v0 : Ref sig .tc := ⟨.hbm, 81, rfl⟩
abbrev main_while0b_v41 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_v0 : Ref sig .tc := ⟨.hbm, 85, rfl⟩
abbrev main_while0b_v42 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_v0 : Ref sig .tc := ⟨.hbm, 91, rfl⟩
abbrev main_while0b_v43 : Ref sig .tc := ⟨.hbm, 92, rfl⟩
abbrev main_while0b_call7_c : Ref sig .tc := ⟨.hbm, 93, rfl⟩
abbrev main_while0b_call7_c_0 : Ref sig .tc := ⟨.hbm, 94, rfl⟩
abbrev main_while0b_call7_c_1 : Ref sig .tc := ⟨.hbm, 95, rfl⟩
abbrev main_while0b_call7_c_2 : Ref sig .tc := ⟨.hbm, 96, rfl⟩
abbrev main_while0b_call7_v0 : Ref sig .tc := ⟨.hbm, 97, rfl⟩
abbrev main_while0b_v44 : Ref sig .tc := ⟨.hbm, 98, rfl⟩
abbrev main_while0b_v45 : Ref sig .tc := ⟨.hbm, 99, rfl⟩
abbrev main_while0b_v46 : Ref sig .tc := ⟨.hbm, 100, rfl⟩
abbrev main_while0b_v47 : Ref sig .tc := ⟨.hbm, 101, rfl⟩
abbrev main_while0b_v48 : Ref sig .tc := ⟨.hbm, 102, rfl⟩
abbrev main_while0b_v49 : Ref sig .tc := ⟨.hbm, 103, rfl⟩
abbrev main_while0b_v50 : Ref sig .tc := ⟨.hbm, 104, rfl⟩
abbrev main_while0b_v51 : Ref sig .tc := ⟨.hbm, 105, rfl⟩
abbrev main_while0b_v52 : Ref sig .tc := ⟨.hbm, 106, rfl⟩
abbrev main_while0b_v53 : Ref sig .tc := ⟨.hbm, 107, rfl⟩
abbrev main_while0b_v54 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_v58 : Ref sig .tc := ⟨.hbm, 112, rfl⟩
abbrev main_while0b_v59 : Ref sig .tc := ⟨.hbm, 113, rfl⟩
abbrev main_while0b_v60 : Ref sig .tc := ⟨.hbm, 114, rfl⟩
abbrev main_while0b_cst_23 : Ref sig .tc := ⟨.hbm, 115, rfl⟩
abbrev main_while0b_v61 : Ref sig .tc := ⟨.hbm, 116, rfl⟩
abbrev main_while0b_v62 : Ref sig .tc := ⟨.hbm, 117, rfl⟩
abbrev main_while0b_v63 : Ref sig .tc := ⟨.hbm, 118, rfl⟩
abbrev main_while0b_v64 : Ref sig .tc := ⟨.hbm, 119, rfl⟩
abbrev main_while0b_cst_24 : Ref sig .tc := ⟨.hbm, 120, rfl⟩
abbrev main_while0b_v65 : Ref sig .tc := ⟨.hbm, 121, rfl⟩
abbrev main_while0b_v66 : Ref sig .tc := ⟨.hbm, 122, rfl⟩
abbrev main_while0b_v67 : Ref sig .tc := ⟨.hbm, 123, rfl⟩
abbrev main_while0b_v68 : Ref sig .tc := ⟨.hbm, 124, rfl⟩
abbrev main_while0b_v69 : Ref sig .tc := ⟨.hbm, 125, rfl⟩
abbrev main_while0b_v70 : Ref sig .tc := ⟨.hbm, 126, rfl⟩
abbrev main_while0b_v71 : Ref sig .tc := ⟨.hbm, 127, rfl⟩
abbrev main_while0b_v72 : Ref sig .tc := ⟨.hbm, 128, rfl⟩
abbrev main_while0b_v73 : Ref sig .tc := ⟨.hbm, 129, rfl⟩
abbrev main_while0b_v74 : Ref sig .tc := ⟨.hbm, 130, rfl⟩
abbrev main_while0b_v75 : Ref sig .tc := ⟨.hbm, 131, rfl⟩
abbrev main_while0b_v76 : Ref sig .tc := ⟨.hbm, 132, rfl⟩
abbrev main_while0b_v77 : Ref sig .tc := ⟨.hbm, 133, rfl⟩
abbrev main_while0b_v78 : Ref sig .tc := ⟨.hbm, 134, rfl⟩
abbrev main_while0b_v79 : Ref sig .tc := ⟨.hbm, 135, rfl⟩
abbrev main_while0b_call8_v0 : Ref sig .tc := ⟨.hbm, 136, rfl⟩
abbrev main_while0b_call8_c : Ref sig .tc := ⟨.hbm, 137, rfl⟩
abbrev main_while0b_call8_c_0 : Ref sig .tc := ⟨.hbm, 138, rfl⟩
abbrev main_while0b_call8_c_1 : Ref sig .tc := ⟨.hbm, 139, rfl⟩
abbrev main_while0b_call8_c_2 : Ref sig .tc := ⟨.hbm, 140, rfl⟩
abbrev main_while0b_v80 : Ref sig .tc := ⟨.hbm, 141, rfl⟩
abbrev main_while0b_call9_v0 : Ref sig .tc := ⟨.hbm, 142, rfl⟩
abbrev main_while0b_call9_c : Ref sig .tc := ⟨.hbm, 143, rfl⟩
abbrev main_while0b_call9_c_0 : Ref sig .tc := ⟨.hbm, 144, rfl⟩
abbrev main_while0b_call9_c_1 : Ref sig .tc := ⟨.hbm, 145, rfl⟩
abbrev main_while0b_call9_c_2 : Ref sig .tc := ⟨.hbm, 146, rfl⟩
abbrev main_while0b_v81 : Ref sig .tc := ⟨.hbm, 147, rfl⟩
abbrev main_while0b_call10_v0 : Ref sig .tc := ⟨.hbm, 148, rfl⟩
abbrev main_while0b_call10_c : Ref sig .tc := ⟨.hbm, 149, rfl⟩
abbrev main_while0b_call10_c_0 : Ref sig .tc := ⟨.hbm, 150, rfl⟩
abbrev main_while0b_call10_c_1 : Ref sig .tc := ⟨.hbm, 151, rfl⟩
abbrev main_while0b_call10_c_2 : Ref sig .tc := ⟨.hbm, 152, rfl⟩
abbrev main_while0b_v82 : Ref sig .tc := ⟨.hbm, 153, rfl⟩
abbrev main_while0b_call11_v0 : Ref sig .tc := ⟨.hbm, 154, rfl⟩
abbrev main_while0b_call11_c : Ref sig .tc := ⟨.hbm, 155, rfl⟩
abbrev main_while0b_call11_c_0 : Ref sig .tc := ⟨.hbm, 156, rfl⟩
abbrev main_while0b_call11_c_1 : Ref sig .tc := ⟨.hbm, 157, rfl⟩
abbrev main_while0b_call11_c_2 : Ref sig .tc := ⟨.hbm, 158, rfl⟩
abbrev main_while0b_v83 : Ref sig .tc := ⟨.hbm, 159, rfl⟩
abbrev main_while0b_call12_v0 : Ref sig .tc := ⟨.hbm, 160, rfl⟩
abbrev main_while0b_call12_c : Ref sig .tc := ⟨.hbm, 161, rfl⟩
abbrev main_while0b_call12_c_0 : Ref sig .tc := ⟨.hbm, 162, rfl⟩
abbrev main_while0b_call12_c_1 : Ref sig .tc := ⟨.hbm, 163, rfl⟩
abbrev main_while0b_call12_c_2 : Ref sig .tc := ⟨.hbm, 164, rfl⟩
abbrev main_while0b_v84 : Ref sig .tc := ⟨.hbm, 165, rfl⟩
abbrev main_while0b_call13_v0 : Ref sig .tc := ⟨.hbm, 166, rfl⟩
abbrev main_while0b_call13_c : Ref sig .tc := ⟨.hbm, 167, rfl⟩
abbrev main_while0b_call13_c_0 : Ref sig .tc := ⟨.hbm, 168, rfl⟩
abbrev main_while0b_v85 : Ref sig .tc := ⟨.hbm, 169, rfl⟩
abbrev main_while0b_c_25 : Ref sig .tc := ⟨.hbm, 170, rfl⟩
abbrev main_while0b_v86 : Ref sig .tc := ⟨.hbm, 171, rfl⟩
abbrev main_v16 : Ref sig .tc := ⟨.hbm, 172, rfl⟩
abbrev main_v17 : Ref sig .tc := ⟨.hbm, 173, rfl⟩
abbrev main_v18 : Ref sig .tc := ⟨.hbm, 174, rfl⟩
abbrev main_v19 : Ref sig .tc := ⟨.hbm, 175, rfl⟩
abbrev main_v20 : Ref sig .tc := ⟨.hbm, 176, rfl⟩
abbrev main_v21 : Ref sig .tc := ⟨.hbm, 177, rfl⟩
abbrev main_v22 : Ref sig .tc := ⟨.hbm, 178, rfl⟩
abbrev main_v23 : Ref sig .tc := ⟨.hbm, 179, rfl⟩
abbrev main_v24 : Ref sig .tc := ⟨.hbm, 180, rfl⟩
abbrev main_v25 : Ref sig .tc := ⟨.hbm, 181, rfl⟩
abbrev main_v26 : Ref sig .tc := ⟨.hbm, 182, rfl⟩
abbrev main_v27 : Ref sig .tc := ⟨.hbm, 183, rfl⟩
abbrev main_v28 : Ref sig .tc := ⟨.hbm, 184, rfl⟩
abbrev main_v29 : Ref sig .tc := ⟨.hbm, 185, rfl⟩
abbrev main_v30 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_v34 : Ref sig .tc := ⟨.hbm, 190, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S1x8192x1024 : Shape := ⟨3, ![1, 8192, 1024]⟩
abbrev S4x704x1024 : Shape := ⟨3, ![4, 704, 1024]⟩
abbrev S1x1024x704 : Shape := ⟨3, ![1, 1024, 704]⟩
abbrev S1x1024x1024 : Shape := ⟨3, ![1, 1024, 1024]⟩
abbrev S1x704x1024 : Shape := ⟨3, ![1, 704, 1024]⟩
abbrev S1024x704 : Shape := ⟨2, ![1024, 704]⟩
abbrev S1024x1024 : Shape := ⟨2, ![1024, 1024]⟩
abbrev S704x1024 : Shape := ⟨2, ![704, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x4x704, .bf16⟩
  | .hbm, ⟨3, _⟩ => ⟨S4x8192x704, .bf16⟩
  | .hbm, ⟨4, _⟩ => ⟨S1x8192x1024, .bf16⟩
  | .hbm, ⟨5, _⟩ => ⟨S4x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x704x1024, .f32⟩
  | .local _ .vmem, ⟨5, _⟩ => ⟨S1x704x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S1024x2816 : Shape := ⟨2, ![1024, 2816]⟩
abbrev S8192x4x704 : Shape := ⟨3, ![8192, 4, 704]⟩
abbrev S4x8192x704 : Shape := ⟨3, ![4, 8192, 704]⟩
abbrev S2816x1024 : Shape := ⟨2, ![2816, 1024]⟩
abbrev S4x704x1024 : Shape := ⟨3, ![4, 704, 1024]⟩
abbrev S1x8192x1024 : Shape := ⟨3, ![1, 8192, 1024]⟩
abbrev S1x1024x704 : Shape := ⟨3, ![1, 1024, 704]⟩
abbrev S1x704x1024 : Shape := ⟨3, ![1, 704, 1024]⟩
abbrev S1x1024x1024 : Shape := ⟨3, ![1, 1024, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x4x704, .bf16⟩
  | .hbm, ⟨5, _⟩ => ⟨S4x8192x704, .bf16⟩
  | .hbm, ⟨6, _⟩ => ⟨S2816x1024, .bf16⟩
  | .hbm, ⟨7, _⟩ => ⟨S4x704x1024, .bf16⟩
  | .hbm, ⟨8, _⟩ => ⟨S8192x4x704, .bf16⟩
  | .hbm, ⟨9, _⟩ => ⟨S4x8192x704, .bf16⟩
  | .hbm, ⟨10, _⟩ => ⟨S2816x1024, .bf16⟩
  | .hbm, ⟨11, _⟩ => ⟨S4x704x1024, .bf16⟩
  | .hbm, ⟨12, _⟩ => ⟨S1x8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩
abbrev S1x8192x1024 : Shape := ⟨3, ![1, 8192, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1024x2816, .bf16⟩
  | .hbm, ⟨3, _⟩ => ⟨S1024x2816, .bf16⟩
  | .hbm, ⟨4, _⟩ => ⟨S8192x2816, .f32⟩
  | .hbm, ⟨5, _⟩ => ⟨S8192x2816, .f32⟩
  | .hbm, ⟨6, _⟩ => ⟨S1024x2816, .f32⟩
  | .hbm, ⟨7, _⟩ => ⟨S1024x2816, .f32⟩
  | .hbm, ⟨8, _⟩ => ⟨S_, .f32⟩
  | .hbm, ⟨9, _⟩ => ⟨S8192x1024, .f32⟩
  | .hbm, ⟨10, _⟩ => ⟨S8192x2816, .f32⟩
  | .hbm, ⟨11, _⟩ => ⟨S8192x2816, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S8192x1024 : Shape := ⟨2, ![8192, 1024]⟩
abbrev S2816x1024 : Shape := ⟨2, ![2816, 1024]⟩
abbrev S8192x2816 : Shape := ⟨2, ![8192, 2816]⟩
abbrev S4x704x1024 : Shape := ⟨3, ![4, 704, 1024]⟩
abbrev S8192x4x704 : Shape := ⟨3, ![8192, 4, 704]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S4x704x1024, .bf16⟩
  | .hbm, ⟨5, _⟩ => ⟨S8192x4x704, .bf16⟩
  | .hbm, ⟨6, _⟩ => ⟨S4x8192x704, .bf16⟩
  | .hbm, ⟨7, _⟩ => ⟨S8192x4x704, .bf16⟩
  | .hbm, ⟨8, _⟩ => ⟨S4x8192x704, .bf16⟩
  | .hbm, ⟨9, _⟩ => ⟨S4x8192x704, .bf16⟩
  | .hbm, ⟨10, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x4x704, .bf16⟩
  | .hbm, ⟨32, _⟩ => ⟨S4x8192x704, .bf16⟩
  | .hbm, ⟨33, _⟩ => ⟨S8192x2816, .bf16⟩
  | .hbm, ⟨34, _⟩ => ⟨S8192x4x704, .bf16⟩
  | .hbm, ⟨35, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel6.lean ====
abbrev S8192x1024 : Shape := ⟨2, ![8192, 1024]⟩
abbrev S1024x2816 : Shape := ⟨2, ![1024, 2816]⟩
abbrev S2816x1024 : Shape := ⟨2, ![2816, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S4x704x1024, .bf16⟩
  | .hbm, ⟨5, _⟩ => ⟨S2816x1024, .bf16⟩
  | .hbm, ⟨6, _⟩ => ⟨S4x704x1024, .bf16⟩
  | .hbm, ⟨7, _⟩ => ⟨S4x8192x704, .bf16⟩
  | .hbm, ⟨8, _⟩ => ⟨S4x8192x704, .bf16⟩
  | .hbm, ⟨9, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S1024x2816 : Shape := ⟨2, ![1024, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S1024x2816, .bf16⟩
  | .hbm, ⟨3, _⟩ => ⟨S8192x1024, .f32⟩
  | .hbm, ⟨4, _⟩ => ⟨S1024x2816, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x4x704, .bf16⟩
  | .hbm, ⟨10, _⟩ => ⟨S4x8192x704, .bf16⟩
  | .hbm, ⟨11, _⟩ => ⟨S8192x2816, .bf16⟩
  | .hbm, ⟨12, _⟩ => ⟨S8192x4x704, .bf16⟩
  | .hbm, ⟨13, _⟩ => ⟨S4x8192x704, .bf16⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .bf16⟩
  | .hbm, ⟨25, _⟩ => ⟨S8192x4x704, .bf16⟩
  | .hbm, ⟨26, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x8192x1024 : Shape := ⟨3, ![1, 8192, 1024]⟩
abbrev S1x1024x704 : Shape := ⟨3, ![1, 1024, 704]⟩
abbrev S1x704x1024 : Shape := ⟨3, ![1, 704, 1024]⟩
abbrev S1x1024x1024 : Shape := ⟨3, ![1, 1024, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x4x704, .bf16⟩
  | .hbm, ⟨3, _⟩ => ⟨S4x8192x704, .bf16⟩
  | .hbm, ⟨4, _⟩ => ⟨S4x704x1024, .bf16⟩
  | .hbm, ⟨5, _⟩ => ⟨S1x8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S2816x1024 : Shape := ⟨2, ![2816, 1024]⟩
abbrev S8192x1024 : Shape := ⟨2, ![8192, 1024]⟩
abbrev S1x8192x1024 : Shape := ⟨3, ![1, 8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S1x8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x1536 : Shape := ⟨2, ![8192, 1536]⟩
abbrev S8192x512 : Shape := ⟨2, ![8192, 512]⟩
abbrev S8192x1024 : Shape := ⟨2, ![8192, 1024]⟩
abbrev S8192x128 : Shape := ⟨2, ![8192, 128]⟩
abbrev S1024x1536 : Shape := ⟨2, ![1024, 1536]⟩
abbrev S1024x512 : Shape := ⟨2, ![1024, 512]⟩
abbrev S1024x1024 : Shape := ⟨2, ![1024, 1024]⟩
abbrev S1024x128 : Shape := ⟨2, ![1024, 128]⟩
abbrev S1x8192x1536 : Shape := ⟨3, ![1, 8192, 1536]⟩
abbrev S1536x1024 : Shape := ⟨2, ![1536, 1024]⟩
abbrev S1x1536x1024 : Shape := ⟨3, ![1, 1536, 1024]⟩
abbrev S1x8192x512 : Shape := ⟨3, ![1, 8192, 512]⟩
abbrev S512x1024 : Shape := ⟨2, ![512, 1024]⟩
abbrev S1x512x1024 : Shape := ⟨3, ![1, 512, 1024]⟩
abbrev S1x8192x1024 : Shape := ⟨3, ![1, 8192, 1024]⟩
abbrev S1x1024x1024 : Shape := ⟨3, ![1, 1024, 1024]⟩
abbrev S1x8192x128 : Shape := ⟨3, ![1, 8192, 128]⟩
abbrev S128x1024 : Shape := ⟨2, ![128, 1024]⟩
abbrev S1x128x1024 : Shape := ⟨3, ![1, 128, 1024]⟩
abbrev S1x512x1536 : Shape := ⟨3, ![1, 512, 1536]⟩
abbrev S1x512x512 : Shape := ⟨3, ![1, 512, 512]⟩
abbrev S1x512x128 : Shape := ⟨3, ![1, 512, 128]⟩
abbrev S512x1536 : Shape := ⟨2, ![512, 1536]⟩
abbrev S512x512 : Shape := ⟨2, ![512, 512]⟩
abbrev S512x128 : Shape := ⟨2, ![512, 128]⟩

abbrev nBuf : Space → Nat
  | .hbm => 31
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x128, .bf16⟩
  | .hbm, ⟨6, _⟩ => ⟨S1024x1536, .bf16⟩
  | .hbm, ⟨7, _⟩ => ⟨S1024x512, .bf16⟩
  | .hbm, ⟨8, _⟩ => ⟨S1024x1024, .bf16⟩
  | .hbm, ⟨9, _⟩ => ⟨S1024x1024, .bf16⟩
  | .hbm, ⟨10, _⟩ => ⟨S1024x512, .bf16⟩
  | .hbm, ⟨11, _⟩ => ⟨S1024x128, .bf16⟩
  | .hbm, ⟨12, _⟩ => ⟨S1x8192x1536, .bf16⟩
  | .hbm, ⟨13, _⟩ => ⟨S1536x1024, .bf16⟩
  | .hbm, ⟨14, _⟩ => ⟨S1x1536x1024, .bf16⟩
  | .hbm, ⟨15, _⟩ => ⟨S1x8192x512, .bf16⟩
  | .hbm, ⟨16, _⟩ => ⟨S512x1024, .bf16⟩
  | .hbm, ⟨17, _⟩ => ⟨S1x512x1024, .bf16⟩
  | .hbm, ⟨18, _⟩ => ⟨S1x8192x1024, .bf16⟩
  | .hbm, ⟨19, _⟩ => ⟨S1024x1024, .bf16⟩
  | .hbm, ⟨20, _⟩ => ⟨S1x1024x1024, .bf16⟩
  | .hbm, ⟨21, _⟩ => ⟨S1x8192x1024, .bf16⟩
  | .hbm, ⟨22, _⟩ => ⟨S1024x1024, .bf16⟩
  | .hbm, ⟨23, _⟩ => ⟨S1x1024x1024, .bf16⟩
  | .hbm, ⟨24, _⟩ => ⟨S1x8192x512, .bf16⟩
  | .hbm, ⟨25, _⟩ => ⟨S512x1024, .bf16⟩
  | .hbm, ⟨26, _⟩ => ⟨S1x512x1024, .bf16⟩
  | .hbm, ⟨27, _⟩ => ⟨S1x8192x128, .bf16⟩
  | .hbm, ⟨28, _⟩ => ⟨S128x1024, .bf16⟩
  | .hbm, ⟨29, _⟩ => ⟨S1x128x1024, .bf16⟩
  | .hbm, ⟨30, _⟩ => ⟨S1x8192x1024, .f32⟩
  | .local _ .vmem, ⟨0, _⟩ => ⟨S1x512x1536, .bf16⟩
  | .local _ .vmem, ⟨1, _⟩ => ⟨S1x512x1536, .bf16⟩
  | .local _ .vmem, ⟨2, _⟩ => ⟨S1x1536x1024, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x1024, .bf16⟩
  | .local _ .vmem, ⟨15, _⟩ => ⟨S1x512x128, .bf16⟩
  | .local _ .vmem, ⟨16, _⟩ => ⟨S1x512x128, .bf16⟩
  | .local _ .vmem, ⟨17, _⟩ => ⟨S1x128x1024, .bf16⟩
  | .local _ .vmem, ⟨18, _⟩ => ⟨S1x512x1024, .f32⟩
  | .local _ .vmem, ⟨19, _⟩ => ⟨S1x512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 1 → Memref sig .tc .vmem S1x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference8Ideal.lean ====
abbrev S8192x1536 : Shape := ⟨2, ![8192, 1536]⟩
abbrev S8192x512 : Shape := ⟨2, ![8192, 512]⟩
abbrev S8192x1024 : Shape := ⟨2, ![8192, 1024]⟩
abbrev S8192x128 : Shape := ⟨2, ![8192, 128]⟩
abbrev S1024x1536 : Shape := ⟨2, ![1024, 1536]⟩
abbrev S1024x512 : Shape := ⟨2, ![1024, 512]⟩
abbrev S1024x1024 : Shape := ⟨2, ![1024, 1024]⟩
abbrev S1024x128 : Shape := ⟨2, ![1024, 128]⟩
abbrev S_ : Shape := ⟨0, ![]⟩
abbrev S1x8192x1024 : Shape := ⟨3, ![1, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S8192x128, .bf16⟩
  | .hbm, ⟨6, _⟩ => ⟨S1024x1536, .bf16⟩
  | .hbm, ⟨7, _⟩ => ⟨S1024x512, .bf16⟩
  | .hbm, ⟨8, _⟩ => ⟨S1024x1024, .bf16⟩
  | .hbm, ⟨9, _⟩ => ⟨S1024x1024, .bf16⟩
  | .hbm, ⟨10, _⟩ => ⟨S1024x512, .bf16⟩
  | .hbm, ⟨11, _⟩ => ⟨S1024x128, .bf16⟩
  | .hbm, ⟨12, _⟩ => ⟨S8192x1536, .f32⟩
  | .hbm, ⟨13, _⟩ => ⟨S8192x512, .f32⟩
  | .hbm, ⟨14, _⟩ => ⟨S8192x1024, .f32⟩
  | .hbm, ⟨15, _⟩ => ⟨S8192x1024, .f32⟩
  | .hbm, ⟨16, _⟩ => ⟨S8192x512, .f32⟩
  | .hbm, ⟨17, _⟩ => ⟨S8192x128, .f32⟩
  | .hbm, ⟨18, _⟩ => ⟨S1024x1536, .f32⟩
  | .hbm, ⟨19, _⟩ => ⟨S1024x512, .f32⟩
  | .hbm, ⟨20, _⟩ => ⟨S1024x1024, .f32⟩
  | .hbm, ⟨21, _⟩ => ⟨S1024x1024, .f32⟩
  | .hbm, ⟨22, _⟩ => ⟨S1024x512, .f32⟩
  | .hbm, ⟨23, _⟩ => ⟨S1024x128, .f32⟩
  | .hbm, ⟨24, _⟩ => ⟨S_, .f32⟩
  | .hbm, ⟨25, _⟩ => ⟨S8192x1024, .f32⟩
  | .hbm, ⟨26, _⟩ => ⟨S8192x1536, .f32⟩
  | .hbm, ⟨27, _⟩ => ⟨S8192x512, .f32⟩
  | .hbm, ⟨28, _⟩ => ⟨S8192x1024, .f32⟩
  | .hbm, ⟨29, _⟩ => ⟨S8192x1024, .f32⟩
  | .hbm, ⟨30, _⟩ => ⟨S8192x512, .f32⟩
  | .hbm, ⟨31, _⟩ => ⟨S8192x128, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel9.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x8192x1024, .bf16⟩
  | .hbm, ⟨4, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Kernel9Ideal.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x8192x1024, .bf16⟩
  | .hbm, ⟨4, _⟩ => ⟨S1x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference9Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1x8192x512, .bf16⟩
  | .hbm, ⟨3, _⟩ => ⟨S1x8192x1024, .bf16⟩
  | .hbm, ⟨4, _⟩ => ⟨S1x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Kernel10Ideal.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1x8192x512, .bf16⟩
  | .hbm, ⟨3, _⟩ => ⟨S1x8192x1024, .bf16⟩
  | .hbm, ⟨4, _⟩ => ⟨S1x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference10Ideal.lean ====
abbrev S8192x512 : Shape := ⟨2, ![8192, 512]⟩
abbrev S8192x1024 : Shape := ⟨2, ![8192, 1024]⟩
abbrev S_ : Shape := ⟨0, ![]⟩
abbrev S1024x512 : Shape := ⟨2, ![1024, 512]⟩
abbrev S512x1024 : Shape := ⟨2, ![512, 1024]⟩
abbrev S1x512x1024 : Shape := ⟨3, ![1, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S1x512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8192x1536 : Shape := ⟨2, ![8192, 1536]⟩
abbrev S8192x1024 : Shape := ⟨2, ![8192, 1024]⟩
abbrev S1x8192x1536 : Shape := ⟨3, ![1, 8192, 1536]⟩
abbrev S1x8192x1024 : Shape := ⟨3, ![1, 8192, 1024]⟩
abbrev S1x1536x1024 : Shape := ⟨3, ![1, 1536, 1024]⟩
abbrev S1x1024x1536 : Shape := ⟨3, ![1, 1024, 1536]⟩
abbrev S1x1024x1024 : Shape := ⟨3, ![1, 1024, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1x8192x1536, .bf16⟩
  | .hbm, ⟨3, _⟩ => ⟨S1x8192x1024, .bf16⟩
  | .hbm, ⟨4, _⟩ => ⟨S1x1536x1024, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Kernel11Ideal.lean ====
abbrev S8192x1536 : Shape := ⟨2, ![8192, 1536]⟩
abbrev S8192x1024 : Shape := ⟨2, ![8192, 1024]⟩
abbrev S1x8192x1536 : Shape := ⟨3, ![1, 8192, 1536]⟩
abbrev S1x8192x1024 : Shape := ⟨3, ![1, 8192, 1024]⟩
abbrev S1x1536x1024 : Shape := ⟨3, ![1, 1536, 1024]⟩
abbrev S1x1024x1536 : Shape := ⟨3, ![1, 1024, 1536]⟩
abbrev S1x1024x1024 : Shape := ⟨3, ![1, 1024, 1024]⟩
abbrev S1024x1536 : Shape := ⟨2, ![1024, 1536]⟩
abbrev S1024x1024 : Shape := ⟨2, ![1024, 1024]⟩
abbrev S1536x1024 : Shape := ⟨2, ![1536, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1x8192x1536, .bf16⟩
  | .hbm, ⟨3, _⟩ => ⟨S1x8192x1024, .bf16⟩
  | .hbm, ⟨4, _⟩ => ⟨S1x1536x1024, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference11Ideal.lean ====
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩
abbrev S1x1536x1024 : Shape := ⟨3, ![1, 1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .f32⟩
  | .hbm, ⟨3, _⟩ => ⟨S8192x1024, .f32⟩
  | .hbm, ⟨4, _⟩ => ⟨S_, .f32⟩
  | .hbm, ⟨5, _⟩ => ⟨S1024x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1x1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S1x8192x1024 : Shape := ⟨3, ![1, 8192, 1024]⟩
abbrev S2048x1024 : Shape := ⟨2, ![2048, 1024]⟩
abbrev S1x2048x1024 : Shape := ⟨3, ![1, 2048, 1024]⟩
abbrev S1x8192x2048 : Shape := ⟨3, ![1, 8192, 2048]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x8192x1024, .bf16⟩
  | .hbm, ⟨3, _⟩ => ⟨S2048x1024, .bf16⟩
  | .hbm, ⟨4, _⟩ => ⟨S1x2048x1024, .bf16⟩
  | .hbm, ⟨5, _⟩ => ⟨S1x8192x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S8192x1024 : Shape := ⟨2, ![8192, 1024]⟩
abbrev S1024x2048 : Shape := ⟨2, ![1024, 2048]⟩
abbrev S1x8192x1024 : Shape := ⟨3, ![1, 8192, 1024]⟩
abbrev S2048x1024 : Shape := ⟨2, ![2048, 1024]⟩
abbrev S1x2048x1024 : Shape := ⟨3, ![1, 2048, 1024]⟩
abbrev S1x8192x2048 : Shape := ⟨3, ![1, 8192, 2048]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S1x8192x1024, .bf16⟩
  | .hbm, ⟨3, _⟩ => ⟨S2048x1024, .bf16⟩
  | .hbm, ⟨4, _⟩ => ⟨S1x2048x1024, .bf16⟩
  | .hbm, ⟨5, _⟩ => ⟨S1x8192x2048, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x2048 : Shape := ⟨2, ![1024, 2048]⟩
abbrev S8192x2048 : Shape := ⟨2, ![8192, 2048]⟩
abbrev S1x8192x2048 : Shape := ⟨3, ![1, 8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S1x8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S512x1024 : Shape := ⟨2, ![512, 1024]⟩
abbrev S1x8192x1024 : Shape := ⟨3, ![1, 8192, 1024]⟩
abbrev S1x512x1024 : Shape := ⟨3, ![1, 512, 1024]⟩
abbrev S1x8192x512 : Shape := ⟨3, ![1, 8192, 512]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S1x8192x1024, .bf16⟩
  | .hbm, ⟨3, _⟩ => ⟨S1x512x1024, .bf16⟩
  | .hbm, ⟨4, _⟩ => ⟨S1x8192x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x1024x512, .f32⟩
  | .local _ .vmem, ⟨4, _⟩ => ⟨S1x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S8192x1024 : Shape := ⟨2, ![8192, 1024]⟩
abbrev S512x1024 : Shape := ⟨2, ![512, 1024]⟩
abbrev S1x8192x1024 : Shape := ⟨3, ![1, 8192, 1024]⟩
abbrev S1x512x1024 : Shape := ⟨3, ![1, 512, 1024]⟩
abbrev S1x8192x512 : Shape := ⟨3, ![1, 8192, 512]⟩
abbrev S1x1024x1024 : Shape := ⟨3, ![1, 1024, 1024]⟩
abbrev S1x1024x512 : Shape := ⟨3, ![1, 1024, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S1x8192x1024, .bf16⟩
  | .hbm, ⟨3, _⟩ => ⟨S1x512x1024, .bf16⟩
  | .hbm, ⟨4, _⟩ => ⟨S1x8192x512, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x1024x512, .f32⟩
  | .local _ .vmem, ⟨4, _⟩ => ⟨S1x1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩
abbrev S1x8192x512 : Shape := ⟨3, ![1, 8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x1024, .f32⟩
  | .hbm, ⟨3, _⟩ => ⟨S512x1024, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x512, .f32⟩
  | .hbm, ⟨8, _⟩ => ⟨S1x8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x1024 : Shape := ⟨2, ![8192, 1024]⟩
abbrev S1024x1536 : Shape := ⟨2, ![1024, 1536]⟩
abbrev S1x8192x1024 : Shape := ⟨3, ![1, 8192, 1024]⟩
abbrev S1536x1024 : Shape := ⟨2, ![1536, 1024]⟩
abbrev S1x1536x1024 : Shape := ⟨3, ![1, 1536, 1024]⟩
abbrev S1x8192x1536 : Shape := ⟨3, ![1, 8192, 1536]⟩
abbrev S1x1024x1024 : Shape := ⟨3, ![1, 1024, 1024]⟩
abbrev S1x1024x1536 : Shape := ⟨3, ![1, 1024, 1536]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1x8192x1024, .bf16⟩
  | .hbm, ⟨3, _⟩ => ⟨S1536x1024, .bf16⟩
  | .hbm, ⟨4, _⟩ => ⟨S1x1536x1024, .bf16⟩
  | .hbm, ⟨5, _⟩ => ⟨S1x8192x1536, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1536x1024, .bf16⟩
  | .local _ .vmem, ⟨3, _⟩ => ⟨S1x1024x1536, .f32⟩
  | .local _ .vmem, ⟨4, _⟩ => ⟨S1x1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel14Ideal.lean ====
abbrev S8192x1024 : Shape := ⟨2, ![8192, 1024]⟩
abbrev S1024x1536 : Shape := ⟨2, ![1024, 1536]⟩
abbrev S1x8192x1024 : Shape := ⟨3, ![1, 8192, 1024]⟩
abbrev S1536x1024 : Shape := ⟨2, ![1536, 1024]⟩
abbrev S1x1536x1024 : Shape := ⟨3, ![1, 1536, 1024]⟩
abbrev S1x8192x1536 : Shape := ⟨3, ![1, 8192, 1536]⟩
abbrev S1x1024x1024 : Shape := ⟨3, ![1, 1024, 1024]⟩
abbrev S1x1024x1536 : Shape := ⟨3, ![1, 1024, 1536]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S1x8192x1024, .bf16⟩
  | .hbm, ⟨3, _⟩ => ⟨S1536x1024, .bf16⟩
  | .hbm, ⟨4, _⟩ => ⟨S1x1536x1024, .bf16⟩
  | .hbm, ⟨5, _⟩ => ⟨S1x8192x1536, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1536x1024, .bf16⟩
  | .local _ .vmem, ⟨3, _⟩ => ⟨S1x1024x1536, .f32⟩
  | .local _ .vmem, ⟨4, _⟩ => ⟨S1x1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1536 : Shape := ⟨2, ![1024, 1536]⟩
abbrev S8192x1536 : Shape := ⟨2, ![8192, 1536]⟩
abbrev S1x8192x1536 : Shape := ⟨3, ![1, 8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1536, .bf16⟩
  | .hbm, ⟨2, _⟩ => ⟨S8192x1024, .f32⟩
  | .hbm, ⟨3, _⟩ => ⟨S1024x1536, .f32⟩
  | .hbm, ⟨4, _⟩ => ⟨S8192x1536, .f32⟩
  | .hbm, ⟨5, _⟩ => ⟨S1x8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1x8192x1024 : Shape := ⟨3, ![1, 8192, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x8192x1024, .bf16⟩
  | .hbm, ⟨3, _⟩ => ⟨S1x1024x1024, .bf16⟩
  | .hbm, ⟨4, _⟩ => ⟨S1x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩
abbrev S_ : Shape := ⟨0, ![]⟩
abbrev S1x8192x1024 : Shape := ⟨3, ![1, 8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x512 : Shape := ⟨2, ![8192, 512]⟩
abbrev S512x1024 : Shape := ⟨2, ![512, 1024]⟩
abbrev S1x8192x512 : Shape := ⟨3, ![1, 8192, 512]⟩
abbrev S1x512x1024 : Shape := ⟨3, ![1, 512, 1024]⟩
abbrev S1x8192x1024 : Shape := ⟨3, ![1, 8192, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S1x8192x512, .bf16⟩
  | .hbm, ⟨3, _⟩ => ⟨S1x512x1024, .bf16⟩
  | .hbm, ⟨4, _⟩ => ⟨S1x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x1024x1024, .f32⟩
  | .local _ .vmem, ⟨4, _⟩ => ⟨S1x1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S8192x512 : Shape := ⟨2, ![8192, 512]⟩
abbrev S512x1024 : Shape := ⟨2, ![512, 1024]⟩
abbrev S1x8192x512 : Shape := ⟨3, ![1, 8192, 512]⟩
abbrev S1x512x1024 : Shape := ⟨3, ![1, 512, 1024]⟩
abbrev S1x8192x1024 : Shape := ⟨3, ![1, 8192, 1024]⟩
abbrev S1x1024x512 : Shape := ⟨3, ![1, 1024, 512]⟩
abbrev S1x1024x1024 : Shape := ⟨3, ![1, 1024, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S1x8192x512, .bf16⟩
  | .hbm, ⟨3, _⟩ => ⟨S1x512x1024, .bf16⟩
  | .hbm, ⟨4, _⟩ => ⟨S1x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x512x1024, .bf16⟩
  | .local _ .vmem, ⟨3, _⟩ => ⟨S1x1024x1024, .f32⟩
  | .local _ .vmem, ⟨4, _⟩ => ⟨S1x1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x512 : Shape := ⟨2, ![8192, 512]⟩
abbrev S512x1024 : Shape := ⟨2, ![512, 1024]⟩
abbrev S8192x1024 : Shape := ⟨2, ![8192, 1024]⟩
abbrev S1x8192x1024 : Shape := ⟨3, ![1, 8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S1x8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x8192x1024 : Shape := ⟨3, ![1, 8192, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1x8192x1024, .bf16⟩
  | .hbm, ⟨3, _⟩ => ⟨S1x1024x1024, .bf16⟩
  | .hbm, ⟨4, _⟩ => ⟨S1x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .f32⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩
abbrev S1x8192x1024 : Shape := ⟨3, ![1, 8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S1x8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S1x704x1024 : Shape := ⟨3, ![1, 704, 1024]⟩
abbrev S704x1024 : Shape := ⟨2, ![704, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel18Ideal.lean ====
abbrev S1x704x1024 : Shape := ⟨3, ![1, 704, 1024]⟩
abbrev S704x1024 : Shape := ⟨2, ![704, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S1x704x1024 : Shape := ⟨3, ![1, 704, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S_, .f32⟩
  | .hbm, ⟨5, _⟩ => ⟨S1x704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1x1024x704 : Shape := ⟨3, ![1, 1024, 704]⟩
abbrev S1024x704 : Shape := ⟨2, ![1024, 704]⟩
abbrev S704x1024 : Shape := ⟨2, ![704, 1024]⟩
abbrev S176x1024 : Shape := ⟨2, ![176, 1024]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S1024x704, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel19Ideal.lean ====
abbrev S1x1024x704 : Shape := ⟨3, ![1, 1024, 704]⟩
abbrev S1024x704 : Shape := ⟨2, ![1024, 704]⟩
abbrev S704x1024 : Shape := ⟨2, ![704, 1024]⟩
abbrev S176x1024 : Shape := ⟨2, ![176, 1024]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S1024x704, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S1x1024x704 : Shape := ⟨3, ![1, 1024, 704]⟩
abbrev S_ : Shape := ⟨0, ![]⟩
abbrev S1024x704 : Shape := ⟨2, ![1024, 704]⟩
abbrev S704x1024 : Shape := ⟨2, ![704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S_, .f32⟩
  | .hbm, ⟨5, _⟩ => ⟨S1x1024x704, .f32⟩
  | .hbm, ⟨6, _⟩ => ⟨S1x1024x704, .f32⟩
  | .hbm, ⟨7, _⟩ => ⟨S_, .f32⟩
  | .hbm, ⟨8, _⟩ => ⟨S1x1024x704, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S_, .f32⟩
  | .hbm, ⟨23, _⟩ => ⟨S1x1024x704, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1024x704, .f32⟩
  | .hbm, ⟨38, _⟩ => ⟨S704x1024, .f32⟩
  | .hbm, ⟨39, _⟩ => ⟨S1024x704, .f32⟩
  | .hbm, ⟨40, _⟩ => ⟨S704x1024, .f32⟩
  | .hbm, ⟨41, _⟩ => ⟨S1024x704, .f32⟩
  | .hbm, ⟨42, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel20.lean ====
abbrev S1x1024x1156 : Shape := ⟨3, ![1, 1024, 1156]⟩
abbrev S1024x1156 : Shape := ⟨2, ![1024, 1156]⟩
abbrev S1156x1024 : Shape := ⟨2, ![1156, 1024]⟩
abbrev S1156x128 : Shape := ⟨2, ![1156, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S1024x1156, .f32⟩
  | .hbm, ⟨5, _⟩ => ⟨S1156x1024, .f32⟩
  | .hbm, ⟨6, _⟩ => ⟨S1024x1156, .f32⟩
  | .hbm, ⟨7, _⟩ => ⟨S1156x1024, .f32⟩
  | .hbm, ⟨8, _⟩ => ⟨S1024x1156, .f32⟩
  | .hbm, ⟨9, _⟩ => ⟨S1156x1024, .f32⟩
  | .hbm, ⟨10, _⟩ => ⟨S1024x1156, .f32⟩
  | .hbm, ⟨11, _⟩ => ⟨S1156x1024, .f32⟩
  | .hbm, ⟨12, _⟩ => ⟨S1156x1024, .f32⟩
  | .hbm, ⟨13, _⟩ => ⟨S1156x1024, .f32⟩
  | .hbm, ⟨14, _⟩ => ⟨S1156x1024, .f32⟩
  | .local _ .vmem, ⟨0, _⟩ => ⟨S1156x128, .f32⟩
  | .local _ .vmem, ⟨1, _⟩ => ⟨S1156x128, .f32⟩
  | .local _ .vmem, ⟨2, _⟩ => ⟨S1156x128, .f32⟩
  | .local _ .vmem, ⟨3, _⟩ => ⟨S1156x128, .f32⟩
  | .local _ .vmem, ⟨4, _⟩ => ⟨S1156x128, .f32⟩
  | .local _ .vmem, ⟨5, _⟩ => ⟨S1156x128, .f32⟩
  | .local _ .vmem, ⟨6, _⟩ => ⟨S1156x128, .f32⟩
  | .local _ .vmem, ⟨7, _⟩ => ⟨S1156x128, .f32⟩
  | .local _ .vmem, ⟨8, _⟩ => ⟨S1156x128, .f32⟩
  | .local _ .vmem, ⟨9, _⟩ => ⟨S1156x128, .f32⟩
  | .local _ .vmem, ⟨10, _⟩ => ⟨S1156x128, .f32⟩
  | .local _ .vmem, ⟨11, _⟩ => ⟨S1156x128, .f32⟩
  | .local _ .vmem, ⟨12, _⟩ => ⟨S1156x128, .f32⟩
  | .local _ .vmem, ⟨13, _⟩ => ⟨S1156x128, .f32⟩
  | _, _ => ⟨S1x1024x1156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1156x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1156x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1156x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1156x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1156x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1156x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1156x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S1x1024x1156 : Shape := ⟨3, ![1, 1024, 1156]⟩
abbrev S_ : Shape := ⟨0, ![]⟩
abbrev S1024x1156 : Shape := ⟨2, ![1024, 1156]⟩
abbrev S1156x1024 : Shape := ⟨2, ![1156, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x1156, .f32⟩
  | .hbm, ⟨1, _⟩ => ⟨S1x1024x1156, .f32⟩
  | .hbm, ⟨2, _⟩ => ⟨S1x1024x1156, .f32⟩
  | .hbm, ⟨3, _⟩ => ⟨S1x1024x1156, .f32⟩
  | .hbm, ⟨4, _⟩ => ⟨S_, .f32⟩
  | .hbm, ⟨5, _⟩ => ⟨S1x1024x1156, .f32⟩
  | .hbm, ⟨6, _⟩ => ⟨S1x1024x1156, .f32⟩
  | .hbm, ⟨7, _⟩ => ⟨S_, .f32⟩
  | .hbm, ⟨8, _⟩ => ⟨S1x1024x1156, .f32⟩
  | .hbm, ⟨9, _⟩ => ⟨S1x1024x1156, .f32⟩
  | .hbm, ⟨10, _⟩ => ⟨S1x1024x1156, .f32⟩
  | .hbm, ⟨11, _⟩ => ⟨S_, .f32⟩
  | .hbm, ⟨12, _⟩ => ⟨S1x1024x1156, .f32⟩
  | .hbm, ⟨13, _⟩ => ⟨S1x1024x1156, .f32⟩
  | .hbm, ⟨14, _⟩ => ⟨S1x1024x1156, .f32⟩
  | .hbm, ⟨15, _⟩ => ⟨S_, .f32⟩
  | .hbm, ⟨16, _⟩ => ⟨S1x1024x1156, .f32⟩
  | .hbm, ⟨17, _⟩ => ⟨S1x1024x1156, .f32⟩
  | .hbm, ⟨18, _⟩ => ⟨S1x1024x1156, .f32⟩
  | .hbm, ⟨19, _⟩ => ⟨S_, .f32⟩
  | .hbm, ⟨20, _⟩ => ⟨S1x1024x1156, .f32⟩
  | .hbm, ⟨21, _⟩ => ⟨S1x1024x1156, .f32⟩
  | .hbm, ⟨22, _⟩ => ⟨S_, .f32⟩
  | .hbm, ⟨23, _⟩ => ⟨S1x1024x1156, .f32⟩
  | .hbm, ⟨24, _⟩ => ⟨S1x1024x1156, .f32⟩
  | .hbm, ⟨25, _⟩ => ⟨S1x1024x1156, .f32⟩
  | .hbm, ⟨26, _⟩ => ⟨S_, .f32⟩
  | .hbm, ⟨27, _⟩ => ⟨S1x1024x1156, .f32⟩
  | .hbm, ⟨28, _⟩ => ⟨S1x1024x1156, .f32⟩
  | .hbm, ⟨29, _⟩ => ⟨S1x1024x1156, .f32⟩
  | .hbm, ⟨30, _⟩ => ⟨S_, .f32⟩
  | .hbm, ⟨31, _⟩ => ⟨S1x1024x1156, .f32⟩
  | .hbm, ⟨32, _⟩ => ⟨S1x1024x1156, .f32⟩
  | .hbm, ⟨33, _⟩ => ⟨S1x1024x1156, .f32⟩
  | .hbm, ⟨34, _⟩ => ⟨S_, .f32⟩
  | .hbm, ⟨35, _⟩ => ⟨S1x1024x1156, .f32⟩
  | .hbm, ⟨36, _⟩ => ⟨S1x1024x1156, .f32⟩
  | .hbm, ⟨37, _⟩ => ⟨S1024x1156, .f32⟩
  | .hbm, ⟨38, _⟩ => ⟨S1156x1024, .f32⟩
  | .hbm, ⟨39, _⟩ => ⟨S1024x1156, .f32⟩
  | .hbm, ⟨40, _⟩ => ⟨S1156x1024, .f32⟩
  | .hbm, ⟨41, _⟩ => ⟨S1024x1156, .f32⟩
  | .hbm, ⟨42, _⟩ => ⟨S1156x1024, .f32⟩
  | _, _ => ⟨S1x1024x1156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel21.lean ====
abbrev S1x1024x2304 : Shape := ⟨3, ![1, 1024, 2304]⟩
abbrev S1024x2304 : Shape := ⟨2, ![1024, 2304]⟩
abbrev S64x2304 : Shape := ⟨2, ![64, 2304]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel21Ideal.lean ====
abbrev S1x1024x2304 : Shape := ⟨3, ![1, 1024, 2304]⟩
abbrev S1024x2304 : Shape := ⟨2, ![1024, 2304]⟩
abbrev S64x2304 : Shape := ⟨2, ![64, 2304]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S1x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S1x1024x2304 : Shape := ⟨3, ![1, 1024, 2304]⟩
abbrev S_ : Shape := ⟨0, ![]⟩
abbrev S1024x2304 : Shape := ⟨2, ![1024, 2304]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S_, .f32⟩
  | .hbm, ⟨5, _⟩ => ⟨S1x1024x2304, .f32⟩
  | .hbm, ⟨6, _⟩ => ⟨S1x1024x2304, .f32⟩
  | .hbm, ⟨7, _⟩ => ⟨S_, .f32⟩
  | .hbm, ⟨8, _⟩ => ⟨S1x1024x2304, .f32⟩
  | .hbm, ⟨9, _⟩ => ⟨S1x1024x2304, .f32⟩
  | .hbm, ⟨10, _⟩ => ⟨S1x1024x2304, .f32⟩
  | .hbm, ⟨11, _⟩ => ⟨S_, .f32⟩
  | .hbm, ⟨12, _⟩ => ⟨S1x1024x2304, .f32⟩
  | .hbm, ⟨13, _⟩ => ⟨S1x1024x2304, .f32⟩
  | .hbm, ⟨14, _⟩ => ⟨S1x1024x2304, .f32⟩
  | .hbm, ⟨15, _⟩ => ⟨S_, .f32⟩
  | .hbm, ⟨16, _⟩ => ⟨S1x1024x2304, .f32⟩
  | .hbm, ⟨17, _⟩ => ⟨S1x1024x2304, .f32⟩
  | .hbm, ⟨18, _⟩ => ⟨S1x1024x2304, .f32⟩
  | .hbm, ⟨19, _⟩ => ⟨S_, .f32⟩
  | .hbm, ⟨20, _⟩ => ⟨S1x1024x2304, .f32⟩
  | .hbm, ⟨21, _⟩ => ⟨S1x1024x2304, .f32⟩
  | .hbm, ⟨22, _⟩ => ⟨S_, .f32⟩
  | .hbm, ⟨23, _⟩ => ⟨S1x1024x2304, .f32⟩
  | .hbm, ⟨24, _⟩ => ⟨S1x1024x2304, .f32⟩
  | .hbm, ⟨25, _⟩ => ⟨S1x1024x2304, .f32⟩
  | .hbm, ⟨26, _⟩ => ⟨S_, .f32⟩
  | .hbm, ⟨27, _⟩ => ⟨S1x1024x2304, .f32⟩
  | .hbm, ⟨28, _⟩ => ⟨S1x1024x2304, .f32⟩
  | .hbm, ⟨29, _⟩ => ⟨S1x1024x2304, .f32⟩
  | .hbm, ⟨30, _⟩ => ⟨S_, .f32⟩
  | .hbm, ⟨31, _⟩ => ⟨S1x1024x2304, .f32⟩
  | .hbm, ⟨32, _⟩ => ⟨S1x1024x2304, .f32⟩
  | .hbm, ⟨33, _⟩ => ⟨S1x1024x2304, .f32⟩
  | .hbm, ⟨34, _⟩ => ⟨S_, .f32⟩
  | .hbm, ⟨35, _⟩ => ⟨S1x1024x2304, .f32⟩
  | .hbm, ⟨36, _⟩ => ⟨S1x1024x2304, .f32⟩
  | .hbm, ⟨37, _⟩ => ⟨S1024x2304, .f32⟩
  | .hbm, ⟨38, _⟩ => ⟨S1024x2304, .f32⟩
  | .hbm, ⟨39, _⟩ => ⟨S1024x2304, .f32⟩
  | _, _ => ⟨S1x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S1x128x512 : Shape := ⟨3, ![1, 128, 512]⟩
abbrev S128x512 : Shape := ⟨2, ![128, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel22Ideal.lean ====
abbrev S1x128x512 : Shape := ⟨3, ![1, 128, 512]⟩
abbrev S128x512 : Shape := ⟨2, ![128, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference22Ideal.lean ====
abbrev S1x128x512 : Shape := ⟨3, ![1, 128, 512]⟩
abbrev S_ : Shape := ⟨0, ![]⟩
abbrev S128x512 : Shape := ⟨2, ![128, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S1x128x512, .f32⟩
  | .hbm, ⟨3, _⟩ => ⟨S1x128x512, .f32⟩
  | .hbm, ⟨4, _⟩ => ⟨S_, .f32⟩
  | .hbm, ⟨5, _⟩ => ⟨S1x128x512, .f32⟩
  | .hbm, ⟨6, _⟩ => ⟨S1x128x512, .f32⟩
  | .hbm, ⟨7, _⟩ => ⟨S_, .f32⟩
  | .hbm, ⟨8, _⟩ => ⟨S1x128x512, .f32⟩
  | .hbm, ⟨9, _⟩ => ⟨S1x128x512, .f32⟩
  | .hbm, ⟨10, _⟩ => ⟨S1x128x512, .f32⟩
  | .hbm, ⟨11, _⟩ => ⟨S_, .f32⟩
  | .hbm, ⟨12, _⟩ => ⟨S1x128x512, .f32⟩
  | .hbm, ⟨13, _⟩ => ⟨S1x128x512, .f32⟩
  | .hbm, ⟨14, _⟩ => ⟨S1x128x512, .f32⟩
  | .hbm, ⟨15, _⟩ => ⟨S_, .f32⟩
  | .hbm, ⟨16, _⟩ => ⟨S1x128x512, .f32⟩
  | .hbm, ⟨17, _⟩ => ⟨S1x128x512, .f32⟩
  | .hbm, ⟨18, _⟩ => ⟨S1x128x512, .f32⟩
  | .hbm, ⟨19, _⟩ => ⟨S_, .f32⟩
  | .hbm, ⟨20, _⟩ => ⟨S1x128x512, .f32⟩
  | .hbm, ⟨21, _⟩ => ⟨S1x128x512, .f32⟩
  | .hbm, ⟨22, _⟩ => ⟨S_, .f32⟩
  | .hbm, ⟨23, _⟩ => ⟨S1x128x512, .f32⟩
  | .hbm, ⟨24, _⟩ => ⟨S1x128x512, .f32⟩
  | .hbm, ⟨25, _⟩ => ⟨S1x128x512, .f32⟩
  | .hbm, ⟨26, _⟩ => ⟨S_, .f32⟩
  | .hbm, ⟨27, _⟩ => ⟨S1x128x512, .f32⟩
  | .hbm, ⟨28, _⟩ => ⟨S1x128x512, .f32⟩
  | .hbm, ⟨29, _⟩ => ⟨S1x128x512, .f32⟩
  | .hbm, ⟨30, _⟩ => ⟨S_, .f32⟩
  | .hbm, ⟨31, _⟩ => ⟨S1x128x512, .f32⟩
  | .hbm, ⟨32, _⟩ => ⟨S1x128x512, .f32⟩
  | .hbm, ⟨33, _⟩ => ⟨S1x128x512, .f32⟩
  | .hbm, ⟨34, _⟩ => ⟨S_, .f32⟩
  | .hbm, ⟨35, _⟩ => ⟨S1x128x512, .f32⟩
  | .hbm, ⟨36, _⟩ => ⟨S1x128x512, .f32⟩
  | .hbm, ⟨37, _⟩ => ⟨S128x512, .f32⟩
  | .hbm, ⟨38, _⟩ => ⟨S128x512, .f32⟩
  | .hbm, ⟨39, _⟩ => ⟨S128x512, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel23.lean ====
abbrev S1x512x256 : Shape := ⟨3, ![1, 512, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel23Ideal.lean ====
abbrev S1x512x256 : Shape := ⟨3, ![1, 512, 256]⟩
abbrev S512x256 : Shape := ⟨2, ![512, 256]⟩

abbrev nBuf : Space → Nat
  | .hbm => 11
  | .vmem => 7
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference23Ideal.lean ====
abbrev S1x512x256 : Shape := ⟨3, ![1, 512, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S1x512x256, .f32⟩
  | .hbm, ⟨1, _⟩ => ⟨S1x512x256, .f32⟩
  | .hbm, ⟨2, _⟩ => ⟨S1x512x256, .f32⟩
  | .hbm, ⟨3, _⟩ => ⟨S1x512x256, .f32⟩
  | .hbm, ⟨4, _⟩ => ⟨S_, .f32⟩
  | .hbm, ⟨5, _⟩ => ⟨S1x512x256, .f32⟩
  | .hbm, ⟨6, _⟩ => ⟨S1x512x256, .f32⟩
  | .hbm, ⟨7, _⟩ => ⟨S_, .f32⟩
  | .hbm, ⟨8, _⟩ => ⟨S1x512x256, .f32⟩
  | .hbm, ⟨9, _⟩ => ⟨S1x512x256, .f32⟩
  | .hbm, ⟨10, _⟩ => ⟨S1x512x256, .f32⟩
  | .hbm, ⟨11, _⟩ => ⟨S_, .f32⟩
  | .hbm, ⟨12, _⟩ => ⟨S1x512x256, .f32⟩
  | .hbm, ⟨13, _⟩ => ⟨S1x512x256, .f32⟩
  | .hbm, ⟨14, _⟩ => ⟨S1x512x256, .f32⟩
  | .hbm, ⟨15, _⟩ => ⟨S_, .f32⟩
  | .hbm, ⟨16, _⟩ => ⟨S1x512x256, .f32⟩
  | .hbm, ⟨17, _⟩ => ⟨S1x512x256, .f32⟩
  | .hbm, ⟨18, _⟩ => ⟨S1x512x256, .f32⟩
  | .hbm, ⟨19, _⟩ => ⟨S_, .f32⟩
  | .hbm, ⟨20, _⟩ => ⟨S1x512x256, .f32⟩
  | .hbm, ⟨21, _⟩ => ⟨S1x512x256, .f32⟩
  | .hbm, ⟨22, _⟩ => ⟨S_, .f32⟩
  | .hbm, ⟨23, _⟩ => ⟨S1x512x256, .f32⟩
  | .hbm, ⟨24, _⟩ => ⟨S1x512x256, .f32⟩
  | .hbm, ⟨25, _⟩ => ⟨S1x512x256, .f32⟩
  | .hbm, ⟨26, _⟩ => ⟨S_, .f32⟩
  | .hbm, ⟨27, _⟩ => ⟨S1x512x256, .f32⟩
  | .hbm, ⟨28, _⟩ => ⟨S1x512x256, .f32⟩
  | .hbm, ⟨29, _⟩ => ⟨S1x512x256, .f32⟩
  | .hbm, ⟨30, _⟩ => ⟨S_, .f32⟩
  | .hbm, ⟨31, _⟩ => ⟨S1x512x256, .f32⟩
  | .hbm, ⟨32, _⟩ => ⟨S1x512x256, .f32⟩
  | .hbm, ⟨33, _⟩ => ⟨S1x512x256, .f32⟩
  | .hbm, ⟨34, _⟩ => ⟨S_, .f32⟩
  | .hbm, ⟨35, _⟩ => ⟨S1x512x256, .f32⟩
  | .hbm, ⟨36, _⟩ => ⟨S1x512x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel24.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Kernel24Ideal.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference24Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel25.lean ====
abbrev S1x4x384 : Shape := ⟨3, ![1, 4, 384]⟩
abbrev S4x384 : Shape := ⟨2, ![4, 384]⟩

abbrev nBuf : Space → Nat
  | .hbm => 11
  | .vmem => 7
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .hbm, ⟨9, _⟩ => ⟨S4x384, .f32⟩
  | .hbm, ⟨10, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S1x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference25Ideal.lean ====
abbrev S1x4x384 : Shape := ⟨3, ![1, 4, 384]⟩
abbrev S_ : Shape := ⟨0, ![]⟩
abbrev S4x384 : Shape := ⟨2, ![4, 384]⟩

abbrev nBuf : Space → Nat
  | .hbm => 40
  | .vmem => 0
  | .smem => 0
  | _ => 0

abbrev bufTy : (tb : Table) → Fin (tcTables nBuf tb) → BufTy
  | .hbm, ⟨0, _⟩ => ⟨S1x4x384, .f32⟩
  | .hbm, ⟨1, _⟩ => ⟨S1x4x384, .f32⟩
  | .hbm, ⟨2, _⟩ => ⟨S1x4x384, .f32⟩
  | .hbm, ⟨3, _⟩ => ⟨S1x4x384, .f32⟩
  | .hbm, ⟨4, _⟩ => ⟨S_, .f32⟩
  | .hbm, ⟨5, _⟩ => ⟨S1x4x384, .f32⟩
  | .hbm, ⟨6, _⟩ => ⟨S1x4x384, .f32⟩
  | .hbm, ⟨7, _⟩ => ⟨S_, .f32⟩
  | .hbm, ⟨8, _⟩ => ⟨S1x4x384, .f32⟩
  | .hbm, ⟨9, _⟩ => ⟨S1x4x384, .f32⟩
  | .hbm, ⟨10, _⟩ => ⟨S1x4x384, .f32⟩
  | .hbm, ⟨11, _⟩ => ⟨S_, .f32⟩
  | .hbm, ⟨12, _⟩ => ⟨S1x4x384, .f32⟩
  | .hbm, ⟨13, _⟩ => ⟨S1x4x384, .f32⟩
  | .hbm, ⟨14, _⟩ => ⟨S1x4x384, .f32⟩
  | .hbm, ⟨15, _⟩ => ⟨S_, .f32⟩
  | .hbm, ⟨16, _⟩ => ⟨S1x4x384, .f32⟩
  | .hbm, ⟨17, _⟩ => ⟨S1x4x384, .f32⟩
  | .hbm, ⟨18, _⟩ => ⟨S1x4x384, .f32⟩
  | .hbm, ⟨19, _⟩ => ⟨S_, .f32⟩
  | .hbm, ⟨20, _⟩ => ⟨S1x4x384, .f32⟩
  | .hbm, ⟨21, _⟩ => ⟨S1x4x384, .f32⟩
  | .hbm, ⟨22, _⟩ => ⟨S_, .f32⟩
  | .hbm, ⟨23, _⟩ => ⟨S1x4x384, .f32⟩
  | .hbm, ⟨24, _⟩ => ⟨S1x4x384, .f32⟩
  | .hbm, ⟨25, _⟩ => ⟨S1x4x384, .f32⟩
  | .hbm, ⟨26, _⟩ => ⟨S_, .f32⟩
  | .hbm, ⟨27, _⟩ => ⟨S1x4x384, .f32⟩
  | .hbm, ⟨28, _⟩ => ⟨S1x4x384, .f32⟩
  | .hbm, ⟨29, _⟩ => ⟨S1x4x384, .f32⟩
  | .hbm, ⟨30, _⟩ => ⟨S_, .f32⟩
  | .hbm, ⟨31, _⟩ => ⟨S1x4x384, .f32⟩
  | .hbm, ⟨32, _⟩ => ⟨S1x4x384, .f32⟩
  | .hbm, ⟨33, _⟩ => ⟨S1x4x384, .f32⟩
  | .hbm, ⟨34, _⟩ => ⟨S_, .f32⟩
  | .hbm, ⟨35, _⟩ => ⟨S1x4x384, .f32⟩
  | .hbm, ⟨36, _⟩ => ⟨S1x4x384, .f32⟩
  | .hbm, ⟨37, _⟩ => ⟨S4x384, .f32⟩
  | .hbm, ⟨38, _⟩ => ⟨S4x384, .f32⟩
  | .hbm, ⟨39, _⟩ => ⟨S4x384, .f32⟩
  | _, _ => ⟨S1x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel26.lean ====
abbrev S1176x128 : Shape := ⟨2, ![1176, 128]⟩

abbrev nBuf : Space → Nat
  | .hbm => 7
  | .vmem => 7
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S1176x128, .f32⟩
  | .hbm, ⟨5, _⟩ => ⟨S1176x128, .f32⟩
  | .hbm, ⟨6, _⟩ => ⟨S1176x128, .f32⟩
  | .local _ .vmem, ⟨0, _⟩ => ⟨S1176x128, .f32⟩
  | .local _ .vmem, ⟨1, _⟩ => ⟨S1176x128, .f32⟩
  | .local _ .vmem, ⟨2, _⟩ => ⟨S1176x128, .f32⟩
  | .local _ .vmem, ⟨3, _⟩ => ⟨S1176x128, .f32⟩
  | .local _ .vmem, ⟨4, _⟩ => ⟨S1176x128, .f32⟩
  | .local _ .vmem, ⟨5, _⟩ => ⟨S1176x128, .f32⟩
  | .local _ .vmem, ⟨6, _⟩ => ⟨S1176x128, .f32⟩
  | _, _ => ⟨S1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference26Ideal.lean ====
abbrev S1176x128 : Shape := ⟨2, ![1176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S_, .f32⟩
  | .hbm, ⟨5, _⟩ => ⟨S1176x128, .f32⟩
  | .hbm, ⟨6, _⟩ => ⟨S1176x128, .f32⟩
  | .hbm, ⟨7, _⟩ => ⟨S_, .f32⟩
  | .hbm, ⟨8, _⟩ => ⟨S1176x128, .f32⟩
  | .hbm, ⟨9, _⟩ => ⟨S1176x128, .f32⟩
  | .hbm, ⟨10, _⟩ => ⟨S1176x128, .f32⟩
  | .hbm, ⟨11, _⟩ => ⟨S_, .f32⟩
  | .hbm, ⟨12, _⟩ => ⟨S1176x128, .f32⟩
  | .hbm, ⟨13, _⟩ => ⟨S1176x128, .f32⟩
  | .hbm, ⟨14, _⟩ => ⟨S1176x128, .f32⟩
  | .hbm, ⟨15, _⟩ => ⟨S_, .f32⟩
  | .hbm, ⟨16, _⟩ => ⟨S1176x128, .f32⟩
  | .hbm, ⟨17, _⟩ => ⟨S1176x128, .f32⟩
  | .hbm, ⟨18, _⟩ => ⟨S1176x128, .f32⟩
  | .hbm, ⟨19, _⟩ => ⟨S_, .f32⟩
  | .hbm, ⟨20, _⟩ => ⟨S1176x128, .f32⟩
  | .hbm, ⟨21, _⟩ => ⟨S1176x128, .f32⟩
  | .hbm, ⟨22, _⟩ => ⟨S_, .f32⟩
  | .hbm, ⟨23, _⟩ => ⟨S1176x128, .f32⟩
  | .hbm, ⟨24, _⟩ => ⟨S1176x128, .f32⟩
  | .hbm, ⟨25, _⟩ => ⟨S1176x128, .f32⟩
  | .hbm, ⟨26, _⟩ => ⟨S_, .f32⟩
  | .hbm, ⟨27, _⟩ => ⟨S1176x128, .f32⟩
  | .hbm, ⟨28, _⟩ => ⟨S1176x128, .f32⟩
  | .hbm, ⟨29, _⟩ => ⟨S1176x128, .f32⟩
  | .hbm, ⟨30, _⟩ => ⟨S_, .f32⟩
  | .hbm, ⟨31, _⟩ => ⟨S1176x128, .f32⟩
  | .hbm, ⟨32, _⟩ => ⟨S1176x128, .f32⟩
  | .hbm, ⟨33, _⟩ => ⟨S1176x128, .f32⟩
  | .hbm, ⟨34, _⟩ => ⟨S_, .f32⟩
  | .hbm, ⟨35, _⟩ => ⟨S1176x128, .f32⟩
  | .hbm, ⟨36, _⟩ => ⟨S1176x128, .f32⟩
  | _, _ => ⟨S1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S32x1024 : Shape := ⟨2, ![32, 1024]⟩
abbrev S32x9216 : Shape := ⟨2, ![32, 9216]⟩
abbrev S32x4x2304 : Shape := ⟨3, ![32, 4, 2304]⟩
abbrev S4x32x2304 : Shape := ⟨3, ![4, 32, 2304]⟩
abbrev S4x1024x2304 : Shape := ⟨3, ![4, 1024, 2304]⟩
abbrev S4x1x2304 : Shape := ⟨3, ![4, 1, 2304]⟩
abbrev S1x32x2304 : Shape := ⟨3, ![1, 32, 2304]⟩
abbrev S1x1024x2304 : Shape := ⟨3, ![1, 1024, 2304]⟩
abbrev S1x1x2304 : Shape := ⟨3, ![1, 1, 2304]⟩
abbrev S32x2304 : Shape := ⟨2, ![32, 2304]⟩
abbrev S1024x2304 : Shape := ⟨2, ![1024, 2304]⟩
abbrev S2304 : Shape := ⟨1, ![2304]⟩
abbrev S1x2304 : Shape := ⟨2, ![1, 2304]⟩

abbrev nBuf : Space → Nat
  | .hbm => 6
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x9216, .f32⟩
  | .hbm, ⟨2, _⟩ => ⟨S32x4x2304, .f32⟩
  | .hbm, ⟨3, _⟩ => ⟨S4x32x2304, .f32⟩
  | .hbm, ⟨4, _⟩ => ⟨S4x1024x2304, .f32⟩
  | .hbm, ⟨5, _⟩ => ⟨S4x1x2304, .f32⟩
  | .local _ .vmem, ⟨0, _⟩ => ⟨S32x1024, .f32⟩
  | .local _ .vmem, ⟨1, _⟩ => ⟨S1x32x2304, .f32⟩
  | .local _ .vmem, ⟨2, _⟩ => ⟨S1x32x2304, .f32⟩
  | .local _ .vmem, ⟨3, _⟩ => ⟨S1x1024x2304, .f32⟩
  | .local _ .vmem, ⟨4, _⟩ => ⟨S1x1024x2304, .f32⟩
  | .local _ .vmem, ⟨5, _⟩ => ⟨S1x1x2304, .f32⟩
  | .local _ .vmem, ⟨6, _⟩ => ⟨S1x1x2304, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S32x1024 : Shape := ⟨2, ![32, 1024]⟩
abbrev S32x9216 : Shape := ⟨2, ![32, 9216]⟩
abbrev S_ : Shape := ⟨0, ![]⟩
abbrev S1024x9216 : Shape := ⟨2, ![1024, 9216]⟩
abbrev S9216 : Shape := ⟨1, ![9216]⟩
abbrev S1x9216 : Shape := ⟨2, ![1, 9216]⟩
abbrev S9216x1024 : Shape := ⟨2, ![9216, 1024]⟩
abbrev S1024x4x2304 : Shape := ⟨3, ![1024, 4, 2304]⟩
abbrev S4x1024x2304 : Shape := ⟨3, ![4, 1024, 2304]⟩
abbrev S1x4x2304 : Shape := ⟨3, ![1, 4, 2304]⟩
abbrev S4x1x2304 : Shape := ⟨3, ![4, 1, 2304]⟩

abbrev nBuf : Space → Nat
  | .hbm => 32
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x9216, .f32⟩
  | .hbm, ⟨2, _⟩ => ⟨S_, .f32⟩
  | .hbm, ⟨3, _⟩ => ⟨S1024x9216, .f32⟩
  | .hbm, ⟨4, _⟩ => ⟨S_, .f32⟩
  | .hbm, ⟨5, _⟩ => ⟨S9216, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S32x9216, .f32⟩
  | .hbm, ⟨16, _⟩ => ⟨S1x9216, .f32⟩
  | .hbm, ⟨17, _⟩ => ⟨S32x9216, .f32⟩
  | .hbm, ⟨18, _⟩ => ⟨S32x9216, .f32⟩
  | .hbm, ⟨19, _⟩ => ⟨S32x9216, .f32⟩
  | .hbm, ⟨20, _⟩ => ⟨S_, .f32⟩
  | .hbm, ⟨21, _⟩ => ⟨S9216, .f32⟩
  | .hbm, ⟨22, _⟩ => ⟨S1x9216, .f32⟩
  | .hbm, ⟨23, _⟩ => ⟨S_, .f32⟩
  | .hbm, ⟨24, _⟩ => ⟨S9216, .f32⟩
  | .hbm, ⟨25, _⟩ => ⟨S9216x1024, .f32⟩
  | .hbm, ⟨26, _⟩ => ⟨S1024x9216, .f32⟩
  | .hbm, ⟨27, _⟩ => ⟨S1024x4x2304, .f32⟩
  | .hbm, ⟨28, _⟩ => ⟨S4x1024x2304, .f32⟩
  | .hbm, ⟨29, _⟩ => ⟨S1x9216, .f32⟩
  | .hbm, ⟨30, _⟩ => ⟨S1x4x2304, .f32⟩
  | .hbm, ⟨31, _⟩ => ⟨S4x1x2304, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Kernel28.lean ====
abbrev S8x1024 : Shape := ⟨2, ![8, 1024]⟩
abbrev S1024x9216 : Shape := ⟨2, ![1024, 9216]⟩
abbrev S9216 : Shape := ⟨1, ![9216]⟩
abbrev S1024x4x2304 : Shape := ⟨3, ![1024, 4, 2304]⟩
abbrev S4x1024x2304 : Shape := ⟨3, ![4, 1024, 2304]⟩
abbrev S4x1x2304 : Shape := ⟨3, ![4, 1, 2304]⟩
abbrev S4x8x2304 : Shape := ⟨3, ![4, 8, 2304]⟩
abbrev S1x1024x2304 : Shape := ⟨3, ![1, 1024, 2304]⟩
abbrev S1x1x2304 : Shape := ⟨3, ![1, 1, 2304]⟩
abbrev S1x8x2304 : Shape := ⟨3, ![1, 8, 2304]⟩
abbrev S1024x2304 : Shape := ⟨2, ![1024, 2304]⟩
abbrev S8x2304 : Shape := ⟨2, ![8, 2304]⟩
abbrev S1x2304 : Shape := ⟨2, ![1, 2304]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .bf16⟩
  | .hbm, ⟨2, _⟩ => ⟨S9216, .f32⟩
  | .hbm, ⟨3, _⟩ => ⟨S1024x4x2304, .bf16⟩
  | .hbm, ⟨4, _⟩ => ⟨S4x1024x2304, .bf16⟩
  | .hbm, ⟨5, _⟩ => ⟨S4x1x2304, .f32⟩
  | .hbm, ⟨6, _⟩ => ⟨S4x8x2304, .f32⟩
  | .local _ .vmem, ⟨0, _⟩ => ⟨S8x1024, .f32⟩
  | .local _ .vmem, ⟨1, _⟩ => ⟨S1x1024x2304, .bf16⟩
  | .local _ .vmem, ⟨2, _⟩ => ⟨S1x1024x2304, .bf16⟩
  | .local _ .vmem, ⟨3, _⟩ => ⟨S1x1x2304, .f32⟩
  | .local _ .vmem, ⟨4, _⟩ => ⟨S1x1x2304, .f32⟩
  | .local _ .vmem, ⟨5, _⟩ => ⟨S1x8x2304, .f32⟩
  | .local _ .vmem, ⟨6, _⟩ => ⟨S1x8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩
abbrev S8x4x2304 : Shape := ⟨3, ![8, 4, 2304]⟩
abbrev S4x8x2304 : Shape := ⟨3, ![4, 8, 2304]⟩

abbrev nBuf : Space → Nat
  | .hbm => 19
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .bf16⟩
  | .hbm, ⟨2, _⟩ => ⟨S9216, .f32⟩
  | .hbm, ⟨3, _⟩ => ⟨S1024x9216, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x9216, .f32⟩
  | .hbm, ⟨14, _⟩ => ⟨S1x9216, .f32⟩
  | .hbm, ⟨15, _⟩ => ⟨S8x9216, .f32⟩
  | .hbm, ⟨16, _⟩ => ⟨S8x9216, .f32⟩
  | .hbm, ⟨17, _⟩ => ⟨S8x4x2304, .f32⟩
  | .hbm, ⟨18, _⟩ => ⟨S4x8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel29.lean ====
abbrev S8192x1024 : Shape := ⟨2, ![8192, 1024]⟩
abbrev S1024x128 : Shape := ⟨2, ![1024, 128]⟩
abbrev S1x8192x1024 : Shape := ⟨3, ![1, 8192, 1024]⟩
abbrev S128x1024 : Shape := ⟨2, ![128, 1024]⟩
abbrev S1x128x1024 : Shape := ⟨3, ![1, 128, 1024]⟩
abbrev S1x8192x128 : Shape := ⟨3, ![1, 8192, 128]⟩
abbrev S1x1024x1024 : Shape := ⟨3, ![1, 1024, 1024]⟩
abbrev S1x1024x128 : Shape := ⟨3, ![1, 1024, 128]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S1x8192x1024, .bf16⟩
  | .hbm, ⟨3, _⟩ => ⟨S128x1024, .bf16⟩
  | .hbm, ⟨4, _⟩ => ⟨S1x128x1024, .bf16⟩
  | .hbm, ⟨5, _⟩ => ⟨S1x8192x128, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x128x1024, .bf16⟩
  | .local _ .vmem, ⟨3, _⟩ => ⟨S1x1024x128, .f32⟩
  | .local _ .vmem, ⟨4, _⟩ => ⟨S1x1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S1024x128 : Shape := ⟨2, ![1024, 128]⟩
abbrev S8192x128 : Shape := ⟨2, ![8192, 128]⟩
abbrev S1x8192x128 : Shape := ⟨3, ![1, 8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | .hbm, ⟨5, _⟩ => ⟨S1x8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel30.lean ====
abbrev S8192x128 : Shape := ⟨2, ![8192, 128]⟩
abbrev S8192x1024 : Shape := ⟨2, ![8192, 1024]⟩
abbrev S1x8192x128 : Shape := ⟨3, ![1, 8192, 128]⟩
abbrev S1x8192x1024 : Shape := ⟨3, ![1, 8192, 1024]⟩
abbrev S1x128x1024 : Shape := ⟨3, ![1, 128, 1024]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S1x8192x128, .bf16⟩
  | .hbm, ⟨3, _⟩ => ⟨S1x8192x1024, .bf16⟩
  | .hbm, ⟨4, _⟩ => ⟨S1x128x1024, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨4, ![1, 1, 1, 8], ![false, false, false, false]⟩

def k0_cond1 (i : grid0.Coords) : BitVec 1 :=
  let arg3 : BitVec 32 := BitVec.ofNat 32 (i 3).val
  let c0_i32 : BitVec 32 := 0#32
  let v5 : BitVec 1 := Scalar.cmpi .eq arg3 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg3 : BitVec 32 := BitVec.ofNat 32 (i 3).val
  let c0_i32_6 : BitVec 32 := 0#32
  let v8 : BitVec 1 := Scalar.cmpi .sgt arg3 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false]
-- ==== Reference30Ideal.lean ====
abbrev S8192x128 : Shape := ⟨2, ![8192, 128]⟩
abbrev S8192x1024 : Shape := ⟨2, ![8192, 1024]⟩
abbrev S_ : Shape := ⟨0, ![]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S8192x128, .f32⟩
  | .hbm, ⟨3, _⟩ => ⟨S8192x1024, .f32⟩
  | .hbm, ⟨4, _⟩ => ⟨S_, .f32⟩
  | .hbm, ⟨5, _⟩ => ⟨S1024x128, .f32⟩
  | .hbm, ⟨6, _⟩ => ⟨S8192x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S1x128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel31.lean ====
abbrev S4x2048x1024 : Shape := ⟨3, ![4, 2048, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x2048x1024, .f32⟩
  | .hbm, ⟨5, _⟩ => ⟨S4x2048x1024, .f32⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S4x2048x1024, .f32⟩
  | .hbm, ⟨10, _⟩ => ⟨S1x1024, .f32⟩
  | .hbm, ⟨11, _⟩ => ⟨S4x1x1024, .f32⟩
  | .hbm, ⟨12, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let arg1 : BitVec 32 := BitVec.ofNat 32 (i 1).val
  let c0_i32_26 : BitVec 32 := 0#32
  let v60 : BitVec 1 := Scalar.cmpi .eq arg1 c0_i32_26
  let v61 : BitVec 1 := Scalar.andi v59 v60
  let v62 : BitVec 32 := Scalar.extui v61
  let c0_i32_27 : BitVec 32 := 0#32
  let v63 : BitVec 1 := Scalar.cmpi .ne v62 c0_i32_27
  v63

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let arg1 : BitVec 32 := BitVec.ofNat 32 (i 1).val
  let c0_i32_26 : BitVec 32 := 0#32
  let v60 : BitVec 1 := Scalar.cmpi .eq arg1 c0_i32_26
  let v61 : BitVec 1 := Scalar.andi v59 v60
  let v_true : BitVec 1 := 1#1
  let v64 : BitVec 1 := Scalar.xori v61 v_true
  let v65 : BitVec 32 := Scalar.extui v64
  let c0_i32_28 : BitVec 32 := 0#32
  let v66 : BitVec 1 := Scalar.cmpi .ne v65 c0_i32_28
  v66

def k0_cond3 (i : grid0.Coords) : BitVec 1 :=
  let arg1 : BitVec 32 := BitVec.ofNat 32 (i 1).val
  let c0_i32_29 : BitVec 32 := 0#32
  let v68 : BitVec 1 := Scalar.cmpi .eq arg1 c0_i32_29
  let v69 : BitVec 32 := Scalar.extui v68
  let c0_i32_30 : BitVec 32 := 0#32
  let v70 : BitVec 1 := Scalar.cmpi .ne v69 c0_i32_30
  v70

def k0_cond4 (i : grid0.Coords) : BitVec 1 :=
  let arg1 : BitVec 32 := BitVec.ofNat 32 (i 1).val
  let c0_i32_29 : BitVec 32 := 0#32
  let v68 : BitVec 1 := Scalar.cmpi .eq arg1 c0_i32_29
  let true_31 : BitVec 1 := 1#1
  let v71 : BitVec 1 := Scalar.xori v68 true_31
  let v72 : BitVec 32 := Scalar.extui v71
  let c0_i32_32 : BitVec 32 := 0#32
  let v73 : BitVec 1 := Scalar.cmpi .ne v72 c0_i32_32
  v73

def k0_cond5 (i : grid0.Coords) : BitVec 1 :=
  let arg1 : BitVec 32 := BitVec.ofNat 32 (i 1).val
  let c0_i32_33 : BitVec 32 := 0#32
  let v75 : BitVec 1 := Scalar.cmpi .eq arg1 c0_i32_33
  let v76 : BitVec 32 := Scalar.extui v75
  let c0_i32_34 : BitVec 32 := 0#32
  let v77 : BitVec 1 := Scalar.cmpi .ne v76 c0_i32_34
  v77

def k0_cond6 (i : grid0.Coords) : BitVec 1 :=
  let arg1 : BitVec 32 := BitVec.ofNat 32 (i 1).val
  let c0_i32_33 : BitVec 32 := 0#32
  let v75 : BitVec 1 := Scalar.cmpi .eq arg1 c0_i32_33
  let true_35 : BitVec 1 := 1#1
  let v78 : BitVec 1 := Scalar.xori v75 true_35
  let v79 : BitVec 32 := Scalar.extui v78
  let c0_i32_36 : BitVec 32 := 0#32
  let v80 : BitVec 1 := Scalar.cmpi .ne v79 c0_i32_36
  v80

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference31Ideal.lean ====
abbrev S4x2048x1024 : Shape := ⟨3, ![4, 2048, 1024]⟩
abbrev S1024 : Shape := ⟨1, ![1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1024, .f32⟩
  | .hbm, ⟨22, _⟩ => ⟨S4x2048x1024, .f32⟩
  | .hbm, ⟨23, _⟩ => ⟨S1x1x1024, .f32⟩
  | .hbm, ⟨24, _⟩ => ⟨S4x2048x1024, .f32⟩
  | .hbm, ⟨25, _⟩ => ⟨S4x2048x1024, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x1024, .f32⟩
  | .hbm, ⟨38, _⟩ => ⟨S4x1x1024, .f32⟩
  | .hbm, ⟨39, _⟩ => ⟨S4x2048x1024, .f32⟩
  | .hbm, ⟨40, _⟩ => ⟨S_, .f32⟩
  | .hbm, ⟨41, _⟩ => ⟨S4x1024, .f32⟩
  | .hbm, ⟨42, _⟩ => ⟨S4x1x1024, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x1024, .f32⟩
  | .hbm, ⟨47, _⟩ => ⟨S_, .f32⟩
  | .hbm, ⟨48, _⟩ => ⟨S4x1024, .f32⟩
  | .hbm, ⟨49, _⟩ => ⟨S4x2048x1024, .f32⟩
  | .hbm, ⟨50, _⟩ => ⟨S_, .f32⟩
  | .hbm, ⟨51, _⟩ => ⟨S1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S4x2048x1024, .f32⟩
  | .hbm, ⟨58, _⟩ => ⟨S_, .f32⟩
  | .hbm, ⟨59, _⟩ => ⟨S4x2048, .f32⟩
  | .hbm, ⟨60, _⟩ => ⟨S4x2048x1, .f32⟩
  | .hbm, ⟨61, _⟩ => ⟨S4x2048x1024, .f32⟩
  | .hbm, ⟨62, _⟩ => ⟨S4x2048x1024, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S1x1024, .f32⟩
  | .hbm, ⟨76, _⟩ => ⟨S4x1x1024, .f32⟩
  | .hbm, ⟨77, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel32.lean ====
abbrev S8192x2048 : Shape := ⟨2, ![8192, 2048]⟩
abbrev S8192x1024 : Shape := ⟨2, ![8192, 1024]⟩
abbrev S512x1024 : Shape := ⟨2, ![512, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel33.lean ====
abbrev S8192x2048 : Shape := ⟨2, ![8192, 2048]⟩
abbrev S8192x1024 : Shape := ⟨2, ![8192, 1024]⟩
abbrev S512x1024 : Shape := ⟨2, ![512, 1024]⟩

abbrev nBuf : Space → Nat
  | .hbm => 8
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference33Ideal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel34.lean ====
abbrev S8x1472x128 : Shape := ⟨3, ![8, 1472, 128]⟩
abbrev S1472x128 : Shape := ⟨2, ![1472, 128]⟩
abbrev S8x184x128 : Shape := ⟨3, ![8, 184, 128]⟩
abbrev S184x128 : Shape := ⟨2, ![184, 128]⟩
abbrev S1x184x128 : Shape := ⟨3, ![1, 184, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1472x128, .f32⟩
  | .hbm, ⟨1, _⟩ => ⟨S1472x128, .f32⟩
  | .local _ .vmem, ⟨0, _⟩ => ⟨S8x184x128, .f32⟩
  | .local _ .vmem, ⟨1, _⟩ => ⟨S8x184x128, .f32⟩
  | .local _ .vmem, ⟨2, _⟩ => ⟨S184x128, .f32⟩
  | .local _ .vmem, ⟨3, _⟩ => ⟨S184x128, .f32⟩
  | _, _ => ⟨S8x1472x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x184x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S184x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference34Ideal.lean ====
abbrev S8x1472x128 : Shape := ⟨3, ![8, 1472, 128]⟩
abbrev S_ : Shape := ⟨0, ![]⟩
abbrev S1472x128 : Shape := ⟨2, ![1472, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1472x128, .f32⟩
  | .hbm, ⟨1, _⟩ => ⟨S_, .f32⟩
  | .hbm, ⟨2, _⟩ => ⟨S1472x128, .f32⟩
  | _, _ => ⟨S8x1472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel35.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512x512, .bf16⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference35Ideal.lean ====
abbrev S8192x512 : Shape := ⟨2, ![8192, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512x512, .bf16⟩
  | .hbm, ⟨4, _⟩ => ⟨S512, .f32⟩
  | .hbm, ⟨5, _⟩ => ⟨S512x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel37.lean ====
abbrev S4x2048x1024 : Shape := ⟨3, ![4, 2048, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .bf16⟩
  | .local _ .vmem, ⟨8, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference37Ideal.lean ====
abbrev S4x2048x1024 : Shape := ⟨3, ![4, 2048, 1024]⟩
abbrev S1024 : Shape := ⟨1, ![1024]⟩
abbrev S4x1024 : Shape := ⟨2, ![4, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x1x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel38.lean ====
abbrev S4x2048x1024 : Shape := ⟨3, ![4, 2048, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024, .f32⟩
  | .hbm, ⟨6, _⟩ => ⟨S4x1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference38Ideal.lean ====
abbrev S4x2048x1024 : Shape := ⟨3, ![4, 2048, 1024]⟩
abbrev S4x1024 : Shape := ⟨2, ![4, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel39.lean ====
abbrev S4x2048x1024 : Shape := ⟨3, ![4, 2048, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024, .f32⟩
  | .hbm, ⟨6, _⟩ => ⟨S4x1x1024, .f32⟩
  | .hbm, ⟨7, _⟩ => ⟨S1x1024, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference39Ideal.lean ====
abbrev S4x2048x1024 : Shape := ⟨3, ![4, 2048, 1024]⟩
abbrev S4x1024 : Shape := ⟨2, ![4, 1024]⟩
abbrev S1024 : Shape := ⟨1, ![1024]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x1024, .f32⟩
  | .hbm, ⟨3, _⟩ => ⟨S1024, .f32⟩
  | .hbm, ⟨4, _⟩ => ⟨S4x1024, .f32⟩
  | .hbm, ⟨5, _⟩ => ⟨S4x1024, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x1x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Scan.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise.Index

@[expose] public section

set_option maxRecDepth 16384

/-! # The forward scan's body

One grid point of the forward scan runs four chunks of the recurrence on sixteen (batch, head) pairs.  This
module names what a point leaves: the state before each chunk (`carry`), the block of outputs (`oBlk`), the block of saved
states (`sBlk`); and it proves that the body, run on any whole staging buffers, leaves exactly these. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A chunk of the point's block: one trip of the body's loop. -/
abbrev Trip := Fin k0_t1_loop.trips

theorem trips_eq : k0_t1_loop.trips = 4 := by decide

/-- Chunk `k`'s 64 rows of a block of rows. -/
def rows (x : Vec F S1x8x256x128 .f32) (k : Trip) : Vec F S1x8x64x128 .f32 :=
  View.ld x (Rect.unit (s := S1x8x256x128) (k0_off2 k) S1x8x64x128.size (k0_off2_inb k))

/-- Chunk `k`'s log-decays. -/
def decay (x : Vec F S1x16x4x1x1 .f32) (k : Trip) : Vec F S1x16x1x1x1 .f32 :=
  View.ld x (Rect.unit (s := S1x16x4x1x1) (k0_off3 k) S1x16x1x1x1.size (k0_off3_inb k))

section
variable (x0 x1 x2 x3 x4 : Vec F S1x8x256x128 .f32) (x5 : Vec F S1x16x4x1x1 .f32) (s : Vec F S16x64x64 .f32)

/-- The state after one chunk. -/
def nextState (k : Trip) (acc : Vec F S16x64x64 .f32) : Vec F S16x64x64 .f32 :=
  k0_pay3 acc (k0_pay8 (rows x1 k)) (k0_pay9 (rows x2 k)) (k0_pay10 (rows x3 k)) (decay x5 k)

/-- The state before chunk `n` of the point, from the state `s` at the point's entry. -/
def carry : ℕ → Vec F S16x64x64 .f32
  | 0 => s
  | n + 1 => if h : n < k0_t1_loop.trips then nextState x1 x2 x3 x5 ⟨n, h⟩ (carry n) else carry n

/-- Chunk `k`'s rows of the output. -/
def oTrip (k : Trip) : Vec F S1x8x64x128 .f32 :=
  k0_pay4 (carry x1 x2 x3 x5 s k) (k0_pay7 (rows x0 k)) (k0_pay9 (rows x2 k)) (k0_pay10 (rows x3 k)) (k0_pay11 (rows x4 k))

/-- Where chunk `k` stores its rows of the output, and what. -/
def oPiece (k : Trip) : View.Piece (Elt F) S1x8x256x128 .f32 :=
  ⟨Rect.unit (s := S1x8x256x128) (k0_off2 k) S1x8x64x128.size (k0_off2_inb k), oTrip x0 x1 x2 x3 x4 x5 s k⟩

/-- Where chunk `k` stores the state it starts from, and what. -/
def sPiece (k : Trip) : View.Piece (Elt F) S1x16x4x64x64 .f32 :=
  ⟨Rect.unit (s := S1x16x4x64x64) (k0_off1 k) S1x16x1x64x64.size (k0_off1_inb k), k0_pay6 (carry x1 x2 x3 x5 s k)⟩

/-- The pieces of the first `n` chunks, last first. -/
def upTo {α : Type} (f : Trip → α) : ℕ → List α
  | 0 => []
  | n + 1 => if h : n < k0_t1_loop.trips then f ⟨n, h⟩ :: upTo f n else upTo f n

theorem mem_upTo {α : Type} (f : Trip → α) (n : ℕ) (p : α) (h : p ∈ upTo f n) : ∃ k, p = f k := by
  induction n with
  | zero => exact absurd h List.not_mem_nil
  | succ n ih =>
    unfold upTo at h
    split at h
    · rcases List.mem_cons.mp h with h | h
      · exact ⟨_, h⟩
      · exact ih h
    · exact ih h

theorem upTo_mem {α : Type} (f : Trip → α) (n : ℕ) (k : Trip) (hk : k.val < n) : f k ∈ upTo f n := by
  induction n with
  | zero => exact absurd hk (Nat.not_lt_zero _)
  | succ n ih =>
    unfold upTo
    split
    · rcases Nat.lt_succ_iff_lt_or_eq.mp hk with h | h
      · exact List.mem_cons_of_mem _ (ih h)
      · exact List.mem_cons.mpr (.inl (by congr 1; exact Fin.ext h))
    · exact ih (by have := k.isLt; omega)

theorem upTo_succ {α : Type} (f : Trip → α) (n : ℕ) (h : n < k0_t1_loop.trips) : upTo f (n + 1) = f ⟨n, h⟩ :: upTo f n := dif_pos h

theorem carry_succ (n : ℕ) (h : n < k0_t1_loop.trips) :
    carry x1 x2 x3 x5 s (n + 1) = nextState x1 x2 x3 x5 ⟨n, h⟩ (carry x1 x2 x3 x5 s n) := dif_pos h

/-- The chunk a row of the block lies in. -/
def chunkOf (r : Fin 256) : Trip := ⟨r.val / 64, by rw [trips_eq]; omega⟩

/-- What the point leaves in the output's block. -/
def oBlk : Vec F S1x8x256x128 .f32 := fun y =>
  oTrip x0 x1 x2 x3 x4 x5 s (chunkOf (y 2)) (ix4 (y 0) (y 1) (⟨(y 2).val % 64, Nat.mod_lt _ (by decide)⟩ : Fin 64) (y 3))

/-- What the point leaves in the block of saved states: the state before each chunk. -/
def sBlk : Vec F S1x16x4x64x64 .f32 := fun y =>
  k0_pay6 (carry x1 x2 x3 x5 s (y 2).val) (ix5 (y 0) (y 1) (0 : Fin 1) (y 3) (y 4))

theorem oBlk_emb (k : Trip) (x : (oPiece x0 x1 x2 x3 x4 x5 s k).1.shape.Idx) :
    (oPiece x0 x1 x2 x3 x4 x5 s k).2 x = oBlk x0 x1 x2 x3 x4 x5 s ((oPiece x0 x1 x2 x3 x4 x5 s k).1.emb x) := by
  have hk : k.val < 4 := lt_of_lt_of_eq k.isLt trips_eq
  have e := k0_off2_eq k
  have h0 := congrFun e 0
  have h1 := congrFun e 1
  have h2 := congrFun e 2
  have h3 := congrFun e 3
  have v : ∀ a, ((oPiece x0 x1 x2 x3 x4 x5 s k).1.emb x a).val = k0_off2 k a + 1 * (x a).val := fun a => rfl
  have hx2 : (x 2).val < 64 := (x 2).isLt
  unfold oBlk
  have ec : chunkOf ((oPiece x0 x1 x2 x3 x4 x5 s k).1.emb x 2) = k := Fin.ext (by
    show ((oPiece x0 x1 x2 x3 x4 x5 s k).1.emb x 2).val / 64 = k.val
    rw [v 2, h2]; show (64 * k.val + 1 * (x 2).val) / 64 = k.val; omega)
  rw [ec]
  show oTrip x0 x1 x2 x3 x4 x5 s k x = _
  congr 1
  funext a
  apply Fin.ext
  match a with
  | 0 => show (x 0).val = ((oPiece x0 x1 x2 x3 x4 x5 s k).1.emb x 0).val; rw [v 0, h0]; show _ = 0 + 1 * _; omega
  | 1 => show (x 1).val = ((oPiece x0 x1 x2 x3 x4 x5 s k).1.emb x 1).val; rw [v 1, h1]; show _ = 0 + 1 * _; omega
  | 2 => show (x 2).val = ((oPiece x0 x1 x2 x3 x4 x5 s k).1.emb x 2).val % 64; rw [v 2, h2]; show _ = (64 * k.val + 1 * _) % 64; omega
  | 3 => show (x 3).val = ((oPiece x0 x1 x2 x3 x4 x5 s k).1.emb x 3).val; rw [v 3, h3]; show _ = 0 + 1 * _; omega

theorem oBlk_cover (y : S1x8x256x128.Idx) : y ∈ (oPiece x0 x1 x2 x3 x4 x5 s (chunkOf (y 2))).1.set := by
  have e := k0_off2_eq (chunkOf (y 2))
  have y0 : (y 0).val < 1 := (y 0).isLt
  have y1 : (y 1).val < 8 := (y 1).isLt
  have y2 : (y 2).val < 256 := (y 2).isLt
  have y3 : (y 3).val < 128 := (y 3).isLt
  show y ∈ (Rect.unit (s := S1x8x256x128) (k0_off2 (chunkOf (y 2))) S1x8x64x128.size (k0_off2_inb _)).set
  refine Rect.mem_set_unit.mpr fun a => ?_
  rw [e]
  match a with
  | 0 => show 0 ≤ (y 0).val ∧ (y 0).val < 0 + 1; omega
  | 1 => show 0 ≤ (y 1).val ∧ (y 1).val < 0 + 8; omega
  | 2 => show 64 * ((y 2).val / 64) ≤ (y 2).val ∧ (y 2).val < 64 * ((y 2).val / 64) + 64; omega
  | 3 => show 0 ≤ (y 3).val ∧ (y 3).val < 0 + 128; omega

theorem sBlk_emb (k : Trip) (x : (sPiece x1 x2 x3 x5 s k).1.shape.Idx) :
    (sPiece x1 x2 x3 x5 s k).2 x = sBlk x1 x2 x3 x5 s ((sPiece x1 x2 x3 x5 s k).1.emb x) := by
  have e := k0_off1_eq k
  have v : ∀ a, ((sPiece x1 x2 x3 x5 s k).1.emb x a).val = k0_off1 k a + 1 * (x a).val := fun a => rfl
  have hx2 : (x 2).val < 1 := (x 2).isLt
  unfold sBlk
  have ec : ((sPiece x1 x2 x3 x5 s k).1.emb x 2).val = k.val := by
    rw [v 2, e]; show k.val + 1 * (x 2).val = k.val; omega
  rw [ec]
  show k0_pay6 (carry x1 x2 x3 x5 s k) x = _
  congr 1
  funext a
  apply Fin.ext
  match a with
  | 0 => show (x 0).val = ((sPiece x1 x2 x3 x5 s k).1.emb x 0).val; rw [v 0, e]; show _ = 0 + 1 * _; omega
  | 1 => show (x 1).val = ((sPiece x1 x2 x3 x5 s k).1.emb x 1).val; rw [v 1, e]; show _ = 0 + 1 * _; omega
  | 2 => show (x 2).val = 0; omega
  | 3 => show (x 3).val = ((sPiece x1 x2 x3 x5 s k).1.emb x 3).val; rw [v 3, e]; show _ = 0 + 1 * _; omega
  | 4 => show (x 4).val = ((sPiece x1 x2 x3 x5 s k).1.emb x 4).val; rw [v 4, e]; show _ = 0 + 1 * _; omega

theorem sBlk_cover (y : S1x16x4x64x64.Idx) :
    y ∈ (sPiece x1 x2 x3 x5 s ⟨(y 2).val, lt_of_lt_of_eq (y 2).isLt trips_eq.symm⟩).1.set := by
  have e := k0_off1_eq ⟨(y 2).val, lt_of_lt_of_eq (y 2).isLt trips_eq.symm⟩
  have y0 : (y 0).val < 1 := (y 0).isLt
  have y1 : (y 1).val < 16 := (y 1).isLt
  have y3 : (y 3).val < 64 := (y 3).isLt
  have y4 : (y 4).val < 64 := (y 4).isLt
  show y ∈ (Rect.unit (s := S1x16x4x64x64) (k0_off1 _) S1x16x1x64x64.size (k0_off1_inb _)).set
  refine Rect.mem_set_unit.mpr fun a => ?_
  rw [e]
  match a with
  | 0 => show 0 ≤ (y 0).val ∧ (y 0).val < 0 + 1; omega
  | 1 => show 0 ≤ (y 1).val ∧ (y 1).val < 0 + 16; omega
  | 2 => show (y 2).val ≤ (y 2).val ∧ (y 2).val < (y 2).val + 1; omega
  | 3 => show 0 ≤ (y 3).val ∧ (y 3).val < 0 + 64; omega
  | 4 => show 0 ≤ (y 4).val ∧ (y 4).val < 0 + 64; omega

/-- The chunks' pieces written over anything read back as the output's block. -/
theorem read_oPieces (arg8 : Memref sig .tc .vmem S1x8x256x128 .f32) (f : BufTy.Contents (Elt F) arg8.view.ty) :
    arg8.view.read (Elt F) (arg8.view.writes (Elt F) f (upTo (oPiece x0 x1 x2 x3 x4 x5 s) k0_t1_loop.trips)) = oBlk x0 x1 x2 x3 x4 x5 s :=
  funext fun y => View.read_writes_apply_of_pieces _ _ _ _
    (fun p hp => by obtain ⟨k, rfl⟩ := mem_upTo _ _ _ hp; exact oBlk_emb x0 x1 x2 x3 x4 x5 s k) y
    ⟨_, upTo_mem _ _ _ (Fin.isLt _), oBlk_cover x0 x1 x2 x3 x4 x5 s y⟩

theorem read_sPieces (arg9 : Memref sig .tc .vmem S1x16x4x64x64 .f32) (f : BufTy.Contents (Elt F) arg9.view.ty) :
    arg9.view.read (Elt F) (arg9.view.writes (Elt F) f (upTo (sPiece x1 x2 x3 x5 s) k0_t1_loop.trips)) = sBlk x1 x2 x3 x5 s :=
  funext fun y => View.read_writes_apply_of_pieces _ _ _ _
    (fun p hp => by obtain ⟨k, rfl⟩ := mem_upTo _ _ _ hp; exact sBlk_emb x1 x2 x3 x5 s k) y
    ⟨_, upTo_mem _ _ _ (Fin.isLt _), sBlk_cover x1 x2 x3 x5 s y⟩

end

/-- The loop's state before chunk `n`: the recurrence's state, and the pieces of the chunks before. -/
theorem st_eq (𝒱 : Variants) (c : Dev nD) (bd : Option 𝒱.V) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x8x256x128 .f32) (harg8 : arg8.IsWhole) (arg9 : Memref sig .tc .vmem S1x16x4x64x64 .f32) (harg9 : arg9.IsWhole) (arg10 : Memref sig .tc .vmem S16x64x64 .f32) (harg10 : arg10.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (s : Vec F S16x64x64 .f32) (n : ℕ) (hn : n ≤ k0_t1_loop.trips) :
    st_k0_t1 (F := F) 𝒱 c bd i arg2 harg2 arg3 harg3 arg4 harg4 arg5 harg5 arg6 harg6 arg7 harg7 arg8 harg8 arg9 harg9 arg10 harg10 X2 X3 X4 X5 X6 X7 s n
      = (carry (arg3.view.read (Elt F) X3) (arg4.view.read (Elt F) X4) (arg5.view.read (Elt F) X5) (arg7.view.read (Elt F) X7) s n,
         upTo (oPiece (arg2.view.read (Elt F) X2) (arg3.view.read (Elt F) X3) (arg4.view.read (Elt F) X4) (arg5.view.read (Elt F) X5) (arg6.view.read (Elt F) X6) (arg7.view.read (Elt F) X7) s) n,
         upTo (sPiece (arg3.view.read (Elt F) X3) (arg4.view.read (Elt F) X4) (arg5.view.read (Elt F) X5) (arg7.view.read (Elt F) X7) s) n) := by
  induction n with
  | zero => rfl
  | succ n ih =>
    have h : n < k0_t1_loop.trips := hn
    have e := ih h.le
    rw [show n + 1 = (⟨n, h⟩ : Trip).val + 1 from rfl, st_k0_t1_succ, e]
    unfold tripR_k0_t1 tripL_k0_t1 trip_k0_t1
    dsimp only
    rw [carry_succ _ _ _ _ _ n h, upTo_succ _ n h, upTo_succ _ n h]
    rfl

end Cert.KernelIdeal.Scan

end
-- ==== Proof.Scan.Run.lean ====
module

public import proofs.«01_k».proof.Proof.Scan.Body
public import Idealize.ShloMosaic.Lib.Pipeline.Value
public import Idealize.ShloMosaic.Lib.Pipeline.ValueKit

@[expose] public section

set_option maxRecDepth 16384

/-! # The forward scan's body, run

The body at the first point of a group of heads (the state is set to zero first), and at a later point (the state is what the
point before left). -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's reset: the point is the first of its group. -/
abbrev cond0_0 (i : grid0.Coords) : Prop := (Scalar.cmpi .ne (Scalar.extui (Scalar.cmpi .eq (BitVec.ofNat 32 (i 1).val) 0#32)) 0#32) = 1#1

/-- A store of the whole state reads back as what was stored. -/
theorem read_scratch (arg10 : Memref sig .tc .vmem S16x64x64 .f32) (f : BufTy.Contents (Elt F) arg10.view.ty) (w : Vec F S16x64x64 .f32)
    (L : List (View.Piece (Elt F) S16x64x64 .f32)) :
    arg10.view.read (Elt F) (arg10.view.writes (Elt F) f
      (⟨Rect.unit (s := S16x64x64) ![0, 0, 0] S16x64x64.size inb_S16x64x64_S16x64x64_0_0_0, w⟩ :: L)) = w := by
  funext y
  have hc : ∃ p ∈ (⟨Rect.unit (s := S16x64x64) ![0, 0, 0] S16x64x64.size inb_S16x64x64_S16x64x64_0_0_0, w⟩ : View.Piece (Elt F) S16x64x64 .f32) :: L, y ∈ p.1.set := by
    refine ⟨_, List.mem_cons_self, ?_⟩
    have y0 : (y 0).val < 16 := (y 0).isLt
    have y1 : (y 1).val < 64 := (y 1).isLt
    have y2 : (y 2).val < 64 := (y 2).isLt
    show y ∈ (Rect.unit (s := S16x64x64) ![0, 0, 0] S16x64x64.size inb_S16x64x64_S16x64x64_0_0_0).set
    refine Rect.mem_set_unit.mpr fun a => ?_
    match a with
    | 0 => show 0 ≤ (y 0).val ∧ (y 0).val < 0 + 16; omega
    | 1 => show 0 ≤ (y 1).val ∧ (y 1).val < 0 + 64; omega
    | 2 => show 0 ≤ (y 2).val ∧ (y 2).val < 0 + 64; omega
  rw [View.read_writes_apply_eq_canon _ _ _ _ hc]
  simp (disch := decide) only [View.canon_cons_unit_lit']

set_option maxHeartbeats 1000000 in
/-- The body at the first point of a group: it starts from the zero state, whatever the scratch held. -/
theorem run_first (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x8x256x128 .f32) (harg8 : arg8.IsWhole) (arg9 : Memref sig .tc .vmem S1x16x4x64x64 .f32) (harg9 : arg9.IsWhole) (arg10 : Memref sig .tc .vmem S16x64x64 .f32) (harg10 : arg10.IsWhole) (hc0 : cond0_0 i)
    (x0 x1 x2 x3 x4 : Vec F S1x8x256x128 .f32) (x5 : Vec F S1x16x4x1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oBlk x0 x1 x2 x3 x4 x5 k0_pay1) ∗ owns (c : Thread nD τ) arg9 fullShare (sBlk x1 x2 x3 x5 k0_pay1) ∗ owns (c : Thread nD τ) arg10 fullShare (carry x1 x2 x3 x5 k0_pay1 k0_t1_loop.trips)) -∗ K ⟨⟩))
      ⊢ wp frame (wpE (defs₀ (F := F)) Variants.none c none) E (cc0_dn_scan i arg2 harg2 arg3 harg3 arg4 harg4 arg5 harg5 arg6 harg6 arg7 harg7 arg8 harg8 arg9 harg9 arg10 harg10) K := by
  simp only [cc0_dn_scan_eq_skeleton]; unfold cc0_dn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  simp only [st_eq (hn := le_refl _), harg2.read_unread, harg3.read_unread, harg4.read_unread, harg5.read_unread, harg6.read_unread, harg7.read_unread]
  unfold run_first.sl.v3 run_first.sl.HS0_1
  simp (disch := decide) only [View.readAt_eq_ld, View.ld_unit_lit', View.readCov_unit_lit', harg10.read_unread]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_oPieces ..
  isplitl [H7]
  · iexists _; isplitr; swap; · iexact H7
    ipureintro; exact read_sPieces ..
  iexists _; isplitr; swap; · iexact HS0
  ipureintro; exact (read_scratch ..).trans (shapeCast_self ..)

set_option maxHeartbeats 1000000 in
/-- The body at a later point of a group: it starts from the state `s` the scratch holds. -/
theorem run_next (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x8x256x128 .f32) (harg8 : arg8.IsWhole) (arg9 : Memref sig .tc .vmem S1x16x4x64x64 .f32) (harg9 : arg9.IsWhole) (arg10 : Memref sig .tc .vmem S16x64x64 .f32) (harg10 : arg10.IsWhole) (hc0 : ¬cond0_0 i)
    (x0 x1 x2 x3 x4 : Vec F S1x8x256x128 .f32) (x5 : Vec F S1x16x4x1x1 .f32) (s : Vec F S16x64x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (oBlk x0 x1 x2 x3 x4 x5 s) ∗ owns (c : Thread nD τ) arg9 fullShare (sBlk x1 x2 x3 x5 s) ∗ owns (c : Thread nD τ) arg10 fullShare (carry x1 x2 x3 x5 s k0_t1_loop.trips)) -∗ K ⟨⟩))
      ⊢ wp frame (wpE (defs₀ (F := F)) Variants.none c none) E (cc0_dn_scan i arg2 harg2 arg3 harg3 arg4 harg4 arg5 harg5 arg6 harg6 arg7 harg7 arg8 harg8 arg9 harg9 arg10 harg10) K := by
  simp only [cc0_dn_scan_eq_skeleton]; unfold cc0_dn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
  sl_exec (disch := first | sl_exact hc0)
  sl_step
  simp only [st_eq (hn := le_refl _), harg2.read_unread, harg3.read_unread, harg4.read_unread, harg5.read_unread, harg6.read_unread, harg7.read_unread]
  skip
  simp (disch := decide) only [View.readAt_eq_ld, View.ld_unit_lit', View.readCov_unit_lit', harg10.read_unread]
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; exact read_oPieces ..
  isplitl [H7]
  · iexists _; isplitr; swap; · iexact H7
    ipureintro; exact read_sPieces ..
  iexists _; isplitr; swap; · iexact HS0
  ipureintro; exact (read_scratch ..).trans (shapeCast_self ..)

end Cert.KernelIdeal.Scan

end
-- ==== Proof.Scan.Frame.lean ====
module

public import proofs.«01_k».proof.Proof.Scan.Run

@[expose] public section

set_option maxRecDepth 16384

/-! # The forward scan's launch

The pipeline's proof data over the body's run (Body.lean, Run.lean): what the scratch holds point by point, what each point leaves in the
two outputs' blocks; and the run of the whole program from it. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset happens at the points that are first in their group. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The state a point starts from: zero at the first point of a group, else what the point before left (`prev`). -/
def enter (n : ℕ) (prev : Vec F S16x64x64 .f32) : Vec F S16x64x64 .f32 := if n % 8 = 0 then k0_pay1 else prev

/-- What the scratch holds before point `n`. -/
def stateAt (c : Dev nD) : ℕ → Vec F S16x64x64 .f32
  | 0 => k0_pay1
  | n + 1 => if h : n < cfg0.N then carry (iblk m c 1 ⟨n, h⟩) (iblk m c 2 ⟨n, h⟩) (iblk m c 3 ⟨n, h⟩) (iblk m c 5 ⟨n, h⟩) (enter n (stateAt c n)) k0_t1_loop.trips else stateAt c n

/-- The state point `t` starts from. -/
def entry (c : Dev nD) (t : Fin cfg0.N) : Vec F S16x64x64 .f32 := enter t.val (stateAt m c t.val)

theorem stateAt_succ (c : Dev nD) (t : Fin cfg0.N) :
    stateAt m c (t.val + 1) = carry (iblk m c 1 t) (iblk m c 2 t) (iblk m c 3 t) (iblk m c 5 t) (entry m c t) k0_t1_loop.trips := dif_pos t.isLt

theorem entry_first (c : Dev nD) (t : Fin cfg0.N) (h : t.val % 8 = 0) : entry m c t = k0_pay1 := if_pos h

theorem entry_next (c : Dev nD) (t : Fin cfg0.N) (h : ¬t.val % 8 = 0) : entry m c t = stateAt m c t.val := if_neg h

/-- What point `t` leaves in window 6's block. -/
def oAt (c : Dev nD) (t : Fin cfg0.N) : Vec F S1x8x256x128 .f32 := oBlk (iblk m c 0 t) (iblk m c 1 t) (iblk m c 2 t) (iblk m c 3 t) (iblk m c 4 t) (iblk m c 5 t) (entry m c t)

/-- What point `t` leaves in window 7's block. -/
def sAt (c : Dev nD) (t : Fin cfg0.N) : Vec F S1x16x4x64x64 .f32 := sBlk (iblk m c 1 t) (iblk m c 2 t) (iblk m c 3 t) (iblk m c 5 t) (entry m c t)

/-- The scratch operand. -/
abbrev scM0_0 : Memref sig .tc .vmem S16x64x64 .f32 := Memref.whole cc0_scratch0

/-- The kernel's own buffers when the launch starts: the scratch at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before point `n`: at the start the scratch at anything, afterwards at `stateAt`. -/
def PhiS (c : Dev nD) : ℕ → sProp 𝕄
  | 0 => Pipeline.ΦA spec0 c
  | n + 1 => iprop(iprop(owns (c : Thread nD τ) scM0_0 fullShare (stateAt m c (n + 1))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (stateAt m c n)) ∗ (∃ r, prngReg c r)) := by
  cases n with
  | zero => exact absurd rfl hz
  | succ n => rfl

/-- The proof data of the pipeline: the arrays as the region finds them; after a point each input's buffer at its block, the
outputs at the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oAt m c t
    | ⟨7, _⟩ => sAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = oAt m c t := by dsimp only [dats]
theorem after0_7 (c : Dev nD) (t : Fin cfg0.N) : (dats m 0 c).after 7 t = sAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 6400000 in
/-- The body at a point: the first point of a group starts from zero, a later one from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) from rfl, PhiS_pos m c _ (Nat.succ_ne_zero _), stateAt_succ,
    show (dats m 0 c).Φ t.castSucc = PhiS m c t.val from rfl]
  unfold oAt sAt
  by_cases h0 : t.val % 8 = 0
  · rw [entry_first m c t h0]
    have hΦ : PhiS m c t.val ⊢ iprop(iprop((∃ d, owns (c : Thread nD τ) scM0_0 fullShare d)) ∗ (∃ r, prngReg c r)) := by
      by_cases hz : t.val = 0
      · rw [PhiS_zero m c _ hz, PhiA0_eq]
      · rw [PhiS_pos m c _ hz]
        iintro ⟨HS0, Hg⟩
        isplitl [HS0]
        · iexists _; iexact HS0
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HP := hΦ $$ HP
    icases HP with ⟨HS0, Hg⟩
    iapply (run_first c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [entry_next m c t h0, PhiS_pos m c _ (fun hz => h0 (by rw [hz]))]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

/-- The pipeline's obligation: the body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 16 := N_0; omega), PhiA0_eq]
  iintro ⟨HS0, Hg⟩
  isplitl [HS0]
  · iexists _; iexact HS0
  iexact Hg

set_option backward.isDefEq.respectTransparency.types false in
/-- The launch: every execution ends with the arrays the pipeline's data name, and every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends with the arguments unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Scan

end
-- ==== Proof.Scan.Spec.lean ====
module

public import Idealize.ShloMosaic.Lib.Pointwise

@[expose] public section

/-! # The recurrence of the scan

For one (batch, head) pair the scan carries a 64 × 64 state `S` over 32 chunks of 64 positions.  A chunk has rows
`q, k, u, w`, a matrix `a` and a log-decay `g`.  With `v = u - w S` it answers `q S + a v`, and leaves the state
`exp g · S + kᵀ v`.  The programs' arrays are compared with these functions, index by index. -/

noncomputable section

namespace Cert.Recurrence

open Idealize.ShloMosaic

/-- A 64 × 64 matrix. -/
abbrev Mat := Fin 64 → Fin 64 → EReal

/-- What a chunk writes: its values less what the state already predicts. -/
def delta (u w S : Mat) : Mat := fun s j => u s j - ∑ d, w s d * S d j

/-- A chunk's answer. -/
def answer (q u w a S : Mat) : Mat := fun s j => (∑ d, q s d * S d j) + ∑ t, a s t * delta u w S t j

/-- The state after a chunk. -/
def next (k u w : Mat) (g : EReal) (S : Mat) : Mat := fun i j => S i j * Ideal.exp g + ∑ s, k s i * delta u w S s j

/-- An array of matrices, one for each batch entry, head and chunk. -/
abbrev Rows := Vec Ideal (⟨5, ![4, 8, 32, 64, 64]⟩ : Shape) .f32

/-- An array of numbers, one for each batch entry, head and chunk. -/
abbrev Gains := Vec Ideal (⟨3, ![4, 8, 32]⟩ : Shape) .f32

/-- The matrix of one batch entry, head and chunk. -/
def at_ (X : Rows) (b : Fin 4) (h : Fin 8) (n : Fin 32) : Mat := fun s d => X (ix5 b h n s d)

/-- The state before chunk `n`, from zero. -/
def state (K U W : Rows) (G : Gains) (b : Fin 4) (h : Fin 8) : ℕ → Mat
  | 0 => fun _ _ => 0
  | n + 1 => if hn : n < 32 then
      next (at_ K b h ⟨n, hn⟩) (at_ U b h ⟨n, hn⟩) (at_ W b h ⟨n, hn⟩) (G (ix3 b h ⟨n, hn⟩)) (state K U W G b h n)
    else state K U W G b h n

theorem state_succ (K U W : Rows) (G : Gains) (b : Fin 4) (h : Fin 8) (n : Fin 32) :
    state K U W G b h (n.val + 1) = next (at_ K b h n) (at_ U b h n) (at_ W b h n) (G (ix3 b h n)) (state K U W G b h n.val) :=
  dif_pos n.isLt

/-- The answer at chunk `n`. -/
def output (Q K U W A : Rows) (G : Gains) (b : Fin 4) (h : Fin 8) (n : Fin 32) : Mat :=
  answer (at_ Q b h n) (at_ U b h n) (at_ W b h n) (at_ A b h n) (state K U W G b h n.val)

/-- The head of entry `e`. -/
def hOf (e : Fin 16) : Fin 8 := ⟨e.val % 4 * 2 + e.val / 8, by omega⟩

/-- An argument as the launch's windows find it: two heads side by side in the lanes. -/
def packed (X : Rows) : Vec Ideal (⟨4, ![2, 8, 2048, 128]⟩ : Shape) .f32 := fun y =>
  X (ix5 (⟨(y 0).val * 2 + (y 1).val / 4, by have := (y 0).isLt; have := (y 1).isLt; simp at *; omega⟩ : Fin 4)
    (⟨(y 1).val % 4 * 2 + (y 3).val / 64, by have := (y 1).isLt; have := (y 3).isLt; simp at *; omega⟩ : Fin 8)
    (⟨(y 2).val / 64, by have := (y 2).isLt; simp at *; omega⟩ : Fin 32)
    (⟨(y 2).val % 64, by omega⟩ : Fin 64) (⟨(y 3).val % 64, by omega⟩ : Fin 64))

/-- Every answer of the recurrence. -/
def outputs (Q K U W A : Rows) (G : Gains) : Rows := fun x => output Q K U W A G (x 0) (x 1) (x 2) (x 3) (x 4)

/-- The states of the recurrence as the launch saves them: chunk `n` of entry `e` of group `g`. -/
def savedAt (K U W : Rows) (G : Gains) (g : Fin 2) (e : Fin 16) (n : ℕ) : Mat :=
  state K U W G (⟨g.val * 2 + e.val / 4 % 2, by omega⟩ : Fin 4) (hOf e) n

/-- The array of saved states. -/
def saved (K U W : Rows) (G : Gains) : Vec Ideal (⟨5, ![2, 16, 32, 64, 64]⟩ : Shape) .f32 := fun y => savedAt K U W G (y 0) (y 1) (y 2).val (y 3) (y 4)

end Cert.Recurrence

end
-- ==== Proof.Scan.Value.lean ====
module

public import proofs.«01_k».proof.Proof.Scan.Frame
public import proofs.«01_k».proof.Proof.Scan.Spec
public import Idealize.ShloMosaic.Lib.Pointwise
public import Idealize.ShloMosaic.Lib.Pipeline.ValueKit
public import Idealize.ShloMosaic.Lib.Claim

@[expose] public section

set_option maxRecDepth 16384

/-! # What the forward scan computes

The blocks of a point at an index are the arguments at that point's batch entries, heads and chunks; the carried
state is the recurrence's; so are the two arrays the launch leaves. -/

noncomputable section

namespace Cert.KernelIdeal.Scan

open Cert.KernelIdeal Cert.KernelIdeal.Gen
open Idealize.ShloMosaic Idealize.ShloMosaic.TcCoe Idealize.ShloMosaic.Tactic
open Idealize.SL.Sem
open Cert.Recurrence

variable (m : (ℓ : Loc nD τ sig) → Buf (Elt Ideal) ℓ)

/-- The arguments. -/
abbrev argQ (c : Dev nD) : Rows := m ((c : Thread nD τ).loc main_arg0)
abbrev argK (c : Dev nD) : Rows := m ((c : Thread nD τ).loc main_arg1)
abbrev argU (c : Dev nD) : Rows := m ((c : Thread nD τ).loc main_arg2)
abbrev argW (c : Dev nD) : Rows := m ((c : Thread nD τ).loc main_arg3)
abbrev argA (c : Dev nD) : Rows := m ((c : Thread nD τ).loc main_arg4)
abbrev argG (c : Dev nD) : Gains := m ((c : Thread nD τ).loc main_arg5)

/-- The batch entry of entry `e` at point `t`. -/
def bOf (t : Fin 16) (e : Fin 16) : Fin 4 := ⟨t.val / 8 * 2 + e.val / 4 % 2, by omega⟩
/-- The chunk of point `t`'s trip `k`. -/
def nOf (t : Fin 16) (k : Fin 4) : Fin 32 := ⟨t.val % 8 * 4 + k.val, by omega⟩

theorem V_q (c : Dev nD) : V m c main_v16 = packed (argQ m c) := by
  entry_read; funext y; pointwise; rfl
theorem V_k (c : Dev nD) : V m c main_v17 = packed (argK m c) := by
  entry_read; funext y; pointwise; rfl
theorem V_u (c : Dev nD) : V m c main_v18 = packed (argU m c) := by
  entry_read; funext y; pointwise; rfl
theorem V_w (c : Dev nD) : V m c main_v19 = packed (argW m c) := by
  entry_read; funext y; pointwise; rfl
theorem V_a (c : Dev nD) : V m c main_v20 = packed (argA m c) := by
  entry_read; funext y; pointwise; rfl

theorem V_g (c : Dev nD) (g : Fin 2) (e : Fin 16) (n : Fin 32) :
    (V m c main_v23 : Vec Ideal S2x16x32x1x1 .f32) (ix5 g e n 0 0)
      = argG m c (ix3 (⟨g.val * 2 + e.val / 4 % 2, by omega⟩ : Fin 4) (hOf e) n) := by
  entry_read; pointwise; rfl

/-- Where the windows of rows stand. -/
theorem index_rows : ∀ t : Fin grid0.N,
    cc0_transform_0 (grid0.coords t) = ![t.val / 8, 0, t.val % 8, 0] := by decide +kernel

/-- Where the log-decays' window stands. -/
theorem index_gains : ∀ t : Fin grid0.N,
    cc0_transform_5 (grid0.coords t) = ![t.val / 8, 0, t.val % 8, 0, 0] := by decide +kernel

section
variable (X : Rows)

/-- The point's block of a packed argument. -/
def block (t : Fin 16) : Vec Ideal S1x8x256x128 .f32 := fun y =>
  packed X (ix4 (⟨t.val / 8, by omega⟩ : Fin 2) (y 1)
    (⟨t.val % 8 * 256 + (y 2).val, by have := (y 2).isLt; simp at *; omega⟩ : Fin 2048) (y 3))

theorem unpack (t : Fin 16) (k : Trip) (k' : Fin 4) (hk : k.val = k'.val) (e : Fin 16) (i j : Fin 64) :
    k0_pay7 (rows (block X t) k) (ix3 e i j) = at_ X (bOf t e) (hOf e) (nOf t k') i j := by
  have h2 := k0_off2_eq k
  have a1 : k0_off2 k 1 = 0 := congrFun h2 1
  have a2 : k0_off2 k 2 = 64 * k.val := congrFun h2 2
  have a3 : k0_off2 k 3 = 0 := congrFun h2 3
  unfold at_
  pointwise [k0_pay7, rows, block, packed]
  split <;>
  · congr 1; congr 1 <;> apply Fin.ext <;> dsimp only [bOf, hOf, nOf] <;> omega

/-- A point's block of a packed array, where the window stands at `emb`. -/
theorem read_block (t : Fin 16) (emb : S1x8x256x128.Idx → S2x8x2048x128.Idx)
    (h : ∀ y (a : Fin 4), (emb y a).val = (![t.val / 8, 0, t.val % 8, 0] : Fin 4 → ℕ) a * S1x8x256x128.size a + 1 * (y a).val)
    (y : S1x8x256x128.Idx) : packed X (emb y) = block X t y := by
  unfold block
  congr 1
  funext a
  apply Fin.ext
  rw [h]
  match a with
  | 0 => show t.val / 8 * 1 + 1 * (y 0).val = t.val / 8; have h0 : (y 0).val < 1 := (y 0).isLt; omega
  | 1 => show 0 * 8 + 1 * (y 1).val = (y 1).val; omega
  | 2 => show t.val % 8 * 256 + 1 * (y 2).val = t.val % 8 * 256 + (y 2).val; omega
  | 3 => show 0 * 128 + 1 * (y 3).val = (y 3).val; omega
end

theorem place (t : Fin 16) (y : S1x8x256x128.Idx) (a : Fin 4) :
    cc0_transform_0 (grid0.coords t) a * S1x8x256x128.size a + 1 * (y a).val
      = (![t.val / 8, 0, t.val % 8, 0] : Fin 4 → ℕ) a * S1x8x256x128.size a + 1 * (y a).val :=
  congrArg (fun n => n * S1x8x256x128.size a + 1 * (y a).val) (congrFun (index_rows t) a)

section
variable (c : Dev nD) (t : Fin 16) (A : (b : Ref sig .tc) → Buf (Elt Ideal) ((c : Thread nD τ).loc b))

theorem block0 (X : Rows) (hA : A main_v16 = packed X) (y : S1x8x256x128.Idx) :
    ((cfg0.win 0).blk t).view.read (Elt Ideal) (A (Pipeline.arrRef spec0 0)) y = block X t y := by
  show A main_v16 ((win0_0.blk t).view.emb y) = _
  rw [hA]
  exact read_block X t _ (fun y a => place t y a) y

theorem block1 (X : Rows) (hA : A main_v17 = packed X) (y : S1x8x256x128.Idx) :
    ((cfg0.win 1).blk t).view.read (Elt Ideal) (A (Pipeline.arrRef spec0 1)) y = block X t y := by
  show A main_v17 ((win0_1.blk t).view.emb y) = _
  rw [hA]
  exact read_block X t _ (fun y a => place t y a) y

theorem block2 (X : Rows) (hA : A main_v18 = packed X) (y : S1x8x256x128.Idx) :
    ((cfg0.win 2).blk t).view.read (Elt Ideal) (A (Pipeline.arrRef spec0 2)) y = block X t y := by
  show A main_v18 ((win0_2.blk t).view.emb y) = _
  rw [hA]
  exact read_block X t _ (fun y a => place t y a) y

theorem block3 (X : Rows) (hA : A main_v19 = packed X) (y : S1x8x256x128.Idx) :
    ((cfg0.win 3).blk t).view.read (Elt Ideal) (A (Pipeline.arrRef spec0 3)) y = block X t y := by
  show A main_v19 ((win0_3.blk t).view.emb y) = _
  rw [hA]
  exact read_block X t _ (fun y a => place t y a) y

theorem block4 (X : Rows) (hA : A main_v20 = packed X) (y : S1x8x256x128.Idx) :
    ((cfg0.win 4).blk t).view.read (Elt Ideal) (A (Pipeline.arrRef spec0 4)) y = block X t y := by
  show A main_v20 ((win0_4.blk t).view.emb y) = _
  rw [hA]
  exact read_block X t _ (fun y a => place t y a) y

theorem block5 (G : Gains) (hA : ∀ g e n, (A main_v23 : Vec Ideal S2x16x32x1x1 .f32) (ix5 g e n 0 0)
      = G (ix3 (⟨g.val * 2 + e.val / 4 % 2, by omega⟩ : Fin 4) (hOf e) n)) (k : Trip) (k' : Fin 4) (hk : k.val = k'.val) (e : Fin 16) :
    decay (((cfg0.win 5).blk t).view.read (Elt Ideal) (A (Pipeline.arrRef spec0 5))) k (ix5 0 e 0 0 0) = G (ix3 (bOf t e) (hOf e) (nOf t k')) := by
  have e5 := index_gains t
  have h3 := k0_off3_eq k
  have hN : t.val % 8 * 4 + k.val < 32 := by omega
  refine Eq.trans ?_ ((hA (⟨t.val / 8, by omega⟩ : Fin 2) e (nOf t k')).trans (congrArg G rfl))
  show A main_v23 ((win0_5.blk t).view.emb ((Rect.unit (s := S1x16x4x1x1) (k0_off3 k) S1x16x1x1x1.size (k0_off3_inb k)).emb (ix5 0 e 0 0 0))) = _
  congr 1
  funext a
  apply Fin.ext
  show cc0_transform_5 (grid0.coords t) a * S1x16x4x1x1.size a + 1 * (k0_off3 k a + 1 * (ix5 (0 : Fin 1) e (0 : Fin 1) (0 : Fin 1) (0 : Fin 1) a).val) = _
  have e5a : cc0_transform_5 (grid0.coords t) a = (![t.val / 8, 0, t.val % 8, 0, 0] : Fin 5 → ℕ) a := congrFun e5 a
  rw [e5a, h3]
  match a with
  | 0 => show t.val / 8 * 1 + 1 * (0 + 1 * 0) = t.val / 8; omega
  | 1 => show 0 * 16 + 1 * (0 + 1 * e.val) = e.val; omega
  | 2 => show t.val % 8 * 4 + 1 * (k.val + 1 * 0) = t.val % 8 * 4 + k'.val; omega
  | 3 => rfl
  | 4 => rfl
end

theorem iblk_q (c : Dev nD) (t : Fin 16) : iblk m c 0 t = block (argQ m c) t := by
  funext y; unfold iblk; exact block0 c t (V m c) _ (V_q m c) y
theorem iblk_k (c : Dev nD) (t : Fin 16) : iblk m c 1 t = block (argK m c) t := by
  funext y; unfold iblk; exact block1 c t (V m c) _ (V_k m c) y
theorem iblk_u (c : Dev nD) (t : Fin 16) : iblk m c 2 t = block (argU m c) t := by
  funext y; unfold iblk; exact block2 c t (V m c) _ (V_u m c) y
theorem iblk_w (c : Dev nD) (t : Fin 16) : iblk m c 3 t = block (argW m c) t := by
  funext y; unfold iblk; exact block3 c t (V m c) _ (V_w m c) y
theorem iblk_a (c : Dev nD) (t : Fin 16) : iblk m c 4 t = block (argA m c) t := by
  funext y; unfold iblk; exact block4 c t (V m c) _ (V_a m c) y

theorem decay_at (c : Dev nD) (t : Fin 16) (k : Trip) (k' : Fin 4) (hk : k.val = k'.val) (e : Fin 16) :
    decay (iblk m c 5 t) k (ix5 0 e 0 0 0) = argG m c (ix3 (bOf t e) (hOf e) (nOf t k')) := by
  unfold iblk; exact block5 c t (V m c) _ (V_g m c) k k' hk e

/-! ## The chunk's arithmetic at an index -/

theorem next_at (acc k u w : Vec Ideal S16x64x64 .f32) (g : Vec Ideal S1x16x1x1x1 .f32) (e : Fin 16) (i j : Fin 64) :
    k0_pay3 acc k u w g (ix3 e i j)
      = next (fun s d => k (ix3 e s d)) (fun s d => u (ix3 e s d)) (fun s d => w (ix3 e s d)) (g (ix5 0 e 0 0 0)) (fun s d => acc (ix3 e s d)) i j := by
  unfold next delta
  pointwise [k0_pay3, k0_pay2]

theorem answer_at (acc q u w a : Vec Ideal S16x64x64 .f32) (r : Fin 8) (i : Fin 64) (j : Fin 128) (e : Fin 16) (j' : Fin 64)
    (he : e.val = r.val + 8 * (j.val / 64)) (hj : j'.val = j.val % 64) :
    k0_pay4 acc q u w a (ix4 0 r i j)
      = answer (fun s d => q (ix3 e s d)) (fun s d => u (ix3 e s d)) (fun s d => w (ix3 e s d)) (fun s d => a (ix3 e s d)) (fun s d => acc (ix3 e s d)) i j' := by
  unfold answer delta
  pointwise [k0_pay4, k0_pay2]
  split
  · have h1 : (⟨r.val, by omega⟩ : Fin 16) = e := Fin.ext (by show r.val = e.val; omega)
    have h2 : (⟨j.val, by omega⟩ : Fin 64) = j' := Fin.ext (by show j.val = j'.val; omega)
    rw [h1, h2]
  · have h1 : (⟨8 + r.val, by omega⟩ : Fin 16) = e := Fin.ext (by show 8 + r.val = e.val; omega)
    have h2 : (⟨j.val - 64, by omega⟩ : Fin 64) = j' := Fin.ext (by show j.val - 64 = j'.val; omega)
    rw [h1, h2]

theorem zero_at (e : Fin 16) (i j : Fin 64) : (k0_pay1 (F := Ideal)) (ix3 e i j) = 0 := by
  pointwise [k0_pay1]

/-! ## The carried state -/

/-- The recurrence's state before chunk `n`, for entry `e` at point `t`. -/
abbrev stateOf (c : Dev nD) (t : Fin 16) (e : Fin 16) (n : ℕ) : Mat := state (argK m c) (argU m c) (argW m c) (argG m c) (bOf t e) (hOf e) n

theorem carry_at (c : Dev nD) (t : Fin 16) (s : Vec Ideal S16x64x64 .f32)
    (hs : ∀ e i j, s (ix3 e i j) = stateOf m c t e (t.val % 8 * 4) i j) (n : ℕ) (hn : n ≤ 4) (e : Fin 16) (i j : Fin 64) :
    carry (iblk m c 1 t) (iblk m c 2 t) (iblk m c 3 t) (iblk m c 5 t) s n (ix3 e i j) = stateOf m c t e (t.val % 8 * 4 + n) i j := by
  induction n generalizing e i j with
  | zero => exact hs e i j
  | succ n ih =>
    have hlt : n < k0_t1_loop.trips := by rw [trips_eq]; omega
    rw [carry_succ _ _ _ _ _ n hlt]
    unfold nextState
    rw [next_at, decay_at m c t ⟨n, hlt⟩ ⟨n, by omega⟩ rfl, iblk_k, iblk_u, iblk_w]
    have hst := state_succ (argK m c) (argU m c) (argW m c) (argG m c) (bOf t e) (hOf e) (nOf t ⟨n, by omega⟩)
    refine Eq.trans ?_ (congrFun (congrFun hst i) j).symm
    congr 1
    · funext a b; exact unpack _ t ⟨n, hlt⟩ ⟨n, by omega⟩ rfl e a b
    · funext a b; exact unpack _ t ⟨n, hlt⟩ ⟨n, by omega⟩ rfl e a b
    · funext a b; exact unpack _ t ⟨n, hlt⟩ ⟨n, by omega⟩ rfl e a b
    · funext a b; rw [← iblk_k, ← iblk_u, ← iblk_w]; exact ih (by omega) e a b

theorem stateAt_at (c : Dev nD) (n : ℕ) (hn : n < 16) (e : Fin 16) (i j : Fin 64) :
    enter n (stateAt m c n) (ix3 e i j) = stateOf m c ⟨n, hn⟩ e (n % 8 * 4) i j := by
  induction n generalizing e i j with
  | zero => exact zero_at e i j
  | succ n ih =>
    by_cases hz : (n + 1) % 8 = 0
    · unfold enter
      rw [if_pos hz, zero_at]
      unfold stateOf
      rw [hz]
      rfl
    · unfold enter
      rw [if_neg hz]
      have hN : n < 16 := by omega
      rw [stateAt_succ m c (⟨n, hN⟩ : Fin 16)]
      have hb : bOf ⟨n, hN⟩ e = bOf ⟨n + 1, hn⟩ e := Fin.ext (by dsimp only [bOf]; omega)
      have hm : n % 8 * 4 + 4 = (n + 1) % 8 * 4 := by omega
      have key := carry_at m c ⟨n, hN⟩ (entry m c (⟨n, hN⟩ : Fin 16)) (fun e i j => ih hN e i j) 4 le_rfl e i j
      rw [trips_eq, key]
      unfold stateOf
      rw [hb]
      show state _ _ _ _ _ _ (n % 8 * 4 + 4) i j = _
      rw [hm]

theorem entry_at (c : Dev nD) (t : Fin 16) (e : Fin 16) (i j : Fin 64) :
    entry m c t (ix3 e i j) = stateOf m c t e (t.val % 8 * 4) i j := stateAt_at m c t.val t.isLt e i j

/-! ## The arrays the launch leaves -/

theorem oAt_at (c : Dev nD) (t : Fin 16) (y : S1x8x256x128.Idx) :
    oAt m c t y = block (outputs (argQ m c) (argK m c) (argU m c) (argW m c) (argA m c) (argG m c)) t y := by
  have hy1 : (y 1).val < 8 := (y 1).isLt
  have hy2 : (y 2).val < 256 := (y 2).isLt
  have hy3 : (y 3).val < 128 := (y 3).isLt
  have hy0 : y 0 = (0 : Fin 1) := Fin.ext (by have : (y 0).val < 1 := (y 0).isLt; show (y 0).val = 0; omega)
  unfold oAt oBlk oTrip
  rw [hy0, answer_at _ _ _ _ _ (y 1) _ (y 3) (⟨(y 1).val + 8 * ((y 3).val / 64), by omega⟩ : Fin 16) (⟨(y 3).val % 64, by omega⟩ : Fin 64) rfl rfl]
  have hb : (⟨t.val / 8 * 2 + (y 1).val / 4, by omega⟩ : Fin 4) = bOf t (⟨(y 1).val + 8 * ((y 3).val / 64), by omega⟩ : Fin 16) :=
    Fin.ext (by dsimp only [bOf]; omega)
  have hh : (⟨(y 1).val % 4 * 2 + (y 3).val / 64, by omega⟩ : Fin 8) = hOf (⟨(y 1).val + 8 * ((y 3).val / 64), by omega⟩ : Fin 16) :=
    Fin.ext (by dsimp only [hOf]; omega)
  have hn : (⟨(t.val % 8 * 256 + (y 2).val) / 64, by omega⟩ : Fin 32) = nOf t (⟨(y 2).val / 64, by omega⟩ : Fin 4) :=
    Fin.ext (by dsimp only [nOf]; omega)
  have hs : (⟨(t.val % 8 * 256 + (y 2).val) % 64, by omega⟩ : Fin 64) = (⟨(y 2).val % 64, by omega⟩ : Fin 64) :=
    Fin.ext (by dsimp only; omega)
  have hout : block (outputs (argQ m c) (argK m c) (argU m c) (argW m c) (argA m c) (argG m c)) t y
      = output (argQ m c) (argK m c) (argU m c) (argW m c) (argA m c) (argG m c)
        (bOf t (⟨(y 1).val + 8 * ((y 3).val / 64), by omega⟩ : Fin 16)) (hOf (⟨(y 1).val + 8 * ((y 3).val / 64), by omega⟩ : Fin 16))
        (nOf t (⟨(y 2).val / 64, by omega⟩ : Fin 4)) (⟨(y 2).val % 64, by omega⟩ : Fin 64) (⟨(y 3).val % 64, by omega⟩ : Fin 64) := by
    rw [← hb, ← hh, ← hn, ← hs]
    rfl
  rw [hout]
  unfold output
  congr 1
  · funext a b; rw [iblk_q]; exact unpack _ t _ (⟨(y 2).val / 64, by omega⟩ : Fin 4) rfl _ a b
  · funext a b; rw [iblk_u]; exact unpack _ t _ (⟨(y 2).val / 64, by omega⟩ : Fin 4) rfl _ a b
  · funext a b; rw [iblk_w]; exact unpack _ t _ (⟨(y 2).val / 64, by omega⟩ : Fin 4) rfl _ a b
  · funext a b; rw [iblk_a]; exact unpack _ t _ (⟨(y 2).val / 64, by omega⟩ : Fin 4) rfl _ a b
  · funext a b
    exact carry_at m c t _ (entry_at m c t) ((y 2).val / 64) (by omega) (⟨(y 1).val + 8 * ((y 3).val / 64), by omega⟩ : Fin 16) a b

theorem state_slot (v : Vec Ideal S16x64x64 .f32) (e : Fin 16) (i j : Fin 64) : k0_pay6 v (ix5 0 e 0 i j) = v (ix3 e i j) := by
  pointwise [k0_pay6]

theorem sAt_at (c : Dev nD) (t : Fin 16) (y : S1x16x4x64x64.Idx) :
    sAt m c t y = stateOf m c t (y 1) (t.val % 8 * 4 + (y 2).val) (y 3) (y 4) := by
  have hy2 : (y 2).val < 4 := (y 2).isLt
  have hy0 : y 0 = (0 : Fin 1) := Fin.ext (by have : (y 0).val < 1 := (y 0).isLt; show (y 0).val = 0; omega)
  unfold sAt sBlk
  rw [hy0]
  exact (state_slot _ (y 1) (y 3) (y 4)).trans (carry_at m c t _ (entry_at m c t) (y 2).val (by omega) (y 1) (y 3) (y 4))

theorem final_o (c : Dev nD) : (dats m 0 c).arrAt 6 cfg0.N
    = packed (outputs (argQ m c) (argK m c) (argU m c) (argW m c) (argA m c) (argG m c)) := by
  refine (dats m 0 c).arrAt_eq_of_covers 6 _ (by decide +kernel) fun t hf y => ?_
  rw [after0_6]
  exact (oAt_at m c t y).trans (read_block _ t _ (fun y a => place t y a) y).symm

theorem index_saved : ∀ t : Fin grid0.N,
    cc0_transform_7 (grid0.coords t) = ![t.val / 8, 0, t.val % 8, 0, 0] := by decide +kernel

theorem final_s (c : Dev nD) : (dats m 0 c).arrAt 7 cfg0.N
    = saved (argK m c) (argU m c) (argW m c) (argG m c) := by
  refine (dats m 0 c).arrAt_eq_of_covers 7 _ (by decide +kernel) fun t hf y => ?_
  rw [after0_7]
  refine (sAt_at m c t y).trans ?_
  have v : ∀ a : Fin 5, (((win0_7.blk t).view.emb y) a).val = (![t.val / 8, 0, t.val % 8, 0, 0] : Fin 5 → ℕ) a * S1x16x4x64x64.size a + 1 * (y a).val := fun a =>
    congrArg (fun n => n * S1x16x4x64x64.size a + 1 * (y a).val) (congrFun (index_saved t) a)
  have ht : t.val < 16 := Nat.lt_of_lt_of_eq t.isLt N_0
  have v0 : ((win0_7.blk t).view.emb y) 0 = (⟨t.val / 8, by omega⟩ : Fin 2) := Fin.ext (by
    have h := v 0
    have hy : (y 0).val < 1 := (y 0).isLt
    change _ = t.val / 8 * 1 + 1 * (y 0).val at h
    show _ = t.val / 8
    omega)
  have v1 : ((win0_7.blk t).view.emb y) 1 = y 1 := Fin.ext (by
    have h := v 1
    change _ = 0 * 16 + 1 * (y 1).val at h
    omega)
  have v2 : (((win0_7.blk t).view.emb y) 2).val = t.val % 8 * 4 + (y 2).val := by
    have h := v 2
    change _ = t.val % 8 * 4 + 1 * (y 2).val at h
    omega
  have v3 : ((win0_7.blk t).view.emb y) 3 = y 3 := Fin.ext (by
    have h := v 3
    change _ = 0 * 64 + 1 * (y 3).val at h
    omega)
  have v4 : ((win0_7.blk t).view.emb y) 4 = y 4 := Fin.ext (by
    have h := v 4
    change _ = 0 * 64 + 1 * (y 4).val at h
    omega)
  show _ = savedAt _ _ _ _ (((win0_7.blk t).view.emb y) 0) (((win0_7.blk t).view.emb y) 1) (((win0_7.blk t).view.emb y) 2).val (((win0_7.blk t).view.emb y) 3) (((win0_7.blk t).view.emb y) 4)
  rw [v0, v1, v2, v3, v4]
  rfl

end Cert.KernelIdeal.Scan

end
-- ==== Proof.Scan.Reference.lean ====
module

public import proofs.«01_k».proof.Proof.Gen.ReferenceIdeal.Run
public import proofs.«01_k».proof.Proof.Scan.Spec
public import Idealize.ShloMosaic.Lib.Pointwise
public import Idealize.ShloMosaic.Lib.WordCmp

@[expose] public section

set_option maxRecDepth 16384

noncomputable section
namespace Cert.ReferenceIdeal.Scan

open Cert.ReferenceIdeal Cert.ReferenceIdeal.Gen Cert.ReferenceIdeal.Value
open Idealize.ShloMosaic Idealize.ShloMosaic.TcCoe Idealize.ShloMosaic.StableHlo
open Idealize.SL.Sem
open Cert.Recurrence

/-- The start of a trip's slice of the stacked matrices. -/
def start5 (j : ℕ) : Fin 5 → Int := fun k =>
  (((![constantI S_ 32 (BitVec.ofNat 32 j), constantI S_ 32 0#32, constantI S_ 32 0#32,
      constantI S_ 32 0#32, constantI S_ 32 0#32] : Fin 5 → (⟨S_, .i32⟩ : BufTy).Contents (Elt Ideal))) k
    (Shape.Idx.first h_S_)).toInt

/-- The start of a trip's slice of the stacked numbers. -/
def start3 (j : ℕ) : Fin 3 → Int := fun k =>
  (((![constantI S_ 32 (BitVec.ofNat 32 j), constantI S_ 32 0#32, constantI S_ 32 0#32] :
      Fin 3 → (⟨S_, .i32⟩ : BufTy).Contents (Elt Ideal))) k (Shape.Idx.first h_S_)).toInt

theorem start5_eq (j : Fin 32) (a : Fin 5) : start5 j.val a = ((![j.val, 0, 0, 0, 0] : Fin 5 → ℕ) a : Int) := by
  fin_cases a
  · exact WordCmp.toInt_ofNat_of_lt (by have := j.isLt; omega)
  all_goals rfl

theorem start3_eq (j : Fin 32) (a : Fin 3) : start3 j.val a = ((![j.val, 0, 0] : Fin 3 → ℕ) a : Int) := by
  fin_cases a
  · exact WordCmp.toInt_ofNat_of_lt (by have := j.isLt; omega)
  all_goals rfl

theorem fits5 (j : Fin 32) : S32x4x8x64x64.Slices (![j.val, 0, 0, 0, 0] : Fin 5 → ℕ) S1x4x8x64x64 := by
  revert j; decide

theorem fits3 (j : Fin 32) : S32x4x8.Slices (![j.val, 0, 0] : Fin 3 → ℕ) S1x4x8 := by
  revert j; decide

/-- A trip's matrices out of their stack. -/
theorem slice_rows (X : Vec Ideal S32x4x8x64x64 .f32) (j : Fin 32) :
    shapeCast S4x8x64x64 (Host.dynamicSlice S1x4x8x64x64 X (start5 j.val)
        sliceFits_S32x4x8x64x64_S1x4x8x64x64) shapeCasts_S1x4x8x64x64_S4x8x64x64
      = fun y => X (ix5 j (y 0) (y 1) (y 2) (y 3)) := by
  rw [WordCmp.dynamicSlice_eq_extract _ X _ _ _ (fits5 j) (start5_eq j)]
  funext y
  pointwise

/-- A trip's numbers out of their stack. -/
theorem slice_gains (X : Vec Ideal S32x4x8 .f32) (j : Fin 32) :
    shapeCast S4x8 (Host.dynamicSlice S1x4x8 X (start3 j.val)
        sliceFits_S32x4x8_S1x4x8) shapeCasts_S1x4x8_S4x8
      = fun y => X (ix3 j (y 0) (y 1)) := by
  rw [WordCmp.dynamicSlice_eq_extract _ X _ _ _ (fits3 j) (start3_eq j)]
  funext y
  pointwise

/-- Writing a trip's matrices into a stack. -/
theorem update_rows (X : Vec Ideal S32x4x8x64x64 .f32) (U : Vec Ideal S4x8x64x64 .f32) (j : Fin 32) :
    Host.dynamicUpdateSlice X (broadcastInDim S1x4x8x64x64 ![1, 2, 3, 4] bcast_S4x8x64x64_S1x4x8x64x64_1_2_3_4 U)
        (start5 j.val) updateFits_S32x4x8x64x64_S1x4x8x64x64
      = fun y => if (y 0).val = j.val then U (ix4 (y 1) (y 2) (y 3) (y 4)) else X y := by
  rw [WordCmp.dynamicUpdateSlice_eq_update X _ _ _ _ (fits5 j) (start5_eq j)]
  funext y
  pointwise
  by_cases hy : (y 0).val = j.val
  · exact (dif_pos ⟨hy.ge, by omega⟩).trans (if_pos hy).symm
  · exact (dif_neg (fun hc => hy (by omega))).trans (if_neg hy).symm

/-- The reference's stack of matrices: chunk first. -/
def stack (X : Rows) : Vec Ideal S32x4x8x64x64 .f32 := fun y => X (ix5 (y 1) (y 2) (y 0) (y 3) (y 4))

/-- The reference's stack of numbers: chunk first. -/
def stackG (G : Gains) : Vec Ideal S32x4x8 .f32 := fun y => G (ix3 (y 1) (y 2) (y 0))

/-- The states of all pairs before chunk `j`. -/
def states (K U W : Rows) (G : Gains) (j : ℕ) : Vec Ideal S4x8x64x64 .f32 := fun y => state K U W G (y 0) (y 1) j (y 2) (y 3)

/-- What the loop carries before trip `j`. -/
structure Inv (Q K U W A : Rows) (G : Gains) (j : ℕ) (V : Valuation τ sig (Elt Ideal)) : Prop where
  q : V (Proc.devRef .tc main_v9_0) = stack Q
  k : V (Proc.devRef .tc main_v9_1) = stack K
  u : V (Proc.devRef .tc main_v9_2) = stack U
  w : V (Proc.devRef .tc main_v9_3) = stack W
  a : V (Proc.devRef .tc main_v9_4) = stack A
  g : V (Proc.devRef .tc main_v9_5) = stackG G
  n : V (Proc.devRef .tc main_v9_6) = constantI S_ 32 (BitVec.ofNat 32 j)
  s : V (Proc.devRef .tc main_v9_7) = states K U W G j
  o : ∀ y : S32x4x8x64x64.Idx, (y 0).val < j → (V (Proc.devRef .tc main_v9_8) : Vec Ideal S32x4x8x64x64 .f32) y
    = output Q K U W A G (y 1) (y 2) (y 0) (y 3) (y 4)
  z : ∀ y : S32x4x8x64x64.Idx, (y 0).val < j → (V (Proc.devRef .tc main_v9_9) : Vec Ideal S32x4x8x64x64 .f32) y
    = state K U W G (y 1) (y 2) (y 0).val (y 3) (y 4)

section Step
variable {Q K U W A : Rows} {G : Gains} {j : Fin 32} {V : Valuation τ sig (Elt Ideal)} (h : Inv Q K U W A G j.val V)
include h

/-- The counter's step. -/
theorem step_n : step_main_v9_6 V = constantI S_ 32 (BitVec.ofNat 32 (j.val + 1)) := by
  unfold step_main_v9_6
  rw [h.n]
  show (fun _ => BitVec.ofNat 32 j.val + 1#32) = fun _ => BitVec.ofNat 32 (j.val + 1)
  simp only [BitVec.ofNat_add]

/-- What the trip's chunks write. -/
theorem step_delta : (res_main_while0b_v23 V : Vec Ideal S4x8x64x64 .f32)
    = fun y => delta (at_ U (y 0) (y 1) j) (at_ W (y 0) (y 1) j) (state K U W G (y 0) (y 1) j.val) (y 2) (y 3) := by
  unfold res_main_while0b_v23
  rw [h.n, h.u, h.w, h.s]
  erw [slice_rows (stack U) j, slice_rows (stack W) j]
  funext y
  show (subf (F := Ideal) (s := S4x8x64x64) (φ := .f32) _ _) y = _
  pointwise [stack, states]
  rfl

theorem step_s : step_main_v9_7 V = states K U W G (j.val + 1) := by
  unfold step_main_v9_7
  rw [step_delta h, h.n, h.k, h.g, h.s]
  erw [slice_rows (stack K) j, slice_gains (stackG G) j]
  funext y
  show (addf (F := Ideal) (s := S4x8x64x64) (φ := .f32) _ _) y = _
  pointwise [stack, stackG, states]
  exact (congrFun (congrFun (state_succ K U W G (y 0) (y 1) j) (y 2)) (y 3)).symm

theorem step_o : (step_main_v9_8 V : Vec Ideal S32x4x8x64x64 .f32)
    = fun y => if (y 0).val = j.val then output Q K U W A G (y 1) (y 2) j (y 3) (y 4)
        else (V (Proc.devRef .tc main_v9_8) : Vec Ideal S32x4x8x64x64 .f32) y := by
  unfold step_main_v9_8
  rw [step_delta h, h.n, h.q, h.a, h.s]
  erw [slice_rows (stack Q) j, slice_rows (stack A) j]
  refine (update_rows _ _ j).trans ?_
  funext y
  refine if_congr Iff.rfl ?_ rfl
  show (addf (F := Ideal) (s := S4x8x64x64) (φ := .f32) _ _) _ = _
  pointwise [stack, states]
  rfl

theorem step_z : (step_main_v9_9 V : Vec Ideal S32x4x8x64x64 .f32)
    = fun y => if (y 0).val = j.val then state K U W G (y 1) (y 2) j.val (y 3) (y 4)
        else (V (Proc.devRef .tc main_v9_9) : Vec Ideal S32x4x8x64x64 .f32) y := by
  unfold step_main_v9_9
  rw [h.n, h.s]
  exact update_rows _ _ j

/-- One trip keeps the invariant. -/
theorem Inv.next : Inv Q K U W A G (j.val + 1) (STEP V) where
  q := (STEP_main_v9_0 V).trans h.q
  k := (STEP_main_v9_1 V).trans h.k
  u := (STEP_main_v9_2 V).trans h.u
  w := (STEP_main_v9_3 V).trans h.w
  a := (STEP_main_v9_4 V).trans h.a
  g := (STEP_main_v9_5 V).trans h.g
  n := (STEP_main_v9_6 V).trans (step_n h)
  s := (STEP_main_v9_7 V).trans (step_s h)
  o y hy := by
    refine (congrFun ((STEP_main_v9_8 V).trans (step_o h)) y).trans ?_
    by_cases e : (y 0).val = j.val
    · obtain rfl : y 0 = j := Fin.ext e
      exact if_pos rfl
    · exact (if_neg e).trans (h.o y (by omega))
  z y hy := by
    refine (congrFun ((STEP_main_v9_9 V).trans (step_z h)) y).trans ?_
    by_cases e : (y 0).val = j.val
    · obtain rfl : y 0 = j := Fin.ext e
      exact if_pos rfl
    · exact (if_neg e).trans (h.z y (by omega))
end Step

section Run
variable (m : (ℓ : Loc nD τ sig) → Buf (Elt Ideal) ℓ) (c : Dev nD)

/-- The reference's arguments. -/
def argQ : Rows := m ((c.tc : Thread nD τ).loc main_arg0)
def argK : Rows := m ((c.tc : Thread nD τ).loc main_arg1)
def argU : Rows := m ((c.tc : Thread nD τ).loc main_arg2)
def argW : Rows := m ((c.tc : Thread nD τ).loc main_arg3)
def argA : Rows := m ((c.tc : Thread nD τ).loc main_arg4)
def argG : Gains := m ((c.tc : Thread nD τ).loc main_arg5)

/-- The transposition that puts the chunk first. -/
theorem stack_eq (X : Rows) : transpose S32x4x8x64x64 [2, 0, 1, 3, 4] X transposes_S4x8x32x64x64_S32x4x8x64x64_2_0_1_3_4 = stack X := by
  funext y
  pointwise [stack]

theorem stackG_eq (G : Gains) : transpose S32x4x8 [2, 0, 1] G transposes_S4x8x32_S32x4x8_2_0_1 = stackG G := by
  funext y
  pointwise [stackG]

/-- The invariant holds when the loop is entered. -/
theorem inv_entry : Inv (argQ m c) (argK m c) (argU m c) (argW m c) (argA m c) (argG m c) 0 (entryContents preI m c) where
  q := by
    simp only [entryContents, afterL_cons, afterL_nil]
    after_reads_simp
    exact stack_eq (argQ m c)
  k := by
    simp only [entryContents, afterL_cons, afterL_nil]
    after_reads_simp
    exact stack_eq (argK m c)
  u := by
    simp only [entryContents, afterL_cons, afterL_nil]
    after_reads_simp
    exact stack_eq (argU m c)
  w := by
    simp only [entryContents, afterL_cons, afterL_nil]
    after_reads_simp
    exact stack_eq (argW m c)
  a := by
    simp only [entryContents, afterL_cons, afterL_nil]
    after_reads_simp
    exact stack_eq (argA m c)
  g := by
    simp only [entryContents, afterL_cons, afterL_nil]
    after_reads_simp
    exact stackG_eq (argG m c)
  n := by
    simp only [entryContents, afterL_cons, afterL_nil]
    after_reads_simp
    rfl
  s := by
    simp only [entryContents, afterL_cons, afterL_nil]
    after_reads_simp
    funext y
    show (broadcastInDim S4x8x64x64 ![] bcast_S_S4x8x64x64 (constant (F := Ideal) S_ FTy.f32 0#32)) y = _
    pointwise
    rfl
  o y hy := absurd hy (Nat.not_lt_zero _)
  z y hy := absurd hy (Nat.not_lt_zero _)

/-- The invariant holds before every trip, and after the last. -/
theorem inv_at : ∀ k : ℕ, k ≤ 32 →
    Inv (argQ m c) (argK m c) (argU m c) (argW m c) (argA m c) (argG m c) k (STEP^[k] (entryContents preI m c))
  | 0, _ => inv_entry m c
  | k + 1, hk => by
    rw [Function.iterate_succ_apply']
    exact Inv.next (j := ⟨k, hk⟩) (inv_at k (Nat.le_of_succ_le hk))

/-- The answers, two heads side by side in the lanes. -/
theorem out_o : out_main_v12 (STEP^[32] (entryContents preI m c)) = packed (outputs (argQ m c) (argK m c) (argU m c) (argW m c) (argA m c) (argG m c)) := by
  have H := (inv_at m c 32 le_rfl).o
  revert H
  generalize STEP^[32] (entryContents preI m c) = V
  intro H
  unfold out_main_v12
  funext y
  pointwise
  exact H _ (Fin.isLt _)

/-- The states before each chunk, by group and entry. -/
theorem out_z : out_main_v15 (STEP^[32] (entryContents preI m c)) = saved (argK m c) (argU m c) (argW m c) (argG m c) := by
  have H := (inv_at m c 32 le_rfl).z
  revert H
  generalize STEP^[32] (entryContents preI m c) = V
  intro H
  unfold out_main_v15
  funext y
  pointwise
  exact H _ (Fin.isLt _)

/-- The reference terminates with the recurrence's answers and states, its arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v12) = packed (outputs (argQ m c) (argK m c) (argU m c) (argW m c) (argA m c) (argG m c))
      ∧ r.2.mem ((c.tc : Thread nD τ).loc main_v15) = saved (argK m c) (argU m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out_o m c), (h c).2.1.trans (out_z m c), (h c).2.2⟩)
    (Value.run (F := Ideal) m ρ)

/-- The reference's frame: it terminates, its arguments unchanged and no counter moved. -/
theorem frame (ρ : Dev nD → PrngReg) : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2, Idealize.ShloMosaic.sem_eq_zero_of_no_sems (by decide) r.2⟩)
    (Value.run (F := Ideal) m ρ)

end Run

end Cert.ReferenceIdeal.Scan
end
-- ==== Proof.Scan.Claims.lean ====
module

public import proofs.«01_k».proof.Defs
public import proofs.«01_k».proof.Proof.Gen.Kernel
public import proofs.«01_k».proof.Proof.Scan.Value
public import proofs.«01_k».proof.Proof.Scan.Reference

@[expose] public section

/-! # The forward scan: the claims

The launch and the reference each end with the recurrence's answers and with its states before each chunk, both in the
launch's layout; where the arguments agree, so do the results. -/

noncomputable section

namespace Cert.KernelIdeal.Scan

open Cert.KernelIdeal Cert.KernelIdeal.Gen
open Idealize.ShloMosaic Idealize.SL.Sem
open Cert.Recurrence

/-- The two texts of the launch have the same bodies. -/
theorem same_bodies : Cert.Kernel.defs₀ (F := Bits) = defs₀ (F := Bits) := by
  refine congrArg Defs.onTc (funext fun ℓ => funext fun a => ?_)
  obtain ⟨_ | n, hn⟩ := ℓ
  · obtain ⟨t, s⟩ := a
    rfl
  · exact absurd hn (by omega)

theorem same_defs : Cert.Kernel.defs (F := Bits) = defs (F := Bits) := congrArg (Pipeline.defs _) same_bodies

/-- The launch's frame at machine words: the run is proved for every reading of the floats. -/
theorem frame_words : Cert.quiescent_Kernel := fun m ρ _ =>
  same_defs ▸ frame (F := Bits) m ρ

/-- The launch's frame over the reals. -/
theorem frame_reals : Cert.quiescent_KernelIdeal := fun m ρ _ => frame (F := Ideal) m ρ

/-- The reference's frame. -/
theorem frame_reference : Cert.quiescent_ReferenceIdeal := fun m ρ _ => Cert.ReferenceIdeal.Scan.frame m ρ

/-- The launch terminates with the recurrence's answers and states, its arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24_0)
        = packed (outputs (argQ m c) (argK m c) (argU m c) (argW m c) (argA m c) (argG m c))
      ∧ r.2.mem ((c.tc : Thread nD τ).loc main_v24_1) = saved (argK m c) (argU m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1.out_eq c 6).trans (final_o m c), (h.1.out_eq c 7).trans (final_s m c), h.2 c⟩)
    (θ_run_and (run_main m ρ) (frame_of m ρ (dats m) (A_eq m) (run_main m ρ)))

/-- The launch against the reference, over the reals. -/
theorem algebraic : Cert.algebraic_KernelIdeal_ReferenceIdeal := by
  intro m ρ m' ρ' _ hagree
  refine ⟨_, _, run_value m ρ, ?_⟩
  refine (θ_run _ _ _).mono (fun r h c => ?_) (Cert.ReferenceIdeal.Scan.run m' ρ')
  obtain ⟨hq, hk, hu, hw, ha, hg⟩ := hagree c
  have eq : Cert.ReferenceIdeal.Scan.argQ m' c = argQ m c := hq
  have ek : Cert.ReferenceIdeal.Scan.argK m' c = argK m c := hk
  have eu : Cert.ReferenceIdeal.Scan.argU m' c = argU m c := hu
  have ew : Cert.ReferenceIdeal.Scan.argW m' c = argW m c := hw
  have ea : Cert.ReferenceIdeal.Scan.argA m' c = argA m c := ha
  have eg : Cert.ReferenceIdeal.Scan.argG m' c = argG m c := hg
  have H := h c
  rw [eq, ek, eu, ew, ea, eg] at H
  exact H

end Cert.KernelIdeal.Scan

end
-- ==== Proof.Back.Body.lean ====
module

public import proofs.«01_k».proof.Proof.Gen.Kernel2Ideal.Frame
public import proofs.«01_k».proof.Proof.Gen.Kernel2Ideal.Skeleton
public import proofs.«01_k».proof.Proof.Gen.Kernel2Ideal.Loops
public import Idealize.ShloMosaic.Lib.Pointwise.Index

@[expose] public section

set_option maxRecDepth 16384

/-! # The backward scan's body

One grid point of the backward scan runs four chunks, last first, on sixteen (batch, head) pairs.  This module names what a
point leaves: the state's gradient after each chunk (`carry`), a block of rows of each of five gradients (`rowBlk` of
`dqTrip`, `dkTrip`, `duTrip`, `dwTrip`, `daTrip`), the block of the decays' gradient (`decBlk`); and it proves that the
loop's state is made of these. -/

noncomputable section

namespace Cert.Kernel2Ideal.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A chunk of the point's block: one trip of the body's loop.  Trip `k` is chunk `3 - k` of the block. -/
abbrev Trip := Fin k0_t1_loop.trips

theorem trips_eq : k0_t1_loop.trips = 4 := by decide

/-- A trip's 64 rows of a block of rows. -/
def rows (x : Vec F S1x8x256x128 .f32) (k : Trip) : Vec F S1x8x64x128 .f32 :=
  View.ld x (Rect.unit (s := S1x8x256x128) (k0_off2 k) S1x8x64x128.size (k0_off2_inb k))

/-- A trip's log-decays. -/
def decay (x : Vec F S1x16x4x1x1 .f32) (k : Trip) : Vec F S1x16x1x1x1 .f32 :=
  View.ld x (Rect.unit (s := S1x16x4x1x1) (k0_off3 k) S1x16x1x1x1.size (k0_off3_inb k))

/-- A trip's saved states. -/
def savedOf (x : Vec F S1x16x4x64x64 .f32) (k : Trip) : Vec F S1x16x1x64x64 .f32 :=
  View.ld x (Rect.unit (s := S1x16x4x64x64) (k0_off1 k) S1x16x1x64x64.size (k0_off1_inb k))

/-- The blocks a point reads: the five operands, the log-decays, the saved states, the cotangent of the output. -/
structure Blocks (F : FTy → Type) where
  q : Vec F S1x8x256x128 .f32
  k : Vec F S1x8x256x128 .f32
  u : Vec F S1x8x256x128 .f32
  w : Vec F S1x8x256x128 .f32
  a : Vec F S1x8x256x128 .f32
  g : Vec F S1x16x4x1x1 .f32
  s : Vec F S1x16x4x64x64 .f32
  o : Vec F S1x8x256x128 .f32

section
variable (I : Blocks F) (d : Vec F S16x64x64 .f32)

/-- The state's gradient before a chunk, from the one after it. -/
def nextState (k : Trip) (acc : Vec F S16x64x64 .f32) : Vec F S16x64x64 .f32 :=
  k0_pay25 (k0_pay9 (rows I.w k)) (k0_pay21 acc (k0_pay6 (rows I.q k)) (decay I.g k) (rows I.o k))
    (k0_pay22 acc (k0_pay7 (rows I.k k)) (k0_pay10 (rows I.a k)) (rows I.o k))

/-- The state's gradient before trip `n`, from the gradient `d` at the point's entry. -/
def carry : ℕ → Vec F S16x64x64 .f32
  | 0 => d
  | n + 1 => if h : n < k0_t1_loop.trips then nextState I ⟨n, h⟩ (carry n) else carry n

theorem carry_succ (n : ℕ) (h : n < k0_t1_loop.trips) : carry I d (n + 1) = nextState I ⟨n, h⟩ (carry I d n) := dif_pos h

/-- A trip's rows of the five gradients. -/
def dqTrip (k : Trip) : Vec F S1x8x64x128 .f32 := k0_pay26 (k0_pay20 (k0_pay5 (savedOf I.s k)) (rows I.o k))
def dkTrip (k : Trip) : Vec F S1x8x64x128 .f32 :=
  k0_pay27 (k0_pay16 (carry I d k) (k0_pay5 (savedOf I.s k)) (k0_pay8 (rows I.u k)) (k0_pay9 (rows I.w k)))
def duTrip (k : Trip) : Vec F S1x8x64x128 .f32 :=
  k0_pay28 (k0_pay19 (carry I d k) (k0_pay7 (rows I.k k)) (k0_pay10 (rows I.a k)) (rows I.o k))
def dwTrip (k : Trip) : Vec F S1x8x64x128 .f32 :=
  k0_pay29 (k0_pay23 (carry I d k) (k0_pay7 (rows I.k k)) (k0_pay10 (rows I.a k)) (rows I.o k)) (k0_pay24 (k0_pay5 (savedOf I.s k)))
def daTrip (k : Trip) : Vec F S1x8x64x128 .f32 :=
  k0_pay2 (k0_pay30 (k0_pay18 (k0_pay5 (savedOf I.s k)) (k0_pay8 (rows I.u k)) (k0_pay9 (rows I.w k)) (rows I.o k)))

/-- A trip's gradient of the log-decays. -/
def dgTrip (k : Trip) : Vec F S1x16x1x1x1 .f32 :=
  k0_pay3 (k0_pay17 (carry I d k) (k0_pay5 (savedOf I.s k)) (decay I.g k))

end

/-- What the first `n` trips store, last first. -/
def upTo {α : Type} (f : Trip → α) : ℕ → List α
  | 0 => []
  | n + 1 => if h : n < k0_t1_loop.trips then f ⟨n, h⟩ :: upTo f n else upTo f n

theorem mem_upTo {α : Type} (f : Trip → α) (n : ℕ) (p : α) (h : p ∈ upTo f n) : ∃ k, p = f k := by
  induction n with
  | zero => exact absurd h List.not_mem_nil
  | succ n ih =>
    unfold upTo at h
    split at h
    · rcases List.mem_cons.mp h with h | h
      · exact ⟨_, h⟩
      · exact ih h
    · exact ih h

theorem upTo_mem {α : Type} (f : Trip → α) (n : ℕ) (k : Trip) (hk : k.val < n) : f k ∈ upTo f n := by
  induction n with
  | zero => exact absurd hk (Nat.not_lt_zero _)
  | succ n ih =>
    unfold upTo
    split
    · rcases Nat.lt_succ_iff_lt_or_eq.mp hk with h | h
      · exact List.mem_cons_of_mem _ (ih h)
      · exact List.mem_cons.mpr (.inl (by congr 1; exact Fin.ext h))
    · exact ih (by have := k.isLt; omega)

theorem upTo_succ {α : Type} (f : Trip → α) (n : ℕ) (h : n < k0_t1_loop.trips) : upTo f (n + 1) = f ⟨n, h⟩ :: upTo f n := dif_pos h

/-- The trip that visits chunk `n` of the block. -/
def tripOf (n : ℕ) : Trip := ⟨3 - n, by rw [trips_eq]; omega⟩

section
variable (f : Trip → Vec F S1x8x64x128 .f32) (g : Trip → Vec F S1x16x1x1x1 .f32)

/-- Where a trip stores its rows of a gradient, and what. -/
def rowPiece (k : Trip) : View.Piece (Elt F) S1x8x256x128 .f32 :=
  ⟨Rect.unit (s := S1x8x256x128) (k0_off2 k) S1x8x64x128.size (k0_off2_inb k), f k⟩

/-- Where a trip stores the gradient of its log-decays, and what. -/
def decPiece (k : Trip) : View.Piece (Elt F) S1x16x4x1x1 .f32 :=
  ⟨Rect.unit (s := S1x16x4x1x1) (k0_off3 k) S1x16x1x1x1.size (k0_off3_inb k), g k⟩

/-- The block of rows the trips leave. -/
def rowBlk : Vec F S1x8x256x128 .f32 := fun y =>
  f (tripOf ((y 2).val / 64)) (ix4 (y 0) (y 1) (⟨(y 2).val % 64, Nat.mod_lt _ (by decide)⟩ : Fin 64) (y 3))

/-- The block of decays' gradients the trips leave. -/
def decBlk : Vec F S1x16x4x1x1 .f32 := fun y => g (tripOf (y 2).val) (ix5 (y 0) (y 1) (0 : Fin 1) (y 3) (y 4))

theorem rowBlk_emb (k : Trip) (x : (rowPiece f k).1.shape.Idx) : (rowPiece f k).2 x = rowBlk f ((rowPiece f k).1.emb x) := by
  have hk : k.val < 4 := lt_of_lt_of_eq k.isLt trips_eq
  have e := k0_off2_eq k
  have h0 := congrFun e 0
  have h1 := congrFun e 1
  have h2 := congrFun e 2
  have h3 := congrFun e 3
  have v : ∀ a, ((rowPiece f k).1.emb x a).val = k0_off2 k a + 1 * (x a).val := fun a => rfl
  have hx2 : (x 2).val < 64 := (x 2).isLt
  unfold rowBlk
  have ec : tripOf (((rowPiece f k).1.emb x 2).val / 64) = k := Fin.ext (by
    show 3 - ((rowPiece f k).1.emb x 2).val / 64 = k.val
    rw [v 2, h2]; show 3 - (192 - 64 * k.val + 1 * (x 2).val) / 64 = k.val; omega)
  rw [ec]
  show f k x = _
  congr 1
  funext a
  apply Fin.ext
  match a with
  | 0 => show (x 0).val = ((rowPiece f k).1.emb x 0).val; rw [v 0, h0]; show _ = 0 + 1 * _; omega
  | 1 => show (x 1).val = ((rowPiece f k).1.emb x 1).val; rw [v 1, h1]; show _ = 0 + 1 * _; omega
  | 2 => show (x 2).val = ((rowPiece f k).1.emb x 2).val % 64; rw [v 2, h2]; show _ = (192 - 64 * k.val + 1 * _) % 64; omega
  | 3 => show (x 3).val = ((rowPiece f k).1.emb x 3).val; rw [v 3, h3]; show _ = 0 + 1 * _; omega

theorem rowBlk_cover (y : S1x8x256x128.Idx) : y ∈ (rowPiece f (tripOf ((y 2).val / 64))).1.set := by
  have e := k0_off2_eq (tripOf ((y 2).val / 64))
  have y0 : (y 0).val < 1 := (y 0).isLt
  have y1 : (y 1).val < 8 := (y 1).isLt
  have y2 : (y 2).val < 256 := (y 2).isLt
  have y3 : (y 3).val < 128 := (y 3).isLt
  show y ∈ (Rect.unit (s := S1x8x256x128) (k0_off2 (tripOf ((y 2).val / 64))) S1x8x64x128.size (k0_off2_inb _)).set
  refine Rect.mem_set_unit.mpr fun a => ?_
  rw [e]
  match a with
  | 0 => show 0 ≤ (y 0).val ∧ (y 0).val < 0 + 1; omega
  | 1 => show 0 ≤ (y 1).val ∧ (y 1).val < 0 + 8; omega
  | 2 =>
    show 192 - 64 * (3 - (y 2).val / 64) ≤ (y 2).val ∧ (y 2).val < 192 - 64 * (3 - (y 2).val / 64) + 64
    omega
  | 3 => show 0 ≤ (y 3).val ∧ (y 3).val < 0 + 128; omega

theorem decBlk_emb (k : Trip) (x : (decPiece g k).1.shape.Idx) : (decPiece g k).2 x = decBlk g ((decPiece g k).1.emb x) := by
  have hk : k.val < 4 := lt_of_lt_of_eq k.isLt trips_eq
  have e := k0_off3_eq k
  have v : ∀ a, ((decPiece g k).1.emb x a).val = k0_off3 k a + 1 * (x a).val := fun a => rfl
  have hx2 : (x 2).val < 1 := (x 2).isLt
  unfold decBlk
  have ec : tripOf ((decPiece g k).1.emb x 2).val = k := Fin.ext (by
    show 3 - ((decPiece g k).1.emb x 2).val = k.val
    rw [v 2, e]; show 3 - (3 - k.val + 1 * (x 2).val) = k.val; omega)
  rw [ec]
  show g k x = _
  congr 1
  funext a
  apply Fin.ext
  match a with
  | 0 => show (x 0).val = ((decPiece g k).1.emb x 0).val; rw [v 0, e]; show _ = 0 + 1 * _; omega
  | 1 => show (x 1).val = ((decPiece g k).1.emb x 1).val; rw [v 1, e]; show _ = 0 + 1 * _; omega
  | 2 => show (x 2).val = 0; omega
  | 3 => show (x 3).val = ((decPiece g k).1.emb x 3).val; rw [v 3, e]; show _ = 0 + 1 * _; omega
  | 4 => show (x 4).val = ((decPiece g k).1.emb x 4).val; rw [v 4, e]; show _ = 0 + 1 * _; omega

theorem decBlk_cover (y : S1x16x4x1x1.Idx) : y ∈ (decPiece g (tripOf (y 2).val)).1.set := by
  have e := k0_off3_eq (tripOf (y 2).val)
  have y0 : (y 0).val < 1 := (y 0).isLt
  have y1 : (y 1).val < 16 := (y 1).isLt
  have y2 : (y 2).val < 4 := (y 2).isLt
  have y3 : (y 3).val < 1 := (y 3).isLt
  have y4 : (y 4).val < 1 := (y 4).isLt
  show y ∈ (Rect.unit (s := S1x16x4x1x1) (k0_off3 (tripOf (y 2).val)) S1x16x1x1x1.size (k0_off3_inb _)).set
  refine Rect.mem_set_unit.mpr fun a => ?_
  rw [e]
  match a with
  | 0 => show 0 ≤ (y 0).val ∧ (y 0).val < 0 + 1; omega
  | 1 => show 0 ≤ (y 1).val ∧ (y 1).val < 0 + 16; omega
  | 2 => show 3 - (3 - (y 2).val) ≤ (y 2).val ∧ (y 2).val < 3 - (3 - (y 2).val) + 1; omega
  | 3 => show 0 ≤ (y 3).val ∧ (y 3).val < 0 + 1; omega
  | 4 => show 0 ≤ (y 4).val ∧ (y 4).val < 0 + 1; omega

/-- The trips' pieces written over anything read back as the block of rows. -/
theorem read_rowPieces (arg : Memref sig .tc .vmem S1x8x256x128 .f32) (v : BufTy.Contents (Elt F) arg.view.ty) :
    arg.view.read (Elt F) (arg.view.writes (Elt F) v (upTo (rowPiece f) k0_t1_loop.trips)) = rowBlk f :=
  funext fun y => View.read_writes_apply_of_pieces _ _ _ _
    (fun p hp => by obtain ⟨k, rfl⟩ := mem_upTo _ _ _ hp; exact rowBlk_emb f k) y
    ⟨_, upTo_mem _ _ _ (Fin.isLt _), rowBlk_cover f y⟩

/-- The trips' pieces written over anything read back as the block of decays' gradients. -/
theorem read_decPieces (arg : Memref sig .tc .vmem S1x16x4x1x1 .f32) (v : BufTy.Contents (Elt F) arg.view.ty) :
    arg.view.read (Elt F) (arg.view.writes (Elt F) v (upTo (decPiece g) k0_t1_loop.trips)) = decBlk g :=
  funext fun y => View.read_writes_apply_of_pieces _ _ _ _
    (fun p hp => by obtain ⟨k, rfl⟩ := mem_upTo _ _ _ hp; exact decBlk_emb g k) y
    ⟨_, upTo_mem _ _ _ (Fin.isLt _), decBlk_cover g y⟩

end

/-- The loop's state before trip `n`: the recurrence's gradient, and the pieces of the trips before. -/
theorem st_eq (𝒱 : Variants) (c : Dev nD) (bd : Option 𝒱.V) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x16x4x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S1x16x4x1x1 .f32) (harg15 : arg15.IsWhole) (arg16 : Memref sig .tc .vmem S16x64x64 .f32) (harg16 : arg16.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (d : Vec F S16x64x64 .f32) (n : ℕ) (hn : n ≤ k0_t1_loop.trips) :
    st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 d n
      = (carry ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩ d n,
         upTo (rowPiece (dqTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩)) n,
         upTo (rowPiece (dkTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩ d)) n,
         upTo (rowPiece (duTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩ d)) n,
         upTo (rowPiece (dwTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩ d)) n,
         upTo (rowPiece (daTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩)) n,
         upTo (decPiece (dgTrip ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩ d)) n) := by
  induction n with
  | zero => rfl
  | succ n ih =>
    have h : n < k0_t1_loop.trips := hn
    have e := ih h.le
    rw [show n + 1 = (⟨n, h⟩ : Trip).val + 1 from rfl, st_k0_t1_succ, e]
    unfold tripR_k0_t1 tripL_k0_t1 trip_k0_t1
    dsimp only
    rw [carry_succ _ _ n h, upTo_succ _ n h, upTo_succ _ n h, upTo_succ _ n h, upTo_succ _ n h, upTo_succ _ n h, upTo_succ _ n h]
    rfl

end Cert.Kernel2Ideal.Back

end
-- ==== Proof.Back.Run.lean ====
module

public import proofs.«01_k».proof.Proof.Back.Body
public import Idealize.ShloMosaic.Lib.Pipeline.Value
public import Idealize.ShloMosaic.Lib.Pipeline.ValueKit

@[expose] public section

set_option maxRecDepth 16384

/-! # The backward scan's body, run

The body at the first point of a group of heads (the gradient is set to zero first), and at a later point (the gradient is what
the point before left). -/

noncomputable section

namespace Cert.Kernel2Ideal.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's reset: the point is the first of its group. -/
abbrev cond0_0 (i : grid0.Coords) : Prop := (Scalar.cmpi .ne (Scalar.extui (Scalar.cmpi .eq (BitVec.ofNat 32 (i 1).val) 0#32)) 0#32) = 1#1

/-- A store of the whole gradient reads back as what was stored. -/
theorem read_scratch (arg16 : Memref sig .tc .vmem S16x64x64 .f32) (f : BufTy.Contents (Elt F) arg16.view.ty) (w : Vec F S16x64x64 .f32)
    (L : List (View.Piece (Elt F) S16x64x64 .f32)) :
    arg16.view.read (Elt F) (arg16.view.writes (Elt F) f
      (⟨Rect.unit (s := S16x64x64) ![0, 0, 0] S16x64x64.size inb_S16x64x64_S16x64x64_0_0_0, w⟩ :: L)) = w := by
  funext y
  have hc : ∃ p ∈ (⟨Rect.unit (s := S16x64x64) ![0, 0, 0] S16x64x64.size inb_S16x64x64_S16x64x64_0_0_0, w⟩ : View.Piece (Elt F) S16x64x64 .f32) :: L, y ∈ p.1.set := by
    refine ⟨_, List.mem_cons_self, ?_⟩
    have y0 : (y 0).val < 16 := (y 0).isLt
    have y1 : (y 1).val < 64 := (y 1).isLt
    have y2 : (y 2).val < 64 := (y 2).isLt
    show y ∈ (Rect.unit (s := S16x64x64) ![0, 0, 0] S16x64x64.size inb_S16x64x64_S16x64x64_0_0_0).set
    refine Rect.mem_set_unit.mpr fun a => ?_
    match a with
    | 0 => show 0 ≤ (y 0).val ∧ (y 0).val < 0 + 16; omega
    | 1 => show 0 ≤ (y 1).val ∧ (y 1).val < 0 + 64; omega
    | 2 => show 0 ≤ (y 2).val ∧ (y 2).val < 0 + 64; omega
  rw [View.read_writes_apply_eq_canon _ _ _ _ hc]
  simp (disch := decide) only [View.canon_cons_unit_lit']

set_option maxHeartbeats 4000000 in
/-- The body at the first point of a group: it starts from the zero gradient, whatever the scratch held. -/
theorem run_first (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x16x4x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S1x16x4x1x1 .f32) (harg15 : arg15.IsWhole) (arg16 : Memref sig .tc .vmem S16x64x64 .f32) (harg16 : arg16.IsWhole) (hc0 : cond0_0 i)
    (I : Blocks F) (E : Set ℕ) (K : PUnit → sProp 𝕄) :
    iprop(owns (c : Thread nD τ) arg2 fullShare I.q ∗ owns (c : Thread nD τ) arg3 fullShare I.k ∗ owns (c : Thread nD τ) arg4 fullShare I.u ∗ owns (c : Thread nD τ) arg5 fullShare I.w ∗ owns (c : Thread nD τ) arg6 fullShare I.a ∗ owns (c : Thread nD τ) arg7 fullShare I.g ∗ owns (c : Thread nD τ) arg8 fullShare I.s ∗ owns (c : Thread nD τ) arg9 fullShare I.o ∗ (∃ e, owns (c : Thread nD τ) arg10 fullShare e) ∗ (∃ e, owns (c : Thread nD τ) arg11 fullShare e) ∗ (∃ e, owns (c : Thread nD τ) arg12 fullShare e) ∗ (∃ e, owns (c : Thread nD τ) arg13 fullShare e) ∗ (∃ e, owns (c : Thread nD τ) arg14 fullShare e) ∗ (∃ e, owns (c : Thread nD τ) arg15 fullShare e) ∗ (∃ e, owns (c : Thread nD τ) arg16 fullShare e)
        ∗ (iprop(owns (c : Thread nD τ) arg2 fullShare I.q ∗ owns (c : Thread nD τ) arg3 fullShare I.k ∗ owns (c : Thread nD τ) arg4 fullShare I.u ∗ owns (c : Thread nD τ) arg5 fullShare I.w ∗ owns (c : Thread nD τ) arg6 fullShare I.a ∗ owns (c : Thread nD τ) arg7 fullShare I.g ∗ owns (c : Thread nD τ) arg8 fullShare I.s ∗ owns (c : Thread nD τ) arg9 fullShare I.o ∗ owns (c : Thread nD τ) arg10 fullShare (rowBlk (dqTrip I)) ∗ owns (c : Thread nD τ) arg11 fullShare (rowBlk (dkTrip I k0_pay1)) ∗ owns (c : Thread nD τ) arg12 fullShare (rowBlk (duTrip I k0_pay1)) ∗ owns (c : Thread nD τ) arg13 fullShare (rowBlk (dwTrip I k0_pay1)) ∗ owns (c : Thread nD τ) arg14 fullShare (rowBlk (daTrip I)) ∗ owns (c : Thread nD τ) arg15 fullShare (decBlk (dgTrip I k0_pay1)) ∗ owns (c : Thread nD τ) arg16 fullShare (carry I k0_pay1 k0_t1_loop.trips)) -∗ K ⟨⟩))
      ⊢ wp frame (wpE (defs₀ (F := F)) Variants.none c none) E (cc0_dn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dn_scan_bwd_eq_skeleton]; unfold cc0_dn_scan_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec (disch := first | sl_exact hc0)
  sl_step
  simp only [st_eq (hn := le_refl _), harg2.read_unread, harg3.read_unread, harg4.read_unread, harg5.read_unread, harg6.read_unread, harg7.read_unread, harg8.read_unread, harg9.read_unread]
  unfold run_first.sl.v3 run_first.sl.H16_1
  simp (disch := decide) only [View.readAt_eq_ld, View.ld_unit_lit', View.readCov_unit_lit', harg16.read_unread]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; exact read_rowPieces ..
  isplitl [H11]
  · iexists _; isplitr; swap; · iexact H11
    ipureintro; exact read_rowPieces ..
  isplitl [H12]
  · iexists _; isplitr; swap; · iexact H12
    ipureintro; exact read_rowPieces ..
  isplitl [H13]
  · iexists _; isplitr; swap; · iexact H13
    ipureintro; exact read_rowPieces ..
  isplitl [H14]
  · iexists _; isplitr; swap; · iexact H14
    ipureintro; exact read_rowPieces ..
  isplitl [H15]
  · iexists _; isplitr; swap; · iexact H15
    ipureintro; exact read_decPieces ..
  iexists _; isplitr; swap; · iexact H16
  ipureintro; exact (read_scratch ..).trans (shapeCast_self ..)

set_option maxHeartbeats 4000000 in
/-- The body at a later point of a group: it starts from the gradient `d` the scratch holds. -/
theorem run_next (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x16x4x1x1 .f32) (harg7 : arg7.IsWhole) (arg8 : Memref sig .tc .vmem S1x16x4x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S1x16x4x1x1 .f32) (harg15 : arg15.IsWhole) (arg16 : Memref sig .tc .vmem S16x64x64 .f32) (harg16 : arg16.IsWhole) (hc0 : ¬cond0_0 i)
    (I : Blocks F) (d : Vec F S16x64x64 .f32) (E : Set ℕ) (K : PUnit → sProp 𝕄) :
    iprop(owns (c : Thread nD τ) arg2 fullShare I.q ∗ owns (c : Thread nD τ) arg3 fullShare I.k ∗ owns (c : Thread nD τ) arg4 fullShare I.u ∗ owns (c : Thread nD τ) arg5 fullShare I.w ∗ owns (c : Thread nD τ) arg6 fullShare I.a ∗ owns (c : Thread nD τ) arg7 fullShare I.g ∗ owns (c : Thread nD τ) arg8 fullShare I.s ∗ owns (c : Thread nD τ) arg9 fullShare I.o ∗ (∃ e, owns (c : Thread nD τ) arg10 fullShare e) ∗ (∃ e, owns (c : Thread nD τ) arg11 fullShare e) ∗ (∃ e, owns (c : Thread nD τ) arg12 fullShare e) ∗ (∃ e, owns (c : Thread nD τ) arg13 fullShare e) ∗ (∃ e, owns (c : Thread nD τ) arg14 fullShare e) ∗ (∃ e, owns (c : Thread nD τ) arg15 fullShare e) ∗ owns (c : Thread nD τ) arg16 fullShare d
        ∗ (iprop(owns (c : Thread nD τ) arg2 fullShare I.q ∗ owns (c : Thread nD τ) arg3 fullShare I.k ∗ owns (c : Thread nD τ) arg4 fullShare I.u ∗ owns (c : Thread nD τ) arg5 fullShare I.w ∗ owns (c : Thread nD τ) arg6 fullShare I.a ∗ owns (c : Thread nD τ) arg7 fullShare I.g ∗ owns (c : Thread nD τ) arg8 fullShare I.s ∗ owns (c : Thread nD τ) arg9 fullShare I.o ∗ owns (c : Thread nD τ) arg10 fullShare (rowBlk (dqTrip I)) ∗ owns (c : Thread nD τ) arg11 fullShare (rowBlk (dkTrip I d)) ∗ owns (c : Thread nD τ) arg12 fullShare (rowBlk (duTrip I d)) ∗ owns (c : Thread nD τ) arg13 fullShare (rowBlk (dwTrip I d)) ∗ owns (c : Thread nD τ) arg14 fullShare (rowBlk (daTrip I)) ∗ owns (c : Thread nD τ) arg15 fullShare (decBlk (dgTrip I d)) ∗ owns (c : Thread nD τ) arg16 fullShare (carry I d k0_t1_loop.trips)) -∗ K ⟨⟩))
      ⊢ wp frame (wpE (defs₀ (F := F)) Variants.none c none) E (cc0_dn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_dn_scan_bwd_eq_skeleton]; unfold cc0_dn_scan_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg16.eq_unread hf16
  sl_exec (disch := first | sl_exact hc0)
  sl_step
  simp only [st_eq (hn := le_refl _), harg2.read_unread, harg3.read_unread, harg4.read_unread, harg5.read_unread, harg6.read_unread, harg7.read_unread, harg8.read_unread, harg9.read_unread]
  simp (disch := decide) only [View.readAt_eq_ld, View.ld_unit_lit', View.readCov_unit_lit', harg16.read_unread]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro; exact read_rowPieces ..
  isplitl [H11]
  · iexists _; isplitr; swap; · iexact H11
    ipureintro; exact read_rowPieces ..
  isplitl [H12]
  · iexists _; isplitr; swap; · iexact H12
    ipureintro; exact read_rowPieces ..
  isplitl [H13]
  · iexists _; isplitr; swap; · iexact H13
    ipureintro; exact read_rowPieces ..
  isplitl [H14]
  · iexists _; isplitr; swap; · iexact H14
    ipureintro; exact read_rowPieces ..
  isplitl [H15]
  · iexists _; isplitr; swap; · iexact H15
    ipureintro; exact read_decPieces ..
  iexists _; isplitr; swap; · iexact H16
  ipureintro; exact (read_scratch ..).trans (shapeCast_self ..)

end Cert.Kernel2Ideal.Back

end
-- ==== Proof.Back.Frame.lean ====
module

public import proofs.«01_k».proof.Proof.Back.Run

@[expose] public section

set_option maxRecDepth 16384

/-! # The backward scan's launch

The pipeline's proof data over the body's run (Body.lean, Run.lean): what the scratch holds point by point, what each point leaves in the
six outputs' blocks; and the run of the whole program from it. -/

noncomputable section

namespace Cert.Kernel2Ideal.Back

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset happens at the points that are first in their group. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The blocks point `t` reads. -/
def blocks (c : Dev nD) (t : Fin cfg0.N) : Blocks F :=
  ⟨iblk m c 0 t, iblk m c 1 t, iblk m c 2 t, iblk m c 3 t, iblk m c 4 t, iblk m c 5 t, iblk m c 6 t, iblk m c 7 t⟩

/-- The state's gradient a point starts from: zero at the first point of a group, else what the point before left (`prev`). -/
def enter (n : ℕ) (prev : Vec F S16x64x64 .f32) : Vec F S16x64x64 .f32 := if n % 8 = 0 then k0_pay1 else prev

/-- What the scratch holds before point `n`. -/
def stateAt (c : Dev nD) : ℕ → Vec F S16x64x64 .f32
  | 0 => k0_pay1
  | n + 1 => if h : n < cfg0.N then carry (blocks m c ⟨n, h⟩) (enter n (stateAt c n)) k0_t1_loop.trips else stateAt c n

/-- The state's gradient point `t` starts from. -/
def entry (c : Dev nD) (t : Fin cfg0.N) : Vec F S16x64x64 .f32 := enter t.val (stateAt m c t.val)

theorem stateAt_succ (c : Dev nD) (t : Fin cfg0.N) :
    stateAt m c (t.val + 1) = carry (blocks m c t) (entry m c t) k0_t1_loop.trips := dif_pos t.isLt

theorem entry_first (c : Dev nD) (t : Fin cfg0.N) (h : t.val % 8 = 0) : entry m c t = k0_pay1 := if_pos h

theorem entry_next (c : Dev nD) (t : Fin cfg0.N) (h : ¬t.val % 8 = 0) : entry m c t = stateAt m c t.val := if_neg h

/-- The scratch operand. -/
abbrev scM0_0 : Memref sig .tc .vmem S16x64x64 .f32 := Memref.whole cc0_scratch0

/-- The kernel's own buffers when the launch starts: the scratch at anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before point `n`: at the start the scratch at anything, afterwards at `stateAt`. -/
def PhiS (c : Dev nD) : ℕ → sProp 𝕄
  | 0 => Pipeline.ΦA spec0 c
  | n + 1 => iprop(iprop(owns (c : Thread nD τ) scM0_0 fullShare (stateAt m c (n + 1))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (stateAt m c n)) ∗ (∃ r, prngReg c r)) := by
  cases n with
  | zero => exact absurd rfl hz
  | succ n => rfl

/-- The proof data of the pipeline: the arrays as the region finds them; after a point each input's buffer at its block, the
outputs at the point's blocks. -/
def dats (_ : Fin 1) (c : Dev nD) : Dat τ (Elt F) Unit ℕ (UR sig nD τ) ℕ cfg0 c where
  A w := V m c (Pipeline.arrRef spec0 w)
  after w t := match w with
    | ⟨0, _⟩ => (blocks m c t).q
    | ⟨1, _⟩ => (blocks m c t).k
    | ⟨2, _⟩ => (blocks m c t).u
    | ⟨3, _⟩ => (blocks m c t).w
    | ⟨4, _⟩ => (blocks m c t).a
    | ⟨5, _⟩ => (blocks m c t).g
    | ⟨6, _⟩ => (blocks m c t).s
    | ⟨7, _⟩ => (blocks m c t).o
    | ⟨8, _⟩ => rowBlk (dqTrip (blocks m c t))
    | ⟨9, _⟩ => rowBlk (dkTrip (blocks m c t) (entry m c t))
    | ⟨10, _⟩ => rowBlk (duTrip (blocks m c t) (entry m c t))
    | ⟨11, _⟩ => rowBlk (dwTrip (blocks m c t) (entry m c t))
    | ⟨12, _⟩ => rowBlk (daTrip (blocks m c t))
    | ⟨13, _⟩ => decBlk (dgTrip (blocks m c t) (entry m c t))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = (blocks m c t).q := by dsimp only [dats]
theorem after0_1 (c : Dev nD) (t : Fin cfg0.N) : (dats m 0 c).after 1 t = (blocks m c t).k := by dsimp only [dats]
theorem after0_2 (c : Dev nD) (t : Fin cfg0.N) : (dats m 0 c).after 2 t = (blocks m c t).u := by dsimp only [dats]
theorem after0_3 (c : Dev nD) (t : Fin cfg0.N) : (dats m 0 c).after 3 t = (blocks m c t).w := by dsimp only [dats]
theorem after0_4 (c : Dev nD) (t : Fin cfg0.N) : (dats m 0 c).after 4 t = (blocks m c t).a := by dsimp only [dats]
theorem after0_5 (c : Dev nD) (t : Fin cfg0.N) : (dats m 0 c).after 5 t = (blocks m c t).g := by dsimp only [dats]
theorem after0_6 (c : Dev nD) (t : Fin cfg0.N) : (dats m 0 c).after 6 t = (blocks m c t).s := by dsimp only [dats]
theorem after0_7 (c : Dev nD) (t : Fin cfg0.N) : (dats m 0 c).after 7 t = (blocks m c t).o := by dsimp only [dats]
theorem after0_8 (c : Dev nD) (t : Fin cfg0.N) : (dats m 0 c).after 8 t = rowBlk (dqTrip (blocks m c t)) := by dsimp only [dats]
theorem after0_9 (c : Dev nD) (t : Fin cfg0.N) : (dats m 0 c).after 9 t = rowBlk (dkTrip (blocks m c t) (entry m c t)) := by dsimp only [dats]
theorem after0_10 (c : Dev nD) (t : Fin cfg0.N) : (dats m 0 c).after 10 t = rowBlk (duTrip (blocks m c t) (entry m c t)) := by dsimp only [dats]
theorem after0_11 (c : Dev nD) (t : Fin cfg0.N) : (dats m 0 c).after 11 t = rowBlk (dwTrip (blocks m c t) (entry m c t)) := by dsimp only [dats]
theorem after0_12 (c : Dev nD) (t : Fin cfg0.N) : (dats m 0 c).after 12 t = rowBlk (daTrip (blocks m c t)) := by dsimp only [dats]
theorem after0_13 (c : Dev nD) (t : Fin cfg0.N) : (dats m 0 c).after 13 t = decBlk (dgTrip (blocks m c t) (entry m c t)) := by dsimp only [dats]

theorem before0_0 (c : Dev nD) (t : Fin cfg0.N) (d) : (dats m 0 c).before 0 t d = (blocks m c t).q :=
  before0_0_of m (dats m 0 c) (A_eq m c 0) (after0_0 m c) t d
theorem before0_1 (c : Dev nD) (t : Fin cfg0.N) (d) : (dats m 0 c).before 1 t d = (blocks m c t).k :=
  before0_1_of m (dats m 0 c) (A_eq m c 1) (after0_1 m c) t d
theorem before0_2 (c : Dev nD) (t : Fin cfg0.N) (d) : (dats m 0 c).before 2 t d = (blocks m c t).u :=
  before0_2_of m (dats m 0 c) (A_eq m c 2) (after0_2 m c) t d
theorem before0_3 (c : Dev nD) (t : Fin cfg0.N) (d) : (dats m 0 c).before 3 t d = (blocks m c t).w :=
  before0_3_of m (dats m 0 c) (A_eq m c 3) (after0_3 m c) t d
theorem before0_4 (c : Dev nD) (t : Fin cfg0.N) (d) : (dats m 0 c).before 4 t d = (blocks m c t).a :=
  before0_4_of m (dats m 0 c) (A_eq m c 4) (after0_4 m c) t d
theorem before0_5 (c : Dev nD) (t : Fin cfg0.N) (d) : (dats m 0 c).before 5 t d = (blocks m c t).g :=
  before0_5_of m (dats m 0 c) (A_eq m c 5) (after0_5 m c) t d
theorem before0_6 (c : Dev nD) (t : Fin cfg0.N) (d) : (dats m 0 c).before 6 t d = (blocks m c t).s :=
  before0_6_of m (dats m 0 c) (A_eq m c 6) (after0_6 m c) t d
theorem before0_7 (c : Dev nD) (t : Fin cfg0.N) (d) : (dats m 0 c).before 7 t d = (blocks m c t).o :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 6400000 in
/-- The body at a point: the first point of a group starts from zero, a later one from what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) from rfl, PhiS_pos m c _ (Nat.succ_ne_zero _), stateAt_succ,
    show (dats m 0 c).Φ t.castSucc = PhiS m c t.val from rfl]
  by_cases h0 : t.val % 8 = 0
  · rw [entry_first m c t h0]
    have hΦ : PhiS m c t.val ⊢ iprop(iprop((∃ d, owns (c : Thread nD τ) scM0_0 fullShare d)) ∗ (∃ r, prngReg c r)) := by
      by_cases hz : t.val = 0
      · rw [PhiS_zero m c _ hz, PhiA0_eq]
      · rw [PhiS_pos m c _ hz]
        iintro ⟨HS0, Hg⟩
        isplitl [HS0]
        · iexists _; iexact HS0
        iexact Hg
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    ihave HP := hΦ $$ HP
    icases HP with ⟨HS0, Hg⟩
    iapply (run_first c (grid0.coords t) _ _ _ _ _ _ _ _ _ _ _ _ _ _ _ _ _ _ _ _ _ _ _ _ _ _ _ _ _ _ ((hcond0_0 t).mpr h0) (blocks m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [entry_next m c t h0, PhiS_pos m c _ (fun hz => h0 (by rw [hz]))]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_next c (grid0.coords t) _ _ _ _ _ _ _ _ _ _ _ _ _ _ _ _ _ _ _ _ _ _ _ _ _ _ _ _ _ _ (fun h => h0 ((hcond0_0 t).mp h)) (blocks m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, H8, H9, H10, H11, H12, H13, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

/-- The pipeline's obligation: the body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by have : cfg0.N = 16 := N_0; omega), PhiA0_eq]
  iintro ⟨HS0, Hg⟩
  isplitl [HS0]
  · iexists _; iexact HS0
  iexact Hg

set_option backward.isDefEq.respectTransparency.types false in
/-- The launch: every execution ends with the arrays the pipeline's data name, and every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends with the arguments unchanged and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel2Ideal.Back

end
-- ==== Proof.Back.Spec.lean ====
module

public import proofs.«01_k».proof.Proof.Scan.Spec

@[expose] public section

/-! # The gradient of the scan

For one (batch, head) pair the gradient runs over the 32 chunks from the last to the first, carrying the gradient `D` of the
loss with respect to the state after the chunk.  A chunk has the matrices `q, k, u, w, a`, the log-decay `g`, the state `S` it
started from, and the cotangent `o` of its answer.  The programs' arrays are compared with these functions, index by index. -/

noncomputable section

namespace Cert.Recurrence

open Idealize.ShloMosaic

/-- What the gradient of one chunk is computed from. -/
structure Chunk where
  q : Mat
  k : Mat
  u : Mat
  w : Mat
  a : Mat
  g : EReal
  S : Mat
  o : Mat

namespace Chunk
variable (C : Chunk) (D : Mat)

/-- The gradient of the queries: the cotangent against the state. -/
def gradQ : Mat := fun s d => ∑ j, C.o s j * C.S d j

/-- The gradient of the keys: what the chunk wrote against the state's gradient. -/
def gradK : Mat := fun s d => ∑ j, delta C.u C.w C.S s j * D d j

/-- The gradient of the values, which is that of what the chunk wrote. -/
def gradU : Mat := fun s j => (∑ d, C.k s d * D d j) + ∑ t, C.a t s * C.o t j

/-- The gradient of the rows that read the state. -/
def gradW : Mat := fun s d => ∑ j, -C.gradU D s j * C.S d j

/-- The gradient of the matrix within the chunk. -/
def gradA : Mat := fun s t => ∑ j, C.o s j * delta C.u C.w C.S t j

/-- The gradient of the log-decay. -/
def gradG : EReal := (∑ i, ∑ j, C.S i j * D i j) * Ideal.exp C.g

/-- The gradient of the state the chunk started from. -/
def gradS : Mat := fun i j => (D i j * Ideal.exp C.g + ∑ s, C.q s i * C.o s j) + ∑ s, C.w s i * -C.gradU D s j

end Chunk

/-- The arrays the gradient is computed from. -/
structure Arrays where
  q : Rows
  k : Rows
  u : Rows
  w : Rows
  a : Rows
  g : Gains
  S : Rows
  o : Rows

namespace Arrays
variable (I : Arrays)

/-- The chunk `n` of one pair. -/
def chunk (b : Fin 4) (h : Fin 8) (n : Fin 32) : Chunk :=
  ⟨at_ I.q b h n, at_ I.k b h n, at_ I.u b h n, at_ I.w b h n, at_ I.a b h n, I.g (ix3 b h n), at_ I.S b h n, at_ I.o b h n⟩

/-- The state's gradient once the last `t` chunks are done, from zero. -/
def back (b : Fin 4) (h : Fin 8) : ℕ → Mat
  | 0 => fun _ _ => 0
  | t + 1 => if ht : t < 32 then (I.chunk b h ⟨31 - t, by omega⟩).gradS (back b h t) else back b h t

theorem back_succ (b : Fin 4) (h : Fin 8) (t : ℕ) (ht : t < 32) :
    I.back b h (t + 1) = (I.chunk b h ⟨31 - t, by omega⟩).gradS (I.back b h t) := dif_pos ht

/-- The gradient of the state after chunk `n`. -/
def after (b : Fin 4) (h : Fin 8) (n : Fin 32) : Mat := I.back b h (31 - n.val)

/-- The gradients of the arrays. -/
def gradQ : Rows := fun x => (I.chunk (x 0) (x 1) (x 2)).gradQ (x 3) (x 4)
def gradK : Rows := fun x => (I.chunk (x 0) (x 1) (x 2)).gradK (I.after (x 0) (x 1) (x 2)) (x 3) (x 4)
def gradU : Rows := fun x => (I.chunk (x 0) (x 1) (x 2)).gradU (I.after (x 0) (x 1) (x 2)) (x 3) (x 4)
def gradW : Rows := fun x => (I.chunk (x 0) (x 1) (x 2)).gradW (I.after (x 0) (x 1) (x 2)) (x 3) (x 4)
def gradA : Rows := fun x => (I.chunk (x 0) (x 1) (x 2)).gradA (x 3) (x 4)
def gradG : Gains := fun x => (I.chunk (x 0) (x 1) (x 2)).gradG (I.after (x 0) (x 1) (x 2))

end Arrays

/-- The batch entry of entry `e` of group `g`. -/
def bAt (g : Fin 2) (e : Fin 16) : Fin 4 := ⟨g.val * 2 + e.val / 4 % 2, by omega⟩

/-- Matrices by group and entry, as the launch's windows find the saved states. -/
def entries (X : Rows) : Vec Ideal (⟨5, ![2, 16, 32, 64, 64]⟩ : Shape) .f32 := fun y =>
  X (ix5 (bAt (y 0) (y 1)) (hOf (y 1)) (y 2) (y 3) (y 4))

/-- Numbers by group and entry. -/
def gains (G : Gains) : Vec Ideal (⟨5, ![2, 16, 32, 1, 1]⟩ : Shape) .f32 := fun y =>
  G (ix3 (bAt (y 0) (y 1)) (hOf (y 1)) (y 2))

end Cert.Recurrence

end
-- ==== Proof.Back.Chunk.lean ====
module

public import proofs.«01_k».proof.Proof.Back.Body
public import proofs.«01_k».proof.Proof.Back.Spec
public import Idealize.ShloMosaic.Lib.Pointwise

@[expose] public section

set_option maxRecDepth 16384

/-! # One trip of the backward scan, at an index

What a trip computes for one (batch, head) pair is the gradient of that pair's chunk. -/

noncomputable section

namespace Cert.Kernel2Ideal.Back

open Cert.Kernel2Ideal Cert.Kernel2Ideal.Gen
open Idealize.ShloMosaic Idealize.ShloMosaic.TcCoe Idealize.ShloMosaic.Tactic
open Cert.Recurrence

/-- Entry `e` of a stack of matrices. -/
abbrev ent (X : Vec Ideal S16x64x64 .f32) (e : Fin 16) : Mat := fun s d => X (ix3 e s d)

/-- The chunk a trip works on, entry `e`, by what the trip has loaded. -/
abbrev loaded (q k u w a s : Vec Ideal S16x64x64 .f32) (o : Vec Ideal S1x8x64x128 .f32) (g : Vec Ideal S1x16x1x1x1 .f32) (e : Fin 16) : Chunk :=
  ⟨ent q e, ent k e, ent u e, ent w e, ent a e, g (ix5 0 e 0 0 0), ent s e, ent (k0_pay13 o) e⟩

section
variable (D q k u w a s : Vec Ideal S16x64x64 .f32) (o : Vec Ideal S1x8x64x128 .f32) (g : Vec Ideal S1x16x1x1x1 .f32) (e : Fin 16)

theorem delta_at (i j : Fin 64) : k0_pay11 (F := Ideal) s u w (ix3 e i j) = delta (ent u e) (ent w e) (ent s e) i j := by
  unfold delta
  pointwise [k0_pay11]

theorem dq_at (i j : Fin 64) : k0_pay20 s o (ix3 e i j) = (loaded q k u w a s o g e).gradQ i j := by
  unfold k0_pay20 Chunk.gradQ
  generalize hx : k0_pay13 o = x
  pointwise
  simp only [hx]

theorem dk_at (i j : Fin 64) : k0_pay16 D s u w (ix3 e i j) = (loaded q k u w a s o g e).gradK (ent D e) i j := by
  unfold k0_pay16 Chunk.gradK
  pointwise [k0_pay15, delta_at]

theorem du_at (i j : Fin 64) : k0_pay19 D k a o (ix3 e i j) = (loaded q k u w a s o g e).gradU (ent D e) i j := by
  unfold k0_pay19 Chunk.gradU
  generalize hx : k0_pay13 o = x
  pointwise [k0_pay15]
  simp only [hx]

theorem neg_at (i j : Fin 64) : k0_pay22 D k a o (ix3 e i j) = -(loaded q k u w a s o g e).gradU (ent D e) i j := by
  unfold k0_pay22
  refine Eq.trans ?_ (zero_sub _)
  pointwise [du_at D q k u w a s o g e]

theorem da_at (i j : Fin 64) : k0_pay18 s u w o (ix3 e i j) = (loaded q k u w a s o g e).gradA i j := by
  unfold k0_pay18 Chunk.gradA
  generalize hx : k0_pay13 o = x
  pointwise [delta_at]
  simp only [hx]

theorem dg_at : k0_pay17 D s g (ix3 e 0 0) = (loaded q k u w a s o g e).gradG (ent D e) := by
  unfold k0_pay17 Chunk.gradG
  pointwise [k0_pay12, k0_pay14]

theorem ds_at (i j : Fin 64) : k0_pay25 w (k0_pay21 D q g o) (k0_pay22 D k a o) (ix3 e i j) = (loaded q k u w a s o g e).gradS (ent D e) i j := by
  unfold k0_pay25 k0_pay21 Chunk.gradS
  generalize hx : k0_pay13 o = x
  pointwise [k0_pay12, k0_pay14, neg_at D q k u w a s o g e]
  simp only [hx]

theorem dw_at (r : Fin 8) (i : Fin 64) (j : Fin 128) (e : Fin 16) (j' : Fin 64)
    (he : e.val = r.val + 8 * (j.val / 64)) (hj : j'.val = j.val % 64) :
    k0_pay29 (k0_pay23 D k a o) (k0_pay24 s) (ix4 0 r i j) = (loaded q k u w a s o g e).gradW (ent D e) i j' := by
  unfold Chunk.gradW
  pointwise [k0_pay29, k0_pay23, k0_pay24, neg_at D q k u w a s o g]
  split
  · have h1 : (⟨r.val, by omega⟩ : Fin 16) = e := Fin.ext (by show r.val = e.val; omega)
    have h2 : (⟨j.val, by omega⟩ : Fin 64) = j' := Fin.ext (by show j.val = j'.val; omega)
    rw [h1, h2]
  · have h1 : (⟨8 + r.val, by omega⟩ : Fin 16) = e := Fin.ext (by show 8 + r.val = e.val; omega)
    have h2 : (⟨j.val - 64, by omega⟩ : Fin 64) = j' := Fin.ext (by show j.val - 64 = j'.val; omega)
    rw [h1, h2]
end

theorem pack_at (v : Vec Ideal S16x64x64 .f32) (r : Fin 8) (i : Fin 64) (j : Fin 128) (e : Fin 16) (j' : Fin 64)
    (he : e.val = r.val + 8 * (j.val / 64)) (hj : j'.val = j.val % 64) :
    k0_pay26 (F := Ideal) v (ix4 0 r i j) = v (ix3 e i j') := by
  pointwise [k0_pay26]
  split
  · have h1 : (⟨r.val, by omega⟩ : Fin 16) = e := Fin.ext (by show r.val = e.val; omega)
    have h2 : (⟨j.val, by omega⟩ : Fin 64) = j' := Fin.ext (by show j.val = j'.val; omega)
    rw [h1, h2]
  · have h1 : (⟨8 + r.val, by omega⟩ : Fin 16) = e := Fin.ext (by show 8 + r.val = e.val; omega)
    have h2 : (⟨j.val - 64, by omega⟩ : Fin 64) = j' := Fin.ext (by show j.val - 64 = j'.val; omega)
    rw [h1, h2]

theorem pack_k (v : Vec Ideal S16x64x64 .f32) : k0_pay27 (F := Ideal) v = k0_pay26 v := rfl
theorem pack_u (v : Vec Ideal S16x64x64 .f32) : k0_pay28 (F := Ideal) v = k0_pay26 v := rfl
theorem pack_a (v : Vec Ideal S16x64x64 .f32) : k0_pay2 (F := Ideal) (k0_pay30 v) = k0_pay26 v := rfl

theorem unpack_k (v : Vec Ideal S1x8x64x128 .f32) : k0_pay7 (F := Ideal) v = k0_pay6 v := rfl
theorem unpack_u (v : Vec Ideal S1x8x64x128 .f32) : k0_pay8 (F := Ideal) v = k0_pay6 v := rfl
theorem unpack_w (v : Vec Ideal S1x8x64x128 .f32) : k0_pay9 (F := Ideal) v = k0_pay6 v := rfl
theorem unpack_a (v : Vec Ideal S1x8x64x128 .f32) : k0_pay10 (F := Ideal) v = k0_pay6 v := rfl
theorem unpack_o (v : Vec Ideal S1x8x64x128 .f32) : k0_pay13 (F := Ideal) v = k0_pay6 v := rfl

theorem saved_slot (v : Vec Ideal S1x16x1x64x64 .f32) (e : Fin 16) (i j : Fin 64) :
    k0_pay5 (F := Ideal) v (ix3 e i j) = v (ix5 0 e 0 i j) := by
  pointwise [k0_pay5]

theorem gain_slot (v : Vec Ideal S16x1x1 .f32) (e : Fin 16) : k0_pay3 (F := Ideal) v (ix5 0 e 0 0 0) = v (ix3 e 0 0) := by
  pointwise [k0_pay3]

theorem zero_at (e : Fin 16) (i j : Fin 64) : (k0_pay1 (F := Ideal)) (ix3 e i j) = 0 := by
  pointwise [k0_pay1]

end Cert.Kernel2Ideal.Back

end
-- ==== Proof.Back.Value.lean ====
module

public import proofs.«01_k».proof.Proof.Back.Frame
public import proofs.«01_k».proof.Proof.Back.Chunk
public import Idealize.ShloMosaic.Lib.Pipeline.ValueKit
public import Idealize.ShloMosaic.Lib.Claim

@[expose] public section

set_option maxRecDepth 16384

/-! # What the backward scan computes

The blocks of a point at an index are the arguments at that point's batch entries, heads and chunks; the carried
gradient is the recurrence's; so are the six arrays the launch leaves. -/

noncomputable section

namespace Cert.Kernel2Ideal.Back

open Cert.Kernel2Ideal Cert.Kernel2Ideal.Gen
open Idealize.ShloMosaic Idealize.ShloMosaic.TcCoe Idealize.ShloMosaic.Tactic
open Idealize.SL.Sem
open Cert.Recurrence

variable (m : (ℓ : Loc nD τ sig) → Buf (Elt Ideal) ℓ)

/-- The arguments. -/
abbrev args (c : Dev nD) : Arrays :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)⟩

/-- The batch entry of entry `e` at point `t`. -/
def bOf (t : Fin 16) (e : Fin 16) : Fin 4 := ⟨t.val / 8 * 2 + e.val / 4 % 2, by omega⟩
/-- The chunk of point `t`'s trip `k`: the points and the trips go from the last chunk to the first. -/
def nOf (t : Fin 16) (k : Fin 4) : Fin 32 := ⟨31 - (t.val % 8 * 4 + k.val), by omega⟩

theorem V_q (c : Dev nD) : V m c main_v22 = packed (args m c).q := by
  entry_read; funext y; pointwise; rfl
theorem V_k (c : Dev nD) : V m c main_v23 = packed (args m c).k := by
  entry_read; funext y; pointwise; rfl
theorem V_u (c : Dev nD) : V m c main_v24 = packed (args m c).u := by
  entry_read; funext y; pointwise; rfl
theorem V_w (c : Dev nD) : V m c main_v25 = packed (args m c).w := by
  entry_read; funext y; pointwise; rfl
theorem V_a (c : Dev nD) : V m c main_v26 = packed (args m c).a := by
  entry_read; funext y; pointwise; rfl
theorem V_o (c : Dev nD) : V m c main_v27 = packed (args m c).o := by
  entry_read; funext y; pointwise; rfl
theorem V_s (c : Dev nD) : V m c main_v21 = entries (args m c).S := by
  entry_read; funext y; pointwise; rfl

theorem V_g (c : Dev nD) (g : Fin 2) (e : Fin 16) (n : Fin 32) :
    (V m c main_v30 : Vec Ideal S2x16x32x1x1 .f32) (ix5 g e n 0 0) = (args m c).g (ix3 (bAt g e) (hOf e) n) := by
  entry_read; pointwise; rfl

/-- Where the windows of rows stand. -/
theorem index_rows : ∀ t : Fin grid0.N,
    cc0_transform_0 (grid0.coords t) = ![t.val / 8, 0, 7 - t.val % 8, 0] := by decide +kernel

/-- Where the windows of numbers and of states stand. -/
theorem index_gains : ∀ t : Fin grid0.N,
    cc0_transform_5 (grid0.coords t) = ![t.val / 8, 0, 7 - t.val % 8, 0, 0] := by decide +kernel

section
variable (X : Rows)

/-- The point's block of a packed argument. -/
def block (t : Fin 16) : Vec Ideal S1x8x256x128 .f32 := fun y =>
  packed X (ix4 (⟨t.val / 8, by omega⟩ : Fin 2) (y 1)
    (⟨(7 - t.val % 8) * 256 + (y 2).val, by have := (y 2).isLt; simp at *; omega⟩ : Fin 2048) (y 3))

theorem unpack (t : Fin 16) (k : Trip) (k' : Fin 4) (hk : k.val = k'.val) (e : Fin 16) (i j : Fin 64) :
    k0_pay6 (rows (block X t) k) (ix3 e i j) = at_ X (bOf t e) (hOf e) (nOf t k') i j := by
  have h2 := k0_off2_eq k
  have a1 : k0_off2 k 1 = 0 := congrFun h2 1
  have a2 : k0_off2 k 2 = 192 - 64 * k.val := congrFun h2 2
  have a3 : k0_off2 k 3 = 0 := congrFun h2 3
  unfold at_
  pointwise [k0_pay6, rows, block, packed]
  split <;>
  · congr 1; congr 1 <;> apply Fin.ext <;> dsimp only [bOf, hOf, nOf] <;> omega

/-- A point's block of a packed array, where the window stands at `emb`. -/
theorem read_block (t : Fin 16) (emb : S1x8x256x128.Idx → S2x8x2048x128.Idx)
    (h : ∀ y (a : Fin 4), (emb y a).val = (![t.val / 8, 0, 7 - t.val % 8, 0] : Fin 4 → ℕ) a * S1x8x256x128.size a + 1 * (y a).val)
    (y : S1x8x256x128.Idx) : packed X (emb y) = block X t y := by
  unfold block
  congr 1
  funext a
  apply Fin.ext
  rw [h]
  match a with
  | 0 => show t.val / 8 * 1 + 1 * (y 0).val = t.val / 8; have h0 : (y 0).val < 1 := (y 0).isLt; omega
  | 1 => show 0 * 8 + 1 * (y 1).val = (y 1).val; omega
  | 2 => show (7 - t.val % 8) * 256 + 1 * (y 2).val = (7 - t.val % 8) * 256 + (y 2).val; omega
  | 3 => show 0 * 128 + 1 * (y 3).val = (y 3).val; omega
end

theorem place (t : Fin 16) (y : S1x8x256x128.Idx) (a : Fin 4) :
    cc0_transform_0 (grid0.coords t) a * S1x8x256x128.size a + 1 * (y a).val
      = (![t.val / 8, 0, 7 - t.val % 8, 0] : Fin 4 → ℕ) a * S1x8x256x128.size a + 1 * (y a).val :=
  congrArg (fun n => n * S1x8x256x128.size a + 1 * (y a).val) (congrFun (index_rows t) a)

section
variable (c : Dev nD) (t : Fin 16) (A : (b : Ref sig .tc) → Buf (Elt Ideal) ((c : Thread nD τ).loc b))

theorem block0 (X : Rows) (hA : A main_v22 = packed X) :
    ((cfg0.win 0).blk t).view.read (Elt Ideal) (A (Pipeline.arrRef spec0 0)) = block X t := by
  funext y
  show A main_v22 ((win0_0.blk t).view.emb y) = _
  rw [hA]
  exact read_block X t _ (fun y a => place t y a) y

theorem block1 (X : Rows) (hA : A main_v23 = packed X) :
    ((cfg0.win 1).blk t).view.read (Elt Ideal) (A (Pipeline.arrRef spec0 1)) = block X t := by
  funext y
  show A main_v23 ((win0_1.blk t).view.emb y) = _
  rw [hA]
  exact read_block X t _ (fun y a => place t y a) y

theorem block2 (X : Rows) (hA : A main_v24 = packed X) :
    ((cfg0.win 2).blk t).view.read (Elt Ideal) (A (Pipeline.arrRef spec0 2)) = block X t := by
  funext y
  show A main_v24 ((win0_2.blk t).view.emb y) = _
  rw [hA]
  exact read_block X t _ (fun y a => place t y a) y

theorem block3 (X : Rows) (hA : A main_v25 = packed X) :
    ((cfg0.win 3).blk t).view.read (Elt Ideal) (A (Pipeline.arrRef spec0 3)) = block X t := by
  funext y
  show A main_v25 ((win0_3.blk t).view.emb y) = _
  rw [hA]
  exact read_block X t _ (fun y a => place t y a) y

theorem block4 (X : Rows) (hA : A main_v26 = packed X) :
    ((cfg0.win 4).blk t).view.read (Elt Ideal) (A (Pipeline.arrRef spec0 4)) = block X t := by
  funext y
  show A main_v26 ((win0_4.blk t).view.emb y) = _
  rw [hA]
  exact read_block X t _ (fun y a => place t y a) y

theorem block7 (X : Rows) (hA : A main_v27 = packed X) :
    ((cfg0.win 7).blk t).view.read (Elt Ideal) (A (Pipeline.arrRef spec0 7)) = block X t := by
  funext y
  show A main_v27 ((win0_7.blk t).view.emb y) = _
  rw [hA]
  exact read_block X t _ (fun y a => place t y a) y

theorem block5 (G : Gains) (hA : ∀ g e n, (A main_v30 : Vec Ideal S2x16x32x1x1 .f32) (ix5 g e n 0 0) = G (ix3 (bAt g e) (hOf e) n))
    (k : Trip) (k' : Fin 4) (hk : k.val = k'.val) (e : Fin 16) :
    decay (((cfg0.win 5).blk t).view.read (Elt Ideal) (A (Pipeline.arrRef spec0 5))) k (ix5 0 e 0 0 0) = G (ix3 (bOf t e) (hOf e) (nOf t k')) := by
  have e5 := index_gains t
  have h3 := k0_off3_eq k
  refine Eq.trans ?_ ((hA (⟨t.val / 8, by omega⟩ : Fin 2) e (nOf t k')).trans (congrArg G rfl))
  show A main_v30 ((win0_5.blk t).view.emb ((Rect.unit (s := S1x16x4x1x1) (k0_off3 k) S1x16x1x1x1.size (k0_off3_inb k)).emb (ix5 0 e 0 0 0))) = _
  congr 1
  funext a
  apply Fin.ext
  show cc0_transform_5 (grid0.coords t) a * S1x16x4x1x1.size a + 1 * (k0_off3 k a + 1 * (ix5 (0 : Fin 1) e (0 : Fin 1) (0 : Fin 1) (0 : Fin 1) a).val) = _
  have e5a : cc0_transform_5 (grid0.coords t) a = (![t.val / 8, 0, 7 - t.val % 8, 0, 0] : Fin 5 → ℕ) a := congrFun e5 a
  rw [e5a, h3]
  match a with
  | 0 => show t.val / 8 * 1 + 1 * (0 + 1 * 0) = t.val / 8; omega
  | 1 => show 0 * 16 + 1 * (0 + 1 * e.val) = e.val; omega
  | 2 => show (7 - t.val % 8) * 4 + 1 * (3 - k.val + 1 * 0) = 31 - (t.val % 8 * 4 + k'.val); omega
  | 3 => rfl
  | 4 => rfl

theorem block6 (X : Rows) (hA : A main_v21 = entries X) (k : Trip) (k' : Fin 4) (hk : k.val = k'.val) (e : Fin 16) (i j : Fin 64) :
    savedOf (((cfg0.win 6).blk t).view.read (Elt Ideal) (A (Pipeline.arrRef spec0 6))) k (ix5 0 e 0 i j)
      = at_ X (bOf t e) (hOf e) (nOf t k') i j := by
  have e5 := index_gains t
  have h3 := k0_off1_eq k
  show A main_v21 ((win0_6.blk t).view.emb ((Rect.unit (s := S1x16x4x64x64) (k0_off1 k) S1x16x1x64x64.size (k0_off1_inb k)).emb (ix5 0 e 0 i j))) = _
  rw [hA]
  refine (congrArg (entries X) ?_ : _ = entries X (ix5 (⟨t.val / 8, by omega⟩ : Fin 2) e (nOf t k') i j))
  funext a
  apply Fin.ext
  show cc0_transform_5 (grid0.coords t) a * S1x16x4x64x64.size a + 1 * (k0_off1 k a + 1 * (ix5 (0 : Fin 1) e (0 : Fin 1) i j a).val) = _
  have e5a : cc0_transform_5 (grid0.coords t) a = (![t.val / 8, 0, 7 - t.val % 8, 0, 0] : Fin 5 → ℕ) a := congrFun e5 a
  rw [e5a, h3]
  match a with
  | 0 => show t.val / 8 * 1 + 1 * (0 + 1 * 0) = t.val / 8; omega
  | 1 => show 0 * 16 + 1 * (0 + 1 * e.val) = e.val; omega
  | 2 => show (7 - t.val % 8) * 4 + 1 * (3 - k.val + 1 * 0) = 31 - (t.val % 8 * 4 + k'.val); omega
  | 3 => show 0 * 64 + 1 * (0 + 1 * i.val) = i.val; omega
  | 4 => show 0 * 64 + 1 * (0 + 1 * j.val) = j.val; omega
end

theorem blocks_q (c : Dev nD) (t : Fin 16) : (blocks m c t).q = block (args m c).q t := by
  show iblk m c 0 t = _
  unfold iblk; exact block0 c t (V m c) _ (V_q m c)
theorem blocks_k (c : Dev nD) (t : Fin 16) : (blocks m c t).k = block (args m c).k t := by
  show iblk m c 1 t = _
  unfold iblk; exact block1 c t (V m c) _ (V_k m c)
theorem blocks_u (c : Dev nD) (t : Fin 16) : (blocks m c t).u = block (args m c).u t := by
  show iblk m c 2 t = _
  unfold iblk; exact block2 c t (V m c) _ (V_u m c)
theorem blocks_w (c : Dev nD) (t : Fin 16) : (blocks m c t).w = block (args m c).w t := by
  show iblk m c 3 t = _
  unfold iblk; exact block3 c t (V m c) _ (V_w m c)
theorem blocks_a (c : Dev nD) (t : Fin 16) : (blocks m c t).a = block (args m c).a t := by
  show iblk m c 4 t = _
  unfold iblk; exact block4 c t (V m c) _ (V_a m c)
theorem blocks_o (c : Dev nD) (t : Fin 16) : (blocks m c t).o = block (args m c).o t := by
  show iblk m c 7 t = _
  unfold iblk; exact block7 c t (V m c) _ (V_o m c)

theorem blocks_g (c : Dev nD) (t : Fin 16) (k : Trip) (k' : Fin 4) (hk : k.val = k'.val) (e : Fin 16) :
    decay (blocks m c t).g k (ix5 0 e 0 0 0) = (args m c).g (ix3 (bOf t e) (hOf e) (nOf t k')) := by
  show decay (iblk m c 5 t) k _ = _
  unfold iblk; exact block5 c t (V m c) _ (V_g m c) k k' hk e

theorem blocks_s (c : Dev nD) (t : Fin 16) (k : Trip) (k' : Fin 4) (hk : k.val = k'.val) (e : Fin 16) (i j : Fin 64) :
    savedOf (blocks m c t).s k (ix5 0 e 0 i j) = at_ (args m c).S (bOf t e) (hOf e) (nOf t k') i j := by
  show savedOf (iblk m c 6 t) k _ = _
  unfold iblk; exact block6 c t (V m c) _ (V_s m c) k k' hk e i j

/-- What a trip has loaded. -/
abbrev tripChunk (B : Blocks Ideal) (k : Trip) (e : Fin 16) : Chunk :=
  loaded (k0_pay6 (rows B.q k)) (k0_pay7 (rows B.k k)) (k0_pay8 (rows B.u k)) (k0_pay9 (rows B.w k)) (k0_pay10 (rows B.a k))
    (k0_pay5 (savedOf B.s k)) (rows B.o k) (decay B.g k) e

/-- It is the recurrence's chunk. -/
theorem tripChunk_eq (c : Dev nD) (t : Fin 16) (k : Trip) (k' : Fin 4) (hk : k.val = k'.val) (e : Fin 16) :
    tripChunk (blocks m c t) k e = (args m c).chunk (bOf t e) (hOf e) (nOf t k') := by
  unfold tripChunk loaded Arrays.chunk
  rw [unpack_k, unpack_u, unpack_w, unpack_a, unpack_o, blocks_q, blocks_k, blocks_u, blocks_w, blocks_a, blocks_o, blocks_g m c t k k' hk e]
  have h : ∀ X : Rows, ent (k0_pay6 (rows (block X t) k)) e = at_ X (bOf t e) (hOf e) (nOf t k') :=
    fun X => funext fun i => funext fun j => unpack X t k k' hk e i j
  have hs : ent (k0_pay5 (savedOf (blocks m c t).s k)) e = at_ (args m c).S (bOf t e) (hOf e) (nOf t k') :=
    funext fun i => funext fun j => (saved_slot _ e i j).trans (blocks_s m c t k k' hk e i j)
  rw [h, h, h, h, h, h, hs]

/-! ## The carried gradient -/

theorem carry_at (c : Dev nD) (t : Fin 16) (d : Vec Ideal S16x64x64 .f32)
    (hd : ∀ e, ent d e = (args m c).back (bOf t e) (hOf e) (t.val % 8 * 4)) (n : ℕ) (hn : n ≤ 4) (e : Fin 16) :
    ent (carry (blocks m c t) d n) e = (args m c).back (bOf t e) (hOf e) (t.val % 8 * 4 + n) := by
  induction n with
  | zero => exact hd e
  | succ n ih =>
    have hlt : n < k0_t1_loop.trips := by rw [trips_eq]; omega
    rw [carry_succ _ _ n hlt]
    unfold nextState
    have hb := (args m c).back_succ (bOf t e) (hOf e) (t.val % 8 * 4 + n) (by omega)
    refine Eq.trans ?_ hb.symm
    refine (funext fun i => funext fun j => ds_at _ _ (k0_pay7 (rows (blocks m c t).k ⟨n, hlt⟩)) (k0_pay8 (rows (blocks m c t).u ⟨n, hlt⟩)) _ _
      (k0_pay5 (savedOf (blocks m c t).s ⟨n, hlt⟩)) _ _ e i j).trans ?_
    rw [ih (by omega)]
    exact congrArg (fun C : Chunk => C.gradS _) (tripChunk_eq m c t ⟨n, hlt⟩ ⟨n, by omega⟩ rfl e)

theorem stateAt_at (c : Dev nD) (n : ℕ) (hn : n < 16) (e : Fin 16) :
    ent (enter n (stateAt m c n)) e = (args m c).back (bOf ⟨n, hn⟩ e) (hOf e) (n % 8 * 4) := by
  have hzero : ent (k0_pay1 (F := Ideal)) e = fun _ _ => 0 := funext fun i => funext fun j => zero_at e i j
  induction n generalizing e with
  | zero => exact hzero
  | succ n ih =>
    by_cases hz : (n + 1) % 8 = 0
    · unfold enter
      rw [if_pos hz, hzero, hz]
      rfl
    · unfold enter
      rw [if_neg hz]
      have hN : n < 16 := by omega
      rw [stateAt_succ m c (⟨n, hN⟩ : Fin 16)]
      have hb : bOf ⟨n, hN⟩ e = bOf ⟨n + 1, hn⟩ e := Fin.ext (by dsimp only [bOf]; omega)
      have hm : n % 8 * 4 + 4 = (n + 1) % 8 * 4 := by omega
      have key := carry_at m c ⟨n, hN⟩ (entry m c (⟨n, hN⟩ : Fin 16))
        (fun e => ih hN e (funext fun i => funext fun j => zero_at e i j)) 4 le_rfl e
      rw [trips_eq, key, hb]
      show Arrays.back _ _ _ (n % 8 * 4 + 4) = _
      rw [hm]

theorem entry_at (c : Dev nD) (t : Fin 16) (e : Fin 16) :
    ent (entry m c t) e = (args m c).back (bOf t e) (hOf e) (t.val % 8 * 4) := stateAt_at m c t.val t.isLt e

/-- The gradient a trip starts from is that of the state after its chunk. -/
theorem trip_at (c : Dev nD) (t : Fin 16) (k : Trip) (k' : Fin 4) (hk : k.val = k'.val) (e : Fin 16) :
    ent (carry (blocks m c t) (entry m c t) k) e = (args m c).after (bOf t e) (hOf e) (nOf t k') := by
  rw [carry_at m c t _ (entry_at m c t) k.val (by omega) e]
  unfold Arrays.after
  congr 1
  show t.val % 8 * 4 + k.val = 31 - (31 - (t.val % 8 * 4 + k'.val))
  omega

/-! ## The arrays the launch leaves -/

/-- A block of rows is the point's block of a packed array when each trip's rows are that array's, entry by entry. -/
theorem rows_at (f : Trip → Vec Ideal S1x8x64x128 .f32) (X : Rows) (t : Fin 16)
    (hf : ∀ (k : Trip) (k' : Fin 4) (hk : k.val = k'.val) (r : Fin 8) (i : Fin 64) (j : Fin 128) (e : Fin 16) (j' : Fin 64),
      e.val = r.val + 8 * (j.val / 64) → j'.val = j.val % 64 → f k (ix4 0 r i j) = at_ X (bOf t e) (hOf e) (nOf t k') i j')
    (y : S1x8x256x128.Idx) : rowBlk f y = block X t y := by
  have hy1 : (y 1).val < 8 := (y 1).isLt
  have hy2 : (y 2).val < 256 := (y 2).isLt
  have hy3 : (y 3).val < 128 := (y 3).isLt
  have hy0 : y 0 = (0 : Fin 1) := Fin.ext (by have : (y 0).val < 1 := (y 0).isLt; show (y 0).val = 0; omega)
  unfold rowBlk
  rw [hy0, hf (tripOf ((y 2).val / 64)) (⟨3 - (y 2).val / 64, by omega⟩ : Fin 4) rfl (y 1) _ (y 3)
    (⟨(y 1).val + 8 * ((y 3).val / 64), by omega⟩ : Fin 16) (⟨(y 3).val % 64, by omega⟩ : Fin 64) rfl rfl]
  unfold block packed at_
  congr 1
  have hb : bOf t (⟨(y 1).val + 8 * ((y 3).val / 64), by omega⟩ : Fin 16) = (⟨t.val / 8 * 2 + (y 1).val / 4, by omega⟩ : Fin 4) :=
    Fin.ext (by dsimp only [bOf]; omega)
  have hh : hOf (⟨(y 1).val + 8 * ((y 3).val / 64), by omega⟩ : Fin 16) = (⟨(y 1).val % 4 * 2 + (y 3).val / 64, by omega⟩ : Fin 8) :=
    Fin.ext (by dsimp only [hOf]; omega)
  have hn : nOf t (⟨3 - (y 2).val / 64, by omega⟩ : Fin 4) = (⟨((7 - t.val % 8) * 256 + (y 2).val) / 64, by omega⟩ : Fin 32) :=
    Fin.ext (by dsimp only [nOf]; omega)
  have hs : (⟨(y 2).val % 64, by omega⟩ : Fin 64) = (⟨((7 - t.val % 8) * 256 + (y 2).val) % 64, by omega⟩ : Fin 64) :=
    Fin.ext (by dsimp only; omega)
  rw [hb, hh, hn, hs]
  rfl

section
variable (c : Dev nD) (t : Fin 16) (y : S1x8x256x128.Idx)

theorem dq_block : rowBlk (dqTrip (blocks m c t)) y = block (args m c).gradQ t y :=
  rows_at _ _ t (fun k k' hk r i j e j' he hj => by
    unfold dqTrip
    rw [pack_at _ r i j e j' he hj, dq_at (k0_pay6 (rows (blocks m c t).q k)) (k0_pay7 (rows (blocks m c t).k k)) (k0_pay8 (rows (blocks m c t).u k))
      (k0_pay9 (rows (blocks m c t).w k)) (k0_pay10 (rows (blocks m c t).a k)) _ _ (decay (blocks m c t).g k)]
    exact congrFun (congrFun (congrArg Chunk.gradQ (tripChunk_eq m c t k k' hk e)) i) j') y

theorem dk_block : rowBlk (dkTrip (blocks m c t) (entry m c t)) y = block (args m c).gradK t y :=
  rows_at _ _ t (fun k k' hk r i j e j' he hj => by
    unfold dkTrip
    rw [pack_k, pack_at _ r i j e j' he hj, dk_at _ (k0_pay6 (rows (blocks m c t).q k)) (k0_pay7 (rows (blocks m c t).k k)) _ _
      (k0_pay10 (rows (blocks m c t).a k)) _ (rows (blocks m c t).o k) (decay (blocks m c t).g k), trip_at m c t k k' hk e]
    exact congrFun (congrFun (congrArg (fun C : Chunk => C.gradK _) (tripChunk_eq m c t k k' hk e)) i) j') y

theorem du_block : rowBlk (duTrip (blocks m c t) (entry m c t)) y = block (args m c).gradU t y :=
  rows_at _ _ t (fun k k' hk r i j e j' he hj => by
    unfold duTrip
    rw [pack_u, pack_at _ r i j e j' he hj, du_at _ (k0_pay6 (rows (blocks m c t).q k)) _ (k0_pay8 (rows (blocks m c t).u k))
      (k0_pay9 (rows (blocks m c t).w k)) _ (k0_pay5 (savedOf (blocks m c t).s k)) _ (decay (blocks m c t).g k), trip_at m c t k k' hk e]
    exact congrFun (congrFun (congrArg (fun C : Chunk => C.gradU _) (tripChunk_eq m c t k k' hk e)) i) j') y

theorem dw_block : rowBlk (dwTrip (blocks m c t) (entry m c t)) y = block (args m c).gradW t y :=
  rows_at _ _ t (fun k k' hk r i j e j' he hj => by
    unfold dwTrip
    rw [dw_at _ (k0_pay6 (rows (blocks m c t).q k)) _ (k0_pay8 (rows (blocks m c t).u k))
      (k0_pay9 (rows (blocks m c t).w k)) _ _ _ (decay (blocks m c t).g k) r i j e j' he hj, trip_at m c t k k' hk e]
    exact congrFun (congrFun (congrArg (fun C : Chunk => C.gradW _) (tripChunk_eq m c t k k' hk e)) i) j') y

theorem da_block : rowBlk (daTrip (blocks m c t)) y = block (args m c).gradA t y :=
  rows_at _ _ t (fun k k' hk r i j e j' he hj => by
    unfold daTrip
    rw [pack_a, pack_at _ r i j e j' he hj, da_at (k0_pay6 (rows (blocks m c t).q k)) (k0_pay7 (rows (blocks m c t).k k)) _ _
      (k0_pay10 (rows (blocks m c t).a k)) _ _ (decay (blocks m c t).g k)]
    exact congrFun (congrFun (congrArg Chunk.gradA (tripChunk_eq m c t k k' hk e)) i) j') y
end

theorem dg_block (c : Dev nD) (t : Fin 16) (y : S1x16x4x1x1.Idx) :
    decBlk (dgTrip (blocks m c t) (entry m c t)) y
      = (args m c).gradG (ix3 (bOf t (y 1)) (hOf (y 1)) (⟨(7 - t.val % 8) * 4 + (y 2).val, by have : (y 2).val < 4 := (y 2).isLt; omega⟩ : Fin 32)) := by
  have hy2 : (y 2).val < 4 := (y 2).isLt
  have hy0 : y 0 = (0 : Fin 1) := Fin.ext (by have : (y 0).val < 1 := (y 0).isLt; show (y 0).val = 0; omega)
  have hy3 : y 3 = (0 : Fin 1) := Fin.ext (by have : (y 3).val < 1 := (y 3).isLt; show (y 3).val = 0; omega)
  have hy4 : y 4 = (0 : Fin 1) := Fin.ext (by have : (y 4).val < 1 := (y 4).isLt; show (y 4).val = 0; omega)
  have hn : (⟨(7 - t.val % 8) * 4 + (y 2).val, by omega⟩ : Fin 32) = nOf t (⟨3 - (y 2).val, by omega⟩ : Fin 4) :=
    Fin.ext (by dsimp only [nOf]; omega)
  unfold decBlk dgTrip
  rw [hy0, hy3, hy4, hn]
  generalize hk : tripOf (y 2).val = k
  have hk' : k.val = 3 - (y 2).val := by rw [← hk]; rfl
  refine (gain_slot _ (y 1)).trans ((dg_at _ (k0_pay6 (rows (blocks m c t).q k)) (k0_pay7 (rows (blocks m c t).k k))
    (k0_pay8 (rows (blocks m c t).u k)) (k0_pay9 (rows (blocks m c t).w k)) (k0_pay10 (rows (blocks m c t).a k)) _ (rows (blocks m c t).o k) _ (y 1)).trans ?_)
  rw [trip_at m c t k (⟨3 - (y 2).val, by omega⟩ : Fin 4) hk' (y 1)]
  exact congrArg (fun C : Chunk => C.gradG _) (tripChunk_eq m c t k (⟨3 - (y 2).val, by omega⟩ : Fin 4) hk' (y 1))

theorem final_dq (c : Dev nD) : (dats m 0 c).arrAt 8 cfg0.N = packed (args m c).gradQ := by
  refine (dats m 0 c).arrAt_eq_of_covers 8 _ (by decide +kernel) fun t hf y => ?_
  rw [after0_8]
  exact (dq_block m c t y).trans (read_block _ t _ (fun y a => place t y a) y).symm

theorem final_dk (c : Dev nD) : (dats m 0 c).arrAt 9 cfg0.N = packed (args m c).gradK := by
  refine (dats m 0 c).arrAt_eq_of_covers 9 _ (by decide +kernel) fun t hf y => ?_
  rw [after0_9]
  exact (dk_block m c t y).trans (read_block _ t _ (fun y a => place t y a) y).symm

theorem final_du (c : Dev nD) : (dats m 0 c).arrAt 10 cfg0.N = packed (args m c).gradU := by
  refine (dats m 0 c).arrAt_eq_of_covers 10 _ (by decide +kernel) fun t hf y => ?_
  rw [after0_10]
  exact (du_block m c t y).trans (read_block _ t _ (fun y a => place t y a) y).symm

theorem final_dw (c : Dev nD) : (dats m 0 c).arrAt 11 cfg0.N = packed (args m c).gradW := by
  refine (dats m 0 c).arrAt_eq_of_covers 11 _ (by decide +kernel) fun t hf y => ?_
  rw [after0_11]
  exact (dw_block m c t y).trans (read_block _ t _ (fun y a => place t y a) y).symm

theorem final_da (c : Dev nD) : (dats m 0 c).arrAt 12 cfg0.N = packed (args m c).gradA := by
  refine (dats m 0 c).arrAt_eq_of_covers 12 _ (by decide +kernel) fun t hf y => ?_
  rw [after0_12]
  exact (da_block m c t y).trans (read_block _ t _ (fun y a => place t y a) y).symm

theorem final_dg (c : Dev nD) : (dats m 0 c).arrAt 13 cfg0.N = gains (args m c).gradG := by
  refine (dats m 0 c).arrAt_eq_of_covers 13 _ (by decide +kernel) fun t hf y => ?_
  rw [after0_13]
  refine (dg_block m c t y).trans ?_
  have v : ∀ a : Fin 5, (((win0_13.blk t).view.emb y) a).val = (![t.val / 8, 0, 7 - t.val % 8, 0, 0] : Fin 5 → ℕ) a * S1x16x4x1x1.size a + 1 * (y a).val := fun a =>
    congrArg (fun n => n * S1x16x4x1x1.size a + 1 * (y a).val) (congrFun (index_gains t) a)
  have ht : t.val < 16 := Nat.lt_of_lt_of_eq t.isLt N_0
  have hy2 : (y 2).val < 4 := (y 2).isLt
  have v0 : ((win0_13.blk t).view.emb y) 0 = (⟨t.val / 8, by omega⟩ : Fin 2) := Fin.ext (by
    have h := v 0
    have hy : (y 0).val < 1 := (y 0).isLt
    change _ = t.val / 8 * 1 + 1 * (y 0).val at h
    show _ = t.val / 8
    omega)
  have v1 : ((win0_13.blk t).view.emb y) 1 = y 1 := Fin.ext (by
    have h := v 1
    change _ = 0 * 16 + 1 * (y 1).val at h
    omega)
  have v2 : ((win0_13.blk t).view.emb y) 2 = (⟨(7 - t.val % 8) * 4 + (y 2).val, by omega⟩ : Fin 32) := Fin.ext (by
    have h := v 2
    change _ = (7 - t.val % 8) * 4 + 1 * (y 2).val at h
    show _ = (7 - t.val % 8) * 4 + (y 2).val
    omega)
  show _ = (args m c).gradG (ix3 (bAt (((win0_13.blk t).view.emb y) 0) (((win0_13.blk t).view.emb y) 1)) (hOf (((win0_13.blk t).view.emb y) 1)) (((win0_13.blk t).view.emb y) 2))
  rw [v0, v1, v2]
  rfl

end Cert.Kernel2Ideal.Back

end
-- ==== Proof.Back.Reference.lean ====
module

public import proofs.«01_k».proof.Proof.Gen.Reference2Ideal.Run
public import proofs.«01_k».proof.Proof.Back.Spec
public import Idealize.ShloMosaic.Lib.Pointwise
public import Idealize.ShloMosaic.Lib.WordCmp

@[expose] public section

set_option maxRecDepth 16384

/-! # The backward scan's reference

The reference loops over the chunks from the last to the first.  Before trip `j` its buffers hold the state's gradient of the
recurrence and the gradients of the chunks done. -/

noncomputable section
namespace Cert.Reference2Ideal.Back

open Cert.Reference2Ideal Cert.Reference2Ideal.Gen Cert.Reference2Ideal.Value
open Idealize.ShloMosaic Idealize.ShloMosaic.TcCoe Idealize.ShloMosaic.StableHlo
open Idealize.SL.Sem
open Cert.Recurrence

/-- The start of a trip's slice of the stacked matrices. -/
def start5 (j : ℕ) : Fin 5 → Int := fun k =>
  (((![constantI S_ 32 (BitVec.ofNat 32 j), constantI S_ 32 0#32, constantI S_ 32 0#32,
      constantI S_ 32 0#32, constantI S_ 32 0#32] : Fin 5 → (⟨S_, .i32⟩ : BufTy).Contents (Elt Ideal))) k
    (Shape.Idx.first h_S_)).toInt

/-- The start of a trip's slice of the stacked numbers. -/
def start3 (j : ℕ) : Fin 3 → Int := fun k =>
  (((![constantI S_ 32 (BitVec.ofNat 32 j), constantI S_ 32 0#32, constantI S_ 32 0#32] :
      Fin 3 → (⟨S_, .i32⟩ : BufTy).Contents (Elt Ideal))) k (Shape.Idx.first h_S_)).toInt

theorem start5_eq (j : Fin 32) (a : Fin 5) : start5 j.val a = ((![j.val, 0, 0, 0, 0] : Fin 5 → ℕ) a : Int) := by
  fin_cases a
  · exact WordCmp.toInt_ofNat_of_lt (by have := j.isLt; omega)
  all_goals rfl

theorem start3_eq (j : Fin 32) (a : Fin 3) : start3 j.val a = ((![j.val, 0, 0] : Fin 3 → ℕ) a : Int) := by
  fin_cases a
  · exact WordCmp.toInt_ofNat_of_lt (by have := j.isLt; omega)
  all_goals rfl

theorem fits5 (j : Fin 32) : S32x4x8x64x64.Slices (![j.val, 0, 0, 0, 0] : Fin 5 → ℕ) S1x4x8x64x64 := by
  revert j; decide

theorem fits3 (j : Fin 32) : S32x4x8.Slices (![j.val, 0, 0] : Fin 3 → ℕ) S1x4x8 := by
  revert j; decide

/-- A trip's matrices out of their stack. -/
theorem slice_rows (X : Vec Ideal S32x4x8x64x64 .f32) (j : Fin 32) :
    shapeCast S4x8x64x64 (Host.dynamicSlice S1x4x8x64x64 X (start5 j.val)
        sliceFits_S32x4x8x64x64_S1x4x8x64x64) shapeCasts_S1x4x8x64x64_S4x8x64x64
      = fun y => X (ix5 j (y 0) (y 1) (y 2) (y 3)) := by
  rw [WordCmp.dynamicSlice_eq_extract _ X _ _ _ (fits5 j) (start5_eq j)]
  funext y
  pointwise

/-- A trip's numbers out of their stack. -/
theorem slice_gains (X : Vec Ideal S32x4x8 .f32) (j : Fin 32) :
    shapeCast S4x8 (Host.dynamicSlice S1x4x8 X (start3 j.val)
        sliceFits_S32x4x8_S1x4x8) shapeCasts_S1x4x8_S4x8
      = fun y => X (ix3 j (y 0) (y 1)) := by
  rw [WordCmp.dynamicSlice_eq_extract _ X _ _ _ (fits3 j) (start3_eq j)]
  funext y
  pointwise

/-- Writing a trip's numbers into a stack. -/
theorem update_gains (X : Vec Ideal S32x4x8 .f32) (U : Vec Ideal S4x8 .f32) (j : Fin 32) :
    Host.dynamicUpdateSlice X (broadcastInDim S1x4x8 ![1, 2] bcast_S4x8_S1x4x8_1_2 U)
        (start3 j.val) updateFits_S32x4x8_S1x4x8
      = fun y => if (y 0).val = j.val then U (ix2 (y 1) (y 2)) else X y := by
  rw [WordCmp.dynamicUpdateSlice_eq_update X _ _ _ _ (fits3 j) (start3_eq j)]
  funext y
  pointwise
  by_cases hy : (y 0).val = j.val
  · exact (dif_pos ⟨hy.ge, by omega⟩).trans (if_pos hy).symm
  · exact (dif_neg (fun hc => hy (by omega))).trans (if_neg hy).symm

/-- Writing a trip's matrices into a stack. -/
theorem update_rows (X : Vec Ideal S32x4x8x64x64 .f32) (U : Vec Ideal S4x8x64x64 .f32) (j : Fin 32) :
    Host.dynamicUpdateSlice X (broadcastInDim S1x4x8x64x64 ![1, 2, 3, 4] bcast_S4x8x64x64_S1x4x8x64x64_1_2_3_4 U)
        (start5 j.val) updateFits_S32x4x8x64x64_S1x4x8x64x64
      = fun y => if (y 0).val = j.val then U (ix4 (y 1) (y 2) (y 3) (y 4)) else X y := by
  rw [WordCmp.dynamicUpdateSlice_eq_update X _ _ _ _ (fits5 j) (start5_eq j)]
  funext y
  pointwise
  by_cases hy : (y 0).val = j.val
  · exact (dif_pos ⟨hy.ge, by omega⟩).trans (if_pos hy).symm
  · exact (dif_neg (fun hc => hy (by omega))).trans (if_neg hy).symm

/-- The reference's stack of matrices: chunk first. -/
def stack (X : Rows) : Vec Ideal S32x4x8x64x64 .f32 := fun y => X (ix5 (y 1) (y 2) (y 0) (y 3) (y 4))

/-- The reference's stack of numbers: chunk first. -/
def stackG (G : Gains) : Vec Ideal S32x4x8 .f32 := fun y => G (ix3 (y 1) (y 2) (y 0))

/-- The states' gradients of all pairs once `j` chunks are done. -/
def backs (I : Arrays) (j : ℕ) : Vec Ideal S4x8x64x64 .f32 := fun y => I.back (y 0) (y 1) j (y 2) (y 3)

/-- The chunk a trip works on: the trips go from the last chunk to the first. -/
def nOf (j : Fin 32) : Fin 32 := ⟨31 - j.val, by omega⟩

theorem after_eq (I : Arrays) (b : Fin 4) (h : Fin 8) (j : Fin 32) : I.after b h (nOf j) = I.back b h j.val := by
  unfold Arrays.after nOf
  congr 1
  show 31 - (31 - j.val) = j.val
  omega

/-- What the loop carries before trip `j`. -/
structure Inv (I : Arrays) (j : ℕ) (V : Valuation τ sig (Elt Ideal)) : Prop where
  q : V (Proc.devRef .tc main_v15_0) = stack I.q
  k : V (Proc.devRef .tc main_v15_1) = stack I.k
  u : V (Proc.devRef .tc main_v15_2) = stack I.u
  w : V (Proc.devRef .tc main_v15_3) = stack I.w
  a : V (Proc.devRef .tc main_v15_4) = stack I.a
  g : V (Proc.devRef .tc main_v15_5) = stackG I.g
  s : V (Proc.devRef .tc main_v15_6) = stack I.S
  o : V (Proc.devRef .tc main_v15_7) = stack I.o
  n : V (Proc.devRef .tc main_v15_8) = constantI S_ 32 (BitVec.ofNat 32 j)
  d : V (Proc.devRef .tc main_v15_9) = backs I j
  dq : ∀ y : S32x4x8x64x64.Idx, 32 ≤ (y 0).val + j → (V (Proc.devRef .tc main_v15_10) : Vec Ideal S32x4x8x64x64 .f32) y
    = I.gradQ (ix5 (y 1) (y 2) (y 0) (y 3) (y 4))
  dk : ∀ y : S32x4x8x64x64.Idx, 32 ≤ (y 0).val + j → (V (Proc.devRef .tc main_v15_11) : Vec Ideal S32x4x8x64x64 .f32) y
    = I.gradK (ix5 (y 1) (y 2) (y 0) (y 3) (y 4))
  du : ∀ y : S32x4x8x64x64.Idx, 32 ≤ (y 0).val + j → (V (Proc.devRef .tc main_v15_12) : Vec Ideal S32x4x8x64x64 .f32) y
    = I.gradU (ix5 (y 1) (y 2) (y 0) (y 3) (y 4))
  dw : ∀ y : S32x4x8x64x64.Idx, 32 ≤ (y 0).val + j → (V (Proc.devRef .tc main_v15_13) : Vec Ideal S32x4x8x64x64 .f32) y
    = I.gradW (ix5 (y 1) (y 2) (y 0) (y 3) (y 4))
  da : ∀ y : S32x4x8x64x64.Idx, 32 ≤ (y 0).val + j → (V (Proc.devRef .tc main_v15_14) : Vec Ideal S32x4x8x64x64 .f32) y
    = I.gradA (ix5 (y 1) (y 2) (y 0) (y 3) (y 4))
  dg : ∀ y : S32x4x8.Idx, 32 ≤ (y 0).val + j → (V (Proc.devRef .tc main_v15_15) : Vec Ideal S32x4x8 .f32) y
    = I.gradG (ix3 (y 1) (y 2) (y 0))

section Step
variable {I : Arrays} {j : Fin 32} {V : Valuation τ sig (Elt Ideal)} (h : Inv I j.val V)
include h

/-- The counter's step. -/
theorem step_n : step_main_v15_8 V = constantI S_ 32 (BitVec.ofNat 32 (j.val + 1)) := by
  unfold step_main_v15_8
  rw [h.n]
  show (fun _ => BitVec.ofNat 32 j.val + 1#32) = fun _ => BitVec.ofNat 32 (j.val + 1)
  simp only [BitVec.ofNat_add]

/-- The chunk's index. -/
theorem index_eq : res_main_while0b_v36 V = constantI S_ 32 (BitVec.ofNat 32 (nOf j).val) := by
  unfold res_main_while0b_v36
  rw [h.n]
  show (fun _ => 32#32 - BitVec.ofNat 32 j.val - 1#32) = fun _ => BitVec.ofNat 32 (31 - j.val)
  funext _
  clear h
  revert j
  decide

theorem load_q : (res_main_while0b_v37 V : Vec Ideal S4x8x64x64 .f32) = fun y => at_ I.q (y 0) (y 1) (nOf j) (y 2) (y 3) := by
  unfold res_main_while0b_v37
  rw [index_eq h, h.q]
  exact slice_rows (stack I.q) (nOf j)

theorem load_k : (res_main_while0b_v38 V : Vec Ideal S4x8x64x64 .f32) = fun y => at_ I.k (y 0) (y 1) (nOf j) (y 2) (y 3) := by
  unfold res_main_while0b_v38
  rw [index_eq h, h.k]
  exact slice_rows (stack I.k) (nOf j)

theorem load_w : (res_main_while0b_v40 V : Vec Ideal S4x8x64x64 .f32) = fun y => at_ I.w (y 0) (y 1) (nOf j) (y 2) (y 3) := by
  unfold res_main_while0b_v40
  rw [index_eq h, h.w]
  exact slice_rows (stack I.w) (nOf j)

theorem load_a : (res_main_while0b_v41 V : Vec Ideal S4x8x64x64 .f32) = fun y => at_ I.a (y 0) (y 1) (nOf j) (y 2) (y 3) := by
  unfold res_main_while0b_v41
  rw [index_eq h, h.a]
  exact slice_rows (stack I.a) (nOf j)

theorem load_s : (res_main_while0b_v43 V : Vec Ideal S4x8x64x64 .f32) = fun y => at_ I.S (y 0) (y 1) (nOf j) (y 2) (y 3) := by
  unfold res_main_while0b_v43
  rw [index_eq h, h.s]
  exact slice_rows (stack I.S) (nOf j)

theorem load_o : (res_main_while0b_v44 V : Vec Ideal S4x8x64x64 .f32) = fun y => at_ I.o (y 0) (y 1) (nOf j) (y 2) (y 3) := by
  unfold res_main_while0b_v44
  rw [index_eq h, h.o]
  exact slice_rows (stack I.o) (nOf j)

/-- What the chunk wrote. -/
theorem load_delta : (res_main_while0b_v46 V : Vec Ideal S4x8x64x64 .f32)
    = fun y => delta (at_ I.u (y 0) (y 1) (nOf j)) (at_ I.w (y 0) (y 1) (nOf j)) (at_ I.S (y 0) (y 1) (nOf j)) (y 2) (y 3) := by
  unfold res_main_while0b_v46
  rw [index_eq h, h.u, load_w h, load_s h]
  erw [slice_rows (stack I.u) (nOf j)]
  funext y
  show (subf (F := Ideal) (s := S4x8x64x64) (φ := .f32) _ _) y = _
  pointwise [stack]
  rfl

/-- The chunk's decay. -/
theorem load_decay : (res_main_while0b_v50 V : Vec Ideal S4x8 .f32) = fun y => Ideal.exp (I.g (ix3 (y 0) (y 1) (nOf j))) := by
  unfold res_main_while0b_v50
  rw [index_eq h, h.g]
  erw [slice_gains (stackG I.g) (nOf j)]
  rfl

/-- The gradient of the values. -/
theorem load_du : (res_main_while0b_v69 V : Vec Ideal S4x8x64x64 .f32)
    = fun y => (I.chunk (y 0) (y 1) (nOf j)).gradU (I.back (y 0) (y 1) j.val) (y 2) (y 3) := by
  unfold res_main_while0b_v69 Chunk.gradU
  rw [h.d, load_k h, load_o h, load_a h]
  funext y
  show (addf (F := Ideal) (s := S4x8x64x64) (φ := .f32) _ _) y = _
  pointwise [backs, Arrays.chunk]
  exact congrArg₂ (· + ·) (Finset.sum_congr rfl fun _ _ => mul_comm _ _) (Finset.sum_congr rfl fun _ _ => mul_comm _ _)

/-- Its negation. -/
theorem load_neg : (res_main_while0b_v75 V : Vec Ideal S4x8x64x64 .f32)
    = fun y => -(I.chunk (y 0) (y 1) (nOf j)).gradU (I.back (y 0) (y 1) j.val) (y 2) (y 3) := by
  unfold res_main_while0b_v75
  rw [load_du h]
  rfl

theorem step_d : step_main_v15_9 V = backs I (j.val + 1) := by
  unfold step_main_v15_9 res_main_while0b_v51
  rw [load_decay h, load_neg h, load_q h, load_w h, load_o h, h.d]
  funext y
  show (addf (F := Ideal) (s := S4x8x64x64) (φ := .f32) _ _) y = _
  refine Eq.trans ?_ (congrFun (congrFun (I.back_succ (y 0) (y 1) j.val j.isLt) (y 2)) (y 3)).symm
  unfold Chunk.gradS
  pointwise [backs, Arrays.chunk]
  exact congrArg₂ (· + ·) (congrArg₂ (· + ·) rfl (Finset.sum_congr rfl fun _ _ => mul_comm _ _)) (Finset.sum_congr rfl fun _ _ => mul_comm _ _)

theorem step_dq : (step_main_v15_10 V : Vec Ideal S32x4x8x64x64 .f32)
    = fun y => if (y 0).val = (nOf j).val then I.gradQ (ix5 (y 1) (y 2) (nOf j) (y 3) (y 4))
        else (V (Proc.devRef .tc main_v15_10) : Vec Ideal S32x4x8x64x64 .f32) y := by
  unfold step_main_v15_10
  rw [index_eq h, load_o h, load_s h]
  refine (update_rows _ _ (nOf j)).trans ?_
  funext y
  refine if_congr Iff.rfl ?_ rfl
  show _ = (I.chunk (y 1) (y 2) (nOf j)).gradQ (y 3) (y 4)
  unfold Chunk.gradQ
  pointwise [backs, Arrays.chunk]

theorem step_dk : (step_main_v15_11 V : Vec Ideal S32x4x8x64x64 .f32)
    = fun y => if (y 0).val = (nOf j).val then I.gradK (ix5 (y 1) (y 2) (nOf j) (y 3) (y 4))
        else (V (Proc.devRef .tc main_v15_11) : Vec Ideal S32x4x8x64x64 .f32) y := by
  unfold step_main_v15_11
  rw [index_eq h, load_delta h, h.d]
  refine (update_rows _ _ (nOf j)).trans ?_
  funext y
  refine if_congr Iff.rfl ?_ rfl
  show _ = (I.chunk (y 1) (y 2) (nOf j)).gradK (I.after (y 1) (y 2) (nOf j)) (y 3) (y 4)
  refine Eq.trans ?_ (congrArg (fun D : Mat => (I.chunk (y 1) (y 2) (nOf j)).gradK D (y 3) (y 4)) (after_eq I (y 1) (y 2) j)).symm
  unfold Chunk.gradK
  pointwise [backs, Arrays.chunk]
  exact Finset.sum_congr rfl fun _ _ => mul_comm _ _

theorem step_du : (step_main_v15_12 V : Vec Ideal S32x4x8x64x64 .f32)
    = fun y => if (y 0).val = (nOf j).val then I.gradU (ix5 (y 1) (y 2) (nOf j) (y 3) (y 4))
        else (V (Proc.devRef .tc main_v15_12) : Vec Ideal S32x4x8x64x64 .f32) y := by
  unfold step_main_v15_12
  rw [index_eq h, load_du h]
  refine (update_rows _ _ (nOf j)).trans ?_
  funext y
  refine if_congr Iff.rfl ?_ rfl
  show _ = (I.chunk (y 1) (y 2) (nOf j)).gradU (I.after (y 1) (y 2) (nOf j)) (y 3) (y 4)
  refine Eq.trans ?_ (congrArg (fun D : Mat => (I.chunk (y 1) (y 2) (nOf j)).gradU D (y 3) (y 4)) (after_eq I (y 1) (y 2) j)).symm
  rfl

theorem step_dw : (step_main_v15_13 V : Vec Ideal S32x4x8x64x64 .f32)
    = fun y => if (y 0).val = (nOf j).val then I.gradW (ix5 (y 1) (y 2) (nOf j) (y 3) (y 4))
        else (V (Proc.devRef .tc main_v15_13) : Vec Ideal S32x4x8x64x64 .f32) y := by
  unfold step_main_v15_13
  rw [index_eq h, load_neg h, load_s h]
  refine (update_rows _ _ (nOf j)).trans ?_
  funext y
  refine if_congr Iff.rfl ?_ rfl
  show _ = (I.chunk (y 1) (y 2) (nOf j)).gradW (I.after (y 1) (y 2) (nOf j)) (y 3) (y 4)
  refine Eq.trans ?_ (congrArg (fun D : Mat => (I.chunk (y 1) (y 2) (nOf j)).gradW D (y 3) (y 4)) (after_eq I (y 1) (y 2) j)).symm
  unfold Chunk.gradW
  pointwise [backs, Arrays.chunk]

theorem step_da : (step_main_v15_14 V : Vec Ideal S32x4x8x64x64 .f32)
    = fun y => if (y 0).val = (nOf j).val then I.gradA (ix5 (y 1) (y 2) (nOf j) (y 3) (y 4))
        else (V (Proc.devRef .tc main_v15_14) : Vec Ideal S32x4x8x64x64 .f32) y := by
  unfold step_main_v15_14
  rw [index_eq h, load_o h, load_delta h]
  refine (update_rows _ _ (nOf j)).trans ?_
  funext y
  refine if_congr Iff.rfl ?_ rfl
  show _ = (I.chunk (y 1) (y 2) (nOf j)).gradA (y 3) (y 4)
  unfold Chunk.gradA
  pointwise [backs, Arrays.chunk]

theorem step_dg : (step_main_v15_15 V : Vec Ideal S32x4x8 .f32)
    = fun y => if (y 0).val = (nOf j).val then I.gradG (ix3 (y 1) (y 2) (nOf j))
        else (V (Proc.devRef .tc main_v15_15) : Vec Ideal S32x4x8 .f32) y := by
  unfold step_main_v15_15
  rw [index_eq h, load_s h, load_decay h, h.d]
  refine (update_gains _ _ (nOf j)).trans ?_
  funext y
  refine if_congr Iff.rfl ?_ rfl
  show _ = (I.chunk (y 1) (y 2) (nOf j)).gradG (I.after (y 1) (y 2) (nOf j))
  refine Eq.trans ?_ (congrArg (fun D : Mat => (I.chunk (y 1) (y 2) (nOf j)).gradG D) (after_eq I (y 1) (y 2) j)).symm
  unfold Chunk.gradG
  show (mulf (F := Ideal) (s := S4x8) (φ := .f32) _ _) _ = _
  pointwise [backs, Arrays.chunk]
  exact congrArg (· * _) ((Fin.sum_univ_one _).trans (Fin.sum_univ_one _))

/-- One trip keeps the invariant. -/
theorem Inv.next : Inv I (j.val + 1) (STEP V) where
  q := (STEP_main_v15_0 V).trans h.q
  k := (STEP_main_v15_1 V).trans h.k
  u := (STEP_main_v15_2 V).trans h.u
  w := (STEP_main_v15_3 V).trans h.w
  a := (STEP_main_v15_4 V).trans h.a
  g := (STEP_main_v15_5 V).trans h.g
  s := (STEP_main_v15_6 V).trans h.s
  o := (STEP_main_v15_7 V).trans h.o
  n := (STEP_main_v15_8 V).trans (step_n h)
  d := (STEP_main_v15_9 V).trans (step_d h)
  dq y hy := by
    refine (congrFun ((STEP_main_v15_10 V).trans (step_dq h)) y).trans ?_
    by_cases e : (y 0).val = (nOf j).val
    · have e' : y 0 = nOf j := Fin.ext e
      exact (if_pos e).trans (by rw [e'])
    · exact (if_neg e).trans (h.dq y (by change ¬(y 0).val = 31 - j.val at e; omega))
  dk y hy := by
    refine (congrFun ((STEP_main_v15_11 V).trans (step_dk h)) y).trans ?_
    by_cases e : (y 0).val = (nOf j).val
    · have e' : y 0 = nOf j := Fin.ext e
      exact (if_pos e).trans (by rw [e'])
    · exact (if_neg e).trans (h.dk y (by change ¬(y 0).val = 31 - j.val at e; omega))
  du y hy := by
    refine (congrFun ((STEP_main_v15_12 V).trans (step_du h)) y).trans ?_
    by_cases e : (y 0).val = (nOf j).val
    · have e' : y 0 = nOf j := Fin.ext e
      exact (if_pos e).trans (by rw [e'])
    · exact (if_neg e).trans (h.du y (by change ¬(y 0).val = 31 - j.val at e; omega))
  dw y hy := by
    refine (congrFun ((STEP_main_v15_13 V).trans (step_dw h)) y).trans ?_
    by_cases e : (y 0).val = (nOf j).val
    · have e' : y 0 = nOf j := Fin.ext e
      exact (if_pos e).trans (by rw [e'])
    · exact (if_neg e).trans (h.dw y (by change ¬(y 0).val = 31 - j.val at e; omega))
  da y hy := by
    refine (congrFun ((STEP_main_v15_14 V).trans (step_da h)) y).trans ?_
    by_cases e : (y 0).val = (nOf j).val
    · have e' : y 0 = nOf j := Fin.ext e
      exact (if_pos e).trans (by rw [e'])
    · exact (if_neg e).trans (h.da y (by change ¬(y 0).val = 31 - j.val at e; omega))
  dg y hy := by
    refine (congrFun ((STEP_main_v15_15 V).trans (step_dg h)) y).trans ?_
    by_cases e : (y 0).val = (nOf j).val
    · have e' : y 0 = nOf j := Fin.ext e
      exact (if_pos e).trans (by rw [e'])
    · exact (if_neg e).trans (h.dg y (by change ¬(y 0).val = 31 - j.val at e; omega))
end Step

section Run
variable (m : (ℓ : Loc nD τ sig) → Buf (Elt Ideal) ℓ) (c : Dev nD)

/-- The reference's arguments. -/
def args : Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7)⟩

/-- The transposition that puts the chunk first. -/
theorem stack_eq (X : Rows) : transpose S32x4x8x64x64 [2, 0, 1, 3, 4] X transposes_S4x8x32x64x64_S32x4x8x64x64_2_0_1_3_4 = stack X := by
  funext y
  pointwise [stack]

theorem stackG_eq (G : Gains) : transpose S32x4x8 [2, 0, 1] G transposes_S4x8x32_S32x4x8_2_0_1 = stackG G := by
  funext y
  pointwise [stackG]

/-- The invariant holds when the loop is entered. -/
theorem inv_entry : Inv (args m c) 0 (entryContents preI m c) where
  q := by
    simp only [entryContents, afterL_cons, afterL_nil]
    after_reads_simp
    exact stack_eq (args m c).q
  k := by
    simp only [entryContents, afterL_cons, afterL_nil]
    after_reads_simp
    exact stack_eq (args m c).k
  u := by
    simp only [entryContents, afterL_cons, afterL_nil]
    after_reads_simp
    exact stack_eq (args m c).u
  w := by
    simp only [entryContents, afterL_cons, afterL_nil]
    after_reads_simp
    exact stack_eq (args m c).w
  a := by
    simp only [entryContents, afterL_cons, afterL_nil]
    after_reads_simp
    exact stack_eq (args m c).a
  g := by
    simp only [entryContents, afterL_cons, afterL_nil]
    after_reads_simp
    exact stackG_eq (args m c).g
  s := by
    simp only [entryContents, afterL_cons, afterL_nil]
    after_reads_simp
    exact stack_eq (args m c).S
  o := by
    simp only [entryContents, afterL_cons, afterL_nil]
    after_reads_simp
    exact stack_eq (args m c).o
  n := by
    simp only [entryContents, afterL_cons, afterL_nil]
    after_reads_simp
    rfl
  d := by
    simp only [entryContents, afterL_cons, afterL_nil]
    after_reads_simp
    funext y
    show (broadcastInDim S4x8x64x64 ![] bcast_S_S4x8x64x64 (constant (F := Ideal) S_ FTy.f32 0#32)) y = _
    pointwise
    rfl
  dq y hy := absurd hy (by have : (y 0).val < 32 := (y 0).isLt; omega)
  dk y hy := absurd hy (by have : (y 0).val < 32 := (y 0).isLt; omega)
  du y hy := absurd hy (by have : (y 0).val < 32 := (y 0).isLt; omega)
  dw y hy := absurd hy (by have : (y 0).val < 32 := (y 0).isLt; omega)
  da y hy := absurd hy (by have : (y 0).val < 32 := (y 0).isLt; omega)
  dg y hy := absurd hy (by have : (y 0).val < 32 := (y 0).isLt; omega)

/-- The invariant holds before every trip, and after the last. -/
theorem inv_at : ∀ k : ℕ, k ≤ 32 → Inv (args m c) k (STEP^[k] (entryContents preI m c))
  | 0, _ => inv_entry m c
  | k + 1, hk => by
    rw [Function.iterate_succ_apply']
    exact Inv.next (j := ⟨k, hk⟩) (inv_at k (Nat.le_of_succ_le hk))

theorem out_dq : out_main_v18 (STEP^[32] (entryContents preI m c)) = packed (args m c).gradQ := by
  have H := (inv_at m c 32 le_rfl).dq
  revert H
  generalize STEP^[32] (entryContents preI m c) = V
  intro H
  unfold out_main_v18
  funext y
  pointwise
  exact H _ (Nat.le_add_left _ _)

theorem out_dk : out_main_v21 (STEP^[32] (entryContents preI m c)) = packed (args m c).gradK := by
  have H := (inv_at m c 32 le_rfl).dk
  revert H
  generalize STEP^[32] (entryContents preI m c) = V
  intro H
  unfold out_main_v21
  funext y
  pointwise
  exact H _ (Nat.le_add_left _ _)

theorem out_du : out_main_v24 (STEP^[32] (entryContents preI m c)) = packed (args m c).gradU := by
  have H := (inv_at m c 32 le_rfl).du
  revert H
  generalize STEP^[32] (entryContents preI m c) = V
  intro H
  unfold out_main_v24
  funext y
  pointwise
  exact H _ (Nat.le_add_left _ _)

theorem out_dw : out_main_v27 (STEP^[32] (entryContents preI m c)) = packed (args m c).gradW := by
  have H := (inv_at m c 32 le_rfl).dw
  revert H
  generalize STEP^[32] (entryContents preI m c) = V
  intro H
  unfold out_main_v27
  funext y
  pointwise
  exact H _ (Nat.le_add_left _ _)

theorem out_da : out_main_v30 (STEP^[32] (entryContents preI m c)) = packed (args m c).gradA := by
  have H := (inv_at m c 32 le_rfl).da
  revert H
  generalize STEP^[32] (entryContents preI m c) = V
  intro H
  unfold out_main_v30
  funext y
  pointwise
  exact H _ (Nat.le_add_left _ _)

theorem out_dg : out_main_v34 (STEP^[32] (entryContents preI m c)) = gains (args m c).gradG := by
  have H := (inv_at m c 32 le_rfl).dg
  revert H
  generalize STEP^[32] (entryContents preI m c) = V
  intro H
  unfold out_main_v34
  funext y
  pointwise
  exact H _ (Nat.le_add_left _ _)

/-- The reference terminates with the recurrence's gradients, its arguments unchanged. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v18) = packed (args m c).gradQ
      ∧ r.2.mem ((c.tc : Thread nD τ).loc main_v21) = packed (args m c).gradK
      ∧ r.2.mem ((c.tc : Thread nD τ).loc main_v24) = packed (args m c).gradU
      ∧ r.2.mem ((c.tc : Thread nD τ).loc main_v27) = packed (args m c).gradW
      ∧ r.2.mem ((c.tc : Thread nD τ).loc main_v30) = packed (args m c).gradA
      ∧ r.2.mem ((c.tc : Thread nD τ).loc main_v34) = gains (args m c).gradG
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (out_dq m c), (h c).2.1.trans (out_dk m c), (h c).2.2.1.trans (out_du m c),
      (h c).2.2.2.1.trans (out_dw m c), (h c).2.2.2.2.1.trans (out_da m c), (h c).2.2.2.2.2.1.trans (out_dg m c), (h c).2.2.2.2.2.2⟩)
    (Value.run (F := Ideal) m ρ)

/-- The reference's frame: it terminates, its arguments unchanged and no counter moved. -/
theorem frame (ρ : Dev nD → PrngReg) : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => (h c).2.2.2.2.2.2, Idealize.ShloMosaic.sem_eq_zero_of_no_sems (by decide) r.2⟩)
    (Value.run (F := Ideal) m ρ)

end Run

end Cert.Reference2Ideal.Back
end
-- ==== Proof.Back.Claims.lean ====
module

public import proofs.«01_k».proof.Defs
public import proofs.«01_k».proof.Proof.Gen.Kernel2
public import proofs.«01_k».proof.Proof.Back.Value
public import proofs.«01_k».proof.Proof.Back.Reference

@[expose] public section

/-! # The backward scan: the claims

The launch and the reference each end with the recurrence's six gradients in the launch's layout; where the arguments agree,
so do the results. -/

noncomputable section

namespace Cert.Kernel2Ideal.Back

open Cert.Kernel2Ideal Cert.Kernel2Ideal.Gen
open Idealize.ShloMosaic Idealize.SL.Sem
open Cert.Recurrence

set_option maxHeartbeats 4000000 in
/-- The two texts of the launch have the same bodies. -/
theorem same_bodies : Cert.Kernel2.defs₀ (F := Bits) = defs₀ (F := Bits) := by
  refine congrArg Defs.onTc (funext fun ℓ => funext fun a => ?_)
  obtain ⟨_ | n, hn⟩ := ℓ
  · obtain ⟨t, s⟩ := a
    rfl
  · exact absurd hn (by omega)

theorem same_defs : Cert.Kernel2.defs (F := Bits) = defs (F := Bits) := congrArg (Pipeline.defs _) same_bodies

set_option maxHeartbeats 4000000 in
/-- The launch's frame at machine words: the run is proved for every reading of the floats. -/
theorem frame_words : Cert.quiescent_Kernel2 := fun m ρ _ =>
  same_defs ▸ frame (F := Bits) m ρ

/-- The launch's frame over the reals. -/
theorem frame_reals : Cert.quiescent_Kernel2Ideal := fun m ρ _ => frame (F := Ideal) m ρ

/-- The reference's frame. -/
theorem frame_reference : Cert.quiescent_Reference2Ideal := fun m ρ _ => Cert.Reference2Ideal.Back.frame m ρ

/-- The launch terminates with the recurrence's gradients, its arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31_0) = packed (args m c).gradQ
      ∧ r.2.mem ((c.tc : Thread nD τ).loc main_v31_1) = packed (args m c).gradK
      ∧ r.2.mem ((c.tc : Thread nD τ).loc main_v31_2) = packed (args m c).gradU
      ∧ r.2.mem ((c.tc : Thread nD τ).loc main_v31_3) = packed (args m c).gradW
      ∧ r.2.mem ((c.tc : Thread nD τ).loc main_v31_4) = packed (args m c).gradA
      ∧ r.2.mem ((c.tc : Thread nD τ).loc main_v31_5) = gains (args m c).gradG
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1.out_eq c 8).trans (final_dq m c), (h.1.out_eq c 9).trans (final_dk m c),
      (h.1.out_eq c 10).trans (final_du m c), (h.1.out_eq c 11).trans (final_dw m c), (h.1.out_eq c 12).trans (final_da m c),
      (h.1.out_eq c 13).trans (final_dg m c), h.2 c⟩)
    (θ_run_and (run_main m ρ) (frame_of m ρ (dats m) (A_eq m) (run_main m ρ)))

/-- The launch against the reference, over the reals. -/
theorem algebraic : Cert.algebraic_Kernel2Ideal_Reference2Ideal := by
  intro m ρ m' ρ' _ hagree
  refine ⟨_, _, _, _, _, _, run_value m ρ, ?_⟩
  refine (θ_run _ _ _).mono (fun r h c => ?_) (Cert.Reference2Ideal.Back.run m' ρ')
  obtain ⟨h0, h1, h2, h3, h4, h5, h6, h7⟩ := hagree c
  have e : Cert.Reference2Ideal.Back.args m' c = args m c := by
    unfold Cert.Reference2Ideal.Back.args
    congr 1
  have H := h c
  rw [e] at H
  exact H

end Cert.Kernel2Ideal.Back

end
-- ==== Proof.Ffn.Spec.lean ====
module

public import Idealize.ShloMosaic.Lib.Pointwise

@[expose] public section

/-! # The feed-forward layer

A layer of 8192 tokens, 1024 channels and 2816 hidden channels.  The launches keep the hidden channels in 4 parts of
704; the arrays they read and write are the matrices below, laid out by part. -/

noncomputable section

namespace Cert.Ffn

open Idealize.ShloMosaic

/-- Tokens by channels. -/
abbrev Acts := Vec Ideal (⟨2, ![8192, 1024]⟩ : Shape) .bf16
/-- Tokens by hidden channels. -/
abbrev Hid := Vec Ideal (⟨2, ![8192, 2816]⟩ : Shape) .bf16
/-- A weight from channels to hidden channels. -/
abbrev Up := Vec Ideal (⟨2, ![1024, 2816]⟩ : Shape) .bf16
/-- A weight from hidden channels to channels. -/
abbrev Down := Vec Ideal (⟨2, ![2816, 1024]⟩ : Shape) .bf16

/-- Hidden channel `j` of part `s`. -/
def chan (s : Fin 4) (j : Fin 704) : Fin 2816 := ⟨s.val * 704 + j.val, by omega⟩

/-- Tokens by hidden channels, laid out by part. -/
def hidden (X : Hid) : Vec Ideal (⟨3, ![4, 8192, 704]⟩ : Shape) .bf16 :=
  fun y => X (ix2 (y 1) (chan (y 0) (y 2)))

/-- A weight from channels to hidden channels, laid out by part. -/
def across (W : Up) : Vec Ideal (⟨3, ![4, 704, 1024]⟩ : Shape) .bf16 :=
  fun y => W (ix2 (y 2) (chan (y 0) (y 1)))

/-- A weight from hidden channels to channels, laid out by part. -/
def down (W : Down) : Vec Ideal (⟨3, ![4, 704, 1024]⟩ : Shape) .bf16 :=
  fun y => W (ix2 (chan (y 0) (y 1)) (y 2))

/-- Activations through a weight: `x w`. -/
def up (X : Acts) (W : Up) : Hid := fun y => ∑ d : Fin 1024, X (ix2 (y 0) d) * W (ix2 d (y 1))

/-- The gated hidden channels, `silu a · b`. -/
def gated (A B : Hid) : Hid := fun y => A y * Ideal.logistic (A y) * B y

/-- The gradient of a weight `w` at the cotangent `D` of `x w`, laid out by part. -/
def weightGrad (D : Hid) (X : Acts) : Vec Ideal (⟨3, ![4, 704, 1024]⟩ : Shape) .f32 :=
  fun y => ∑ r : Fin 8192, D (ix2 r (chan (y 0) (y 1))) * X (ix2 r (y 2))

/-- Hidden channels through a weight, `h w`, under a leading axis of one. -/
def through (H : Hid) (W : Down) : Vec Ideal (⟨3, ![1, 8192, 1024]⟩ : Shape) .f32 :=
  fun y => ∑ j : Fin 2816, H (ix2 (y 1) j) * W (ix2 j (y 2))

/-- The gradient of `a` at the cotangents of `a w₁` and `a w₃`, under a leading axis of one. -/
def actsGrad (D₁ D₃ : Hid) (W₁ W₃ : Up) : Vec Ideal (⟨3, ![1, 8192, 1024]⟩ : Shape) .f32 :=
  fun y => ∑ j : Fin 2816, (D₁ (ix2 (y 1) j) * W₁ (ix2 (y 2) j) + D₃ (ix2 (y 1) j) * W₃ (ix2 (y 2) j))

/-- The cotangent of the gated hidden channels `g` at the cotangent `D` of `g w`. -/
def back (D : Acts) (W : Down) : Hid := fun y => ∑ d : Fin 1024, D (ix2 (y 0) d) * W (ix2 (y 1) d)

/-- The gradient of `silu a · b` in `a` at the cotangent `G`: the sigmoid's own derivative is `s (1 - s)`. -/
def gateGrad (G A B : Hid) : Hid :=
  fun y => G y * B y * Ideal.logistic (A y) + A y * (G y * B y) * (Ideal.logistic (A y) * (1 - Ideal.logistic (A y)))

/-- The gradient of `silu a · b` in `b` at the cotangent `G`. -/
def factorGrad (G A : Hid) : Hid := fun y => A y * Ideal.logistic (A y) * G y

/-! ## Finite values -/

/-- A value that is a real number. -/
def IsReal (x : EReal) : Prop := ∃ r : ℝ, x = r

theorem IsReal.mul {x y : EReal} : IsReal x → IsReal y → IsReal (x * y) := by
  rintro ⟨r, rfl⟩ ⟨s, rfl⟩
  exact ⟨r * s, (EReal.coe_mul r s).symm⟩

theorem IsReal.sum {n : ℕ} {f : Fin n → EReal} (h : ∀ i, IsReal (f i)) : IsReal (∑ i, f i) := by
  refine Finset.sum_induction f IsReal ?_ ⟨0, EReal.coe_zero.symm⟩ fun i _ => h i
  rintro _ _ ⟨r, rfl⟩ ⟨s, rfl⟩
  exact ⟨r + s, (EReal.coe_add r s).symm⟩

/-- A value whose magnitude is below infinity is a real number. -/
theorem real_of_below {x : EReal} (h : Ideal.cmp .olt (max x (-x)) (Ideal.ofBits .bf16 0x7F80#16) = 1#1) : IsReal x := by
  have e : Ideal.ofBits .bf16 0x7F80#16 = (⊤ : EReal) := by
    simp [Ideal.ofBits, Ideal.ieee]
  rw [e] at h
  induction x with
  | bot => simp [Ideal.cmp] at h
  | top => simp [Ideal.cmp] at h
  | coe r => exact ⟨r, rfl⟩

/-- The derivative of `a s` taken as `s (1 + a (1 - s))`, against the product rule's two terms: equal for a finite
    cotangent, at every `a`. -/
theorem gate_eq {c : EReal} (hc : IsReal c) (a : EReal) :
    c * (Ideal.logistic a * (1 + a * (1 - Ideal.logistic a)))
      = c * Ideal.logistic a + a * c * (Ideal.logistic a * (1 - Ideal.logistic a)) := by
  obtain ⟨r, rfl⟩ := hc
  have h1 : (1 : EReal) - 1 = 0 := by rw [← EReal.coe_one, ← EReal.coe_sub, sub_self, EReal.coe_zero]
  induction a with
  | bot => simp
  | top => simp [h1]
  | coe x =>
    rw [Ideal.logistic_coe]
    generalize (1 + Real.exp (-x))⁻¹ = s
    exact_mod_cast congrArg Real.toEReal (by ring : r * (s * (1 + x * (1 - s))) = r * s + x * r * (s * (1 - s)))

/-! ## Sums taken block by block -/

/-- The sum of the first `n` terms. -/
def upto {N : ℕ} (f : Fin N → EReal) (n : ℕ) : EReal := ∑ x ∈ Finset.range n, if h : x < N then f ⟨x, h⟩ else 0

theorem upto_zero {N : ℕ} (f : Fin N → EReal) : upto f 0 = 0 := Finset.sum_range_zero _

theorem upto_add {N : ℕ} (f : Fin N → EReal) (a b : ℕ) (h : a + b ≤ N) :
    upto f (a + b) = upto f a + ∑ r : Fin b, f ⟨a + r.val, by omega⟩ := by
  unfold upto
  rw [Finset.sum_range_add, Finset.sum_range (n := b)]
  congr 1
  exact Finset.sum_congr rfl fun r _ => dif_pos (by omega)

theorem upto_all {N : ℕ} (f : Fin N → EReal) : upto f N = ∑ i, f i := by
  unfold upto
  rw [Finset.sum_range]
  exact Finset.sum_congr rfl fun r _ => dif_pos r.isLt

end Cert.Ffn

end
-- ==== Proof.Ffn.Blocks.lean ====
module

public import proofs.«01_k».proof.Proof.Ffn.Spec

@[expose] public section

/-! # Blocks of the layer's arrays

Each launch cuts the tokens in 8 blocks of 1024 and keeps a part of the hidden channels whole.  A window standing at
block `b` and part `s` places the block's index `y` at `emb y`; these read the arrays there. -/

noncomputable section

namespace Cert.Ffn

open Idealize.ShloMosaic

/-- The token of row `r` of block `b`. -/
def tok (b : Fin 8) (r : Fin 1024) : Fin 8192 := ⟨b.val * 1024 + r.val, by omega⟩

/-- Where a window at block index `o`, with blocks of the sizes `n`, places `y`. -/
abbrev Stands {k : ℕ} {n N : Fin k → ℕ} (o : Fin k → ℕ) (emb : (⟨k, n⟩ : Shape).Idx → (⟨k, N⟩ : Shape).Idx) : Prop :=
  ∀ y (a : Fin k), (emb y a).val = o a * n a + 1 * (y a).val

theorem hidden_block (s : Fin 4) (b : Fin 8) (emb : (⟨3, ![1, 1024, 704]⟩ : Shape).Idx → (⟨3, ![4, 8192, 704]⟩ : Shape).Idx)
    (h : Stands ![s.val, b.val, 0] emb) (X : Hid) (y : (⟨3, ![1, 1024, 704]⟩ : Shape).Idx) :
    hidden X (emb y) = X (ix2 (tok b (y 1)) (chan s (y 2))) := by
  have e : emb y = (ix3 s (tok b (y 1)) (y 2) : (⟨3, ![4, 8192, 704]⟩ : Shape).Idx) := by
    funext a
    apply Fin.ext
    rw [h]
    match a with
    | 0 => show s.val * 1 + 1 * (y 0).val = s.val; have h0 : (y 0).val < 1 := (y 0).isLt; omega
    | 1 => show b.val * 1024 + 1 * (y 1).val = b.val * 1024 + (y 1).val; omega
    | 2 => show 0 * 704 + 1 * (y 2).val = (y 2).val; omega
  rw [e]
  rfl

/-- A window of whole parts of a weight. -/
theorem part_block (s : Fin 4) (emb : (⟨3, ![1, 704, 1024]⟩ : Shape).Idx → (⟨3, ![4, 704, 1024]⟩ : Shape).Idx)
    (h : Stands ![s.val, 0, 0] emb) (y : (⟨3, ![1, 704, 1024]⟩ : Shape).Idx) : emb y = ix3 s (y 1) (y 2) := by
  funext a
  apply Fin.ext
  rw [h]
  match a with
  | 0 => show s.val * 1 + 1 * (y 0).val = s.val; have h0 : (y 0).val < 1 := (y 0).isLt; omega
  | 1 => show 0 * 704 + 1 * (y 1).val = (y 1).val; omega
  | 2 => show 0 * 1024 + 1 * (y 2).val = (y 2).val; omega

theorem across_block (s : Fin 4) (emb : (⟨3, ![1, 704, 1024]⟩ : Shape).Idx → (⟨3, ![4, 704, 1024]⟩ : Shape).Idx)
    (h : Stands ![s.val, 0, 0] emb) (W : Up) (y : (⟨3, ![1, 704, 1024]⟩ : Shape).Idx) :
    across W (emb y) = W (ix2 (y 2) (chan s (y 1))) := by
  rw [part_block s emb h y]
  rfl

theorem down_block (s : Fin 4) (emb : (⟨3, ![1, 704, 1024]⟩ : Shape).Idx → (⟨3, ![4, 704, 1024]⟩ : Shape).Idx)
    (h : Stands ![s.val, 0, 0] emb) (W : Down) (y : (⟨3, ![1, 704, 1024]⟩ : Shape).Idx) :
    down W (emb y) = W (ix2 (chan s (y 1)) (y 2)) := by
  rw [part_block s emb h y]
  rfl

/-- A window of whole rows of the activations. -/
theorem rows_block (b : Fin 8) (emb : (⟨2, ![1024, 1024]⟩ : Shape).Idx → (⟨2, ![8192, 1024]⟩ : Shape).Idx)
    (h : Stands ![b.val, 0] emb) (y : (⟨2, ![1024, 1024]⟩ : Shape).Idx) : emb y = ix2 (tok b (y 0)) (y 1) := by
  funext a
  apply Fin.ext
  rw [h]
  match a with
  | 0 => show b.val * 1024 + 1 * (y 0).val = b.val * 1024 + (y 0).val; omega
  | 1 => show 0 * 1024 + 1 * (y 1).val = (y 1).val; omega

/-- The same under a leading axis of one. -/
theorem lifted_block (b : Fin 8) (emb : (⟨3, ![1, 1024, 1024]⟩ : Shape).Idx → (⟨3, ![1, 8192, 1024]⟩ : Shape).Idx)
    (h : Stands ![0, b.val, 0] emb) (y : (⟨3, ![1, 1024, 1024]⟩ : Shape).Idx) : emb y = ix3 0 (tok b (y 1)) (y 2) := by
  funext a
  apply Fin.ext
  rw [h]
  match a with
  | 0 => show 0 * 1 + 1 * (y 0).val = 0; have h0 : (y 0).val < 1 := (y 0).isLt; omega
  | 1 => show b.val * 1024 + 1 * (y 1).val = b.val * 1024 + (y 1).val; omega
  | 2 => show 0 * 1024 + 1 * (y 2).val = (y 2).val; omega

end Cert.Ffn

end
-- ==== Proof.Ffn.GradValue.lean ====
module

public import proofs.«01_k».proof.Proof.Gen.Kernel3Ideal.Value
public import proofs.«01_k».proof.Proof.Ffn.Blocks
public import Idealize.ShloMosaic.Lib.Pointwise
public import Idealize.ShloMosaic.Lib.Pipeline.ValueKit
public import Idealize.ShloMosaic.Lib.Claim

@[expose] public section

set_option maxRecDepth 16384

/-! # What the weight gradient's launch computes

Point `t` takes part `t / 8` of the hidden channels and the 1024 tokens from `t % 8 · 1024`; the part's 8 points add
their products up in the result's block. -/

noncomputable section

namespace Cert.Kernel3Ideal.Ffn

open Cert.Kernel3Ideal Cert.Kernel3Ideal.Gen
open Idealize.ShloMosaic Idealize.ShloMosaic.TcCoe Idealize.ShloMosaic.Tactic
open Idealize.SL.Sem
open Cert.Ffn

variable (m : (ℓ : Loc nD τ sig) → Buf (Elt Ideal) ℓ)

/-- The arguments. -/
abbrev argD (c : Dev nD) : Hid := m ((c : Thread nD τ).loc main_arg0)
abbrev argX (c : Dev nD) : Acts := m ((c : Thread nD τ).loc main_arg1)

/-- The activations under a leading axis of one. -/
def lifted (X : Acts) : Vec Ideal S1x8192x1024 .bf16 := fun y => X (ix2 (y 1) (y 2))

theorem V_d (c : Dev nD) : V m c main_v1 = hidden (argD m c) := by
  entry_read; funext y; pointwise; rfl
theorem V_x (c : Dev nD) : V m c main_v2 = lifted (argX m c) := by
  entry_read; funext y; pointwise; rfl

theorem index_d : ∀ t : Fin grid0.N, cc0_transform_0 (grid0.coords t) = ![t.val / 8, t.val % 8, 0] := by decide +kernel
theorem index_x : ∀ t : Fin grid0.N, cc0_transform_1 (grid0.coords t) = ![0, t.val % 8, 0] := by decide +kernel
theorem index_w : ∀ t : Fin grid0.N, cc0_transform_2 (grid0.coords t) = ![t.val / 8, 0, 0] := by decide +kernel

/-- The part a point takes. -/
def part (t : Fin 32) : Fin 4 := ⟨t.val / 8, by omega⟩
/-- The block of tokens a point takes. -/
def rows (t : Fin 32) : Fin 8 := ⟨t.val % 8, by omega⟩

section
variable (c : Dev nD) (t : Fin 32) (A : (b : Ref sig .tc) → Buf (Elt Ideal) ((c : Thread nD τ).loc b))

theorem block0 (D : Hid) (hA : A main_v1 = hidden D) (y : S1x1024x704.Idx) :
    ((cfg0.win 0).blk t).view.read (Elt Ideal) (A (Pipeline.arrRef spec0 0)) y = D (ix2 (tok (rows t) (y 1)) (chan (part t) (y 2))) := by
  show A main_v1 ((win0_0.blk t).view.emb y) = _
  rw [hA]
  exact hidden_block (part t) (rows t) _ (fun y a => congrArg (fun n => n * S1x1024x704.size a + 1 * (y a).val) (congrFun (index_d t) a)) D y

theorem block1 (X : Acts) (hA : A main_v2 = lifted X) (y : S1x1024x1024.Idx) :
    ((cfg0.win 1).blk t).view.read (Elt Ideal) (A (Pipeline.arrRef spec0 1)) y = X (ix2 (tok (rows t) (y 1)) (y 2)) := by
  show A main_v2 ((win0_1.blk t).view.emb y) = _
  rw [hA]
  exact congrArg (lifted X) (lifted_block (rows t) _ (fun y a => congrArg (fun n => n * S1x1024x1024.size a + 1 * (y a).val) (congrFun (index_x t) a)) y)

/-- Where the result's block stands. -/
theorem place (y : S1x704x1024.Idx) : (win0_2.blk t).view.emb y = (ix3 (part t) (y 1) (y 2) : S4x704x1024.Idx) :=
  part_block (part t) _ (fun y a => congrArg (fun n => n * S1x704x1024.size a + 1 * (y a).val) (congrFun (index_w t) a)) y
end

/-- The point's blocks. -/
theorem blk_d (c : Dev nD) (t : Fin 32) (y : S1x1024x704.Idx) :
    iblk m c 0 t y = argD m c (ix2 (tok (rows t) (y 1)) (chan (part t) (y 2))) := by
  unfold iblk; exact block0 c t (V m c) _ (V_d m c) y
theorem blk_x (c : Dev nD) (t : Fin 32) (y : S1x1024x1024.Idx) : iblk m c 1 t y = argX m c (ix2 (tok (rows t) (y 1)) (y 2)) := by
  unfold iblk; exact block1 c t (V m c) _ (V_x m c) y

/-- The products of a point. -/
theorem pay1_apply (d : Vec Ideal S1x1024x704 .bf16) (x : Vec Ideal S1x1024x1024 .bf16) (j : Fin 704) (e : Fin 1024) :
    k0_pay1 (F := Ideal) d x (ix2 j e) = ∑ r : Fin 1024, d (ix3 0 r j) * x (ix3 0 r e) := by
  pointwise [k0_pay1]

theorem pay2_apply (d : Vec Ideal S1x1024x704 .bf16) (x : Vec Ideal S1x1024x1024 .bf16) (y : S1x704x1024.Idx) :
    k0_pay2 (F := Ideal) d x y = k0_pay1 (F := Ideal) d x (ix2 (y 1) (y 2)) := by
  unfold k0_pay2; generalize k0_pay1 d x = p; pointwise

theorem pay3_apply (d : Vec Ideal S1x1024x704 .bf16) (x : Vec Ideal S1x1024x1024 .bf16) (o : Vec Ideal S1x704x1024 .f32)
    (y : S1x704x1024.Idx) :
    k0_pay3 (F := Ideal) d x o y = o y + k0_pay1 (F := Ideal) d x (ix2 (y 1) (y 2)) := by
  unfold k0_pay3; generalize k0_pay1 d x = p; pointwise

/-- The terms of an entry of the gradient. -/
def terms (c : Dev nD) (s : Fin 4) (j : Fin 704) (e : Fin 1024) : Fin 8192 → EReal :=
  fun r => argD m c (ix2 r (chan s j)) * argX m c (ix2 r e)

theorem product (c : Dev nD) (t : Fin 32) (j : Fin 704) (e : Fin 1024) :
    k0_pay1 (F := Ideal) (iblk m c 0 t) (iblk m c 1 t) (ix2 j e) = ∑ r : Fin 1024, terms m c (part t) j e (tok (rows t) r) :=
  (pay1_apply _ _ j e).trans (Finset.sum_congr rfl fun r _ => by rw [blk_d, blk_x]; rfl)

theorem first (c : Dev nD) (t : Fin cfg0.N) (h0 : t.val % 8 = 0) (h1 : ¬1 ≤ t.val % 8) :
    outsAt0 m c t.val t.isLt = k0_pay2 (F := Ideal) (iblk m c 0 t) (iblk m c 1 t) := by
  rw [outsAt0_A m c t h0 h1]
  frame_out

theorem later (c : Dev nD) (t : Fin cfg0.N) (h0 : ¬t.val % 8 = 0) (h1 : 1 ≤ t.val % 8) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 h1]
  frame_out

/-- After a point, the result's block is the sum over the part's tokens so far. -/
theorem block_at (c : Dev nD) (n : ℕ) : ∀ (hn : n < 32) (y : S1x704x1024.Idx),
    outsAt0 m c n (lt_of_lt_of_eq hn N_0.symm) y
      = upto (terms m c (⟨n / 8, by omega⟩ : Fin 4) (y 1) (y 2)) (n % 8 * 1024 + 1024) := by
  induction n using Nat.strong_induction_on with
  | _ n ih =>
    intro hn y
    have ht : n < cfg0.N := lt_of_lt_of_eq hn N_0.symm
    by_cases h0 : n % 8 = 0
    · have e := congrFun (first m c ⟨n, ht⟩ h0 (show ¬1 ≤ n % 8 by omega)) y
      refine e.trans ((pay2_apply _ _ y).trans ((product m c ⟨n, hn⟩ _ _).trans ?_))
      rw [show n % 8 * 1024 + 1024 = 0 + 1024 by omega, upto_add _ 0 1024 (by norm_num), upto_zero, zero_add]
      refine Finset.sum_congr rfl fun r _ => congrArg _ (Fin.ext ?_)
      show n % 8 * 1024 + r.val = 0 + r.val
      omega
    · rw [upto_add _ (n % 8 * 1024) 1024 (by omega)]
      have e := congrFun (later m c ⟨n, ht⟩ h0 (show 1 ≤ n % 8 by omega)) y
      refine e.trans ((pay3_apply _ _ _ y).trans (congrArg₂ (· + ·) ?_ (product m c ⟨n, hn⟩ _ _)))
      refine (ih (n - 1) (by omega) (by omega) _).trans ?_
      have es : (⟨(n - 1) / 8, by omega⟩ : Fin 4) = ⟨n / 8, by omega⟩ := Fin.ext (show (n - 1) / 8 = n / 8 by omega)
      rw [es, show (n - 1) % 8 * 1024 + 1024 = n % 8 * 1024 by omega]

theorem final_w (c : Dev nD) : (dats m 0 c).arrAt 2 cfg0.N = weightGrad (argD m c) (argX m c) := by
  refine (dats m 0 c).arrAt_eq_of_covers 2 _ (by decide +kernel) fun t hf y => ?_
  have h7 : t.val % 8 = 7 := (by decide +kernel : ∀ t : Fin cfg0.N, (cfg0.win 2).flush t = true → t.val % 8 = 7) t hf
  have ht : t.val < 32 := lt_of_lt_of_eq t.isLt N_0
  rw [after0_2]
  refine (block_at m c t.val ht y).trans ?_
  rw [show t.val % 8 * 1024 + 1024 = 8192 by omega, upto_all]
  exact (congrArg (weightGrad (argD m c) (argX m c)) (place t y)).symm

end Cert.Kernel3Ideal.Ffn

end
-- ==== Proof.Ffn.GradClaims.lean ====
module

public import proofs.«01_k».proof.Defs
public import proofs.«01_k».proof.Proof.Gen.Kernel3.Frame
public import proofs.«01_k».proof.Proof.Gen.Reference3Ideal.Run
public import proofs.«01_k».proof.Proof.Ffn.GradValue

@[expose] public section

set_option maxRecDepth 16384

/-! # The weight gradient: the claims

The launch and the reference each end with the gradient of the weight, laid out by part. -/

noncomputable section

namespace Cert.Reference3Ideal.Ffn

open Cert.Reference3Ideal
open Idealize.ShloMosaic Idealize.SL.Sem
open Cert.Ffn

/-- The reference terminates with the weight's gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = weightGrad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference3Ideal := fun m ρ _ =>
  (θ_run defs _ _).mono (fun r h => ⟨fun c => (h c).2, Idealize.ShloMosaic.sem_eq_zero_of_no_sems (by decide) r.2⟩)
    (Value.run (F := Ideal) m ρ)

end Cert.Reference3Ideal.Ffn

namespace Cert.Kernel3Ideal.Ffn

open Cert.Kernel3Ideal Cert.Kernel3Ideal.Gen
open Idealize.ShloMosaic Idealize.SL.Sem
open Cert.Ffn

/-- The launch terminates with the weight's gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = weightGrad (argD m c) (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2⟩) (Value.run_blocks m ρ)

/-- The launch's frames, at machine words and over the reals. -/
theorem frame_words : Cert.quiescent_Kernel3 := fun m ρ _ => Cert.Kernel3.Gen.frame m ρ
theorem frame_reals : Cert.quiescent_Kernel3Ideal := fun m ρ _ => Cert.Kernel3Ideal.Gen.frame m ρ

/-- The launch against the reference, over the reals. -/
theorem algebraic : Cert.algebraic_Kernel3Ideal_Reference3Ideal := by
  intro m ρ m' ρ' _ hagree
  refine ⟨_, run m ρ, ?_⟩
  refine (θ_run _ _ _).mono (fun r h c => ?_) (Cert.Reference3Ideal.Ffn.run m' ρ')
  obtain ⟨h0, h1⟩ := hagree c
  have H := h c
  rw [h0, h1] at H
  rw [h0, h1]
  exact H

end Cert.Kernel3Ideal.Ffn

end
-- ==== Proof.Ffn.ActsValue.lean ====
module

public import proofs.«01_k».proof.Proof.Gen.Kernel4Ideal.Value
public import proofs.«01_k».proof.Proof.Ffn.Blocks
public import Idealize.ShloMosaic.Lib.Pointwise
public import Idealize.ShloMosaic.Lib.Pipeline.ValueKit
public import Idealize.ShloMosaic.Lib.Claim

@[expose] public section

set_option maxRecDepth 16384

/-! # What the gradient of the layer's input computes

Point `t` takes the 1024 tokens from `t / 4 · 1024` and part `t % 4` of the hidden channels.  The 4 points of a block of
tokens add their pairs of products up in a scratch; the last of them writes it out. -/

noncomputable section

namespace Cert.Kernel4Ideal.Ffn

open Cert.Kernel4Ideal Cert.Kernel4Ideal.Gen
open Idealize.ShloMosaic Idealize.ShloMosaic.TcCoe Idealize.ShloMosaic.Tactic
open Idealize.SL.Sem
open Cert.Ffn

variable (m : (ℓ : Loc nD τ sig) → Buf (Elt Ideal) ℓ)

/-- The arguments. -/
abbrev argD1 (c : Dev nD) : Hid := m ((c : Thread nD τ).loc main_arg0)
abbrev argD3 (c : Dev nD) : Hid := m ((c : Thread nD τ).loc main_arg1)
abbrev argW1 (c : Dev nD) : Up := m ((c : Thread nD τ).loc main_arg2)
abbrev argW3 (c : Dev nD) : Up := m ((c : Thread nD τ).loc main_arg3)

theorem V_d1 (c : Dev nD) : V m c main_v1 = hidden (argD1 m c) := by
  entry_read; funext y; pointwise; rfl
theorem V_w1 (c : Dev nD) : V m c main_v3 = across (argW1 m c) := by
  entry_read; funext y; pointwise; rfl
theorem V_d3 (c : Dev nD) : V m c main_v5 = hidden (argD3 m c) := by
  entry_read; funext y; pointwise; rfl
theorem V_w3 (c : Dev nD) : V m c main_v7 = across (argW3 m c) := by
  entry_read; funext y; pointwise; rfl

theorem index_d1 : ∀ t : Fin grid0.N, cc0_transform_0 (grid0.coords t) = ![t.val % 4, t.val / 4, 0] := by decide +kernel
theorem index_w1 : ∀ t : Fin grid0.N, cc0_transform_1 (grid0.coords t) = ![t.val % 4, 0, 0] := by decide +kernel
theorem index_d3 : ∀ t : Fin grid0.N, cc0_transform_2 (grid0.coords t) = ![t.val % 4, t.val / 4, 0] := by decide +kernel
theorem index_w3 : ∀ t : Fin grid0.N, cc0_transform_3 (grid0.coords t) = ![t.val % 4, 0, 0] := by decide +kernel
theorem index_o : ∀ t : Fin grid0.N, cc0_transform_4 (grid0.coords t) = ![0, t.val / 4, 0] := by decide +kernel

/-- The part a point takes. -/
def part (t : Fin 32) : Fin 4 := ⟨t.val % 4, by omega⟩
/-- The block of tokens a point takes. -/
def rows (t : Fin 32) : Fin 8 := ⟨t.val / 4, by omega⟩

section
variable (c : Dev nD) (t : Fin 32) (A : (b : Ref sig .tc) → Buf (Elt Ideal) ((c : Thread nD τ).loc b))

theorem block0 (D : Hid) (hA : A main_v1 = hidden D) (y : S1x1024x704.Idx) :
    ((cfg0.win 0).blk t).view.read (Elt Ideal) (A (Pipeline.arrRef spec0 0)) y = D (ix2 (tok (rows t) (y 1)) (chan (part t) (y 2))) := by
  show A main_v1 ((win0_0.blk t).view.emb y) = _
  rw [hA]
  exact hidden_block (part t) (rows t) _ (fun y a => congrArg (fun n => n * S1x1024x704.size a + 1 * (y a).val) (congrFun (index_d1 t) a)) D y

theorem block1 (W : Up) (hA : A main_v3 = across W) (y : S1x704x1024.Idx) :
    ((cfg0.win 1).blk t).view.read (Elt Ideal) (A (Pipeline.arrRef spec0 1)) y = W (ix2 (y 2) (chan (part t) (y 1))) := by
  show A main_v3 ((win0_1.blk t).view.emb y) = _
  rw [hA]
  exact across_block (part t) _ (fun y a => congrArg (fun n => n * S1x704x1024.size a + 1 * (y a).val) (congrFun (index_w1 t) a)) W y

theorem block2 (D : Hid) (hA : A main_v5 = hidden D) (y : S1x1024x704.Idx) :
    ((cfg0.win 2).blk t).view.read (Elt Ideal) (A (Pipeline.arrRef spec0 2)) y = D (ix2 (tok (rows t) (y 1)) (chan (part t) (y 2))) := by
  show A main_v5 ((win0_2.blk t).view.emb y) = _
  rw [hA]
  exact hidden_block (part t) (rows t) _ (fun y a => congrArg (fun n => n * S1x1024x704.size a + 1 * (y a).val) (congrFun (index_d3 t) a)) D y

theorem block3 (W : Up) (hA : A main_v7 = across W) (y : S1x704x1024.Idx) :
    ((cfg0.win 3).blk t).view.read (Elt Ideal) (A (Pipeline.arrRef spec0 3)) y = W (ix2 (y 2) (chan (part t) (y 1))) := by
  show A main_v7 ((win0_3.blk t).view.emb y) = _
  rw [hA]
  exact across_block (part t) _ (fun y a => congrArg (fun n => n * S1x704x1024.size a + 1 * (y a).val) (congrFun (index_w3 t) a)) W y

/-- Where the result's block stands. -/
theorem place (y : S1x1024x1024.Idx) : (win0_4.blk t).view.emb y = (ix3 0 (tok (rows t) (y 1)) (y 2) : S1x8192x1024.Idx) :=
  lifted_block (rows t) _ (fun y a => congrArg (fun n => n * S1x1024x1024.size a + 1 * (y a).val) (congrFun (index_o t) a)) y
end

/-- The point's blocks. -/
theorem blk_d1 (c : Dev nD) (t : Fin 32) (y : S1x1024x704.Idx) :
    iblk m c 0 t y = argD1 m c (ix2 (tok (rows t) (y 1)) (chan (part t) (y 2))) := by
  unfold iblk; exact block0 c t (V m c) _ (V_d1 m c) y
theorem blk_w1 (c : Dev nD) (t : Fin 32) (y : S1x704x1024.Idx) : iblk m c 1 t y = argW1 m c (ix2 (y 2) (chan (part t) (y 1))) := by
  unfold iblk; exact block1 c t (V m c) _ (V_w1 m c) y
theorem blk_d3 (c : Dev nD) (t : Fin 32) (y : S1x1024x704.Idx) :
    iblk m c 2 t y = argD3 m c (ix2 (tok (rows t) (y 1)) (chan (part t) (y 2))) := by
  unfold iblk; exact block2 c t (V m c) _ (V_d3 m c) y
theorem blk_w3 (c : Dev nD) (t : Fin 32) (y : S1x704x1024.Idx) : iblk m c 3 t y = argW3 m c (ix2 (y 2) (chan (part t) (y 1))) := by
  unfold iblk; exact block3 c t (V m c) _ (V_w3 m c) y

section
variable (d d' : Vec Ideal S1x1024x704 .bf16) (w w' : Vec Ideal S1x704x1024 .bf16) (r e : Fin 1024)

/-- The products of a point. -/
theorem pay1_apply : k0_pay1 (F := Ideal) d w d' w' (ix2 r e)
    = (∑ j : Fin 704, d (ix3 0 r j) * w (ix3 0 j e)) + ∑ j : Fin 704, d' (ix3 0 r j) * w' (ix3 0 j e) := by
  pointwise [k0_pay1]

theorem pay2_eq : k0_pay2 (F := Ideal) d w d' w' (ix2 r e) = k0_pay1 (F := Ideal) d w d' w' (ix2 r e) := by
  unfold k0_pay2; generalize k0_pay1 d w d' w' = p; pointwise

theorem pay3_eq (o : Vec Ideal S1024x1024 .f32) :
    k0_pay3 (F := Ideal) d w d' w' o (ix2 r e) = o (ix2 r e) + k0_pay1 (F := Ideal) d w d' w' (ix2 r e) := by
  unfold k0_pay3; generalize k0_pay1 d w d' w' = p; pointwise
end

theorem pay4_apply (o : Vec Ideal S1024x1024 .f32) (y : S1x1024x1024.Idx) :
    k0_pay4 (F := Ideal) o y = o (ix2 (y 1) (y 2)) := by
  pointwise [k0_pay4]

/-- The terms of an entry of the result. -/
def terms (c : Dev nD) (r : Fin 8192) (e : Fin 1024) : Fin 2816 → EReal :=
  fun j => argD1 m c (ix2 r j) * argW1 m c (ix2 e j) + argD3 m c (ix2 r j) * argW3 m c (ix2 e j)

theorem product (c : Dev nD) (t : Fin 32) (r e : Fin 1024) :
    k0_pay1 (F := Ideal) (iblk m c 0 t) (iblk m c 1 t) (iblk m c 2 t) (iblk m c 3 t) (ix2 r e)
      = ∑ j : Fin 704, terms m c (tok (rows t) r) e (chan (part t) j) :=
  (pay1_apply _ _ _ _ r e).trans (Finset.sum_add_distrib.symm.trans (Finset.sum_congr rfl fun j _ => by
    rw [blk_d1, blk_w1, blk_d3, blk_w3]; rfl))

theorem first (c : Dev nD) (t : Fin cfg0.N) (h0 : t.val % 4 = 0) :
    (outsAt0 m c t.val t.isLt).2 = k0_pay2 (F := Ideal) (iblk m c 0 t) (iblk m c 1 t) (iblk m c 2 t) (iblk m c 3 t) := by
  rw [outsAt0_A m c t h0 (by omega) (by omega)]
  frame_out

theorem later (c : Dev nD) (t : Fin cfg0.N) (h0 : ¬t.val % 4 = 0) :
    (outsAt0 m c t.val t.isLt).2 = k0_pay3 (F := Ideal) (iblk m c 0 t) (iblk m c 1 t) (iblk m c 2 t) (iblk m c 3 t)
      (outsAt0 m c (t.val - 1) (Nat.lt_of_le_of_lt (Nat.sub_le _ _) t.isLt)).2 := by
  by_cases h2 : t.val % 4 = 3
  · rw [outsAt0_C m c t h0 (by omega) h2]
    frame_out
    exact congrArg _ ((Memref.isWhole_whole cc0_scratch0).read_unread _)
  · rw [outsAt0_B m c t h0 (by omega) h2]
    frame_out
    exact congrArg _ ((Memref.isWhole_whole cc0_scratch0).read_unread _)

/-- The last point of a block of tokens writes the scratch out. -/
theorem last (c : Dev nD) (t : Fin cfg0.N) (h2 : t.val % 4 = 3) :
    (outsAt0 m c t.val t.isLt).1 = k0_pay4 (F := Ideal) (outsAt0 m c t.val t.isLt).2 := by
  rw [later m c t (by omega), outsAt0_C m c t (by omega) (by omega) h2]
  frame_out
  exact congrArg (fun o => k0_pay4 (k0_pay3 _ _ _ _ o)) ((Memref.isWhole_whole cc0_scratch0).read_unread _)

/-- After a point, the scratch is the sum over the parts so far. -/
theorem scratch_at (c : Dev nD) (n : ℕ) : ∀ (hn : n < 32) (r e : Fin 1024),
    (outsAt0 m c n (lt_of_lt_of_eq hn N_0.symm)).2 (ix2 r e)
      = upto (terms m c (⟨n / 4 * 1024 + r.val, by omega⟩ : Fin 8192) e) (n % 4 * 704 + 704) := by
  induction n using Nat.strong_induction_on with
  | _ n ih =>
    intro hn r e
    have ht : n < cfg0.N := lt_of_lt_of_eq hn N_0.symm
    by_cases h0 : n % 4 = 0
    · have q := congrFun (first m c ⟨n, ht⟩ h0) (ix2 r e)
      refine q.trans ((pay2_eq _ _ _ _ r e).trans ((product m c ⟨n, hn⟩ _ _).trans ?_))
      rw [show n % 4 * 704 + 704 = 0 + 704 by omega, upto_add _ 0 704 (by norm_num), upto_zero, zero_add]
      refine Finset.sum_congr rfl fun j _ => congrArg _ (Fin.ext ?_)
      show n % 4 * 704 + j.val = 0 + j.val
      omega
    · rw [upto_add _ (n % 4 * 704) 704 (by omega)]
      have q := congrFun (later m c ⟨n, ht⟩ h0) (ix2 r e)
      refine q.trans ((pay3_eq _ _ _ _ r e _).trans (congrArg₂ (· + ·) ?_ (product m c ⟨n, hn⟩ _ _)))
      refine (ih (n - 1) (by omega) (by omega) _ _).trans ?_
      have es : (⟨(n - 1) / 4 * 1024 + r.val, by omega⟩ : Fin 8192) = ⟨n / 4 * 1024 + r.val, by omega⟩ :=
        Fin.ext (show (n - 1) / 4 * 1024 + r.val = n / 4 * 1024 + r.val by omega)
      rw [es, show (n - 1) % 4 * 704 + 704 = n % 4 * 704 by omega]

theorem final_o (c : Dev nD) : (dats m 0 c).arrAt 4 cfg0.N = actsGrad (argD1 m c) (argD3 m c) (argW1 m c) (argW3 m c) := by
  refine (dats m 0 c).arrAt_eq_of_covers 4 _ (by decide +kernel) fun t hf y => ?_
  have h3 : t.val % 4 = 3 := (by decide +kernel : ∀ t : Fin cfg0.N, (cfg0.win 4).flush t = true → t.val % 4 = 3) t hf
  have ht : t.val < 32 := lt_of_lt_of_eq t.isLt N_0
  rw [after0_4, last m c t h3]
  refine (pay4_apply _ y).trans ((scratch_at m c t.val ht (y 1) (y 2)).trans ?_)
  rw [show t.val % 4 * 704 + 704 = 2816 by omega, upto_all]
  exact (congrArg (actsGrad (argD1 m c) (argD3 m c) (argW1 m c) (argW3 m c)) (place t y)).symm

end Cert.Kernel4Ideal.Ffn

end
-- ==== Proof.Ffn.ActsClaims.lean ====
module

public import proofs.«01_k».proof.Defs
public import proofs.«01_k».proof.Proof.Gen.Kernel4.Frame
public import proofs.«01_k».proof.Proof.Gen.Reference4Ideal.Run
public import proofs.«01_k».proof.Proof.Ffn.ActsValue

@[expose] public section

set_option maxRecDepth 16384

/-! # The gradient of the layer's input: the claims

The launch and the reference each end with that gradient. -/

noncomputable section

namespace Cert.Reference4Ideal.Ffn

open Cert.Reference4Ideal
open Idealize.ShloMosaic Idealize.SL.Sem
open Cert.Ffn

/-- The reference terminates with the gradient of the layer's input, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10) = actsGrad (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2⟩
    funext y; pointwise
    exact (add_comm _ _).trans Finset.sum_add_distrib.symm) (Value.run m ρ)

/-- The reference's frame. -/
theorem frame : Cert.quiescent_Reference4Ideal := fun m ρ _ =>
  (θ_run defs _ _).mono (fun r h => ⟨fun c => (h c).2, Idealize.ShloMosaic.sem_eq_zero_of_no_sems (by decide) r.2⟩)
    (Value.run (F := Ideal) m ρ)

end Cert.Reference4Ideal.Ffn

namespace Cert.Kernel4Ideal.Ffn

open Cert.Kernel4Ideal Cert.Kernel4Ideal.Gen
open Idealize.ShloMosaic Idealize.SL.Sem
open Cert.Ffn

/-- The launch terminates with the gradient of the layer's input, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = actsGrad (argD1 m c) (argD3 m c) (argW1 m c) (argW3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_o m c), (h c).2⟩) (Value.run_blocks m ρ)

/-- The launch's frames, at machine words and over the reals. -/
theorem frame_words : Cert.quiescent_Kernel4 := fun m ρ _ => Cert.Kernel4.Gen.frame m ρ
theorem frame_reals : Cert.quiescent_Kernel4Ideal := fun m ρ _ => Cert.Kernel4Ideal.Gen.frame m ρ

/-- The launch against the reference, over the reals. -/
theorem algebraic : Cert.algebraic_Kernel4Ideal_Reference4Ideal := by
  intro m ρ m' ρ' _ hagree
  refine ⟨_, run m ρ, ?_⟩
  refine (θ_run _ _ _).mono (fun r h c => ?_) (Cert.Reference4Ideal.Ffn.run m' ρ')
  obtain ⟨h0, h1, h2, h3⟩ := hagree c
  have H := h c
  rw [h0, h1, h2, h3] at H
  rw [h0, h1, h2, h3]
  exact H

end Cert.Kernel4Ideal.Ffn

end
-- ==== Proof.Ffn.BackValue.lean ====
module

public import proofs.«01_k».proof.Proof.Gen.Kernel5Ideal.Value
public import proofs.«01_k».proof.Proof.Ffn.Blocks
public import Idealize.ShloMosaic.Lib.Pointwise
public import Idealize.ShloMosaic.Lib.Pipeline.ValueKit
public import Idealize.ShloMosaic.Lib.Claim

@[expose] public section

set_option maxRecDepth 16384

/-! # What the gradient of the hidden channels computes

Point `t` of the launch takes part `t / 8` of the hidden channels at the 1024 tokens from `t % 8 · 1024`. -/

noncomputable section

namespace Cert.Kernel5Ideal.Ffn

open Cert.Kernel5Ideal Cert.Kernel5Ideal.Gen
open Idealize.ShloMosaic Idealize.ShloMosaic.TcCoe Idealize.ShloMosaic.Tactic
open Idealize.SL.Sem
open Cert.Ffn

variable (m : (ℓ : Loc nD τ sig) → Buf (Elt Ideal) ℓ)

/-- The arguments. -/
abbrev argD (c : Dev nD) : Acts := m ((c : Thread nD τ).loc main_arg0)
abbrev argW (c : Dev nD) : Down := m ((c : Thread nD τ).loc main_arg1)
abbrev argH1 (c : Dev nD) : Hid := m ((c : Thread nD τ).loc main_arg2)
abbrev argH3 (c : Dev nD) : Hid := m ((c : Thread nD τ).loc main_arg3)

theorem V_df (c : Dev nD) : V m c main_arg0 = argD m c := by
  entry_read; rfl
theorem V_w2 (c : Dev nD) : V m c main_v0 = down (argW m c) := by
  entry_read; funext y; pointwise; rfl
theorem V_h1 (c : Dev nD) : V m c main_v2 = hidden (argH1 m c) := by
  entry_read; funext y; pointwise; rfl
theorem V_h3 (c : Dev nD) : V m c main_v4 = hidden (argH3 m c) := by
  entry_read; funext y; pointwise; rfl

theorem index_df : ∀ t : Fin grid0.N, cc0_transform_0 (grid0.coords t) = ![t.val % 8, 0] := by decide +kernel
theorem index_w2 : ∀ t : Fin grid0.N, cc0_transform_1 (grid0.coords t) = ![t.val / 8, 0, 0] := by decide +kernel
theorem index_h1 : ∀ t : Fin grid0.N, cc0_transform_2 (grid0.coords t) = ![t.val / 8, t.val % 8, 0] := by decide +kernel
theorem index_h3 : ∀ t : Fin grid0.N, cc0_transform_3 (grid0.coords t) = ![t.val / 8, t.val % 8, 0] := by decide +kernel
theorem index_d1 : ∀ t : Fin grid0.N, cc0_transform_4 (grid0.coords t) = ![t.val / 8, t.val % 8, 0] := by decide +kernel
theorem index_d3 : ∀ t : Fin grid0.N, cc0_transform_5 (grid0.coords t) = ![t.val / 8, t.val % 8, 0] := by decide +kernel

/-- The part a point takes. -/
def part (t : Fin 32) : Fin 4 := ⟨t.val / 8, by omega⟩
/-- The block of tokens a point takes. -/
def rows (t : Fin 32) : Fin 8 := ⟨t.val % 8, by omega⟩

section
variable (c : Dev nD) (t : Fin 32) (A : (b : Ref sig .tc) → Buf (Elt Ideal) ((c : Thread nD τ).loc b))

theorem block0 (X : Acts) (hA : A main_arg0 = X) (y : S1024x1024.Idx) :
    ((cfg0.win 0).blk t).view.read (Elt Ideal) (A (Pipeline.arrRef spec0 0)) y = X (ix2 (tok (rows t) (y 0)) (y 1)) := by
  show A main_arg0 ((win0_0.blk t).view.emb y) = _
  rw [hA]
  exact congrArg X (rows_block (rows t) _ (fun y a => congrArg (fun n => n * S1024x1024.size a + 1 * (y a).val) (congrFun (index_df t) a)) y)

theorem block1 (W : Down) (hA : A main_v0 = down W) (y : S1x704x1024.Idx) :
    ((cfg0.win 1).blk t).view.read (Elt Ideal) (A (Pipeline.arrRef spec0 1)) y = W (ix2 (chan (part t) (y 1)) (y 2)) := by
  show A main_v0 ((win0_1.blk t).view.emb y) = _
  rw [hA]
  exact down_block (part t) _ (fun y a => congrArg (fun n => n * S1x704x1024.size a + 1 * (y a).val) (congrFun (index_w2 t) a)) W y

theorem block2 (X : Hid) (hA : A main_v2 = hidden X) (y : S1x1024x704.Idx) :
    ((cfg0.win 2).blk t).view.read (Elt Ideal) (A (Pipeline.arrRef spec0 2)) y = X (ix2 (tok (rows t) (y 1)) (chan (part t) (y 2))) := by
  show A main_v2 ((win0_2.blk t).view.emb y) = _
  rw [hA]
  exact hidden_block (part t) (rows t) _ (fun y a => congrArg (fun n => n * S1x1024x704.size a + 1 * (y a).val) (congrFun (index_h1 t) a)) X y

theorem block3 (X : Hid) (hA : A main_v4 = hidden X) (y : S1x1024x704.Idx) :
    ((cfg0.win 3).blk t).view.read (Elt Ideal) (A (Pipeline.arrRef spec0 3)) y = X (ix2 (tok (rows t) (y 1)) (chan (part t) (y 2))) := by
  show A main_v4 ((win0_3.blk t).view.emb y) = _
  rw [hA]
  exact hidden_block (part t) (rows t) _ (fun y a => congrArg (fun n => n * S1x1024x704.size a + 1 * (y a).val) (congrFun (index_h3 t) a)) X y

end

/-- The point's blocks. -/
theorem blk_df (c : Dev nD) (t : Fin 32) (y : S1024x1024.Idx) : iblk m c 0 t y = argD m c (ix2 (tok (rows t) (y 0)) (y 1)) := by
  unfold iblk; exact block0 c t (V m c) _ (V_df m c) y
theorem blk_w2 (c : Dev nD) (t : Fin 32) (y : S1x704x1024.Idx) : iblk m c 1 t y = argW m c (ix2 (chan (part t) (y 1)) (y 2)) := by
  unfold iblk; exact block1 c t (V m c) _ (V_w2 m c) y
theorem blk_h1 (c : Dev nD) (t : Fin 32) (y : S1x1024x704.Idx) :
    iblk m c 2 t y = argH1 m c (ix2 (tok (rows t) (y 1)) (chan (part t) (y 2))) := by
  unfold iblk; exact block2 c t (V m c) _ (V_h1 m c) y
theorem blk_h3 (c : Dev nD) (t : Fin 32) (y : S1x1024x704.Idx) :
    iblk m c 3 t y = argH3 m c (ix2 (tok (rows t) (y 1)) (chan (part t) (y 2))) := by
  unfold iblk; exact block3 c t (V m c) _ (V_h3 m c) y

section
variable (x : Vec Ideal S1024x1024 .bf16) (w : Vec Ideal S1x704x1024 .bf16) (h h' : Vec Ideal S1x1024x704 .bf16) (r : Fin 1024) (j : Fin 704)

/-- The product of a point. -/
theorem pay1_apply : k0_pay1 (F := Ideal) x w (ix2 r j) = ∑ d : Fin 1024, x (ix2 r d) * w (ix3 0 j d) := by
  pointwise [k0_pay1]

theorem pay4_apply (y : S1x1024x704.Idx) :
    k0_pay4 (F := Ideal) x w h y = k0_pay1 (F := Ideal) x w (ix2 (y 1) (y 2)) * (h y * Ideal.logistic (h y)) := by
  unfold k0_pay4; generalize k0_pay1 x w = p; pointwise [k0_pay2, k0_pay3]

theorem pay5_apply (y : S1x1024x704.Idx) :
    k0_pay5 (F := Ideal) x w h h' y = k0_pay1 (F := Ideal) x w (ix2 (y 1) (y 2)) * h' y
      * (Ideal.logistic (h y) * (1 + h y * (1 - Ideal.logistic (h y)))) := by
  unfold k0_pay5; generalize k0_pay1 x w = p; pointwise [k0_pay2, k0_pay3]
end

theorem product (c : Dev nD) (t : Fin 32) (r : Fin 1024) (j : Fin 704) :
    k0_pay1 (F := Ideal) (iblk m c 0 t) (iblk m c 1 t) (ix2 r j) = back (argD m c) (argW m c) (ix2 (tok (rows t) r) (chan (part t) j)) :=
  (pay1_apply _ _ r j).trans (Finset.sum_congr rfl fun d _ => by rw [blk_df, blk_w2]; rfl)

theorem factor_at (c : Dev nD) (t : Fin 32) (y : S1x1024x704.Idx) :
    k0_pay4 (F := Ideal) (iblk m c 0 t) (iblk m c 1 t) (iblk m c 2 t) y
      = factorGrad (back (argD m c) (argW m c)) (argH1 m c) (ix2 (tok (rows t) (y 1)) (chan (part t) (y 2))) := by
  refine (pay4_apply _ _ _ y).trans ?_
  have p := product m c t (y 1) (y 2)
  have a := blk_h1 m c t y
  exact (congrArg₂ (fun g a : EReal => g * (a * Ideal.logistic a)) p a).trans (mul_comm _ _)

/-- Where the cotangent and the factor it meets are finite. -/
theorem gate_at (c : Dev nD) (hg : ∀ y, IsReal (back (argD m c) (argW m c) y)) (h3 : ∀ y, IsReal (argH3 m c y)) (t : Fin 32) (y : S1x1024x704.Idx) :
    k0_pay5 (F := Ideal) (iblk m c 0 t) (iblk m c 1 t) (iblk m c 2 t) (iblk m c 3 t) y
      = gateGrad (back (argD m c) (argW m c)) (argH1 m c) (argH3 m c) (ix2 (tok (rows t) (y 1)) (chan (part t) (y 2))) := by
  refine (pay5_apply _ _ _ _ y).trans ?_
  have p := congrArg₂ (fun g b : EReal => g * b) (product m c t (y 1) (y 2)) (blk_h3 m c t y)
  have a := blk_h1 m c t y
  exact (congrArg₂ (fun g a : EReal => g * (Ideal.logistic a * (1 + a * (1 - Ideal.logistic a)))) p a).trans
    (gate_eq ((hg _).mul (h3 _)) _)

theorem final_d1 (c : Dev nD)
    (hg : ∀ y, IsReal (back (argD m c) (argW m c) y)) (h3 : ∀ y, IsReal (argH3 m c y)) : (dats m 0 c).arrAt 4 cfg0.N = hidden (gateGrad (back (argD m c) (argW m c)) (argH1 m c) (argH3 m c)) := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide), View.ld_unit_lit _ _ (by decide), View.ld_unit_lit _ _ (by decide)]
  exact (gate_at m c hg h3 t y).trans
    (hidden_block (part t) (rows t) _ (fun y a => congrArg (fun n => n * S1x1024x704.size a + 1 * (y a).val) (congrFun (index_d1 t) a)) _ y).symm

theorem final_d3 (c : Dev nD) : (dats m 0 c).arrAt 5 cfg0.N = hidden (factorGrad (back (argD m c) (argW m c)) (argH1 m c)) := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide), View.ld_unit_lit _ _ (by decide)]
  exact (factor_at m c t y).trans
    (hidden_block (part t) (rows t) _ (fun y a => congrArg (fun n => n * S1x1024x704.size a + 1 * (y a).val) (congrFun (index_d3 t) a)) _ y).symm

end Cert.Kernel5Ideal.Ffn

end
-- ==== Proof.Ffn.BackClaims.lean ====
module

public import proofs.«01_k».proof.Defs
public import proofs.«01_k».proof.Proof.Gen.Kernel5.Frame
public import proofs.«01_k».proof.Proof.Gen.Reference5Ideal.Run
public import proofs.«01_k».proof.Proof.Gen.Pre_finite
public import proofs.«01_k».proof.Proof.Ffn.BackValue

@[expose] public section

set_option maxRecDepth 16384

/-! # The gradient of the hidden channels: the claims

Where the cotangent, the weight and the hidden channels `h3` are finite, the launch and the reference end with the two
gradients of the gated hidden channels, laid out by part. -/

noncomputable section

namespace Cert.Reference5Ideal.Ffn

open Cert.Reference5Ideal
open Idealize.ShloMosaic Idealize.SL.Sem
open Cert.Ffn

/-- The reference terminates with the hidden channels' gradients, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = hidden (gateGrad (back (m ((c.tc : Thread nD τ).loc main_arg0)) (m ((c.tc : Thread nD τ).loc main_arg1))) (m ((c.tc : Thread nD τ).loc main_arg2)) (m ((c.tc : Thread nD τ).loc main_arg3)))
      ∧ r.2.mem ((c.tc : Thread nD τ).loc main_v16) = hidden (factorGrad (back (m ((c.tc : Thread nD τ).loc main_arg0)) (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h1, h3, ha⟩ := h c
    refine ⟨h1.trans ?_, h3.trans ?_, ha⟩
    · funext y; pointwise; rfl
    · funext y; pointwise; rfl) (Value.run m ρ)

/-- The reference's frame, at any arguments and at finite ones. -/
theorem frame : Cert.quiescent_Reference5Ideal := fun m ρ _ =>
  (θ_run defs _ _).mono (fun r h => ⟨fun c => (h c).2.2, Idealize.ShloMosaic.sem_eq_zero_of_no_sems (by decide) r.2⟩)
    (Value.run (F := Ideal) m ρ)
theorem frame_finite : Cert.quiescent_Reference5Ideal_pre_finite := fun m ρ _ => frame m ρ trivial

end Cert.Reference5Ideal.Ffn

namespace Cert.Kernel5Ideal.Ffn

open Cert.Kernel5Ideal Cert.Kernel5Ideal.Gen
open Idealize.ShloMosaic Idealize.SL.Sem
open Cert.Ffn

/-- The precondition, read at the arguments. -/
theorem real_args (m : (ℓ : Loc nD τ sig) → Buf (Elt Ideal) ℓ) (h : Cert.Pre_Kernel5Ideal_finite m) (c : Dev nD) :
    (∀ y, IsReal (argD m c y)) ∧ (∀ y, IsReal (argW m c y)) ∧ ∀ y, IsReal (argH3 m c y) := by
  obtain ⟨h0, h1, h3⟩ := h c
  exact ⟨fun y => real_of_below (congrFun h0 y), fun y => real_of_below (congrFun h1 y), fun y => real_of_below (congrFun h3 y)⟩

/-- From finite arguments the launch terminates with the hidden channels' gradients, its arguments unchanged. -/
theorem run (m : (ℓ : Loc nD τ sig) → Buf (Elt Ideal) ℓ) (h : Cert.Pre_Kernel5Ideal_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5_0) = hidden (gateGrad (back (argD m c) (argW m c)) (argH1 m c) (argH3 m c))
      ∧ r.2.mem ((c.tc : Thread nD τ).loc main_v5_1) = hidden (factorGrad (back (argD m c) (argW m c)) (argH1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ H c => by
    obtain ⟨fd, fw, f3⟩ := real_args m h c
    exact ⟨(H c).1.trans (final_d1 m c (fun y => IsReal.sum fun d => (fd _).mul (fw _)) f3), (H c).2.1.trans (final_d3 m c), (H c).2.2⟩)
    (Value.run_blocks m ρ)

/-- The launch's frames, at machine words and over the reals. -/
theorem frame_words : Cert.quiescent_Kernel5 := fun m ρ _ => Cert.Kernel5.Gen.frame m ρ
theorem frame_reals : Cert.quiescent_Kernel5Ideal := fun m ρ _ => Cert.Kernel5Ideal.Gen.frame m ρ
theorem frame_reals_finite : Cert.quiescent_Kernel5Ideal_pre_finite := fun m ρ _ => Cert.Kernel5Ideal.Gen.frame m ρ

/-- The launch against the reference, over the reals. -/
theorem algebraic : Cert.algebraic_Kernel5Ideal_Reference5Ideal_pre_finite := by
  intro m ρ m' ρ' h hagree
  refine ⟨_, _, run m h ρ, ?_⟩
  refine (θ_run _ _ _).mono (fun r hr c => ?_) (Cert.Reference5Ideal.Ffn.run m' ρ')
  obtain ⟨h0, h1, h2, h3⟩ := hagree c
  have H := hr c
  rw [h0, h1, h2, h3] at H
  rw [h0, h1, h2, h3]
  exact H

end Cert.Kernel5Ideal.Ffn

end
-- ==== Proof.Proj.Spec.lean ====
module

public import proofs.«01_k».proof.Proof.Ffn.Blocks

@[expose] public section

/-! # The projections' products, and the blocks they are computed in

The launches read matrices under a leading axis of one, cut in blocks of whole rows. -/

noncomputable section

namespace Cert.Proj

open Idealize.ShloMosaic
open Cert.Ffn

/-- A matrix, and a matrix under a leading axis of one. -/
abbrev Mat (a b : ℕ) (φ : EltTy) := Vec Ideal ⟨2, ![a, b]⟩ φ
abbrev Sheet (a b : ℕ) (φ : EltTy) := Vec Ideal ⟨3, ![1, a, b]⟩ φ

variable {a b k : ℕ}

/-- A matrix under a leading axis of one, as it stands and transposed. -/
def sheet {φ : EltTy} (X : Mat a b φ) : Sheet a b φ := fun y => X (ix2 (y 1) (y 2))
def turned {φ : EltTy} (X : Mat a b φ) : Sheet b a φ := fun y => X (ix2 (y 2) (y 1))

/-- The product of `X` and `W`. -/
def times (X : Mat a k .bf16) (W : Mat k b .bf16) : Sheet a b .f32 :=
  fun y => ∑ d : Fin k, X (ix2 (y 1) d) * W (ix2 d (y 2))
/-- The product of `X` and `W` transposed. -/
def timesT (X : Mat a k .bf16) (W : Mat b k .bf16) : Sheet a b .f32 :=
  fun y => ∑ d : Fin k, X (ix2 (y 1) d) * W (ix2 (y 2) d)
/-- The product of `X` transposed and `W`. -/
def tTimes (X : Mat k a .bf16) (W : Mat k b .bf16) : Sheet a b .f32 :=
  fun y => ∑ d : Fin k, X (ix2 d (y 1)) * W (ix2 d (y 2))

/-- A window at rows `i` and columns `j` of a matrix. -/
theorem place {p q P Q r s : ℕ} (emb : (⟨3, ![1, p, q]⟩ : Shape).Idx → (⟨3, ![1, P, Q]⟩ : Shape).Idx)
    (h : Stands ![0, r, s] emb) (y : (⟨3, ![1, p, q]⟩ : Shape).Idx) (i : Fin P) (j : Fin Q)
    (hi : i.val = r * p + (y 1).val) (hj : j.val = s * q + (y 2).val) : emb y = ix3 0 i j := by
  funext a
  apply Fin.ext
  rw [h]
  match a with
  | 0 => show 0 * 1 + 1 * (y 0).val = 0; have h0 : (y 0).val < 1 := (y 0).isLt; omega
  | 1 => show r * p + 1 * (y 1).val = i.val; omega
  | 2 => show s * q + 1 * (y 2).val = j.val; omega

/-- A window of 1024 whole rows of the tokens. -/
theorem place_rows {q : ℕ} (t : Fin 8) (emb : (⟨3, ![1, 1024, q]⟩ : Shape).Idx → (⟨3, ![1, 8192, q]⟩ : Shape).Idx)
    (h : Stands ![0, t.val, 0] emb) (y : (⟨3, ![1, 1024, q]⟩ : Shape).Idx) : emb y = ix3 0 (tok t (y 1)) (y 2) :=
  place emb h y _ _ rfl (show (y 2).val = 0 * q + (y 2).val by omega)

/-- A window of a whole matrix. -/
theorem place_all {p q : ℕ} (emb : (⟨3, ![1, p, q]⟩ : Shape).Idx → (⟨3, ![1, p, q]⟩ : Shape).Idx)
    (h : Stands ![0, 0, 0] emb) (y : (⟨3, ![1, p, q]⟩ : Shape).Idx) : emb y = y := by
  funext a
  apply Fin.ext
  rw [h]
  match a with
  | 0 => show 0 * 1 + 1 * (y 0).val = (y 0).val; omega
  | 1 => show 0 * p + 1 * (y 1).val = (y 1).val; omega
  | 2 => show 0 * q + 1 * (y 2).val = (y 2).val; omega

/-- Row `r` of the tokens' block `t` of 512. -/
def half (t : Fin 16) (r : Fin 512) : Fin 8192 := ⟨t.val * 512 + r.val, by omega⟩

/-- A window of 512 whole rows of the tokens. -/
theorem place_half {q : ℕ} (t : Fin 16) (emb : (⟨3, ![1, 512, q]⟩ : Shape).Idx → (⟨3, ![1, 8192, q]⟩ : Shape).Idx)
    (h : Stands ![0, t.val, 0] emb) (y : (⟨3, ![1, 512, q]⟩ : Shape).Idx) : emb y = ix3 0 (half t (y 1)) (y 2) :=
  place emb h y _ _ rfl (show (y 2).val = 0 * q + (y 2).val by omega)

/-- An entry of a token's cotangent through a projection's weight. -/
def share (D : Mat a k .bf16) (W : Mat b k .bf16) (r : Fin a) (e : Fin b) : EReal := ∑ j : Fin k, D (ix2 r j) * W (ix2 e j)

/-- A point's product of a block of 512 tokens and a weight is the projection's share there. -/
theorem share_block (D : Mat 8192 k .bf16) (W : Mat 1024 k .bf16) (t : Fin 16) (d : Sheet 512 k .bf16) (w : Sheet k 1024 .bf16)
    (hd : ∀ y, d y = D (ix2 (half t (y 1)) (y 2))) (hw : ∀ y, w y = W (ix2 (y 2) (y 1))) (r : Fin 512) (e : Fin 1024) :
    (∑ j : Fin k, d (ix3 0 r j) * w (ix3 0 j e)) = share D W (half t r) e :=
  Finset.sum_congr rfl fun j _ => by rw [hd, hw]; rfl

/-- Six addends, added up from either end. -/
theorem either_end (a b c d e f : EReal) : f + e + d + c + b + a = a + b + c + d + e + f := by ac_rfl

/-- A total that starts with the first block of tokens and takes in a block at a time ends as the sum over all tokens. -/
theorem fold_blocks (f : Fin 8192 → EReal) (o : (n : ℕ) → n < 8 → EReal)
    (first : ∀ h, o 0 h = ∑ r, f (tok ⟨0, h⟩ r))
    (later : ∀ n (h : n + 1 < 8), o (n + 1) h = o n (Nat.lt_of_succ_lt h) + ∑ r, f (tok ⟨n + 1, h⟩ r)) :
    o 7 (by norm_num) = ∑ i, f i := by
  have step : ∀ n (h : n < 8), o n h = upto f (n * 1024 + 1024) := by
    intro n
    induction n with
    | zero =>
      intro h
      rw [show 0 * 1024 + 1024 = 0 + 1024 from rfl, upto_add f 0 1024 (by norm_num), upto_zero, zero_add, first h]
      exact Finset.sum_congr rfl fun r _ => congrArg f (Fin.ext (show 0 * 1024 + r.val = 0 + r.val by omega))
    | succ n ih =>
      intro h
      refine (later n h).trans (Eq.trans ?_ (upto_add f ((n + 1) * 1024) 1024 (by omega)).symm)
      exact congrArg₂ (fun a b : EReal => a + b) ((ih _).trans (congrArg (upto f) (Nat.succ_mul n 1024).symm)) rfl
  rw [step 7 (by norm_num), show 7 * 1024 + 1024 = 8192 by norm_num, upto_all]

end Cert.Proj

end
-- ==== Proof.Proj.InBackValue.lean ====
module

public import proofs.«01_k».proof.Proof.Gen.Kernel8Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of the input projections' backward pass computes

Point `t` takes 512 tokens; it takes each of the six projections' cotangents through its weight and adds the six up. -/

noncomputable section

namespace Cert.Kernel8Ideal.Proj

open Cert.Kernel8Ideal Cert.Kernel8Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The cotangents, and the weights. -/
abbrev argD0 (c : Dev nD) : Mat 8192 1536 .bf16 := m ((c : Thread nD τ).loc main_arg0)
abbrev argD1 (c : Dev nD) : Mat 8192 512 .bf16 := m ((c : Thread nD τ).loc main_arg1)
abbrev argD2 (c : Dev nD) : Mat 8192 1024 .bf16 := m ((c : Thread nD τ).loc main_arg2)
abbrev argD3 (c : Dev nD) : Mat 8192 1024 .bf16 := m ((c : Thread nD τ).loc main_arg3)
abbrev argD4 (c : Dev nD) : Mat 8192 512 .bf16 := m ((c : Thread nD τ).loc main_arg4)
abbrev argD5 (c : Dev nD) : Mat 8192 128 .bf16 := m ((c : Thread nD τ).loc main_arg5)
abbrev argW0 (c : Dev nD) : Mat 1024 1536 .bf16 := m ((c : Thread nD τ).loc main_arg6)
abbrev argW1 (c : Dev nD) : Mat 1024 512 .bf16 := m ((c : Thread nD τ).loc main_arg7)
abbrev argW2 (c : Dev nD) : Mat 1024 1024 .bf16 := m ((c : Thread nD τ).loc main_arg8)
abbrev argW3 (c : Dev nD) : Mat 1024 1024 .bf16 := m ((c : Thread nD τ).loc main_arg9)
abbrev argW4 (c : Dev nD) : Mat 1024 512 .bf16 := m ((c : Thread nD τ).loc main_arg10)
abbrev argW5 (c : Dev nD) : Mat 1024 128 .bf16 := m ((c : Thread nD τ).loc main_arg11)

/-- The tokens' cotangent. -/
def result (c : Dev nD) : Sheet 8192 1024 .f32 := fun y =>
  share (argD0 m c) (argW0 m c) (y 1) (y 2)
    + share (argD1 m c) (argW1 m c) (y 1) (y 2)
    + share (argD2 m c) (argW2 m c) (y 1) (y 2)
    + share (argD3 m c) (argW3 m c) (y 1) (y 2)
    + share (argD4 m c) (argW4 m c) (y 1) (y 2)
    + share (argD5 m c) (argW5 m c) (y 1) (y 2)

theorem V_d0 (c : Dev nD) : V m c main_v0 = sheet (argD0 m c) := by
  entry_read; funext y; pointwise; rfl
theorem V_w0 (c : Dev nD) : V m c main_v2 = turned (argW0 m c) := by
  entry_read; funext y; pointwise; rfl
theorem V_d1 (c : Dev nD) : V m c main_v3 = sheet (argD1 m c) := by
  entry_read; funext y; pointwise; rfl
theorem V_w1 (c : Dev nD) : V m c main_v5 = turned (argW1 m c) := by
  entry_read; funext y; pointwise; rfl
theorem V_d2 (c : Dev nD) : V m c main_v6 = sheet (argD2 m c) := by
  entry_read; funext y; pointwise; rfl
theorem V_w2 (c : Dev nD) : V m c main_v8 = turned (argW2 m c) := by
  entry_read; funext y; pointwise; rfl
theorem V_d3 (c : Dev nD) : V m c main_v9 = sheet (argD3 m c) := by
  entry_read; funext y; pointwise; rfl
theorem V_w3 (c : Dev nD) : V m c main_v11 = turned (argW3 m c) := by
  entry_read; funext y; pointwise; rfl
theorem V_d4 (c : Dev nD) : V m c main_v12 = sheet (argD4 m c) := by
  entry_read; funext y; pointwise; rfl
theorem V_w4 (c : Dev nD) : V m c main_v14 = turned (argW4 m c) := by
  entry_read; funext y; pointwise; rfl
theorem V_d5 (c : Dev nD) : V m c main_v15 = sheet (argD5 m c) := by
  entry_read; funext y; pointwise; rfl
theorem V_w5 (c : Dev nD) : V m c main_v17 = turned (argW5 m c) := by
  entry_read; funext y; pointwise; rfl

theorem index_d0 : ∀ t : Fin grid0.N, cc0_transform_0 (grid0.coords t) = ![0, t.val, 0] := by decide +kernel
theorem index_w0 : ∀ t : Fin grid0.N, cc0_transform_1 (grid0.coords t) = ![0, 0, 0] := by decide +kernel
theorem index_d1 : ∀ t : Fin grid0.N, cc0_transform_2 (grid0.coords t) = ![0, t.val, 0] := by decide +kernel
theorem index_w1 : ∀ t : Fin grid0.N, cc0_transform_3 (grid0.coords t) = ![0, 0, 0] := by decide +kernel
theorem index_d2 : ∀ t : Fin grid0.N, cc0_transform_4 (grid0.coords t) = ![0, t.val, 0] := by decide +kernel
theorem index_w2 : ∀ t : Fin grid0.N, cc0_transform_5 (grid0.coords t) = ![0, 0, 0] := by decide +kernel
theorem index_d3 : ∀ t : Fin grid0.N, cc0_transform_6 (grid0.coords t) = ![0, t.val, 0] := by decide +kernel
theorem index_w3 : ∀ t : Fin grid0.N, cc0_transform_7 (grid0.coords t) = ![0, 0, 0] := by decide +kernel
theorem index_d4 : ∀ t : Fin grid0.N, cc0_transform_8 (grid0.coords t) = ![0, t.val, 0] := by decide +kernel
theorem index_w4 : ∀ t : Fin grid0.N, cc0_transform_9 (grid0.coords t) = ![0, 0, 0] := by decide +kernel
theorem index_d5 : ∀ t : Fin grid0.N, cc0_transform_10 (grid0.coords t) = ![0, t.val, 0] := by decide +kernel
theorem index_w5 : ∀ t : Fin grid0.N, cc0_transform_11 (grid0.coords t) = ![0, 0, 0] := by decide +kernel
theorem index_o : ∀ t : Fin grid0.N, cc0_transform_12 (grid0.coords t) = ![0, t.val, 0] := by decide +kernel

/-- The point's blocks. -/
theorem blk_d0 (c : Dev nD) (t : Fin 16) (y : S1x512x1536.Idx) : iblk m c 0 t y = argD0 m c (ix2 (half t (y 1)) (y 2)) := by
  have hA := V_d0 m c
  unfold iblk
  generalize V m c = A at hA ⊢
  show A main_v0 ((win0_0.blk t).view.emb y) = _
  rw [hA]
  exact congrArg (sheet (argD0 m c)) (place_half t _ (fun y a => congrArg (fun n => n * S1x512x1536.size a + 1 * (y a).val) (congrFun (index_d0 t) a)) y)

theorem blk_w0 (c : Dev nD) (t : Fin 16) (y : S1x1536x1024.Idx) : iblk m c 1 t y = argW0 m c (ix2 (y 2) (y 1)) := by
  have hA := V_w0 m c
  unfold iblk
  generalize V m c = A at hA ⊢
  show A main_v2 ((win0_1.blk t).view.emb y) = _
  rw [hA]
  exact congrArg (turned (argW0 m c)) (place_all _ (fun y a => congrArg (fun n => n * S1x1536x1024.size a + 1 * (y a).val) (congrFun (index_w0 t) a)) y)

theorem blk_d1 (c : Dev nD) (t : Fin 16) (y : S1x512x512.Idx) : iblk m c 2 t y = argD1 m c (ix2 (half t (y 1)) (y 2)) := by
  have hA := V_d1 m c
  unfold iblk
  generalize V m c = A at hA ⊢
  show A main_v3 ((win0_2.blk t).view.emb y) = _
  rw [hA]
  exact congrArg (sheet (argD1 m c)) (place_half t _ (fun y a => congrArg (fun n => n * S1x512x512.size a + 1 * (y a).val) (congrFun (index_d1 t) a)) y)

theorem blk_w1 (c : Dev nD) (t : Fin 16) (y : S1x512x1024.Idx) : iblk m c 3 t y = argW1 m c (ix2 (y 2) (y 1)) := by
  have hA := V_w1 m c
  unfold iblk
  generalize V m c = A at hA ⊢
  show A main_v5 ((win0_3.blk t).view.emb y) = _
  rw [hA]
  exact congrArg (turned (argW1 m c)) (place_all _ (fun y a => congrArg (fun n => n * S1x512x1024.size a + 1 * (y a).val) (congrFun (index_w1 t) a)) y)

theorem blk_d2 (c : Dev nD) (t : Fin 16) (y : S1x512x1024.Idx) : iblk m c 4 t y = argD2 m c (ix2 (half t (y 1)) (y 2)) := by
  have hA := V_d2 m c
  unfold iblk
  generalize V m c = A at hA ⊢
  show A main_v6 ((win0_4.blk t).view.emb y) = _
  rw [hA]
  exact congrArg (sheet (argD2 m c)) (place_half t _ (fun y a => congrArg (fun n => n * S1x512x1024.size a + 1 * (y a).val) (congrFun (index_d2 t) a)) y)

theorem blk_w2 (c : Dev nD) (t : Fin 16) (y : S1x1024x1024.Idx) : iblk m c 5 t y = argW2 m c (ix2 (y 2) (y 1)) := by
  have hA := V_w2 m c
  unfold iblk
  generalize V m c = A at hA ⊢
  show A main_v8 ((win0_5.blk t).view.emb y) = _
  rw [hA]
  exact congrArg (turned (argW2 m c)) (place_all _ (fun y a => congrArg (fun n => n * S1x1024x1024.size a + 1 * (y a).val) (congrFun (index_w2 t) a)) y)

theorem blk_d3 (c : Dev nD) (t : Fin 16) (y : S1x512x1024.Idx) : iblk m c 6 t y = argD3 m c (ix2 (half t (y 1)) (y 2)) := by
  have hA := V_d3 m c
  unfold iblk
  generalize V m c = A at hA ⊢
  show A main_v9 ((win0_6.blk t).view.emb y) = _
  rw [hA]
  exact congrArg (sheet (argD3 m c)) (place_half t _ (fun y a => congrArg (fun n => n * S1x512x1024.size a + 1 * (y a).val) (congrFun (index_d3 t) a)) y)

theorem blk_w3 (c : Dev nD) (t : Fin 16) (y : S1x1024x1024.Idx) : iblk m c 7 t y = argW3 m c (ix2 (y 2) (y 1)) := by
  have hA := V_w3 m c
  unfold iblk
  generalize V m c = A at hA ⊢
  show A main_v11 ((win0_7.blk t).view.emb y) = _
  rw [hA]
  exact congrArg (turned (argW3 m c)) (place_all _ (fun y a => congrArg (fun n => n * S1x1024x1024.size a + 1 * (y a).val) (congrFun (index_w3 t) a)) y)

theorem blk_d4 (c : Dev nD) (t : Fin 16) (y : S1x512x512.Idx) : iblk m c 8 t y = argD4 m c (ix2 (half t (y 1)) (y 2)) := by
  have hA := V_d4 m c
  unfold iblk
  generalize V m c = A at hA ⊢
  show A main_v12 ((win0_8.blk t).view.emb y) = _
  rw [hA]
  exact congrArg (sheet (argD4 m c)) (place_half t _ (fun y a => congrArg (fun n => n * S1x512x512.size a + 1 * (y a).val) (congrFun (index_d4 t) a)) y)

theorem blk_w4 (c : Dev nD) (t : Fin 16) (y : S1x512x1024.Idx) : iblk m c 9 t y = argW4 m c (ix2 (y 2) (y 1)) := by
  have hA := V_w4 m c
  unfold iblk
  generalize V m c = A at hA ⊢
  show A main_v14 ((win0_9.blk t).view.emb y) = _
  rw [hA]
  exact congrArg (turned (argW4 m c)) (place_all _ (fun y a => congrArg (fun n => n * S1x512x1024.size a + 1 * (y a).val) (congrFun (index_w4 t) a)) y)

theorem blk_d5 (c : Dev nD) (t : Fin 16) (y : S1x512x128.Idx) : iblk m c 10 t y = argD5 m c (ix2 (half t (y 1)) (y 2)) := by
  have hA := V_d5 m c
  unfold iblk
  generalize V m c = A at hA ⊢
  show A main_v15 ((win0_10.blk t).view.emb y) = _
  rw [hA]
  exact congrArg (sheet (argD5 m c)) (place_half t _ (fun y a => congrArg (fun n => n * S1x512x128.size a + 1 * (y a).val) (congrFun (index_d5 t) a)) y)

theorem blk_w5 (c : Dev nD) (t : Fin 16) (y : S1x128x1024.Idx) : iblk m c 11 t y = argW5 m c (ix2 (y 2) (y 1)) := by
  have hA := V_w5 m c
  unfold iblk
  generalize V m c = A at hA ⊢
  show A main_v17 ((win0_11.blk t).view.emb y) = _
  rw [hA]
  exact congrArg (turned (argW5 m c)) (place_all _ (fun y a => congrArg (fun n => n * S1x128x1024.size a + 1 * (y a).val) (congrFun (index_w5 t) a)) y)

/-- Where the result's block stands. -/
theorem stand (t : Fin 16) (y : S1x512x1024.Idx) : (win0_12.blk t).view.emb y = (ix3 0 (half t (y 1)) (y 2) : S1x8192x1024.Idx) :=
  place_half t _ (fun y a => congrArg (fun n => n * S1x512x1024.size a + 1 * (y a).val) (congrFun (index_o t) a)) y

/-- The products of a point: the first four, and all six. -/
theorem pay2_apply (d0 : Vec Ideal S1x512x1536 .bf16) (w0 : Vec Ideal S1x1536x1024 .bf16) (d1 : Vec Ideal S1x512x512 .bf16) (w1 : Vec Ideal S1x512x1024 .bf16) (d2 : Vec Ideal S1x512x1024 .bf16) (w2 : Vec Ideal S1x1024x1024 .bf16) (d3 : Vec Ideal S1x512x1024 .bf16) (w3 : Vec Ideal S1x1024x1024 .bf16) (r : Fin 512) (e : Fin 1024) :
    k0_pay2 (F := Ideal) d0 w0 d1 w1 d2 w2 d3 w3 (ix2 r e)
      = (∑ j : Fin 1536, d0 (ix3 0 r j) * w0 (ix3 0 j e))
        + (∑ j : Fin 512, d1 (ix3 0 r j) * w1 (ix3 0 j e))
        + (∑ j : Fin 1024, d2 (ix3 0 r j) * w2 (ix3 0 j e))
        + ∑ j : Fin 1024, d3 (ix3 0 r j) * w3 (ix3 0 j e) := by
  pointwise [k0_pay2]

theorem pay3_apply (d : Vec Ideal S1x512x512 .bf16) (r j : Fin 512) : k0_pay3 (F := Ideal) d (ix2 r j) = d (ix3 0 r j) := by
  pointwise [k0_pay3]

theorem pay1_apply (s : Vec Ideal S512x1024 .f32) (d4 : Vec Ideal S512x512 .bf16) (w4 : Vec Ideal S1x512x1024 .bf16)
    (d5 : Vec Ideal S1x512x128 .bf16) (w5 : Vec Ideal S1x128x1024 .bf16) (y : S1x512x1024.Idx) :
    k0_pay1 (F := Ideal) s d4 w4 d5 w5 y
      = s (ix2 (y 1) (y 2)) + (∑ j : Fin 512, d4 (ix2 (y 1) j) * w4 (ix3 0 j (y 2))) + ∑ j : Fin 128, d5 (ix3 0 (y 1) j) * w5 (ix3 0 j (y 2)) := by
  pointwise [k0_pay1]

/-- What a point stores, of its blocks' entries. -/
theorem body_apply (t : Fin 16)
    (D0 : Mat 8192 1536 .bf16) (W0 : Mat 1024 1536 .bf16) (d0 : Vec Ideal S1x512x1536 .bf16) (w0 : Vec Ideal S1x1536x1024 .bf16)
    (hd0 : ∀ y, d0 y = D0 (ix2 (half t (y 1)) (y 2))) (hw0 : ∀ y, w0 y = W0 (ix2 (y 2) (y 1)))
    (D1 : Mat 8192 512 .bf16) (W1 : Mat 1024 512 .bf16) (d1 : Vec Ideal S1x512x512 .bf16) (w1 : Vec Ideal S1x512x1024 .bf16)
    (hd1 : ∀ y, d1 y = D1 (ix2 (half t (y 1)) (y 2))) (hw1 : ∀ y, w1 y = W1 (ix2 (y 2) (y 1)))
    (D2 : Mat 8192 1024 .bf16) (W2 : Mat 1024 1024 .bf16) (d2 : Vec Ideal S1x512x1024 .bf16) (w2 : Vec Ideal S1x1024x1024 .bf16)
    (hd2 : ∀ y, d2 y = D2 (ix2 (half t (y 1)) (y 2))) (hw2 : ∀ y, w2 y = W2 (ix2 (y 2) (y 1)))
    (D3 : Mat 8192 1024 .bf16) (W3 : Mat 1024 1024 .bf16) (d3 : Vec Ideal S1x512x1024 .bf16) (w3 : Vec Ideal S1x1024x1024 .bf16)
    (hd3 : ∀ y, d3 y = D3 (ix2 (half t (y 1)) (y 2))) (hw3 : ∀ y, w3 y = W3 (ix2 (y 2) (y 1)))
    (D4 : Mat 8192 512 .bf16) (W4 : Mat 1024 512 .bf16) (d4 : Vec Ideal S1x512x512 .bf16) (w4 : Vec Ideal S1x512x1024 .bf16)
    (hd4 : ∀ y, d4 y = D4 (ix2 (half t (y 1)) (y 2))) (hw4 : ∀ y, w4 y = W4 (ix2 (y 2) (y 1)))
    (D5 : Mat 8192 128 .bf16) (W5 : Mat 1024 128 .bf16) (d5 : Vec Ideal S1x512x128 .bf16) (w5 : Vec Ideal S1x128x1024 .bf16)
    (hd5 : ∀ y, d5 y = D5 (ix2 (half t (y 1)) (y 2))) (hw5 : ∀ y, w5 y = W5 (ix2 (y 2) (y 1)))
    (y : S1x512x1024.Idx) :
    k0_pay1 (F := Ideal) (k0_pay2 (F := Ideal) d0 w0 d1 w1 d2 w2 d3 w3) (k0_pay3 (F := Ideal) d4) w4 d5 w5 y
      = share D0 W0 (half t (y 1)) (y 2)
        + share D1 W1 (half t (y 1)) (y 2)
        + share D2 W2 (half t (y 1)) (y 2)
        + share D3 W3 (half t (y 1)) (y 2)
        + share D4 W4 (half t (y 1)) (y 2)
        + share D5 W5 (half t (y 1)) (y 2) := by
  refine (pay1_apply _ _ _ _ _ y).trans ?_
  refine congrArg₂ (fun a b : EReal => a + b) (congrArg₂ (fun a b : EReal => a + b) ?_ ?_) (share_block D5 W5 t d5 w5 hd5 hw5 _ _)
  · refine (pay2_apply d0 w0 d1 w1 d2 w2 d3 w3 (y 1) (y 2)).trans ?_
    exact congrArg₂ (fun a b : EReal => a + b) (congrArg₂ (fun a b : EReal => a + b) (congrArg₂ (fun a b : EReal => a + b)
      (share_block D0 W0 t d0 w0 hd0 hw0 _ _) (share_block D1 W1 t d1 w1 hd1 hw1 _ _)) (share_block D2 W2 t d2 w2 hd2 hw2 _ _))
      (share_block D3 W3 t d3 w3 hd3 hw3 _ _)
  · exact (Finset.sum_congr rfl fun j _ => congrArg (fun a : EReal => a * w4 (ix3 0 j (y 2))) (pay3_apply d4 (y 1) j)).trans
      (share_block D4 W4 t d4 w4 hd4 hw4 _ _)

theorem final_o (c : Dev nD) : (dats m 0 c).arrAt 12 cfg0.N = result m c := by
  refine (dats m 0 c).arrAt_eq_of_covers 12 _ (by decide +kernel) fun t hf y => ?_
  rw [after0_12]
  unfold out0_12
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  exact (body_apply t (argD0 m c) (argW0 m c) _ _ (blk_d0 m c t) (blk_w0 m c t)
      (argD1 m c) (argW1 m c) _ _ (blk_d1 m c t) (blk_w1 m c t)
      (argD2 m c) (argW2 m c) _ _ (blk_d2 m c t) (blk_w2 m c t)
      (argD3 m c) (argW3 m c) _ _ (blk_d3 m c t) (blk_w3 m c t)
      (argD4 m c) (argW4 m c) _ _ (blk_d4 m c t) (blk_w4 m c t)
      (argD5 m c) (argW5 m c) _ _ (blk_d5 m c t) (blk_w5 m c t) y).trans
    (congrArg (result m c) (stand t y)).symm

end Cert.Kernel8Ideal.Proj

end
-- ==== Proof.Proj.InBackClaims.lean ====
module

public import proofs.«01_k».proof.Defs
public import proofs.«01_k».proof.Proof.Gen.Kernel8.Frame
public import proofs.«01_k».proof.Proof.Gen.Reference8Ideal.Run
public import proofs.«01_k».proof.Proof.Proj.InBackValue

@[expose] public section

set_option maxRecDepth 16384

/-! # The input projections' backward pass: the claims

The launch and the reference each end with the sum of the six cotangents through their weights. -/

noncomputable section

namespace Cert.Reference8Ideal.Proj

open Cert.Reference8Ideal
open Idealize.ShloMosaic Idealize.SL.Sem
open Cert.Proj

/-- The reference terminates with the tokens' cotangent, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
        = (fun y => share (a := 8192) (b := 1024) (k := 1536) (m ((c.tc : Thread nD τ).loc main_arg0)) (m ((c.tc : Thread nD τ).loc main_arg6)) (y 1) (y 2)
            + share (a := 8192) (b := 1024) (k := 512) (m ((c.tc : Thread nD τ).loc main_arg1)) (m ((c.tc : Thread nD τ).loc main_arg7)) (y 1) (y 2)
            + share (a := 8192) (b := 1024) (k := 1024) (m ((c.tc : Thread nD τ).loc main_arg2)) (m ((c.tc : Thread nD τ).loc main_arg8)) (y 1) (y 2)
            + share (a := 8192) (b := 1024) (k := 1024) (m ((c.tc : Thread nD τ).loc main_arg3)) (m ((c.tc : Thread nD τ).loc main_arg9)) (y 1) (y 2)
            + share (a := 8192) (b := 1024) (k := 512) (m ((c.tc : Thread nD τ).loc main_arg4)) (m ((c.tc : Thread nD τ).loc main_arg10)) (y 1) (y 2)
            + share (a := 8192) (b := 1024) (k := 128) (m ((c.tc : Thread nD τ).loc main_arg5)) (m ((c.tc : Thread nD τ).loc main_arg11)) (y 1) (y 2) : Sheet 8192 1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
    refine ⟨(h c).1.trans ?_, (h c).2⟩
    funext y; pointwise; exact either_end _ _ _ _ _ _) (Value.run m ρ)

/-- The reference's frame. -/
theorem frame : Cert.quiescent_Reference8Ideal := fun m ρ _ =>
  (θ_run defs _ _).mono (fun r h => ⟨fun c => (h c).2, Idealize.ShloMosaic.sem_eq_zero_of_no_sems (by decide) r.2⟩)
    (Value.run (F := Ideal) m ρ)

end Cert.Reference8Ideal.Proj

namespace Cert.Kernel8Ideal.Proj

open Cert.Kernel8Ideal Cert.Kernel8Ideal.Gen
open Idealize.ShloMosaic Idealize.SL.Sem
open Cert.Proj

/-- The launch terminates with the tokens' cotangent, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (final_o m c), (h c).2⟩) (Value.run_blocks m ρ)

/-- The launch's frames, at machine words and over the reals. -/
theorem frame_words : Cert.quiescent_Kernel8 := fun m ρ _ => Cert.Kernel8.Gen.frame m ρ
theorem frame_reals : Cert.quiescent_Kernel8Ideal := fun m ρ _ => Cert.Kernel8Ideal.Gen.frame m ρ

/-- The launch against the reference, over the reals. -/
theorem algebraic : Cert.algebraic_Kernel8Ideal_Reference8Ideal := by
  intro m ρ m' ρ' _ hagree
  refine ⟨_, run m ρ, ?_⟩
  refine (θ_run _ _ _).mono (fun r h c => ?_) (Cert.Reference8Ideal.Proj.run m' ρ')
  obtain ⟨h0, h1, h2, h3, h4, h5, h6, h7, h8, h9, h10, h11⟩ := hagree c
  have H := h c
  rw [h0, h1, h2, h3, h4, h5, h6, h7, h8, h9, h10, h11] at H
  unfold result argD0 argW0 argD1 argW1 argD2 argW2 argD3 argW3 argD4 argW4 argD5 argW5
  rw [h0, h1, h2, h3, h4, h5, h6, h7, h8, h9, h10, h11]
  exact H

end Cert.Kernel8Ideal.Proj

end
-- ==== Proof.Proj.GradValue.lean ====
module

public import proofs.«01_k».proof.Proof.Gen.Kernel9Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of a projection's weight gradient computes, at 1024 columns

Point `t` takes block `t` of the tokens; the 8 points add their products up in the result. -/

noncomputable section

namespace Cert.Kernel9Ideal.Proj

open Cert.Kernel9Ideal Cert.Kernel9Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments. -/
abbrev argD (c : Dev nD) : Mat 8192 1024 .bf16 := m ((c : Thread nD τ).loc main_arg0)
abbrev argX (c : Dev nD) : Mat 8192 1024 .bf16 := m ((c : Thread nD τ).loc main_arg1)

theorem V_d (c : Dev nD) : V m c main_v0 = sheet (argD m c) := by
  entry_read; funext y; pointwise; rfl
theorem V_x (c : Dev nD) : V m c main_v1 = sheet (argX m c) := by
  entry_read; funext y; pointwise; rfl

theorem index_d : ∀ t : Fin grid0.N, cc0_transform_0 (grid0.coords t) = ![0, t.val, 0] := by decide +kernel
theorem index_x : ∀ t : Fin grid0.N, cc0_transform_1 (grid0.coords t) = ![0, t.val, 0] := by decide +kernel
theorem index_w : ∀ t : Fin grid0.N, cc0_transform_2 (grid0.coords t) = ![0, 0, 0] := by decide +kernel

section
variable (c : Dev nD) (t : Fin 8) (A : (b : Ref sig .tc) → Buf (Elt Ideal) ((c : Thread nD τ).loc b))

theorem block0 (D : Mat 8192 1024 .bf16) (hA : A main_v0 = sheet D) (y : S1x1024x1024.Idx) :
    ((cfg0.win 0).blk t).view.read (Elt Ideal) (A (Pipeline.arrRef spec0 0)) y = D (ix2 (tok t (y 1)) (y 2)) := by
  show A main_v0 ((win0_0.blk t).view.emb y) = _
  rw [hA]
  exact congrArg (sheet D) (place_rows t _ (fun y a => congrArg (fun n => n * S1x1024x1024.size a + 1 * (y a).val) (congrFun (index_d t) a)) y)

theorem block1 (X : Mat 8192 1024 .bf16) (hA : A main_v1 = sheet X) (y : S1x1024x1024.Idx) :
    ((cfg0.win 1).blk t).view.read (Elt Ideal) (A (Pipeline.arrRef spec0 1)) y = X (ix2 (tok t (y 1)) (y 2)) := by
  show A main_v1 ((win0_1.blk t).view.emb y) = _
  rw [hA]
  exact congrArg (sheet X) (place_rows t _ (fun y a => congrArg (fun n => n * S1x1024x1024.size a + 1 * (y a).val) (congrFun (index_x t) a)) y)

/-- The result's block is the whole result. -/
theorem whole (y : S1x1024x1024.Idx) : (win0_2.blk t).view.emb y = y :=
  place_all _ (fun y a => congrArg (fun n => n * S1x1024x1024.size a + 1 * (y a).val) (congrFun (index_w t) a)) y
end

/-- The point's blocks. -/
theorem blk_d (c : Dev nD) (t : Fin 8) (y : S1x1024x1024.Idx) : iblk m c 0 t y = argD m c (ix2 (tok t (y 1)) (y 2)) := by
  unfold iblk; exact block0 c t (V m c) _ (V_d m c) y
theorem blk_x (c : Dev nD) (t : Fin 8) (y : S1x1024x1024.Idx) : iblk m c 1 t y = argX m c (ix2 (tok t (y 1)) (y 2)) := by
  unfold iblk; exact block1 c t (V m c) _ (V_x m c) y

/-- The products of a point. -/
theorem pay1_apply (d : Vec Ideal S1x1024x1024 .bf16) (x : Vec Ideal S1x1024x1024 .bf16) (j : Fin 1024) (e : Fin 1024) :
    k0_pay1 (F := Ideal) d x (ix2 j e) = ∑ r : Fin 1024, d (ix3 0 r j) * x (ix3 0 r e) := by
  pointwise [k0_pay1]

theorem pay2_apply (d : Vec Ideal S1x1024x1024 .bf16) (x : Vec Ideal S1x1024x1024 .bf16) (y : S1x1024x1024.Idx) :
    k0_pay2 (F := Ideal) d x y = k0_pay1 (F := Ideal) d x (ix2 (y 1) (y 2)) := by
  unfold k0_pay2; generalize k0_pay1 d x = p; pointwise

theorem pay3_apply (d : Vec Ideal S1x1024x1024 .bf16) (x : Vec Ideal S1x1024x1024 .bf16) (o : Vec Ideal S1x1024x1024 .f32)
    (y : S1x1024x1024.Idx) :
    k0_pay3 (F := Ideal) d x o y = o y + k0_pay1 (F := Ideal) d x (ix2 (y 1) (y 2)) := by
  unfold k0_pay3; generalize k0_pay1 d x = p; pointwise

/-- The terms of an entry of the gradient. -/
def terms (c : Dev nD) (j : Fin 1024) (e : Fin 1024) : Fin 8192 → EReal :=
  fun r => argD m c (ix2 r j) * argX m c (ix2 r e)

theorem product (c : Dev nD) (t : Fin 8) (j : Fin 1024) (e : Fin 1024) :
    k0_pay1 (F := Ideal) (iblk m c 0 t) (iblk m c 1 t) (ix2 j e) = ∑ r : Fin 1024, terms m c j e (tok t r) :=
  (pay1_apply _ _ j e).trans (Finset.sum_congr rfl fun r _ => by rw [blk_d, blk_x]; rfl)

theorem first (c : Dev nD) (t : Fin cfg0.N) (h0 : t.val % 8 = 0) (h1 : ¬1 ≤ t.val) :
    outsAt0 m c t.val t.isLt = k0_pay2 (F := Ideal) (iblk m c 0 t) (iblk m c 1 t) := by
  rw [outsAt0_A m c t h0 h1]
  frame_out

theorem later (c : Dev nD) (t : Fin cfg0.N) (h0 : ¬t.val % 8 = 0) (h1 : 1 ≤ t.val) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 h1]
  frame_out

/-- An entry of the result's block after point `n`. -/
def entry (c : Dev nD) (y : S1x1024x1024.Idx) (n : ℕ) (h : n < 8) : EReal := outsAt0 m c n (lt_of_lt_of_eq h N_0.symm) y

theorem entry_first (c : Dev nD) (y : S1x1024x1024.Idx) (h : 0 < 8) :
    entry m c y 0 h = ∑ r, terms m c (y 1) (y 2) (tok ⟨0, h⟩ r) := by
  have e := congrFun (first m c ⟨0, lt_of_lt_of_eq h N_0.symm⟩ (Nat.zero_mod 8) (Nat.not_succ_le_zero 0)) y
  exact e.trans ((pay2_apply _ _ y).trans (product m c ⟨0, h⟩ _ _))

theorem entry_later (c : Dev nD) (y : S1x1024x1024.Idx) (n : ℕ) (h : n + 1 < 8) :
    entry m c y (n + 1) h = entry m c y n (Nat.lt_of_succ_lt h) + ∑ r, terms m c (y 1) (y 2) (tok ⟨n + 1, h⟩ r) := by
  have e := congrFun (later m c ⟨n + 1, lt_of_lt_of_eq h N_0.symm⟩ (show ¬(n + 1) % 8 = 0 by omega) (show 1 ≤ n + 1 by omega)) y
  exact e.trans ((pay3_apply _ _ _ y).trans (congrArg₂ (fun a b : EReal => a + b) (Eq.refl (entry m c y n (Nat.lt_of_succ_lt h)))
    (product m c ⟨n + 1, h⟩ _ _)))

/-- The gradient. -/
def grad (c : Dev nD) : Sheet 1024 1024 .f32 := tTimes (argD m c) (argX m c)

/-- After the last point, the result's block is the gradient. -/
theorem total (c : Dev nD) (y : S1x1024x1024.Idx) (h : 7 < 8) : entry m c y 7 h = grad m c y :=
  fold_blocks (terms m c (y 1) (y 2)) (entry m c y) (entry_first m c y) (entry_later m c y)

theorem final_w (c : Dev nD) : (dats m 0 c).arrAt 2 cfg0.N = grad m c := by
  refine (dats m 0 c).arrAt_eq_of_covers 2 _ (by decide +kernel) fun t hf y => ?_
  have h7 : t.val = 7 := (by decide +kernel : ∀ t : Fin cfg0.N, (cfg0.win 2).flush t = true → t.val = 7) t hf
  obtain ⟨n, hn⟩ := t
  obtain rfl : n = 7 := h7
  rw [after0_2]
  have e : outsAt0 m c 7 hn y = entry m c y 7 (by decide) := rfl
  rw [e, total]
  exact (congrArg (grad m c) (whole ⟨7, by decide⟩ y)).symm

end Cert.Kernel9Ideal.Proj

end
-- ==== Proof.Proj.GradClaims.lean ====
module

public import proofs.«01_k».proof.Defs
public import proofs.«01_k».proof.Proof.Gen.Kernel9.Frame
public import proofs.«01_k».proof.Proof.Gen.Reference9Ideal.Run
public import proofs.«01_k».proof.Proof.Proj.GradValue

@[expose] public section

set_option maxRecDepth 16384

/-! # A projection's weight gradient, at 1024 columns: the claims

The launch and the reference each end with the gradient of the weight, transposed. -/

noncomputable section

namespace Cert.Reference9Ideal.Proj

open Cert.Reference9Ideal
open Idealize.ShloMosaic Idealize.SL.Sem
open Cert.Proj

/-- The reference terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = (tTimes (a := 1024) (b := 1024) (k := 8192) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference9Ideal := fun m ρ _ =>
  (θ_run defs _ _).mono (fun r h => ⟨fun c => (h c).2, Idealize.ShloMosaic.sem_eq_zero_of_no_sems (by decide) r.2⟩)
    (Value.run (F := Ideal) m ρ)

end Cert.Reference9Ideal.Proj

namespace Cert.Kernel9Ideal.Proj

open Cert.Kernel9Ideal Cert.Kernel9Ideal.Gen
open Idealize.ShloMosaic Idealize.SL.Sem
open Cert.Proj

/-- The launch terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2⟩) (Value.run_blocks m ρ)

/-- The launch's frames, at machine words and over the reals. -/
theorem frame_words : Cert.quiescent_Kernel9 := fun m ρ _ => Cert.Kernel9.Gen.frame m ρ
theorem frame_reals : Cert.quiescent_Kernel9Ideal := fun m ρ _ => Cert.Kernel9Ideal.Gen.frame m ρ

/-- The launch against the reference, over the reals. -/
theorem algebraic : Cert.algebraic_Kernel9Ideal_Reference9Ideal := by
  intro m ρ m' ρ' _ hagree
  refine ⟨_, run m ρ, ?_⟩
  refine (θ_run _ _ _).mono (fun r h c => ?_) (Cert.Reference9Ideal.Proj.run m' ρ')
  obtain ⟨h0, h1⟩ := hagree c
  have H := h c
  rw [h0, h1] at H
  unfold grad argD argX
  rw [h0, h1]
  exact H

end Cert.Kernel9Ideal.Proj

end
-- ==== Proof.Proj.GradNarrowValue.lean ====
module

public import proofs.«01_k».proof.Proof.Gen.Kernel10Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of a projection's weight gradient computes, at 512 columns

Point `t` takes block `t` of the tokens; the 8 points add their products up in the result. -/

noncomputable section

namespace Cert.Kernel10Ideal.Proj

open Cert.Kernel10Ideal Cert.Kernel10Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments. -/
abbrev argD (c : Dev nD) : Mat 8192 512 .bf16 := m ((c : Thread nD τ).loc main_arg0)
abbrev argX (c : Dev nD) : Mat 8192 1024 .bf16 := m ((c : Thread nD τ).loc main_arg1)

theorem V_d (c : Dev nD) : V m c main_v0 = sheet (argD m c) := by
  entry_read; funext y; pointwise; rfl
theorem V_x (c : Dev nD) : V m c main_v1 = sheet (argX m c) := by
  entry_read; funext y; pointwise; rfl

theorem index_d : ∀ t : Fin grid0.N, cc0_transform_0 (grid0.coords t) = ![0, t.val, 0] := by decide +kernel
theorem index_x : ∀ t : Fin grid0.N, cc0_transform_1 (grid0.coords t) = ![0, t.val, 0] := by decide +kernel
theorem index_w : ∀ t : Fin grid0.N, cc0_transform_2 (grid0.coords t) = ![0, 0, 0] := by decide +kernel

section
variable (c : Dev nD) (t : Fin 8) (A : (b : Ref sig .tc) → Buf (Elt Ideal) ((c : Thread nD τ).loc b))

theorem block0 (D : Mat 8192 512 .bf16) (hA : A main_v0 = sheet D) (y : S1x1024x512.Idx) :
    ((cfg0.win 0).blk t).view.read (Elt Ideal) (A (Pipeline.arrRef spec0 0)) y = D (ix2 (tok t (y 1)) (y 2)) := by
  show A main_v0 ((win0_0.blk t).view.emb y) = _
  rw [hA]
  exact congrArg (sheet D) (place_rows t _ (fun y a => congrArg (fun n => n * S1x1024x512.size a + 1 * (y a).val) (congrFun (index_d t) a)) y)

theorem block1 (X : Mat 8192 1024 .bf16) (hA : A main_v1 = sheet X) (y : S1x1024x1024.Idx) :
    ((cfg0.win 1).blk t).view.read (Elt Ideal) (A (Pipeline.arrRef spec0 1)) y = X (ix2 (tok t (y 1)) (y 2)) := by
  show A main_v1 ((win0_1.blk t).view.emb y) = _
  rw [hA]
  exact congrArg (sheet X) (place_rows t _ (fun y a => congrArg (fun n => n * S1x1024x1024.size a + 1 * (y a).val) (congrFun (index_x t) a)) y)

/-- The result's block is the whole result. -/
theorem whole (y : S1x512x1024.Idx) : (win0_2.blk t).view.emb y = y :=
  place_all _ (fun y a => congrArg (fun n => n * S1x512x1024.size a + 1 * (y a).val) (congrFun (index_w t) a)) y
end

/-- The point's blocks. -/
theorem blk_d (c : Dev nD) (t : Fin 8) (y : S1x1024x512.Idx) : iblk m c 0 t y = argD m c (ix2 (tok t (y 1)) (y 2)) := by
  unfold iblk; exact block0 c t (V m c) _ (V_d m c) y
theorem blk_x (c : Dev nD) (t : Fin 8) (y : S1x1024x1024.Idx) : iblk m c 1 t y = argX m c (ix2 (tok t (y 1)) (y 2)) := by
  unfold iblk; exact block1 c t (V m c) _ (V_x m c) y

/-- The products of a point. -/
theorem pay1_apply (d : Vec Ideal S1x1024x512 .bf16) (x : Vec Ideal S1x1024x1024 .bf16) (j : Fin 512) (e : Fin 1024) :
    k0_pay1 (F := Ideal) d x (ix2 j e) = ∑ r : Fin 1024, d (ix3 0 r j) * x (ix3 0 r e) := by
  pointwise [k0_pay1]

theorem pay2_apply (d : Vec Ideal S1x1024x512 .bf16) (x : Vec Ideal S1x1024x1024 .bf16) (y : S1x512x1024.Idx) :
    k0_pay2 (F := Ideal) d x y = k0_pay1 (F := Ideal) d x (ix2 (y 1) (y 2)) := by
  unfold k0_pay2; generalize k0_pay1 d x = p; pointwise

theorem pay3_apply (d : Vec Ideal S1x1024x512 .bf16) (x : Vec Ideal S1x1024x1024 .bf16) (o : Vec Ideal S1x512x1024 .f32)
    (y : S1x512x1024.Idx) :
    k0_pay3 (F := Ideal) d x o y = o y + k0_pay1 (F := Ideal) d x (ix2 (y 1) (y 2)) := by
  unfold k0_pay3; generalize k0_pay1 d x = p; pointwise

/-- The terms of an entry of the gradient. -/
def terms (c : Dev nD) (j : Fin 512) (e : Fin 1024) : Fin 8192 → EReal :=
  fun r => argD m c (ix2 r j) * argX m c (ix2 r e)

theorem product (c : Dev nD) (t : Fin 8) (j : Fin 512) (e : Fin 1024) :
    k0_pay1 (F := Ideal) (iblk m c 0 t) (iblk m c 1 t) (ix2 j e) = ∑ r : Fin 1024, terms m c j e (tok t r) :=
  (pay1_apply _ _ j e).trans (Finset.sum_congr rfl fun r _ => by rw [blk_d, blk_x]; rfl)

theorem first (c : Dev nD) (t : Fin cfg0.N) (h0 : t.val % 8 = 0) (h1 : ¬1 ≤ t.val) :
    outsAt0 m c t.val t.isLt = k0_pay2 (F := Ideal) (iblk m c 0 t) (iblk m c 1 t) := by
  rw [outsAt0_A m c t h0 h1]
  frame_out

theorem later (c : Dev nD) (t : Fin cfg0.N) (h0 : ¬t.val % 8 = 0) (h1 : 1 ≤ t.val) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 h1]
  frame_out

/-- An entry of the result's block after point `n`. -/
def entry (c : Dev nD) (y : S1x512x1024.Idx) (n : ℕ) (h : n < 8) : EReal := outsAt0 m c n (lt_of_lt_of_eq h N_0.symm) y

theorem entry_first (c : Dev nD) (y : S1x512x1024.Idx) (h : 0 < 8) :
    entry m c y 0 h = ∑ r, terms m c (y 1) (y 2) (tok ⟨0, h⟩ r) := by
  have e := congrFun (first m c ⟨0, lt_of_lt_of_eq h N_0.symm⟩ (Nat.zero_mod 8) (Nat.not_succ_le_zero 0)) y
  exact e.trans ((pay2_apply _ _ y).trans (product m c ⟨0, h⟩ _ _))

theorem entry_later (c : Dev nD) (y : S1x512x1024.Idx) (n : ℕ) (h : n + 1 < 8) :
    entry m c y (n + 1) h = entry m c y n (Nat.lt_of_succ_lt h) + ∑ r, terms m c (y 1) (y 2) (tok ⟨n + 1, h⟩ r) := by
  have e := congrFun (later m c ⟨n + 1, lt_of_lt_of_eq h N_0.symm⟩ (show ¬(n + 1) % 8 = 0 by omega) (show 1 ≤ n + 1 by omega)) y
  exact e.trans ((pay3_apply _ _ _ y).trans (congrArg₂ (fun a b : EReal => a + b) (Eq.refl (entry m c y n (Nat.lt_of_succ_lt h)))
    (product m c ⟨n + 1, h⟩ _ _)))

/-- The gradient. -/
def grad (c : Dev nD) : Sheet 512 1024 .f32 := tTimes (argD m c) (argX m c)

/-- After the last point, the result's block is the gradient. -/
theorem total (c : Dev nD) (y : S1x512x1024.Idx) (h : 7 < 8) : entry m c y 7 h = grad m c y :=
  fold_blocks (terms m c (y 1) (y 2)) (entry m c y) (entry_first m c y) (entry_later m c y)

theorem final_w (c : Dev nD) : (dats m 0 c).arrAt 2 cfg0.N = grad m c := by
  refine (dats m 0 c).arrAt_eq_of_covers 2 _ (by decide +kernel) fun t hf y => ?_
  have h7 : t.val = 7 := (by decide +kernel : ∀ t : Fin cfg0.N, (cfg0.win 2).flush t = true → t.val = 7) t hf
  obtain ⟨n, hn⟩ := t
  obtain rfl : n = 7 := h7
  rw [after0_2]
  have e : outsAt0 m c 7 hn y = entry m c y 7 (by decide) := rfl
  rw [e, total]
  exact (congrArg (grad m c) (whole ⟨7, by decide⟩ y)).symm

end Cert.Kernel10Ideal.Proj

end
-- ==== Proof.Proj.GradNarrowClaims.lean ====
module

public import proofs.«01_k».proof.Defs
public import proofs.«01_k».proof.Proof.Gen.Kernel10.Frame
public import proofs.«01_k».proof.Proof.Gen.Reference10Ideal.Run
public import proofs.«01_k».proof.Proof.Proj.GradNarrowValue

@[expose] public section

set_option maxRecDepth 16384

/-! # A projection's weight gradient, at 512 columns: the claims

The launch and the reference each end with the gradient of the weight, transposed. -/

noncomputable section

namespace Cert.Reference10Ideal.Proj

open Cert.Reference10Ideal
open Idealize.ShloMosaic Idealize.SL.Sem
open Cert.Proj

/-- The reference terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = (tTimes (a := 512) (b := 1024) (k := 8192) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference10Ideal := fun m ρ _ =>
  (θ_run defs _ _).mono (fun r h => ⟨fun c => (h c).2, Idealize.ShloMosaic.sem_eq_zero_of_no_sems (by decide) r.2⟩)
    (Value.run (F := Ideal) m ρ)

end Cert.Reference10Ideal.Proj

namespace Cert.Kernel10Ideal.Proj

open Cert.Kernel10Ideal Cert.Kernel10Ideal.Gen
open Idealize.ShloMosaic Idealize.SL.Sem
open Cert.Proj

/-- The launch terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2⟩) (Value.run_blocks m ρ)

/-- The launch's frames, at machine words and over the reals. -/
theorem frame_words : Cert.quiescent_Kernel10 := fun m ρ _ => Cert.Kernel10.Gen.frame m ρ
theorem frame_reals : Cert.quiescent_Kernel10Ideal := fun m ρ _ => Cert.Kernel10Ideal.Gen.frame m ρ

/-- The launch against the reference, over the reals. -/
theorem algebraic : Cert.algebraic_Kernel10Ideal_Reference10Ideal := by
  intro m ρ m' ρ' _ hagree
  refine ⟨_, run m ρ, ?_⟩
  refine (θ_run _ _ _).mono (fun r h c => ?_) (Cert.Reference10Ideal.Proj.run m' ρ')
  obtain ⟨h0, h1⟩ := hagree c
  have H := h c
  rw [h0, h1] at H
  unfold grad argD argX
  rw [h0, h1]
  exact H

end Cert.Kernel10Ideal.Proj

end
-- ==== Proof.Proj.GradWideValue.lean ====
module

public import proofs.«01_k».proof.Proof.Gen.Kernel11Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of a projection's weight gradient computes, at 1536 columns

Point `t` takes block `t` of the tokens; the 8 points add their products up in the result. -/

noncomputable section

namespace Cert.Kernel11Ideal.Proj

open Cert.Kernel11Ideal Cert.Kernel11Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments. -/
abbrev argD (c : Dev nD) : Mat 8192 1536 .bf16 := m ((c : Thread nD τ).loc main_arg0)
abbrev argX (c : Dev nD) : Mat 8192 1024 .bf16 := m ((c : Thread nD τ).loc main_arg1)

theorem V_d (c : Dev nD) : V m c main_v0 = sheet (argD m c) := by
  entry_read; funext y; pointwise; rfl
theorem V_x (c : Dev nD) : V m c main_v1 = sheet (argX m c) := by
  entry_read; funext y; pointwise; rfl

theorem index_d : ∀ t : Fin grid0.N, cc0_transform_0 (grid0.coords t) = ![0, t.val, 0] := by decide +kernel
theorem index_x : ∀ t : Fin grid0.N, cc0_transform_1 (grid0.coords t) = ![0, t.val, 0] := by decide +kernel
theorem index_w : ∀ t : Fin grid0.N, cc0_transform_2 (grid0.coords t) = ![0, 0, 0] := by decide +kernel

section
variable (c : Dev nD) (t : Fin 8) (A : (b : Ref sig .tc) → Buf (Elt Ideal) ((c : Thread nD τ).loc b))

theorem block0 (D : Mat 8192 1536 .bf16) (hA : A main_v0 = sheet D) (y : S1x1024x1536.Idx) :
    ((cfg0.win 0).blk t).view.read (Elt Ideal) (A (Pipeline.arrRef spec0 0)) y = D (ix2 (tok t (y 1)) (y 2)) := by
  show A main_v0 ((win0_0.blk t).view.emb y) = _
  rw [hA]
  exact congrArg (sheet D) (place_rows t _ (fun y a => congrArg (fun n => n * S1x1024x1536.size a + 1 * (y a).val) (congrFun (index_d t) a)) y)

theorem block1 (X : Mat 8192 1024 .bf16) (hA : A main_v1 = sheet X) (y : S1x1024x1024.Idx) :
    ((cfg0.win 1).blk t).view.read (Elt Ideal) (A (Pipeline.arrRef spec0 1)) y = X (ix2 (tok t (y 1)) (y 2)) := by
  show A main_v1 ((win0_1.blk t).view.emb y) = _
  rw [hA]
  exact congrArg (sheet X) (place_rows t _ (fun y a => congrArg (fun n => n * S1x1024x1024.size a + 1 * (y a).val) (congrFun (index_x t) a)) y)

/-- The result's block is the whole result. -/
theorem whole (y : S1x1536x1024.Idx) : (win0_2.blk t).view.emb y = y :=
  place_all _ (fun y a => congrArg (fun n => n * S1x1536x1024.size a + 1 * (y a).val) (congrFun (index_w t) a)) y
end

/-- The point's blocks. -/
theorem blk_d (c : Dev nD) (t : Fin 8) (y : S1x1024x1536.Idx) : iblk m c 0 t y = argD m c (ix2 (tok t (y 1)) (y 2)) := by
  unfold iblk; exact block0 c t (V m c) _ (V_d m c) y
theorem blk_x (c : Dev nD) (t : Fin 8) (y : S1x1024x1024.Idx) : iblk m c 1 t y = argX m c (ix2 (tok t (y 1)) (y 2)) := by
  unfold iblk; exact block1 c t (V m c) _ (V_x m c) y

/-- The products of a point. -/
theorem pay1_apply (d : Vec Ideal S1x1024x1536 .bf16) (x : Vec Ideal S1x1024x1024 .bf16) (j : Fin 1536) (e : Fin 1024) :
    k0_pay1 (F := Ideal) d x (ix2 j e) = ∑ r : Fin 1024, d (ix3 0 r j) * x (ix3 0 r e) := by
  pointwise [k0_pay1]

theorem pay2_apply (d : Vec Ideal S1x1024x1536 .bf16) (x : Vec Ideal S1x1024x1024 .bf16) (y : S1x1536x1024.Idx) :
    k0_pay2 (F := Ideal) d x y = k0_pay1 (F := Ideal) d x (ix2 (y 1) (y 2)) := by
  unfold k0_pay2; generalize k0_pay1 d x = p; pointwise

theorem pay3_apply (d : Vec Ideal S1x1024x1536 .bf16) (x : Vec Ideal S1x1024x1024 .bf16) (o : Vec Ideal S1x1536x1024 .f32)
    (y : S1x1536x1024.Idx) :
    k0_pay3 (F := Ideal) d x o y = o y + k0_pay1 (F := Ideal) d x (ix2 (y 1) (y 2)) := by
  unfold k0_pay3; generalize k0_pay1 d x = p; pointwise

/-- The terms of an entry of the gradient. -/
def terms (c : Dev nD) (j : Fin 1536) (e : Fin 1024) : Fin 8192 → EReal :=
  fun r => argD m c (ix2 r j) * argX m c (ix2 r e)

theorem product (c : Dev nD) (t : Fin 8) (j : Fin 1536) (e : Fin 1024) :
    k0_pay1 (F := Ideal) (iblk m c 0 t) (iblk m c 1 t) (ix2 j e) = ∑ r : Fin 1024, terms m c j e (tok t r) :=
  (pay1_apply _ _ j e).trans (Finset.sum_congr rfl fun r _ => by rw [blk_d, blk_x]; rfl)

theorem first (c : Dev nD) (t : Fin cfg0.N) (h0 : t.val % 8 = 0) (h1 : ¬1 ≤ t.val) :
    outsAt0 m c t.val t.isLt = k0_pay2 (F := Ideal) (iblk m c 0 t) (iblk m c 1 t) := by
  rw [outsAt0_A m c t h0 h1]
  frame_out

theorem later (c : Dev nD) (t : Fin cfg0.N) (h0 : ¬t.val % 8 = 0) (h1 : 1 ≤ t.val) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 h1]
  frame_out

/-- An entry of the result's block after point `n`. -/
def entry (c : Dev nD) (y : S1x1536x1024.Idx) (n : ℕ) (h : n < 8) : EReal := outsAt0 m c n (lt_of_lt_of_eq h N_0.symm) y

theorem entry_first (c : Dev nD) (y : S1x1536x1024.Idx) (h : 0 < 8) :
    entry m c y 0 h = ∑ r, terms m c (y 1) (y 2) (tok ⟨0, h⟩ r) := by
  have e := congrFun (first m c ⟨0, lt_of_lt_of_eq h N_0.symm⟩ (Nat.zero_mod 8) (Nat.not_succ_le_zero 0)) y
  exact e.trans ((pay2_apply _ _ y).trans (product m c ⟨0, h⟩ _ _))

theorem entry_later (c : Dev nD) (y : S1x1536x1024.Idx) (n : ℕ) (h : n + 1 < 8) :
    entry m c y (n + 1) h = entry m c y n (Nat.lt_of_succ_lt h) + ∑ r, terms m c (y 1) (y 2) (tok ⟨n + 1, h⟩ r) := by
  have e := congrFun (later m c ⟨n + 1, lt_of_lt_of_eq h N_0.symm⟩ (show ¬(n + 1) % 8 = 0 by omega) (show 1 ≤ n + 1 by omega)) y
  exact e.trans ((pay3_apply _ _ _ y).trans (congrArg₂ (fun a b : EReal => a + b) (Eq.refl (entry m c y n (Nat.lt_of_succ_lt h)))
    (product m c ⟨n + 1, h⟩ _ _)))

/-- The gradient. -/
def grad (c : Dev nD) : Sheet 1536 1024 .f32 := tTimes (argD m c) (argX m c)

/-- After the last point, the result's block is the gradient. -/
theorem total (c : Dev nD) (y : S1x1536x1024.Idx) (h : 7 < 8) : entry m c y 7 h = grad m c y :=
  fold_blocks (terms m c (y 1) (y 2)) (entry m c y) (entry_first m c y) (entry_later m c y)

theorem final_w (c : Dev nD) : (dats m 0 c).arrAt 2 cfg0.N = grad m c := by
  refine (dats m 0 c).arrAt_eq_of_covers 2 _ (by decide +kernel) fun t hf y => ?_
  have h7 : t.val = 7 := (by decide +kernel : ∀ t : Fin cfg0.N, (cfg0.win 2).flush t = true → t.val = 7) t hf
  obtain ⟨n, hn⟩ := t
  obtain rfl : n = 7 := h7
  rw [after0_2]
  have e : outsAt0 m c 7 hn y = entry m c y 7 (by decide) := rfl
  rw [e, total]
  exact (congrArg (grad m c) (whole ⟨7, by decide⟩ y)).symm

end Cert.Kernel11Ideal.Proj

end
-- ==== Proof.Proj.GradWideClaims.lean ====
module

public import proofs.«01_k».proof.Defs
public import proofs.«01_k».proof.Proof.Gen.Kernel11.Frame
public import proofs.«01_k».proof.Proof.Gen.Reference11Ideal.Run
public import proofs.«01_k».proof.Proof.Proj.GradWideValue

@[expose] public section

set_option maxRecDepth 16384

/-! # A projection's weight gradient, at 1536 columns: the claims

The launch and the reference each end with the gradient of the weight, transposed. -/

noncomputable section

namespace Cert.Reference11Ideal.Proj

open Cert.Reference11Ideal
open Idealize.ShloMosaic Idealize.SL.Sem
open Cert.Proj

/-- The reference terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = (tTimes (a := 1536) (b := 1024) (k := 8192) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference11Ideal := fun m ρ _ =>
  (θ_run defs _ _).mono (fun r h => ⟨fun c => (h c).2, Idealize.ShloMosaic.sem_eq_zero_of_no_sems (by decide) r.2⟩)
    (Value.run (F := Ideal) m ρ)

end Cert.Reference11Ideal.Proj

namespace Cert.Kernel11Ideal.Proj

open Cert.Kernel11Ideal Cert.Kernel11Ideal.Gen
open Idealize.ShloMosaic Idealize.SL.Sem
open Cert.Proj

/-- The launch terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2⟩) (Value.run_blocks m ρ)

/-- The launch's frames, at machine words and over the reals. -/
theorem frame_words : Cert.quiescent_Kernel11 := fun m ρ _ => Cert.Kernel11.Gen.frame m ρ
theorem frame_reals : Cert.quiescent_Kernel11Ideal := fun m ρ _ => Cert.Kernel11Ideal.Gen.frame m ρ

/-- The launch against the reference, over the reals. -/
theorem algebraic : Cert.algebraic_Kernel11Ideal_Reference11Ideal := by
  intro m ρ m' ρ' _ hagree
  refine ⟨_, run m ρ, ?_⟩
  refine (θ_run _ _ _).mono (fun r h c => ?_) (Cert.Reference11Ideal.Proj.run m' ρ')
  obtain ⟨h0, h1⟩ := hagree c
  have H := h c
  rw [h0, h1] at H
  unfold grad argD argX
  rw [h0, h1]
  exact H

end Cert.Kernel11Ideal.Proj

end
-- ==== Proof.Proj.InGatesValue.lean ====
module

public import proofs.«01_k».proof.Proof.Gen.Kernel12Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an input projection computes, at 2048 columns

Point `t` multiplies block `t / 2` of the tokens by the half `t % 2` of the weight's columns, which it reads transposed. -/

noncomputable section

namespace Cert.Kernel12Ideal.Proj

open Cert.Kernel12Ideal Cert.Kernel12Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 1024 2048 .bf16 := m ((c : Thread nD τ).loc main_arg1)
def result (c : Dev nD) : Sheet 8192 2048 .f32 := times (argX m c) (argW m c)

theorem V_x (c : Dev nD) : V m c main_v0 = sheet (argX m c) := by
  entry_read; funext y; pointwise; rfl
theorem V_w (c : Dev nD) : V m c main_v2 = turned (argW m c) := by
  entry_read; funext y; pointwise; rfl

theorem index_x : ∀ t : Fin grid0.N, cc0_transform_0 (grid0.coords t) = ![0, t.val / 2, 0] := by decide +kernel
theorem index_w : ∀ t : Fin grid0.N, cc0_transform_1 (grid0.coords t) = ![0, t.val % 2, 0] := by decide +kernel
theorem index_o : ∀ t : Fin grid0.N, cc0_transform_2 (grid0.coords t) = ![0, t.val / 2, t.val % 2] := by decide +kernel

/-- The block of tokens a point takes. -/
def rows (t : Fin 16) : Fin 8 := ⟨t.val / 2, by omega⟩
/-- The weight's column at `j` of a point's half. -/
def col (t : Fin 16) (j : Fin 1024) : Fin 2048 := ⟨t.val % 2 * 1024 + j.val, by omega⟩

section
variable (c : Dev nD) (t : Fin 16) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok (rows t) (y 1)) (y 2)) := by
  show A main_v0 ((win0_0.blk t).view.emb y) = _
  rw [hA]
  exact congrArg (sheet X) (place_rows (rows t) _ (fun y a => congrArg (fun n => n * S1x1024x1024.size a + 1 * (y a).val) (congrFun (index_x t) a)) y)

theorem block1 (W : Mat 1024 2048 .bf16) (hA : A main_v2 = turned W) (y : S1x1024x1024.Idx) :
    ((cfg0.win 1).blk t).view.read (Elt Ideal) (A (Pipeline.arrRef spec0 1)) y = W (ix2 (y 2) (col t (y 1))) := by
  show A main_v2 ((win0_1.blk t).view.emb y) = _
  rw [hA]
  exact congrArg (turned W) (place (s := 0) _ (fun y a => congrArg (fun n => n * S1x1024x1024.size a + 1 * (y a).val) (congrFun (index_w t) a)) y
    (col t (y 1)) (y 2) rfl (show (y 2).val = 0 * 1024 + (y 2).val by omega))

/-- Where the result's block stands. -/
theorem stand (y : S1x1024x1024.Idx) : (win0_2.blk t).view.emb y = (ix3 0 (tok (rows t) (y 1)) (col t (y 2)) : S1x8192x2048.Idx) :=
  place _ (fun y a => congrArg (fun n => n * S1x1024x1024.size a + 1 * (y a).val) (congrFun (index_o t) a)) y
    (tok (rows t) (y 1)) (col t (y 2)) rfl rfl
end

/-- The point's blocks. -/
theorem blk_x (c : Dev nD) (t : Fin 16) (y : S1x1024x1024.Idx) : iblk m c 0 t y = argX m c (ix2 (tok (rows t) (y 1)) (y 2)) := by
  unfold iblk; exact block0 c t (V m c) _ (V_x m c) y
theorem blk_w (c : Dev nD) (t : Fin 16) (y : S1x1024x1024.Idx) : iblk m c 1 t y = argW m c (ix2 (y 2) (col t (y 1))) := by
  unfold iblk; exact block1 c t (V m c) _ (V_w m c) y

/-- The products of a point. -/
theorem pay1_apply (x : Vec Ideal S1x1024x1024 .bf16) (w : Vec Ideal S1x1024x1024 .bf16) (y : S1x1024x1024.Idx) :
    k0_pay1 (F := Ideal) x w y = ∑ d : Fin 1024, x (ix3 0 (y 1) d) * w (ix3 0 (y 2) d) := by
  pointwise [k0_pay1]

theorem product (c : Dev nD) (t : Fin 16) (y : S1x1024x1024.Idx) :
    k0_pay1 (F := Ideal) (iblk m c 0 t) (iblk m c 1 t) y = result m c (ix3 0 (tok (rows t) (y 1)) (col t (y 2))) :=
  (pay1_apply _ _ y).trans (Eq.trans (b := ∑ d : Fin 1024, argX m c (ix2 (tok (rows t) (y 1)) d) * argW m c (ix2 d (col t (y 2))))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel12Ideal.Proj

end
-- ==== Proof.Proj.InGatesClaims.lean ====
module

public import proofs.«01_k».proof.Defs
public import proofs.«01_k».proof.Proof.Gen.Kernel12.Frame
public import proofs.«01_k».proof.Proof.Gen.Reference12Ideal.Run
public import proofs.«01_k».proof.Proof.Proj.InGatesValue

@[expose] public section

set_option maxRecDepth 16384

/-! # An input projection, at 2048 columns: the claims

The launch and the reference each end with the tokens through the weight. -/

noncomputable section

namespace Cert.Reference12Ideal.Proj

open Cert.Reference12Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (times (a := 8192) (b := 2048) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference12Ideal := fun m ρ _ =>
  (θ_run defs _ _).mono (fun r h => ⟨fun c => (h c).2, Idealize.ShloMosaic.sem_eq_zero_of_no_sems (by decide) r.2⟩)
    (Value.run (F := Ideal) m ρ)

end Cert.Reference12Ideal.Proj

namespace Cert.Kernel12Ideal.Proj

open Cert.Kernel12Ideal Cert.Kernel12Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel12 := fun m ρ _ => Cert.Kernel12.Gen.frame m ρ
theorem frame_reals : Cert.quiescent_Kernel12Ideal := fun m ρ _ => Cert.Kernel12Ideal.Gen.frame m ρ

/-- The launch against the reference, over the reals. -/
theorem algebraic : Cert.algebraic_Kernel12Ideal_Reference12Ideal := by
  intro m ρ m' ρ' _ hagree
  refine ⟨_, run m ρ, ?_⟩
  refine (θ_run _ _ _).mono (fun r h c => ?_) (Cert.Reference12Ideal.Proj.run m' ρ')
  obtain ⟨h0, h1⟩ := hagree c
  have H := h c
  rw [h0, h1] at H
  unfold result argX argW
  rw [h0, h1]
  exact H

end Cert.Kernel12Ideal.Proj

end
-- ==== Proof.Proj.BackValue.lean ====
module

public import proofs.«01_k».proof.Proof.Gen.Kernel13Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an output projection's backward pass computes, at 512 columns

Point `t` multiplies block `t` of the tokens by the whole weight, transposed. -/

noncomputable section

namespace Cert.Kernel13Ideal.Proj

open Cert.Kernel13Ideal Cert.Kernel13Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 512 1024 .bf16 := m ((c : Thread nD τ).loc main_arg1)
def result (c : Dev nD) : Sheet 8192 512 .f32 := timesT (argX m c) (argW m c)

theorem V_x (c : Dev nD) : V m c main_v0 = sheet (argX m c) := by
  entry_read; funext y; pointwise; rfl
theorem V_w (c : Dev nD) : V m c main_v1 = sheet (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x1024.size a + 1 * (y a).val) (congrFun (index_x t) a)) y)

theorem block1 (W : Mat 512 1024 .bf16) (hA : A main_v1 = sheet W) (y : S1x512x1024.Idx) :
    ((cfg0.win 1).blk t).view.read (Elt Ideal) (A (Pipeline.arrRef spec0 1)) y = W (ix2 (y 1) (y 2)) := by
  show A main_v1 ((win0_1.blk t).view.emb y) = _
  rw [hA]
  exact congrArg (sheet W) (place_all _ (fun y a => congrArg (fun n => n * S1x512x1024.size a + 1 * (y a).val) (congrFun (index_w t) a)) y)

/-- Where the result's block stands. -/
theorem stand (y : S1x1024x512.Idx) : (win0_2.blk t).view.emb y = (ix3 0 (tok t (y 1)) (y 2) : S1x8192x512.Idx) :=
  place_rows t _ (fun y a => congrArg (fun n => n * S1x1024x512.size a + 1 * (y a).val) (congrFun (index_o t) a)) y
end

/-- The point's blocks. -/
theorem blk_x (c : Dev nD) (t : Fin 8) (y : S1x1024x1024.Idx) : iblk m c 0 t y = argX m c (ix2 (tok t (y 1)) (y 2)) := by
  unfold iblk; exact block0 c t (V m c) _ (V_x m c) y
theorem blk_w (c : Dev nD) (t : Fin 8) (y : S1x512x1024.Idx) : iblk m c 1 t y = argW m c (ix2 (y 1) (y 2)) := by
  unfold iblk; exact block1 c t (V m c) _ (V_w m c) y

/-- The products of a point. -/
theorem pay1_apply (x : Vec Ideal S1x1024x1024 .bf16) (w : Vec Ideal S1x512x1024 .bf16) (y : S1x1024x512.Idx) :
    k0_pay1 (F := Ideal) x w y = ∑ d : Fin 1024, x (ix3 0 (y 1) d) * w (ix3 0 (y 2) d) := by
  pointwise [k0_pay1]

theorem product (c : Dev nD) (t : Fin 8) (y : S1x1024x512.Idx) :
    k0_pay1 (F := Ideal) (iblk m c 0 t) (iblk m c 1 t) y = result m c (ix3 0 (tok t (y 1)) (y 2)) :=
  (pay1_apply _ _ y).trans (Eq.trans (b := ∑ d : Fin 1024, argX m c (ix2 (tok t (y 1)) d) * argW m c (ix2 (y 2) d))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel13Ideal.Proj

end
-- ==== Proof.Proj.BackClaims.lean ====
module

public import proofs.«01_k».proof.Defs
public import proofs.«01_k».proof.Proof.Gen.Kernel13.Frame
public import proofs.«01_k».proof.Proof.Gen.Reference13Ideal.Run
public import proofs.«01_k».proof.Proof.Proj.BackValue

@[expose] public section

set_option maxRecDepth 16384

/-! # An output projection's backward pass, at 512 columns: the claims

The launch and the reference each end with the tokens' cotangent through the weight. -/

noncomputable section

namespace Cert.Reference13Ideal.Proj

open Cert.Reference13Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = (timesT (a := 8192) (b := 512) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference13Ideal := fun m ρ _ =>
  (θ_run defs _ _).mono (fun r h => ⟨fun c => (h c).2, Idealize.ShloMosaic.sem_eq_zero_of_no_sems (by decide) r.2⟩)
    (Value.run (F := Ideal) m ρ)

end Cert.Reference13Ideal.Proj

namespace Cert.Kernel13Ideal.Proj

open Cert.Kernel13Ideal Cert.Kernel13Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel13 := fun m ρ _ => Cert.Kernel13.Gen.frame m ρ
theorem frame_reals : Cert.quiescent_Kernel13Ideal := fun m ρ _ => Cert.Kernel13Ideal.Gen.frame m ρ

/-- The launch against the reference, over the reals. -/
theorem algebraic : Cert.algebraic_Kernel13Ideal_Reference13Ideal := by
  intro m ρ m' ρ' _ hagree
  refine ⟨_, run m ρ, ?_⟩
  refine (θ_run _ _ _).mono (fun r h c => ?_) (Cert.Reference13Ideal.Proj.run m' ρ')
  obtain ⟨h0, h1⟩ := hagree c
  have H := h c
  rw [h0, h1] at H
  unfold result argX argW
  rw [h0, h1]
  exact H

end Cert.Kernel13Ideal.Proj

end
-- ==== Proof.Proj.InWideValue.lean ====
module

public import proofs.«01_k».proof.Proof.Gen.Kernel14Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an input projection computes, at 1536 columns

Point `t` multiplies block `t` of the tokens by the whole weight, which it reads transposed. -/

noncomputable section

namespace Cert.Kernel14Ideal.Proj

open Cert.Kernel14Ideal Cert.Kernel14Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 1024 1536 .bf16 := m ((c : Thread nD τ).loc main_arg1)
def result (c : Dev nD) : Sheet 8192 1536 .f32 := times (argX m c) (argW m c)

theorem V_x (c : Dev nD) : V m c main_v0 = sheet (argX m c) := by
  entry_read; funext y; pointwise; rfl
theorem V_w (c : Dev nD) : V m c main_v2 = turned (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x1024.size a + 1 * (y a).val) (congrFun (index_x t) a)) y)

theorem block1 (W : Mat 1024 1536 .bf16) (hA : A main_v2 = turned W) (y : S1x1536x1024.Idx) :
    ((cfg0.win 1).blk t).view.read (Elt Ideal) (A (Pipeline.arrRef spec0 1)) y = W (ix2 (y 2) (y 1)) := by
  show A main_v2 ((win0_1.blk t).view.emb y) = _
  rw [hA]
  exact congrArg (turned W) (place_all _ (fun y a => congrArg (fun n => n * S1x1536x1024.size a + 1 * (y a).val) (congrFun (index_w t) a)) y)

/-- Where the result's block stands. -/
theorem stand (y : S1x1024x1536.Idx) : (win0_2.blk t).view.emb y = (ix3 0 (tok t (y 1)) (y 2) : S1x8192x1536.Idx) :=
  place_rows t _ (fun y a => congrArg (fun n => n * S1x1024x1536.size a + 1 * (y a).val) (congrFun (index_o t) a)) y
end

/-- The point's blocks. -/
theorem blk_x (c : Dev nD) (t : Fin 8) (y : S1x1024x1024.Idx) : iblk m c 0 t y = argX m c (ix2 (tok t (y 1)) (y 2)) := by
  unfold iblk; exact block0 c t (V m c) _ (V_x m c) y
theorem blk_w (c : Dev nD) (t : Fin 8) (y : S1x1536x1024.Idx) : iblk m c 1 t y = argW m c (ix2 (y 2) (y 1)) := by
  unfold iblk; exact block1 c t (V m c) _ (V_w m c) y

/-- The products of a point. -/
theorem pay1_apply (x : Vec Ideal S1x1024x1024 .bf16) (w : Vec Ideal S1x1536x1024 .bf16) (y : S1x1024x1536.Idx) :
    k0_pay1 (F := Ideal) x w y = ∑ d : Fin 1024, x (ix3 0 (y 1) d) * w (ix3 0 (y 2) d) := by
  pointwise [k0_pay1]

theorem product (c : Dev nD) (t : Fin 8) (y : S1x1024x1536.Idx) :
    k0_pay1 (F := Ideal) (iblk m c 0 t) (iblk m c 1 t) y = result m c (ix3 0 (tok t (y 1)) (y 2)) :=
  (pay1_apply _ _ y).trans (Eq.trans (b := ∑ d : Fin 1024, argX m c (ix2 (tok t (y 1)) d) * argW m c (ix2 d (y 2)))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel14Ideal.Proj

end
-- ==== Proof.Proj.InWideClaims.lean ====
module

public import proofs.«01_k».proof.Defs
public import proofs.«01_k».proof.Proof.Gen.Kernel14.Frame
public import proofs.«01_k».proof.Proof.Gen.Reference14Ideal.Run
public import proofs.«01_k».proof.Proof.Proj.InWideValue

@[expose] public section

set_option maxRecDepth 16384

/-! # An input projection, at 1536 columns: the claims

The launch and the reference each end with the tokens through the weight. -/

noncomputable section

namespace Cert.Reference14Ideal.Proj

open Cert.Reference14Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (times (a := 8192) (b := 1536) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference14Ideal := fun m ρ _ =>
  (θ_run defs _ _).mono (fun r h => ⟨fun c => (h c).2, Idealize.ShloMosaic.sem_eq_zero_of_no_sems (by decide) r.2⟩)
    (Value.run (F := Ideal) m ρ)

end Cert.Reference14Ideal.Proj

namespace Cert.Kernel14Ideal.Proj

open Cert.Kernel14Ideal Cert.Kernel14Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel14 := fun m ρ _ => Cert.Kernel14.Gen.frame m ρ
theorem frame_reals : Cert.quiescent_Kernel14Ideal := fun m ρ _ => Cert.Kernel14Ideal.Gen.frame m ρ

/-- The launch against the reference, over the reals. -/
theorem algebraic : Cert.algebraic_Kernel14Ideal_Reference14Ideal := by
  intro m ρ m' ρ' _ hagree
  refine ⟨_, run m ρ, ?_⟩
  refine (θ_run _ _ _).mono (fun r h c => ?_) (Cert.Reference14Ideal.Proj.run m' ρ')
  obtain ⟨h0, h1⟩ := hagree c
  have H := h c
  rw [h0, h1] at H
  unfold result argX argW
  rw [h0, h1]
  exact H

end Cert.Kernel14Ideal.Proj

end
-- ==== Proof.Proj.BackMixValue.lean ====
module

public import proofs.«01_k».proof.Proof.Gen.Kernel15Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an output projection's backward pass computes, at 1024 columns

Point `t` multiplies block `t` of the tokens by the whole weight, transposed. -/

noncomputable section

namespace Cert.Kernel15Ideal.Proj

open Cert.Kernel15Ideal Cert.Kernel15Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 1024 1024 .bf16 := m ((c : Thread nD τ).loc main_arg1)
def result (c : Dev nD) : Sheet 8192 1024 .f32 := timesT (argX m c) (argW m c)

theorem V_x (c : Dev nD) : V m c main_v0 = sheet (argX m c) := by
  entry_read; funext y; pointwise; rfl
theorem V_w (c : Dev nD) : V m c main_v1 = sheet (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x1024.size a + 1 * (y a).val) (congrFun (index_x t) a)) y)

theorem block1 (W : Mat 1024 1024 .bf16) (hA : A main_v1 = sheet W) (y : S1x1024x1024.Idx) :
    ((cfg0.win 1).blk t).view.read (Elt Ideal) (A (Pipeline.arrRef spec0 1)) y = W (ix2 (y 1) (y 2)) := by
  show A main_v1 ((win0_1.blk t).view.emb y) = _
  rw [hA]
  exact congrArg (sheet W) (place_all _ (fun y a => congrArg (fun n => n * S1x1024x1024.size a + 1 * (y a).val) (congrFun (index_w t) a)) y)

/-- Where the result's block stands. -/
theorem stand (y : S1x1024x1024.Idx) : (win0_2.blk t).view.emb y = (ix3 0 (tok t (y 1)) (y 2) : S1x8192x1024.Idx) :=
  place_rows t _ (fun y a => congrArg (fun n => n * S1x1024x1024.size a + 1 * (y a).val) (congrFun (index_o t) a)) y
end

/-- The point's blocks. -/
theorem blk_x (c : Dev nD) (t : Fin 8) (y : S1x1024x1024.Idx) : iblk m c 0 t y = argX m c (ix2 (tok t (y 1)) (y 2)) := by
  unfold iblk; exact block0 c t (V m c) _ (V_x m c) y
theorem blk_w (c : Dev nD) (t : Fin 8) (y : S1x1024x1024.Idx) : iblk m c 1 t y = argW m c (ix2 (y 1) (y 2)) := by
  unfold iblk; exact block1 c t (V m c) _ (V_w m c) y

/-- The products of a point. -/
theorem pay1_apply (x : Vec Ideal S1x1024x1024 .bf16) (w : Vec Ideal S1x1024x1024 .bf16) (y : S1x1024x1024.Idx) :
    k0_pay1 (F := Ideal) x w y = ∑ d : Fin 1024, x (ix3 0 (y 1) d) * w (ix3 0 (y 2) d) := by
  pointwise [k0_pay1]

theorem product (c : Dev nD) (t : Fin 8) (y : S1x1024x1024.Idx) :
    k0_pay1 (F := Ideal) (iblk m c 0 t) (iblk m c 1 t) y = result m c (ix3 0 (tok t (y 1)) (y 2)) :=
  (pay1_apply _ _ y).trans (Eq.trans (b := ∑ d : Fin 1024, argX m c (ix2 (tok t (y 1)) d) * argW m c (ix2 (y 2) d))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel15Ideal.Proj

end
-- ==== Proof.Proj.BackMixClaims.lean ====
module

public import proofs.«01_k».proof.Defs
public import proofs.«01_k».proof.Proof.Gen.Kernel15.Frame
public import proofs.«01_k».proof.Proof.Gen.Reference15Ideal.Run
public import proofs.«01_k».proof.Proof.Proj.BackMixValue

@[expose] public section

set_option maxRecDepth 16384

/-! # An output projection's backward pass, at 1024 columns: the claims

The launch and the reference each end with the tokens' cotangent through the weight. -/

noncomputable section

namespace Cert.Reference15Ideal.Proj

open Cert.Reference15Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
        = (timesT (a := 8192) (b := 1024) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference15Ideal := fun m ρ _ =>
  (θ_run defs _ _).mono (fun r h => ⟨fun c => (h c).2, Idealize.ShloMosaic.sem_eq_zero_of_no_sems (by decide) r.2⟩)
    (Value.run (F := Ideal) m ρ)

end Cert.Reference15Ideal.Proj

namespace Cert.Kernel15Ideal.Proj

open Cert.Kernel15Ideal Cert.Kernel15Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel15 := fun m ρ _ => Cert.Kernel15.Gen.frame m ρ
theorem frame_reals : Cert.quiescent_Kernel15Ideal := fun m ρ _ => Cert.Kernel15Ideal.Gen.frame m ρ

/-- The launch against the reference, over the reals. -/
theorem algebraic : Cert.algebraic_Kernel15Ideal_Reference15Ideal := by
  intro m ρ m' ρ' _ hagree
  refine ⟨_, run m ρ, ?_⟩
  refine (θ_run _ _ _).mono (fun r h c => ?_) (Cert.Reference15Ideal.Proj.run m' ρ')
  obtain ⟨h0, h1⟩ := hagree c
  have H := h c
  rw [h0, h1] at H
  unfold result argX argW
  rw [h0, h1]
  exact H

end Cert.Kernel15Ideal.Proj

end
-- ==== Proof.Proj.OutNarrowValue.lean ====
module

public import proofs.«01_k».proof.Proof.Gen.Kernel16Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an output projection computes, from 512 columns

Point `t` multiplies block `t` of the tokens by the whole weight. -/

noncomputable section

namespace Cert.Kernel16Ideal.Proj

open Cert.Kernel16Ideal Cert.Kernel16Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 512 .bf16 := m ((c : Thread nD τ).loc main_arg0)
abbrev argW (c : Dev nD) : Mat 512 1024 .bf16 := m ((c : Thread nD τ).loc main_arg1)
def result (c : Dev nD) : Sheet 8192 1024 .f32 := times (argX m c) (argW m c)

theorem V_x (c : Dev nD) : V m c main_v0 = sheet (argX m c) := by
  entry_read; funext y; pointwise; rfl
theorem V_w (c : Dev nD) : V m c main_v1 = sheet (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 512 .bf16) (hA : A main_v0 = sheet X) (y : S1x1024x512.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x512.size a + 1 * (y a).val) (congrFun (index_x t) a)) y)

theorem block1 (W : Mat 512 1024 .bf16) (hA : A main_v1 = sheet W) (y : S1x512x1024.Idx) :
    ((cfg0.win 1).blk t).view.read (Elt Ideal) (A (Pipeline.arrRef spec0 1)) y = W (ix2 (y 1) (y 2)) := by
  show A main_v1 ((win0_1.blk t).view.emb y) = _
  rw [hA]
  exact congrArg (sheet W) (place_all _ (fun y a => congrArg (fun n => n * S1x512x1024.size a + 1 * (y a).val) (congrFun (index_w t) a)) y)

/-- Where the result's block stands. -/
theorem stand (y : S1x1024x1024.Idx) : (win0_2.blk t).view.emb y = (ix3 0 (tok t (y 1)) (y 2) : S1x8192x1024.Idx) :=
  place_rows t _ (fun y a => congrArg (fun n => n * S1x1024x1024.size a + 1 * (y a).val) (congrFun (index_o t) a)) y
end

/-- The point's blocks. -/
theorem blk_x (c : Dev nD) (t : Fin 8) (y : S1x1024x512.Idx) : iblk m c 0 t y = argX m c (ix2 (tok t (y 1)) (y 2)) := by
  unfold iblk; exact block0 c t (V m c) _ (V_x m c) y
theorem blk_w (c : Dev nD) (t : Fin 8) (y : S1x512x1024.Idx) : iblk m c 1 t y = argW m c (ix2 (y 1) (y 2)) := by
  unfold iblk; exact block1 c t (V m c) _ (V_w m c) y

/-- The products of a point. -/
theorem pay1_apply (x : Vec Ideal S1x1024x512 .bf16) (w : Vec Ideal S1x512x1024 .bf16) (y : S1x1024x1024.Idx) :
    k0_pay1 (F := Ideal) x w y = ∑ d : Fin 512, x (ix3 0 (y 1) d) * w (ix3 0 d (y 2)) := by
  pointwise [k0_pay1]

theorem product (c : Dev nD) (t : Fin 8) (y : S1x1024x1024.Idx) :
    k0_pay1 (F := Ideal) (iblk m c 0 t) (iblk m c 1 t) y = result m c (ix3 0 (tok t (y 1)) (y 2)) :=
  (pay1_apply _ _ y).trans (Eq.trans (b := ∑ d : Fin 512, argX m c (ix2 (tok t (y 1)) d) * argW m c (ix2 d (y 2)))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel16Ideal.Proj

end
-- ==== Proof.Proj.OutNarrowClaims.lean ====
module

public import proofs.«01_k».proof.Defs
public import proofs.«01_k».proof.Proof.Gen.Kernel16.Frame
public import proofs.«01_k».proof.Proof.Gen.Reference16Ideal.Run
public import proofs.«01_k».proof.Proof.Proj.OutNarrowValue

@[expose] public section

set_option maxRecDepth 16384

/-! # An output projection, from 512 columns: the claims

The launch and the reference each end with the tokens through the weight. -/

noncomputable section

namespace Cert.Reference16Ideal.Proj

open Cert.Reference16Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (times (a := 8192) (b := 1024) (k := 512) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference16Ideal := fun m ρ _ =>
  (θ_run defs _ _).mono (fun r h => ⟨fun c => (h c).2, Idealize.ShloMosaic.sem_eq_zero_of_no_sems (by decide) r.2⟩)
    (Value.run (F := Ideal) m ρ)

end Cert.Reference16Ideal.Proj

namespace Cert.Kernel16Ideal.Proj

open Cert.Kernel16Ideal Cert.Kernel16Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel16 := fun m ρ _ => Cert.Kernel16.Gen.frame m ρ
theorem frame_reals : Cert.quiescent_Kernel16Ideal := fun m ρ _ => Cert.Kernel16Ideal.Gen.frame m ρ

/-- The launch against the reference, over the reals. -/
theorem algebraic : Cert.algebraic_Kernel16Ideal_Reference16Ideal := by
  intro m ρ m' ρ' _ hagree
  refine ⟨_, run m ρ, ?_⟩
  refine (θ_run _ _ _).mono (fun r h c => ?_) (Cert.Reference16Ideal.Proj.run m' ρ')
  obtain ⟨h0, h1⟩ := hagree c
  have H := h c
  rw [h0, h1] at H
  unfold result argX argW
  rw [h0, h1]
  exact H

end Cert.Kernel16Ideal.Proj

end
-- ==== Proof.Proj.OutMixValue.lean ====
module

public import proofs.«01_k».proof.Proof.Gen.Kernel17Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an output projection computes, from 1024 columns

Point `t` multiplies block `t` of the tokens by the whole weight. -/

noncomputable section

namespace Cert.Kernel17Ideal.Proj

open Cert.Kernel17Ideal Cert.Kernel17Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 1024 1024 .bf16 := m ((c : Thread nD τ).loc main_arg1)
def result (c : Dev nD) : Sheet 8192 1024 .f32 := times (argX m c) (argW m c)

theorem V_x (c : Dev nD) : V m c main_v0 = sheet (argX m c) := by
  entry_read; funext y; pointwise; rfl
theorem V_w (c : Dev nD) : V m c main_v1 = sheet (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x1024.size a + 1 * (y a).val) (congrFun (index_x t) a)) y)

theorem block1 (W : Mat 1024 1024 .bf16) (hA : A main_v1 = sheet W) (y : S1x1024x1024.Idx) :
    ((cfg0.win 1).blk t).view.read (Elt Ideal) (A (Pipeline.arrRef spec0 1)) y = W (ix2 (y 1) (y 2)) := by
  show A main_v1 ((win0_1.blk t).view.emb y) = _
  rw [hA]
  exact congrArg (sheet W) (place_all _ (fun y a => congrArg (fun n => n * S1x1024x1024.size a + 1 * (y a).val) (congrFun (index_w t) a)) y)

/-- Where the result's block stands. -/
theorem stand (y : S1x1024x1024.Idx) : (win0_2.blk t).view.emb y = (ix3 0 (tok t (y 1)) (y 2) : S1x8192x1024.Idx) :=
  place_rows t _ (fun y a => congrArg (fun n => n * S1x1024x1024.size a + 1 * (y a).val) (congrFun (index_o t) a)) y
end

/-- The point's blocks. -/
theorem blk_x (c : Dev nD) (t : Fin 8) (y : S1x1024x1024.Idx) : iblk m c 0 t y = argX m c (ix2 (tok t (y 1)) (y 2)) := by
  unfold iblk; exact block0 c t (V m c) _ (V_x m c) y
theorem blk_w (c : Dev nD) (t : Fin 8) (y : S1x1024x1024.Idx) : iblk m c 1 t y = argW m c (ix2 (y 1) (y 2)) := by
  unfold iblk; exact block1 c t (V m c) _ (V_w m c) y

/-- The products of a point. -/
theorem pay1_apply (x : Vec Ideal S1x1024x1024 .bf16) (w : Vec Ideal S1x1024x1024 .bf16) (y : S1x1024x1024.Idx) :
    k0_pay1 (F := Ideal) x w y = ∑ d : Fin 1024, x (ix3 0 (y 1) d) * w (ix3 0 d (y 2)) := by
  pointwise [k0_pay1]

theorem product (c : Dev nD) (t : Fin 8) (y : S1x1024x1024.Idx) :
    k0_pay1 (F := Ideal) (iblk m c 0 t) (iblk m c 1 t) y = result m c (ix3 0 (tok t (y 1)) (y 2)) :=
  (pay1_apply _ _ y).trans (Eq.trans (b := ∑ d : Fin 1024, argX m c (ix2 (tok t (y 1)) d) * argW m c (ix2 d (y 2)))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel17Ideal.Proj

end
-- ==== Proof.Proj.OutMixClaims.lean ====
module

public import proofs.«01_k».proof.Defs
public import proofs.«01_k».proof.Proof.Gen.Kernel17.Frame
public import proofs.«01_k».proof.Proof.Gen.Reference17Ideal.Run
public import proofs.«01_k».proof.Proof.Proj.OutMixValue

@[expose] public section

set_option maxRecDepth 16384

/-! # An output projection, from 1024 columns: the claims

The launch and the reference each end with the tokens through the weight. -/

noncomputable section

namespace Cert.Reference17Ideal.Proj

open Cert.Reference17Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (times (a := 8192) (b := 1024) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference17Ideal := fun m ρ _ =>
  (θ_run defs _ _).mono (fun r h => ⟨fun c => (h c).2, Idealize.ShloMosaic.sem_eq_zero_of_no_sems (by decide) r.2⟩)
    (Value.run (F := Ideal) m ρ)

end Cert.Reference17Ideal.Proj

namespace Cert.Kernel17Ideal.Proj

open Cert.Kernel17Ideal Cert.Kernel17Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel17 := fun m ρ _ => Cert.Kernel17.Gen.frame m ρ
theorem frame_reals : Cert.quiescent_Kernel17Ideal := fun m ρ _ => Cert.Kernel17Ideal.Gen.frame m ρ

/-- The launch against the reference, over the reals. -/
theorem algebraic : Cert.algebraic_Kernel17Ideal_Reference17Ideal := by
  intro m ρ m' ρ' _ hagree
  refine ⟨_, run m ρ, ?_⟩
  refine (θ_run _ _ _).mono (fun r h c => ?_) (Cert.Reference17Ideal.Proj.run m' ρ')
  obtain ⟨h0, h1⟩ := hagree c
  have H := h c
  rw [h0, h1] at H
  unfold result argX argW
  rw [h0, h1]
  exact H

end Cert.Kernel17Ideal.Proj

end
-- ==== Proof.Ffn.UpValue.lean ====
module

public import proofs.«01_k».proof.Proof.Gen.Kernel6Ideal.Value
public import proofs.«01_k».proof.Proof.Ffn.Blocks
public import Idealize.ShloMosaic.Lib.Pointwise
public import Idealize.ShloMosaic.Lib.Pipeline.ValueKit
public import Idealize.ShloMosaic.Lib.Claim

@[expose] public section

set_option maxRecDepth 16384

/-! # What the first half of the layer computes

Point `t` of the launch takes part `t / 8` of the hidden channels for the 1024 tokens from `t % 8 · 1024`. -/

noncomputable section

namespace Cert.Kernel6Ideal.Ffn

open Cert.Kernel6Ideal Cert.Kernel6Ideal.Gen
open Idealize.ShloMosaic Idealize.ShloMosaic.TcCoe Idealize.ShloMosaic.Tactic
open Idealize.SL.Sem
open Cert.Ffn

variable (m : (ℓ : Loc nD τ sig) → Buf (Elt Ideal) ℓ)

/-- The arguments. -/
abbrev argA (c : Dev nD) : Acts := m ((c : Thread nD τ).loc main_arg0)
abbrev argW1 (c : Dev nD) : Up := m ((c : Thread nD τ).loc main_arg1)
abbrev argW3 (c : Dev nD) : Up := m ((c : Thread nD τ).loc main_arg2)

theorem V_a (c : Dev nD) : V m c main_arg0 = argA m c := by
  entry_read; rfl
theorem V_w1 (c : Dev nD) : V m c main_v1 = across (argW1 m c) := by
  entry_read; funext y; pointwise; rfl
theorem V_w3 (c : Dev nD) : V m c main_v3 = across (argW3 m c) := by
  entry_read; funext y; pointwise; rfl

theorem index_a : ∀ t : Fin grid0.N, cc0_transform_0 (grid0.coords t) = ![t.val % 8, 0] := by decide +kernel
theorem index_w1 : ∀ t : Fin grid0.N, cc0_transform_1 (grid0.coords t) = ![t.val / 8, 0, 0] := by decide +kernel
theorem index_w3 : ∀ t : Fin grid0.N, cc0_transform_2 (grid0.coords t) = ![t.val / 8, 0, 0] := by decide +kernel
theorem index_h1 : ∀ t : Fin grid0.N, cc0_transform_3 (grid0.coords t) = ![t.val / 8, t.val % 8, 0] := by decide +kernel
theorem index_h3 : ∀ t : Fin grid0.N, cc0_transform_4 (grid0.coords t) = ![t.val / 8, t.val % 8, 0] := by decide +kernel
theorem index_g : ∀ t : Fin grid0.N, cc0_transform_5 (grid0.coords t) = ![t.val / 8, t.val % 8, 0] := by decide +kernel

/-- The part a point takes. -/
def part (t : Fin 32) : Fin 4 := ⟨t.val / 8, by omega⟩
/-- The block of tokens a point takes. -/
def rows (t : Fin 32) : Fin 8 := ⟨t.val % 8, by omega⟩

section
variable (c : Dev nD) (t : Fin 32) (A : (b : Ref sig .tc) → Buf (Elt Ideal) ((c : Thread nD τ).loc b))

theorem block0 (X : Acts) (hA : A main_arg0 = X) (y : S1024x1024.Idx) :
    ((cfg0.win 0).blk t).view.read (Elt Ideal) (A (Pipeline.arrRef spec0 0)) y = X (ix2 (tok (rows t) (y 0)) (y 1)) := by
  show A main_arg0 ((win0_0.blk t).view.emb y) = _
  rw [hA]
  exact congrArg X (rows_block (rows t) _ (fun y a => congrArg (fun n => n * S1024x1024.size a + 1 * (y a).val) (congrFun (index_a t) a)) y)

theorem block1 (W : Up) (hA : A main_v1 = across W) (y : S1x704x1024.Idx) :
    ((cfg0.win 1).blk t).view.read (Elt Ideal) (A (Pipeline.arrRef spec0 1)) y = W (ix2 (y 2) (chan (part t) (y 1))) := by
  show A main_v1 ((win0_1.blk t).view.emb y) = _
  rw [hA]
  exact across_block (part t) _ (fun y a => congrArg (fun n => n * S1x704x1024.size a + 1 * (y a).val) (congrFun (index_w1 t) a)) W y

theorem block2 (W : Up) (hA : A main_v3 = across W) (y : S1x704x1024.Idx) :
    ((cfg0.win 2).blk t).view.read (Elt Ideal) (A (Pipeline.arrRef spec0 2)) y = W (ix2 (y 2) (chan (part t) (y 1))) := by
  show A main_v3 ((win0_2.blk t).view.emb y) = _
  rw [hA]
  exact across_block (part t) _ (fun y a => congrArg (fun n => n * S1x704x1024.size a + 1 * (y a).val) (congrFun (index_w3 t) a)) W y

end

/-- The point's blocks. -/
theorem blk_a (c : Dev nD) (t : Fin 32) (y : S1024x1024.Idx) : iblk m c 0 t y = argA m c (ix2 (tok (rows t) (y 0)) (y 1)) := by
  unfold iblk; exact block0 c t (V m c) _ (V_a m c) y
theorem blk_w1 (c : Dev nD) (t : Fin 32) (y : S1x704x1024.Idx) : iblk m c 1 t y = argW1 m c (ix2 (y 2) (chan (part t) (y 1))) := by
  unfold iblk; exact block1 c t (V m c) _ (V_w1 m c) y
theorem blk_w3 (c : Dev nD) (t : Fin 32) (y : S1x704x1024.Idx) : iblk m c 2 t y = argW3 m c (ix2 (y 2) (chan (part t) (y 1))) := by
  unfold iblk; exact block2 c t (V m c) _ (V_w3 m c) y

/-- The products of a point. -/
theorem pay1_apply (x : Vec Ideal S1024x1024 .bf16) (w : Vec Ideal S1x704x1024 .bf16) (r : Fin 1024) (j : Fin 704) :
    k0_pay1 (F := Ideal) x w (ix2 r j) = ∑ d : Fin 1024, x (ix2 r d) * w (ix3 0 j d) := by
  pointwise [k0_pay1]

theorem pay2_apply (x : Vec Ideal S1024x1024 .bf16) (w : Vec Ideal S1x704x1024 .bf16) (r : Fin 1024) (j : Fin 704) :
    k0_pay2 (F := Ideal) x w (ix2 r j) = ∑ d : Fin 1024, x (ix2 r d) * w (ix3 0 j d) := by
  pointwise [k0_pay2]

theorem pay3_apply (x : Vec Ideal S1024x1024 .bf16) (w : Vec Ideal S1x704x1024 .bf16) (y : S1x1024x704.Idx) :
    k0_pay3 (F := Ideal) x w y = k0_pay1 (F := Ideal) x w (ix2 (y 1) (y 2)) := by
  unfold k0_pay3; generalize k0_pay1 x w = p; pointwise

theorem pay4_apply (x : Vec Ideal S1024x1024 .bf16) (w : Vec Ideal S1x704x1024 .bf16) (y : S1x1024x704.Idx) :
    k0_pay4 (F := Ideal) x w y = k0_pay2 (F := Ideal) x w (ix2 (y 1) (y 2)) := by
  unfold k0_pay4; generalize k0_pay2 x w = p; pointwise

theorem pay5_apply (x : Vec Ideal S1024x1024 .bf16) (w w' : Vec Ideal S1x704x1024 .bf16) (y : S1x1024x704.Idx) :
    k0_pay5 (F := Ideal) x w w' y = k0_pay1 (F := Ideal) x w (ix2 (y 1) (y 2)) * Ideal.logistic (k0_pay1 (F := Ideal) x w (ix2 (y 1) (y 2)))
      * k0_pay2 (F := Ideal) x w' (ix2 (y 1) (y 2)) := by
  unfold k0_pay5; generalize k0_pay1 x w = p; generalize k0_pay2 x w' = q; pointwise

theorem product1 (c : Dev nD) (t : Fin 32) (r : Fin 1024) (j : Fin 704) :
    k0_pay1 (F := Ideal) (iblk m c 0 t) (iblk m c 1 t) (ix2 r j) = up (argA m c) (argW1 m c) (ix2 (tok (rows t) r) (chan (part t) j)) :=
  (pay1_apply _ _ r j).trans (Finset.sum_congr rfl fun d _ => by rw [blk_a, blk_w1]; rfl)

theorem product3 (c : Dev nD) (t : Fin 32) (r : Fin 1024) (j : Fin 704) :
    k0_pay2 (F := Ideal) (iblk m c 0 t) (iblk m c 2 t) (ix2 r j) = up (argA m c) (argW3 m c) (ix2 (tok (rows t) r) (chan (part t) j)) :=
  (pay2_apply _ _ r j).trans (Finset.sum_congr rfl fun d _ => by rw [blk_a, blk_w3]; rfl)

theorem gate_at (c : Dev nD) (t : Fin 32) (y : S1x1024x704.Idx) :
    k0_pay5 (F := Ideal) (iblk m c 0 t) (iblk m c 1 t) (iblk m c 2 t) y
      = gated (up (argA m c) (argW1 m c)) (up (argA m c) (argW3 m c)) (ix2 (tok (rows t) (y 1)) (chan (part t) (y 2))) := by
  refine (pay5_apply _ _ _ y).trans ?_
  have p1 := product1 m c t (y 1) (y 2)
  have p3 := product3 m c t (y 1) (y 2)
  exact congrArg₂ (fun a b : EReal => a * Ideal.logistic a * b) p1 p3

theorem final_h1 (c : Dev nD) : (dats m 0 c).arrAt 3 cfg0.N = hidden (up (argA m c) (argW1 m c)) := by
  refine (dats m 0 c).arrAt_eq_of_covers 3 _ (by decide +kernel) fun t hf y => ?_
  rw [after0_3]
  unfold out0_3
  rw [View.canon_cons_unit_lit _ _ _ (by decide), View.ld_unit_lit _ _ (by decide), View.ld_unit_lit _ _ (by decide)]
  exact ((pay3_apply _ _ y).trans (product1 m c t _ _)).trans
    (hidden_block (part t) (rows t) _ (fun y a => congrArg (fun n => n * S1x1024x704.size a + 1 * (y a).val) (congrFun (index_h1 t) a)) _ y).symm

theorem final_h3 (c : Dev nD) : (dats m 0 c).arrAt 4 cfg0.N = hidden (up (argA m c) (argW3 m c)) := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide)]
  exact ((pay4_apply _ _ y).trans (product3 m c t _ _)).trans
    (hidden_block (part t) (rows t) _ (fun y a => congrArg (fun n => n * S1x1024x704.size a + 1 * (y a).val) (congrFun (index_h3 t) a)) _ y).symm

theorem final_g (c : Dev nD) : (dats m 0 c).arrAt 5 cfg0.N = hidden (gated (up (argA m c) (argW1 m c)) (up (argA m c) (argW3 m c))) := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide), View.ld_unit_lit _ _ (by decide)]
  exact (gate_at m c t y).trans
    (hidden_block (part t) (rows t) _ (fun y a => congrArg (fun n => n * S1x1024x704.size a + 1 * (y a).val) (congrFun (index_g t) a)) _ y).symm

end Cert.Kernel6Ideal.Ffn

end
-- ==== Proof.Ffn.UpClaims.lean ====
module

public import proofs.«01_k».proof.Defs
public import proofs.«01_k».proof.Proof.Gen.Kernel6.Frame
public import proofs.«01_k».proof.Proof.Gen.Reference6Ideal.Run
public import proofs.«01_k».proof.Proof.Ffn.UpValue

@[expose] public section

set_option maxRecDepth 16384

/-! # The first half of the layer: the claims

The launch and the reference each end with the two products and their gated combination, laid out by part. -/

noncomputable section

namespace Cert.Reference6Ideal.Ffn

open Cert.Reference6Ideal
open Idealize.ShloMosaic Idealize.SL.Sem
open Cert.Ffn

/-- The reference terminates with the layer's hidden channels, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = hidden (up (m ((c.tc : Thread nD τ).loc main_arg0)) (m ((c.tc : Thread nD τ).loc main_arg1)))
      ∧ r.2.mem ((c.tc : Thread nD τ).loc main_v10) = hidden (up (m ((c.tc : Thread nD τ).loc main_arg0)) (m ((c.tc : Thread nD τ).loc main_arg2)))
      ∧ r.2.mem ((c.tc : Thread nD τ).loc main_v15) = hidden (gated (up (m ((c.tc : Thread nD τ).loc main_arg0)) (m ((c.tc : Thread nD τ).loc main_arg1)))
          (up (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h1, h3, hg, ha⟩ := h c
    refine ⟨h1.trans ?_, h3.trans ?_, hg.trans ?_, ha⟩
    · funext y; pointwise; rfl
    · funext y; pointwise; rfl
    · funext y; pointwise; rfl) (Value.run m ρ)

/-- The reference's frame. -/
theorem frame : Cert.quiescent_Reference6Ideal := fun m ρ _ =>
  (θ_run defs _ _).mono (fun r h => ⟨fun c => (h c).2.2.2, Idealize.ShloMosaic.sem_eq_zero_of_no_sems (by decide) r.2⟩)
    (Value.run (F := Ideal) m ρ)

end Cert.Reference6Ideal.Ffn

namespace Cert.Kernel6Ideal.Ffn

open Cert.Kernel6Ideal Cert.Kernel6Ideal.Gen
open Idealize.ShloMosaic Idealize.SL.Sem
open Cert.Ffn

/-- The launch terminates with the layer's hidden channels, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = hidden (up (argA m c) (argW1 m c))
      ∧ r.2.mem ((c.tc : Thread nD τ).loc main_v4_1) = hidden (up (argA m c) (argW3 m c))
      ∧ r.2.mem ((c.tc : Thread nD τ).loc main_v4_2) = hidden (gated (up (argA m c) (argW1 m c)) (up (argA m c) (argW3 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_h1 m c), (h c).2.1.trans (final_h3 m c),
    (h c).2.2.1.trans (final_g m c), (h c).2.2.2⟩) (Value.run_blocks m ρ)

/-- The launch's frames, at machine words and over the reals. -/
theorem frame_words : Cert.quiescent_Kernel6 := fun m ρ _ => Cert.Kernel6.Gen.frame m ρ
theorem frame_reals : Cert.quiescent_Kernel6Ideal := fun m ρ _ => Cert.Kernel6Ideal.Gen.frame m ρ

/-- The launch against the reference, over the reals. -/
theorem algebraic : Cert.algebraic_Kernel6Ideal_Reference6Ideal := by
  intro m ρ m' ρ' _ hagree
  refine ⟨_, _, _, run m ρ, ?_⟩
  refine (θ_run _ _ _).mono (fun r h c => ?_) (Cert.Reference6Ideal.Ffn.run m' ρ')
  obtain ⟨h0, h1, h2⟩ := hagree c
  have H := h c
  rw [h0, h1, h2] at H
  rw [h0, h1, h2]
  exact H

end Cert.Kernel6Ideal.Ffn

end
-- ==== Proof.Ffn.DownValue.lean ====
module

public import proofs.«01_k».proof.Proof.Gen.Kernel7Ideal.Value
public import proofs.«01_k».proof.Proof.Ffn.Blocks
public import Idealize.ShloMosaic.Lib.Pointwise
public import Idealize.ShloMosaic.Lib.Pipeline.ValueKit
public import Idealize.ShloMosaic.Lib.Claim

@[expose] public section

set_option maxRecDepth 16384

/-! # What the second half of the layer computes

Point `t` takes the 1024 tokens from `t / 4 · 1024` and part `t % 4` of the hidden channels.  The 4 points of a block of
tokens add their products up in a scratch; the last of them writes it out. -/

noncomputable section

namespace Cert.Kernel7Ideal.Ffn

open Cert.Kernel7Ideal Cert.Kernel7Ideal.Gen
open Idealize.ShloMosaic Idealize.ShloMosaic.TcCoe Idealize.ShloMosaic.Tactic
open Idealize.SL.Sem
open Cert.Ffn

variable (m : (ℓ : Loc nD τ sig) → Buf (Elt Ideal) ℓ)

/-- The arguments. -/
abbrev argH (c : Dev nD) : Hid := m ((c : Thread nD τ).loc main_arg0)
abbrev argW (c : Dev nD) : Down := m ((c : Thread nD τ).loc main_arg1)

theorem V_h (c : Dev nD) : V m c main_v1 = hidden (argH m c) := by
  entry_read; funext y; pointwise; rfl
theorem V_w (c : Dev nD) : V m c main_v2 = down (argW m c) := by
  entry_read; funext y; pointwise; rfl

theorem index_h : ∀ t : Fin grid0.N, cc0_transform_0 (grid0.coords t) = ![t.val % 4, t.val / 4, 0] := by decide +kernel
theorem index_w : ∀ t : Fin grid0.N, cc0_transform_1 (grid0.coords t) = ![t.val % 4, 0, 0] := by decide +kernel
theorem index_o : ∀ t : Fin grid0.N, cc0_transform_2 (grid0.coords t) = ![0, t.val / 4, 0] := by decide +kernel

/-- The part a point takes. -/
def part (t : Fin 32) : Fin 4 := ⟨t.val % 4, by omega⟩
/-- The block of tokens a point takes. -/
def rows (t : Fin 32) : Fin 8 := ⟨t.val / 4, by omega⟩

section
variable (c : Dev nD) (t : Fin 32) (A : (b : Ref sig .tc) → Buf (Elt Ideal) ((c : Thread nD τ).loc b))

theorem block0 (H : Hid) (hA : A main_v1 = hidden H) (y : S1x1024x704.Idx) :
    ((cfg0.win 0).blk t).view.read (Elt Ideal) (A (Pipeline.arrRef spec0 0)) y = H (ix2 (tok (rows t) (y 1)) (chan (part t) (y 2))) := by
  show A main_v1 ((win0_0.blk t).view.emb y) = _
  rw [hA]
  exact hidden_block (part t) (rows t) _ (fun y a => congrArg (fun n => n * S1x1024x704.size a + 1 * (y a).val) (congrFun (index_h t) a)) H y

theorem block1 (W : Down) (hA : A main_v2 = down W) (y : S1x704x1024.Idx) :
    ((cfg0.win 1).blk t).view.read (Elt Ideal) (A (Pipeline.arrRef spec0 1)) y = W (ix2 (chan (part t) (y 1)) (y 2)) := by
  show A main_v2 ((win0_1.blk t).view.emb y) = _
  rw [hA]
  exact down_block (part t) _ (fun y a => congrArg (fun n => n * S1x704x1024.size a + 1 * (y a).val) (congrFun (index_w t) a)) W y

/-- Where the result's block stands. -/
theorem place (y : S1x1024x1024.Idx) : (win0_2.blk t).view.emb y = (ix3 0 (tok (rows t) (y 1)) (y 2) : S1x8192x1024.Idx) :=
  lifted_block (rows t) _ (fun y a => congrArg (fun n => n * S1x1024x1024.size a + 1 * (y a).val) (congrFun (index_o t) a)) y
end

/-- The point's blocks. -/
theorem blk_h (c : Dev nD) (t : Fin 32) (y : S1x1024x704.Idx) :
    iblk m c 0 t y = argH m c (ix2 (tok (rows t) (y 1)) (chan (part t) (y 2))) := by
  unfold iblk; exact block0 c t (V m c) _ (V_h m c) y
theorem blk_w (c : Dev nD) (t : Fin 32) (y : S1x704x1024.Idx) : iblk m c 1 t y = argW m c (ix2 (chan (part t) (y 1)) (y 2)) := by
  unfold iblk; exact block1 c t (V m c) _ (V_w m c) y

/-- The products of a point. -/
theorem pay1_apply (h : Vec Ideal S1x1024x704 .bf16) (w : Vec Ideal S1x704x1024 .bf16) (r e : Fin 1024) :
    k0_pay1 (F := Ideal) h w (ix2 r e) = ∑ j : Fin 704, h (ix3 0 r j) * w (ix3 0 j e) := by
  pointwise [k0_pay1]

theorem pay2_eq (h : Vec Ideal S1x1024x704 .bf16) (w : Vec Ideal S1x704x1024 .bf16) (r e : Fin 1024) :
    k0_pay2 (F := Ideal) h w (ix2 r e) = k0_pay1 (F := Ideal) h w (ix2 r e) := by
  unfold k0_pay2; generalize k0_pay1 h w = p; pointwise

theorem pay3_eq (h : Vec Ideal S1x1024x704 .bf16) (w : Vec Ideal S1x704x1024 .bf16) (o : Vec Ideal S1024x1024 .f32) (r e : Fin 1024) :
    k0_pay3 (F := Ideal) h w o (ix2 r e) = o (ix2 r e) + k0_pay1 (F := Ideal) h w (ix2 r e) := by
  unfold k0_pay3; generalize k0_pay1 h w = p; pointwise

theorem pay4_apply (o : Vec Ideal S1024x1024 .f32) (y : S1x1024x1024.Idx) :
    k0_pay4 (F := Ideal) o y = o (ix2 (y 1) (y 2)) := by
  pointwise [k0_pay4]

/-- The terms of an entry of the result. -/
def terms (c : Dev nD) (r : Fin 8192) (e : Fin 1024) : Fin 2816 → EReal :=
  fun j => argH m c (ix2 r j) * argW m c (ix2 j e)

theorem product (c : Dev nD) (t : Fin 32) (r e : Fin 1024) :
    k0_pay1 (F := Ideal) (iblk m c 0 t) (iblk m c 1 t) (ix2 r e) = ∑ j : Fin 704, terms m c (tok (rows t) r) e (chan (part t) j) :=
  (pay1_apply _ _ r e).trans (Finset.sum_congr rfl fun j _ => by rw [blk_h, blk_w]; rfl)

theorem first (c : Dev nD) (t : Fin cfg0.N) (h0 : t.val % 4 = 0) :
    (outsAt0 m c t.val t.isLt).2 = k0_pay2 (F := Ideal) (iblk m c 0 t) (iblk m c 1 t) := by
  rw [outsAt0_A m c t h0 (by omega) (by omega)]
  frame_out

theorem later (c : Dev nD) (t : Fin cfg0.N) (h0 : ¬t.val % 4 = 0) :
    (outsAt0 m c t.val t.isLt).2 = k0_pay3 (F := Ideal) (iblk m c 0 t) (iblk m c 1 t)
      (outsAt0 m c (t.val - 1) (Nat.lt_of_le_of_lt (Nat.sub_le _ _) t.isLt)).2 := by
  by_cases h2 : t.val % 4 = 3
  · rw [outsAt0_C m c t h0 (by omega) h2]
    frame_out
    exact congrArg _ ((Memref.isWhole_whole cc0_scratch0).read_unread _)
  · rw [outsAt0_B m c t h0 (by omega) h2]
    frame_out
    exact congrArg _ ((Memref.isWhole_whole cc0_scratch0).read_unread _)

/-- The last point of a block of tokens writes the scratch out. -/
theorem last (c : Dev nD) (t : Fin cfg0.N) (h2 : t.val % 4 = 3) :
    (outsAt0 m c t.val t.isLt).1 = k0_pay4 (F := Ideal) (outsAt0 m c t.val t.isLt).2 := by
  rw [later m c t (by omega), outsAt0_C m c t (by omega) (by omega) h2]
  frame_out
  exact congrArg (fun o => k0_pay4 (k0_pay3 _ _ o)) ((Memref.isWhole_whole cc0_scratch0).read_unread _)

/-- After a point, the scratch is the sum over the parts so far. -/
theorem scratch_at (c : Dev nD) (n : ℕ) : ∀ (hn : n < 32) (r e : Fin 1024),
    (outsAt0 m c n (lt_of_lt_of_eq hn N_0.symm)).2 (ix2 r e)
      = upto (terms m c (⟨n / 4 * 1024 + r.val, by omega⟩ : Fin 8192) e) (n % 4 * 704 + 704) := by
  induction n using Nat.strong_induction_on with
  | _ n ih =>
    intro hn r e
    have ht : n < cfg0.N := lt_of_lt_of_eq hn N_0.symm
    by_cases h0 : n % 4 = 0
    · have q := congrFun (first m c ⟨n, ht⟩ h0) (ix2 r e)
      refine q.trans ((pay2_eq _ _ r e).trans ((product m c ⟨n, hn⟩ _ _).trans ?_))
      rw [show n % 4 * 704 + 704 = 0 + 704 by omega, upto_add _ 0 704 (by norm_num), upto_zero, zero_add]
      refine Finset.sum_congr rfl fun j _ => congrArg _ (Fin.ext ?_)
      show n % 4 * 704 + j.val = 0 + j.val
      omega
    · rw [upto_add _ (n % 4 * 704) 704 (by omega)]
      have q := congrFun (later m c ⟨n, ht⟩ h0) (ix2 r e)
      refine q.trans ((pay3_eq _ _ _ r e).trans (congrArg₂ (· + ·) ?_ (product m c ⟨n, hn⟩ _ _)))
      refine (ih (n - 1) (by omega) (by omega) _ _).trans ?_
      have es : (⟨(n - 1) / 4 * 1024 + r.val, by omega⟩ : Fin 8192) = ⟨n / 4 * 1024 + r.val, by omega⟩ :=
        Fin.ext (show (n - 1) / 4 * 1024 + r.val = n / 4 * 1024 + r.val by omega)
      rw [es, show (n - 1) % 4 * 704 + 704 = n % 4 * 704 by omega]

theorem final_o (c : Dev nD) : (dats m 0 c).arrAt 2 cfg0.N = through (argH m c) (argW m c) := by
  refine (dats m 0 c).arrAt_eq_of_covers 2 _ (by decide +kernel) fun t hf y => ?_
  have h3 : t.val % 4 = 3 := (by decide +kernel : ∀ t : Fin cfg0.N, (cfg0.win 2).flush t = true → t.val % 4 = 3) t hf
  have ht : t.val < 32 := lt_of_lt_of_eq t.isLt N_0
  rw [after0_2, last m c t h3]
  refine (pay4_apply _ y).trans ((scratch_at m c t.val ht (y 1) (y 2)).trans ?_)
  rw [show t.val % 4 * 704 + 704 = 2816 by omega, upto_all]
  exact (congrArg (through (argH m c) (argW m c)) (place t y)).symm

end Cert.Kernel7Ideal.Ffn

end
-- ==== Proof.Ffn.DownClaims.lean ====
module

public import proofs.«01_k».proof.Defs
public import proofs.«01_k».proof.Proof.Gen.Kernel7.Frame
public import proofs.«01_k».proof.Proof.Gen.Reference7Ideal.Run
public import proofs.«01_k».proof.Proof.Ffn.DownValue

@[expose] public section

set_option maxRecDepth 16384

/-! # The second half of the layer: the claims

The launch and the reference each end with the hidden channels through the weight. -/

noncomputable section

namespace Cert.Reference7Ideal.Ffn

open Cert.Reference7Ideal
open Idealize.ShloMosaic Idealize.SL.Sem
open Cert.Ffn

/-- The reference terminates with the layer's result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = through (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference7Ideal := fun m ρ _ =>
  (θ_run defs _ _).mono (fun r h => ⟨fun c => (h c).2, Idealize.ShloMosaic.sem_eq_zero_of_no_sems (by decide) r.2⟩)
    (Value.run (F := Ideal) m ρ)

end Cert.Reference7Ideal.Ffn

namespace Cert.Kernel7Ideal.Ffn

open Cert.Kernel7Ideal Cert.Kernel7Ideal.Gen
open Idealize.ShloMosaic Idealize.SL.Sem
open Cert.Ffn

/-- The launch terminates with the layer's result, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = through (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel7 := fun m ρ _ => Cert.Kernel7.Gen.frame m ρ
theorem frame_reals : Cert.quiescent_Kernel7Ideal := fun m ρ _ => Cert.Kernel7Ideal.Gen.frame m ρ

/-- The launch against the reference, over the reals. -/
theorem algebraic : Cert.algebraic_Kernel7Ideal_Reference7Ideal := by
  intro m ρ m' ρ' _ hagree
  refine ⟨_, run m ρ, ?_⟩
  refine (θ_run _ _ _).mono (fun r h c => ?_) (Cert.Reference7Ideal.Ffn.run m' ρ')
  obtain ⟨h0, h1⟩ := hagree c
  have H := h c
  rw [h0, h1] at H
  rw [h0, h1]
  exact H

end Cert.Kernel7Ideal.Ffn

end
-- ==== Proof.Step.Spec.lean ====
module

public import proofs.«01_k».proof.Proof.Proj.Spec

@[expose] public section

/-! # The optimiser's step on one entry of a weight

`g` is the entry's gradient, `w` its value, `m` and `v` the running means of its gradient and of its gradient's square. The
coefficients are the single precision numbers that stand for them, given by their bits. -/

noncomputable section

namespace Cert.Step

open Idealize.ShloMosaic
open Cert.Ffn Cert.Proj

/-- The number that stands for a coefficient. -/
abbrev coef (b : BitVec 32) : EReal := Ideal.ofBits FTy.f32 b

/-- The new mean of the gradient, `0.9 m + 0.1 g`. -/
def first (g m : EReal) : EReal := coef 0x3F666666#32 * m + coef 0x3DCCCCCD#32 * g

/-- The new mean of its square, `0.999 v + 0.001 g²`. -/
def second (g v : EReal) : EReal := coef 0x3F7FBE77#32 * v + coef 0x3A83126F#32 * (g * g)

/-- The change of the weight: `-0.001` times the sum of the quotient of the two means, each divided by what it lacks after ten
steps (the second under the root, with `1e-8` added), and `0.01 w`. -/
def change (w g m v : EReal) : EReal :=
  coef 0xBA83126F#32
    * (Ideal.div (Ideal.div (first g m) (coef 0x3F26BD02#32))
        (Ideal.sqrt (Ideal.div (second g v) (coef 0x3C231ACC#32)) + coef 0x322BCC77#32)
      + coef 0x3C23D70A#32 * w)

variable {a b : ℕ}

/-- A matrix that stands under a leading axis of one, and its transpose. -/
def bare (X : Sheet a b .f32) : Mat a b .f32 := fun y => X (ix3 0 (y 0) (y 1))
def flipped (X : Sheet a b .f32) : Mat b a .f32 := fun y => X (ix3 0 (y 1) (y 0))

/-- The step on every entry of a matrix. -/
def firsts (g m : Mat a b .f32) : Mat a b .f32 := fun y => first (g y) (m y)
def seconds (g v : Mat a b .f32) : Mat a b .f32 := fun y => second (g y) (v y)
def changes (w g m v : Mat a b .f32) : Mat a b .f32 := fun y => change (w y) (g y) (m y) (v y)

end Cert.Step

end
-- ==== Proof.Step.Down.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the feed-forward layers' second weight

All windows of a point stand at the same place, so each entry of a result is the step on the entries of the four arrays
there. -/

noncomputable section

namespace Cert.Kernel18Ideal.Step

open Cert.Kernel18Ideal Cert.Kernel18Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 704 1024 .f32 := bare (m ((c : Thread nD τ).loc main_arg0))
def argG : Mat 704 1024 .f32 := bare (m ((c : Thread nD τ).loc main_arg1))
def argM : Mat 704 1024 .f32 := bare (m ((c : Thread nD τ).loc main_arg2))
def argV : Mat 704 1024 .f32 := bare (m ((c : Thread nD τ).loc main_arg3))

/-- The results. -/
def delta : Mat 704 1024 .f32 := changes (argW m c) (argG m c) (argM m c) (argV m c)
def newM : Mat 704 1024 .f32 := firsts (argG m c) (argM m c)
def newV : Mat 704 1024 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S176x1024.Idx)

/-- The entry of the arrays where entry `y` of point `t` stands. -/
abbrev spot : S704x1024.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S176x1024 .f32) : k0_pay2 (F := Ideal) g x y = first (g y) (x y) := by
  pointwise [k0_pay2, k0_pay1]; rfl
theorem pay_v (g x : Vec Ideal S176x1024 .f32) : k0_pay3 (F := Ideal) g x y = second (g y) (x y) := by
  pointwise [k0_pay3, k0_pay1]; rfl
theorem pay_d (g x v w : Vec Ideal S176x1024 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel18 := fun m ρ _ => Cert.Kernel18.Gen.frame m ρ
theorem frame_reals : Cert.quiescent_Kernel18Ideal := fun m ρ _ => Cert.Kernel18Ideal.Gen.frame m ρ

end Cert.Kernel18Ideal.Step

namespace Cert.Reference18Ideal.Step

open Cert.Reference18Ideal
open Idealize.ShloMosaic Idealize.SL.Sem
open Cert.Proj Cert.Step

variable (m : (ℓ : Loc nD τ sig) → Buf (Elt Ideal) ℓ) (c : Dev nD)

/-- The reference's arguments, in the layout of the results. -/
def argW : Mat 704 1024 .f32 := bare (m ((c.tc : Thread nD τ).loc main_arg0))
def argG : Mat 704 1024 .f32 := bare (m ((c.tc : Thread nD τ).loc main_arg1))
def argM : Mat 704 1024 .f32 := bare (m ((c.tc : Thread nD τ).loc main_arg2))
def argV : Mat 704 1024 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference18Ideal := fun m ρ _ =>
  (θ_run defs _ _).mono (fun r h => ⟨fun c => (h c).2.2.2, Idealize.ShloMosaic.sem_eq_zero_of_no_sems (by decide) r.2⟩)
    (Value.run (F := Ideal) m ρ)

end Cert.Reference18Ideal.Step

namespace Cert.Kernel18Ideal.Step

open Idealize.ShloMosaic Idealize.SL.Sem

/-- The launch against the reference, over the reals. -/
theorem algebraic : Cert.algebraic_Kernel18Ideal_Reference18Ideal := by
  intro m ρ m' ρ' _ hagree
  refine ⟨_, _, _, run m ρ, ?_⟩
  refine (θ_run _ _ _).mono (fun r h c => ?_) (Cert.Reference18Ideal.Step.run m' ρ')
  obtain ⟨h0, h1, h2, h3⟩ := hagree c
  have H := h c
  unfold Cert.Reference18Ideal.Step.argW Cert.Reference18Ideal.Step.argG Cert.Reference18Ideal.Step.argM
    Cert.Reference18Ideal.Step.argV at H
  unfold delta newM newV argW argG argM argV
  rw [h0, h1, h2, h3] at H ⊢
  exact H

end Cert.Kernel18Ideal.Step

end
-- ==== Proof.Step.Up.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the feed-forward layers' first weights

All windows of a point stand at the same place, so each entry of a result is the step on the entries of the four arrays
there. -/

noncomputable section

namespace Cert.Kernel19Ideal.Step

open Cert.Kernel19Ideal Cert.Kernel19Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 704 1024 .f32 := flipped (m ((c : Thread nD τ).loc main_arg0))
def argG : Mat 704 1024 .f32 := flipped (m ((c : Thread nD τ).loc main_arg1))
def argM : Mat 704 1024 .f32 := flipped (m ((c : Thread nD τ).loc main_arg2))
def argV : Mat 704 1024 .f32 := flipped (m ((c : Thread nD τ).loc main_arg3))

/-- The results. -/
def delta : Mat 704 1024 .f32 := changes (argW m c) (argG m c) (argM m c) (argV m c)
def newM : Mat 704 1024 .f32 := firsts (argG m c) (argM m c)
def newV : Mat 704 1024 .f32 := seconds (argG m c) (argV m c)

theorem V_w : V m c main_v1 = argW m c := by entry_read; funext y; pointwise; rfl
theorem V_g : V m c main_v3 = argG m c := by entry_read; funext y; pointwise; rfl
theorem V_m : V m c main_v5 = argM m c := by entry_read; funext y; pointwise; rfl
theorem V_v : V m c main_v7 = argV m c := by entry_read; funext y; pointwise; rfl

variable (t : Fin cfg0.N) (y : S176x1024.Idx)

/-- The entry of the arrays where entry `y` of point `t` stands. -/
abbrev spot : S704x1024.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S176x1024 .f32) : k0_pay2 (F := Ideal) g x y = first (g y) (x y) := by
  pointwise [k0_pay2, k0_pay1]; rfl
theorem pay_v (g x : Vec Ideal S176x1024 .f32) : k0_pay3 (F := Ideal) g x y = second (g y) (x y) := by
  pointwise [k0_pay3, k0_pay1]; rfl
theorem pay_d (g x v w : Vec Ideal S176x1024 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v8_0) = delta m c
      ∧ r.2.mem ((c.tc : Thread nD τ).loc main_v8_1) = newM m c
      ∧ r.2.mem ((c.tc : Thread nD τ).loc main_v8_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel19 := fun m ρ _ => Cert.Kernel19.Gen.frame m ρ
theorem frame_reals : Cert.quiescent_Kernel19Ideal := fun m ρ _ => Cert.Kernel19Ideal.Gen.frame m ρ

end Cert.Kernel19Ideal.Step

namespace Cert.Reference19Ideal.Step

open Cert.Reference19Ideal
open Idealize.ShloMosaic Idealize.SL.Sem
open Cert.Proj Cert.Step

variable (m : (ℓ : Loc nD τ sig) → Buf (Elt Ideal) ℓ) (c : Dev nD)

/-- The reference's arguments, in the layout of the results. -/
def argW : Mat 704 1024 .f32 := flipped (m ((c.tc : Thread nD τ).loc main_arg0))
def argG : Mat 704 1024 .f32 := flipped (m ((c.tc : Thread nD τ).loc main_arg1))
def argM : Mat 704 1024 .f32 := flipped (m ((c.tc : Thread nD τ).loc main_arg2))
def argV : Mat 704 1024 .f32 := flipped (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = changes (argW m c) (argG m c) (argM m c) (argV m c)
      ∧ r.2.mem ((c.tc : Thread nD τ).loc main_v27) = firsts (argG m c) (argM m c)
      ∧ r.2.mem ((c.tc : Thread nD τ).loc main_v29) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference19Ideal := fun m ρ _ =>
  (θ_run defs _ _).mono (fun r h => ⟨fun c => (h c).2.2.2, Idealize.ShloMosaic.sem_eq_zero_of_no_sems (by decide) r.2⟩)
    (Value.run (F := Ideal) m ρ)

end Cert.Reference19Ideal.Step

namespace Cert.Kernel19Ideal.Step

open Idealize.ShloMosaic Idealize.SL.Sem

/-- The launch against the reference, over the reals. -/
theorem algebraic : Cert.algebraic_Kernel19Ideal_Reference19Ideal := by
  intro m ρ m' ρ' _ hagree
  refine ⟨_, _, _, run m ρ, ?_⟩
  refine (θ_run _ _ _).mono (fun r h c => ?_) (Cert.Reference19Ideal.Step.run m' ρ')
  obtain ⟨h0, h1, h2, h3⟩ := hagree c
  have H := h c
  unfold Cert.Reference19Ideal.Step.argW Cert.Reference19Ideal.Step.argG Cert.Reference19Ideal.Step.argM
    Cert.Reference19Ideal.Step.argV at H
  unfold delta newM newV argW argG argM argV
  rw [h0, h1, h2, h3] at H ⊢
  exact H

end Cert.Kernel19Ideal.Step

end
-- ==== Proof.Step.In.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the projections' input weight

All windows of a point stand at the same place, so each entry of a result is the step on the entries of the four arrays
there. -/

noncomputable section

namespace Cert.Kernel20Ideal.Step

open Cert.Kernel20Ideal Cert.Kernel20Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 1156 1024 .f32 := flipped (m ((c : Thread nD τ).loc main_arg0))
def argG : Mat 1156 1024 .f32 := flipped (m ((c : Thread nD τ).loc main_arg1))
def argM : Mat 1156 1024 .f32 := flipped (m ((c : Thread nD τ).loc main_arg2))
def argV : Mat 1156 1024 .f32 := flipped (m ((c : Thread nD τ).loc main_arg3))

/-- The results. -/
def delta : Mat 1156 1024 .f32 := changes (argW m c) (argG m c) (argM m c) (argV m c)
def newM : Mat 1156 1024 .f32 := firsts (argG m c) (argM m c)
def newV : Mat 1156 1024 .f32 := seconds (argG m c) (argV m c)

theorem V_w : V m c main_v1 = argW m c := by entry_read; funext y; pointwise; rfl
theorem V_g : V m c main_v3 = argG m c := by entry_read; funext y; pointwise; rfl
theorem V_m : V m c main_v5 = argM m c := by entry_read; funext y; pointwise; rfl
theorem V_v : V m c main_v7 = argV m c := by entry_read; funext y; pointwise; rfl

variable (t : Fin cfg0.N) (y : S1156x128.Idx)

/-- The entry of the arrays where entry `y` of point `t` stands. -/
abbrev spot : S1156x1024.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S1156x128 .f32) : k0_pay2 (F := Ideal) g x y = first (g y) (x y) := by
  pointwise [k0_pay2, k0_pay1]; rfl
theorem pay_v (g x : Vec Ideal S1156x128 .f32) : k0_pay3 (F := Ideal) g x y = second (g y) (x y) := by
  pointwise [k0_pay3, k0_pay1]; rfl
theorem pay_d (g x v w : Vec Ideal S1156x128 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v8_0) = delta m c
      ∧ r.2.mem ((c.tc : Thread nD τ).loc main_v8_1) = newM m c
      ∧ r.2.mem ((c.tc : Thread nD τ).loc main_v8_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel20 := fun m ρ _ => Cert.Kernel20.Gen.frame m ρ
theorem frame_reals : Cert.quiescent_Kernel20Ideal := fun m ρ _ => Cert.Kernel20Ideal.Gen.frame m ρ

end Cert.Kernel20Ideal.Step

namespace Cert.Reference20Ideal.Step

open Cert.Reference20Ideal
open Idealize.ShloMosaic Idealize.SL.Sem
open Cert.Proj Cert.Step

variable (m : (ℓ : Loc nD τ sig) → Buf (Elt Ideal) ℓ) (c : Dev nD)

/-- The reference's arguments, in the layout of the results. -/
def argW : Mat 1156 1024 .f32 := flipped (m ((c.tc : Thread nD τ).loc main_arg0))
def argG : Mat 1156 1024 .f32 := flipped (m ((c.tc : Thread nD τ).loc main_arg1))
def argM : Mat 1156 1024 .f32 := flipped (m ((c.tc : Thread nD τ).loc main_arg2))
def argV : Mat 1156 1024 .f32 := flipped (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = changes (argW m c) (argG m c) (argM m c) (argV m c)
      ∧ r.2.mem ((c.tc : Thread nD τ).loc main_v27) = firsts (argG m c) (argM m c)
      ∧ r.2.mem ((c.tc : Thread nD τ).loc main_v29) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference20Ideal := fun m ρ _ =>
  (θ_run defs _ _).mono (fun r h => ⟨fun c => (h c).2.2.2, Idealize.ShloMosaic.sem_eq_zero_of_no_sems (by decide) r.2⟩)
    (Value.run (F := Ideal) m ρ)

end Cert.Reference20Ideal.Step

namespace Cert.Kernel20Ideal.Step

open Idealize.ShloMosaic Idealize.SL.Sem

/-- The launch against the reference, over the reals. -/
theorem algebraic : Cert.algebraic_Kernel20Ideal_Reference20Ideal := by
  intro m ρ m' ρ' _ hagree
  refine ⟨_, _, _, run m ρ, ?_⟩
  refine (θ_run _ _ _).mono (fun r h c => ?_) (Cert.Reference20Ideal.Step.run m' ρ')
  obtain ⟨h0, h1, h2, h3⟩ := hagree c
  have H := h c
  unfold Cert.Reference20Ideal.Step.argW Cert.Reference20Ideal.Step.argG Cert.Reference20Ideal.Step.argM
    Cert.Reference20Ideal.Step.argV at H
  unfold delta newM newV argW argG argM argV
  rw [h0, h1, h2, h3] at H ⊢
  exact H

end Cert.Kernel20Ideal.Step

end
-- ==== Proof.Step.Ada.lean ====
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the modulation's weight

All windows of a point stand at the same place, so each entry of a result is the step on the entries of the four arrays
there. -/

noncomputable section

namespace Cert.Kernel21Ideal.Step

open Cert.Kernel21Ideal Cert.Kernel21Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 1024 2304 .f32 := bare (m ((c : Thread nD τ).loc main_arg0))
def argG : Mat 1024 2304 .f32 := bare (m ((c : Thread nD τ).loc main_arg1))
def argM : Mat 1024 2304 .f32 := bare (m ((c : Thread nD τ).loc main_arg2))
def argV : Mat 1024 2304 .f32 := bare (m ((c : Thread nD τ).loc main_arg3))

/-- The results. -/
def delta : Mat 1024 2304 .f32 := changes (argW m c) (argG m c) (argM m c) (argV m c)
def newM : Mat 1024 2304 .f32 := firsts (argG m c) (argM m c)
def newV : Mat 1024 2304 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S64x2304.Idx)

/-- The entry of the arrays where entry `y` of point `t` stands. -/
abbrev spot : S1024x2304.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S64x2304 .f32) : k0_pay2 (F := Ideal) g x y = first (g y) (x y) := by
  pointwise [k0_pay2, k0_pay1]; rfl
theorem pay_v (g x : Vec Ideal S64x2304 .f32) : k0_pay3 (F := Ideal) g x y = second (g y) (x y) := by
  pointwise [k0_pay3, k0_pay1]; rfl
theorem pay_d (g x v w : Vec Ideal S64x2304 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel21 := fun m ρ _ => Cert.Kernel21.Gen.frame m ρ
theorem frame_reals : Cert.quiescent_Kernel21Ideal := fun m ρ _ => Cert.Kernel21Ideal.Gen.frame m ρ

end Cert.Kernel21Ideal.Step

namespace Cert.Reference21Ideal.Step

open Cert.Reference21Ideal
open Idealize.ShloMosaic Idealize.SL.Sem
open Cert.Proj Cert.Step

variable (m : (ℓ : Loc nD τ sig) → Buf (Elt Ideal) ℓ) (c : Dev nD)

/-- The reference's arguments, in the layout of the results. -/
def argW : Mat 1024 2304 .f32 := bare (m ((c.tc : Thread nD τ).loc main_arg0))
def argG : Mat 1024 2304 .f32 := bare (m ((c.tc : Thread nD τ).loc main_arg1))
def argM : Mat 1024 2304 .f32 := bare (m ((c.tc : Thread nD τ).loc main_arg2))
def argV : Mat 1024 2304 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference21Ideal := fun m ρ _ =>
  (θ_run defs _ _).mono (fun r h => ⟨fun c => (h c).2.2.2, Idealize.ShloMosaic.sem_eq_zero_of_no_sems (by decide) r.2⟩)
    (Value.run (F := Ideal) m ρ)

end Cert.Reference21Ideal.Step

namespace Cert.Kernel21Ideal.Step

open Idealize.ShloMosaic Idealize.SL.Sem

/-- The launch against the reference, over the reals. -/
theorem algebraic : Cert.algebraic_Kernel21Ideal_Reference21Ideal := by
  intro m ρ m' ρ' _ hagree
  refine ⟨_, _, _, run m ρ, ?_⟩
  refine (θ_run _ _ _).mono (fun r h c => ?_) (Cert.Reference21Ideal.Step.run m' ρ')
  obtain ⟨h0, h1, h2, h3⟩ := hagree c
  have H := h c
  unfold Cert.Reference21Ideal.Step.argW Cert.Reference21Ideal.Step.argG Cert.Reference21Ideal.Step.argM
    Cert.Reference21Ideal.Step.argV at H
  unfold delta newM newV argW argG argM argV
  rw [h0, h1, h2, h3] at H ⊢
  exact H

end Cert.Kernel21Ideal.Step

end
-- ==== Proof.Step.Glu.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the gate's weight

All windows of a point stand at the same place, so each entry of a result is the step on the entries of the four arrays
there. -/

noncomputable section

namespace Cert.Kernel22Ideal.Step

open Cert.Kernel22Ideal Cert.Kernel22Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 128 512 .f32 := bare (m ((c : Thread nD τ).loc main_arg0))
def argG : Mat 128 512 .f32 := bare (m ((c : Thread nD τ).loc main_arg1))
def argM : Mat 128 512 .f32 := bare (m ((c : Thread nD τ).loc main_arg2))
def argV : Mat 128 512 .f32 := bare (m ((c : Thread nD τ).loc main_arg3))

/-- The results. -/
def delta : Mat 128 512 .f32 := changes (argW m c) (argG m c) (argM m c) (argV m c)
def newM : Mat 128 512 .f32 := firsts (argG m c) (argM m c)
def newV : Mat 128 512 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S128x512.Idx)

/-- The entry of the arrays where entry `y` of point `t` stands. -/
abbrev spot : S128x512.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S128x512 .f32) : k0_pay2 (F := Ideal) g x y = first (g y) (x y) := by
  pointwise [k0_pay2, k0_pay1]; rfl
theorem pay_v (g x : Vec Ideal S128x512 .f32) : k0_pay3 (F := Ideal) g x y = second (g y) (x y) := by
  pointwise [k0_pay3, k0_pay1]; rfl
theorem pay_d (g x v w : Vec Ideal S128x512 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel22 := fun m ρ _ => Cert.Kernel22.Gen.frame m ρ
theorem frame_reals : Cert.quiescent_Kernel22Ideal := fun m ρ _ => Cert.Kernel22Ideal.Gen.frame m ρ

end Cert.Kernel22Ideal.Step

namespace Cert.Reference22Ideal.Step

open Cert.Reference22Ideal
open Idealize.ShloMosaic Idealize.SL.Sem
open Cert.Proj Cert.Step

variable (m : (ℓ : Loc nD τ sig) → Buf (Elt Ideal) ℓ) (c : Dev nD)

/-- The reference's arguments, in the layout of the results. -/
def argW : Mat 128 512 .f32 := bare (m ((c.tc : Thread nD τ).loc main_arg0))
def argG : Mat 128 512 .f32 := bare (m ((c.tc : Thread nD τ).loc main_arg1))
def argM : Mat 128 512 .f32 := bare (m ((c.tc : Thread nD τ).loc main_arg2))
def argV : Mat 128 512 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference22Ideal := fun m ρ _ =>
  (θ_run defs _ _).mono (fun r h => ⟨fun c => (h c).2.2.2, Idealize.ShloMosaic.sem_eq_zero_of_no_sems (by decide) r.2⟩)
    (Value.run (F := Ideal) m ρ)

end Cert.Reference22Ideal.Step

namespace Cert.Kernel22Ideal.Step

open Idealize.ShloMosaic Idealize.SL.Sem

/-- The launch against the reference, over the reals. -/
theorem algebraic : Cert.algebraic_Kernel22Ideal_Reference22Ideal := by
  intro m ρ m' ρ' _ hagree
  refine ⟨_, _, _, run m ρ, ?_⟩
  refine (θ_run _ _ _).mono (fun r h c => ?_) (Cert.Reference22Ideal.Step.run m' ρ')
  obtain ⟨h0, h1, h2, h3⟩ := hagree c
  have H := h c
  unfold Cert.Reference22Ideal.Step.argW Cert.Reference22Ideal.Step.argG Cert.Reference22Ideal.Step.argM
    Cert.Reference22Ideal.Step.argV at H
  unfold delta newM newV argW argG argM argV
  rw [h0, h1, h2, h3] at H ⊢
  exact H

end Cert.Kernel22Ideal.Step

end
-- ==== Proof.Step.Proj.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the output projections' weights

All windows of a point stand at the same place, so each entry of a result is the step on the entries of the four arrays
there. -/

noncomputable section

namespace Cert.Kernel23Ideal.Step

open Cert.Kernel23Ideal Cert.Kernel23Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 512 256 .f32 := bare (m ((c : Thread nD τ).loc main_arg0))
def argG : Mat 512 256 .f32 := bare (m ((c : Thread nD τ).loc main_arg1))
def argM : Mat 512 256 .f32 := bare (m ((c : Thread nD τ).loc main_arg2))
def argV : Mat 512 256 .f32 := bare (m ((c : Thread nD τ).loc main_arg3))

/-- The results. -/
def delta : Mat 512 256 .f32 := changes (argW m c) (argG m c) (argM m c) (argV m c)
def newM : Mat 512 256 .f32 := firsts (argG m c) (argM m c)
def newV : Mat 512 256 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S512x256.Idx)

/-- The entry of the arrays where entry `y` of point `t` stands. -/
abbrev spot : S512x256.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S512x256 .f32) : k0_pay2 (F := Ideal) g x y = first (g y) (x y) := by
  pointwise [k0_pay2, k0_pay1]; rfl
theorem pay_v (g x : Vec Ideal S512x256 .f32) : k0_pay3 (F := Ideal) g x y = second (g y) (x y) := by
  pointwise [k0_pay3, k0_pay1]; rfl
theorem pay_d (g x v w : Vec Ideal S512x256 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel23 := fun m ρ _ => Cert.Kernel23.Gen.frame m ρ
theorem frame_reals : Cert.quiescent_Kernel23Ideal := fun m ρ _ => Cert.Kernel23Ideal.Gen.frame m ρ

end Cert.Kernel23Ideal.Step

namespace Cert.Reference23Ideal.Step

open Cert.Reference23Ideal
open Idealize.ShloMosaic Idealize.SL.Sem
open Cert.Proj Cert.Step

variable (m : (ℓ : Loc nD τ sig) → Buf (Elt Ideal) ℓ) (c : Dev nD)

/-- The reference's arguments, in the layout of the results. -/
def argW : Mat 512 256 .f32 := bare (m ((c.tc : Thread nD τ).loc main_arg0))
def argG : Mat 512 256 .f32 := bare (m ((c.tc : Thread nD τ).loc main_arg1))
def argM : Mat 512 256 .f32 := bare (m ((c.tc : Thread nD τ).loc main_arg2))
def argV : Mat 512 256 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference23Ideal := fun m ρ _ =>
  (θ_run defs _ _).mono (fun r h => ⟨fun c => (h c).2.2.2, Idealize.ShloMosaic.sem_eq_zero_of_no_sems (by decide) r.2⟩)
    (Value.run (F := Ideal) m ρ)

end Cert.Reference23Ideal.Step

namespace Cert.Kernel23Ideal.Step

open Idealize.ShloMosaic Idealize.SL.Sem

/-- The launch against the reference, over the reals. -/
theorem algebraic : Cert.algebraic_Kernel23Ideal_Reference23Ideal := by
  intro m ρ m' ρ' _ hagree
  refine ⟨_, _, _, run m ρ, ?_⟩
  refine (θ_run _ _ _).mono (fun r h c => ?_) (Cert.Reference23Ideal.Step.run m' ρ')
  obtain ⟨h0, h1, h2, h3⟩ := hagree c
  have H := h c
  unfold Cert.Reference23Ideal.Step.argW Cert.Reference23Ideal.Step.argG Cert.Reference23Ideal.Step.argM
    Cert.Reference23Ideal.Step.argV at H
  unfold delta newM newV argW argG argM argV
  rw [h0, h1, h2, h3] at H ⊢
  exact H

end Cert.Kernel23Ideal.Step

end
-- ==== Proof.Step.Out.lean ====
module

public import proofs.«01_k».proof.Defs
public import proofs.«01_k».proof.Proof.Gen.Kernel24.Frame
public import proofs.«01_k».proof.Proof.Gen.Kernel24Ideal.Value
public import proofs.«01_k».proof.Proof.Gen.Reference24Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the mixer's result weight

All windows of a point stand at the same place, so each entry of a result is the step on the entries of the four arrays
there. -/

noncomputable section

namespace Cert.Kernel24Ideal.Step

open Cert.Kernel24Ideal Cert.Kernel24Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 256 1024 .f32 := bare (m ((c : Thread nD τ).loc main_arg0))
def argG : Mat 256 1024 .f32 := bare (m ((c : Thread nD τ).loc main_arg1))
def argM : Mat 256 1024 .f32 := bare (m ((c : Thread nD τ).loc main_arg2))
def argV : Mat 256 1024 .f32 := bare (m ((c : Thread nD τ).loc main_arg3))

/-- The results. -/
def delta : Mat 256 1024 .f32 := changes (argW m c) (argG m c) (argM m c) (argV m c)
def newM : Mat 256 1024 .f32 := firsts (argG m c) (argM m c)
def newV : Mat 256 1024 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S256x1024.Idx)

/-- The entry of the arrays where entry `y` of point `t` stands. -/
abbrev spot : S256x1024.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S256x1024 .f32) : k0_pay2 (F := Ideal) g x y = first (g y) (x y) := by
  pointwise [k0_pay2, k0_pay1]; rfl
theorem pay_v (g x : Vec Ideal S256x1024 .f32) : k0_pay3 (F := Ideal) g x y = second (g y) (x y) := by
  pointwise [k0_pay3, k0_pay1]; rfl
theorem pay_d (g x v w : Vec Ideal S256x1024 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel24 := fun m ρ _ => Cert.Kernel24.Gen.frame m ρ
theorem frame_reals : Cert.quiescent_Kernel24Ideal := fun m ρ _ => Cert.Kernel24Ideal.Gen.frame m ρ

end Cert.Kernel24Ideal.Step

namespace Cert.Reference24Ideal.Step

open Cert.Reference24Ideal
open Idealize.ShloMosaic Idealize.SL.Sem
open Cert.Proj Cert.Step

variable (m : (ℓ : Loc nD τ sig) → Buf (Elt Ideal) ℓ) (c : Dev nD)

/-- The reference's arguments, in the layout of the results. -/
def argW : Mat 256 1024 .f32 := bare (m ((c.tc : Thread nD τ).loc main_arg0))
def argG : Mat 256 1024 .f32 := bare (m ((c.tc : Thread nD τ).loc main_arg1))
def argM : Mat 256 1024 .f32 := bare (m ((c.tc : Thread nD τ).loc main_arg2))
def argV : Mat 256 1024 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference24Ideal := fun m ρ _ =>
  (θ_run defs _ _).mono (fun r h => ⟨fun c => (h c).2.2.2, Idealize.ShloMosaic.sem_eq_zero_of_no_sems (by decide) r.2⟩)
    (Value.run (F := Ideal) m ρ)

end Cert.Reference24Ideal.Step

namespace Cert.Kernel24Ideal.Step

open Idealize.ShloMosaic Idealize.SL.Sem

/-- The launch against the reference, over the reals. -/
theorem algebraic : Cert.algebraic_Kernel24Ideal_Reference24Ideal := by
  intro m ρ m' ρ' _ hagree
  refine ⟨_, _, _, run m ρ, ?_⟩
  refine (θ_run _ _ _).mono (fun r h c => ?_) (Cert.Reference24Ideal.Step.run m' ρ')
  obtain ⟨h0, h1, h2, h3⟩ := hagree c
  have H := h c
  unfold Cert.Reference24Ideal.Step.argW Cert.Reference24Ideal.Step.argG Cert.Reference24Ideal.Step.argM
    Cert.Reference24Ideal.Step.argV at H
  unfold delta newM newV argW argG argM argV
  rw [h0, h1, h2, h3] at H ⊢
  exact H

end Cert.Kernel24Ideal.Step

end
-- ==== Proof.Step.Conv.lean ====
module

public import proofs.«01_k».proof.Defs
public import proofs.«01_k».proof.Proof.Gen.Kernel25.Frame
public import proofs.«01_k».proof.Proof.Gen.Kernel25Ideal.Value
public import proofs.«01_k».proof.Proof.Gen.Reference25Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the convolution's weight

All windows of a point stand at the same place, so each entry of a result is the step on the entries of the four arrays
there. -/

noncomputable section

namespace Cert.Kernel25Ideal.Step

open Cert.Kernel25Ideal Cert.Kernel25Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 4 384 .f32 := bare (m ((c : Thread nD τ).loc main_arg0))
def argG : Mat 4 384 .f32 := bare (m ((c : Thread nD τ).loc main_arg1))
def argM : Mat 4 384 .f32 := bare (m ((c : Thread nD τ).loc main_arg2))
def argV : Mat 4 384 .f32 := bare (m ((c : Thread nD τ).loc main_arg3))

/-- The results. -/
def delta : Mat 4 384 .f32 := changes (argW m c) (argG m c) (argM m c) (argV m c)
def newM : Mat 4 384 .f32 := firsts (argG m c) (argM m c)
def newV : Mat 4 384 .f32 := seconds (argG m c) (argV m c)

theorem V_w : V m c main_v0 = argW m c := by entry_read; funext y; pointwise; rfl
theorem V_g : V m c main_v1 = argG m c := by entry_read; funext y; pointwise; rfl
theorem V_m : V m c main_v2 = argM m c := by entry_read; funext y; pointwise; rfl
theorem V_v : V m c main_v3 = argV m c := by entry_read; funext y; pointwise; rfl

variable (t : Fin cfg0.N) (y : S4x384.Idx)

/-- The entry of the arrays where entry `y` of point `t` stands. -/
abbrev spot : S4x384.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S4x384 .f32) : k0_pay2 (F := Ideal) g x y = first (g y) (x y) := by
  pointwise [k0_pay2, k0_pay1]; rfl
theorem pay_v (g x : Vec Ideal S4x384 .f32) : k0_pay3 (F := Ideal) g x y = second (g y) (x y) := by
  pointwise [k0_pay3, k0_pay1]; rfl
theorem pay_d (g x v w : Vec Ideal S4x384 .f32) : k0_pay4 (F := Ideal) g x v w y = change (w y) (g y) (x y) (v y) := by
  pointwise [k0_pay4, k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = delta m c
      ∧ r.2.mem ((c.tc : Thread nD τ).loc main_v4_1) = newM m c
      ∧ r.2.mem ((c.tc : Thread nD τ).loc main_v4_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel25 := fun m ρ _ => Cert.Kernel25.Gen.frame m ρ
theorem frame_reals : Cert.quiescent_Kernel25Ideal := fun m ρ _ => Cert.Kernel25Ideal.Gen.frame m ρ

end Cert.Kernel25Ideal.Step

namespace Cert.Reference25Ideal.Step

open Cert.Reference25Ideal
open Idealize.ShloMosaic Idealize.SL.Sem
open Cert.Proj Cert.Step

variable (m : (ℓ : Loc nD τ sig) → Buf (Elt Ideal) ℓ) (c : Dev nD)

/-- The reference's arguments, in the layout of the results. -/
def argW : Mat 4 384 .f32 := bare (m ((c.tc : Thread nD τ).loc main_arg0))
def argG : Mat 4 384 .f32 := bare (m ((c.tc : Thread nD τ).loc main_arg1))
def argM : Mat 4 384 .f32 := bare (m ((c.tc : Thread nD τ).loc main_arg2))
def argV : Mat 4 384 .f32 := bare (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = changes (argW m c) (argG m c) (argM m c) (argV m c)
      ∧ r.2.mem ((c.tc : Thread nD τ).loc main_v25) = firsts (argG m c) (argM m c)
      ∧ r.2.mem ((c.tc : Thread nD τ).loc main_v26) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference25Ideal := fun m ρ _ =>
  (θ_run defs _ _).mono (fun r h => ⟨fun c => (h c).2.2.2, Idealize.ShloMosaic.sem_eq_zero_of_no_sems (by decide) r.2⟩)
    (Value.run (F := Ideal) m ρ)

end Cert.Reference25Ideal.Step

namespace Cert.Kernel25Ideal.Step

open Idealize.ShloMosaic Idealize.SL.Sem

/-- The launch against the reference, over the reals. -/
theorem algebraic : Cert.algebraic_Kernel25Ideal_Reference25Ideal := by
  intro m ρ m' ρ' _ hagree
  refine ⟨_, _, _, run m ρ, ?_⟩
  refine (θ_run _ _ _).mono (fun r h c => ?_) (Cert.Reference25Ideal.Step.run m' ρ')
  obtain ⟨h0, h1, h2, h3⟩ := hagree c
  have H := h c
  unfold Cert.Reference25Ideal.Step.argW Cert.Reference25Ideal.Step.argG Cert.Reference25Ideal.Step.argM
    Cert.Reference25Ideal.Step.argV at H
  unfold delta newM newV argW argG argM argV
  rw [h0, h1, h2, h3] at H ⊢
  exact H

end Cert.Kernel25Ideal.Step

end
-- ==== Proof.Step.Small.lean ====
module

public import proofs.«01_k».proof.Defs
public import proofs.«01_k».proof.Proof.Gen.Kernel26.Frame
public import proofs.«01_k».proof.Proof.Gen.Kernel26Ideal.Value
public import proofs.«01_k».proof.Proof.Gen.Reference26Ideal.Run
public import proofs.«01_k».proof.Proof.Step.Spec
public import Idealize.ShloMosaic.Lib.Pointwise
public import Idealize.ShloMosaic.Lib.Pipeline.ValueKit
public import Idealize.ShloMosaic.Lib.Claim

@[expose] public section

set_option maxRecDepth 16384

/-! # The optimiser's step on the packed small weights

All windows of a point stand at the same place, so each entry of a result is the step on the entries of the four arrays
there. -/

noncomputable section

namespace Cert.Kernel26Ideal.Step

open Cert.Kernel26Ideal Cert.Kernel26Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The weight, its gradient and the two means, in the layout of the launch. -/
def argW : Mat 1176 128 .f32 := (m ((c : Thread nD τ).loc main_arg0))
def argG : Mat 1176 128 .f32 := (m ((c : Thread nD τ).loc main_arg1))
def argM : Mat 1176 128 .f32 := (m ((c : Thread nD τ).loc main_arg2))
def argV : Mat 1176 128 .f32 := (m ((c : Thread nD τ).loc main_arg3))

/-- The results. -/
def delta : Mat 1176 128 .f32 := changes (argW m c) (argG m c) (argM m c) (argV m c)
def newM : Mat 1176 128 .f32 := firsts (argG m c) (argM m c)
def newV : Mat 1176 128 .f32 := seconds (argG m c) (argV m c)

theorem V_w : V m c main_arg0 = argW m c := by entry_read; rfl
theorem V_g : V m c main_arg1 = argG m c := by entry_read; rfl
theorem V_m : V m c main_arg2 = argM m c := by entry_read; rfl
theorem V_v : V m c main_arg3 = argV m c := by entry_read; rfl

variable (t : Fin cfg0.N) (y : S1176x128.Idx)

/-- The entry of the arrays where entry `y` of point `t` stands. -/
abbrev spot : S1176x128.Idx := (win0_4.blk t).view.emb y

theorem blk_w : iblk m c 0 t y = argW m c (spot t y) := by
  have h := V_w m c; unfold iblk; generalize V m c = A at h ⊢; exact congrFun h (spot t y)
theorem blk_g : iblk m c 1 t y = argG m c (spot t y) := by
  have h := V_g m c; unfold iblk; generalize V m c = A at h ⊢; exact congrFun h (spot t y)
theorem blk_m : iblk m c 2 t y = argM m c (spot t y) := by
  have h := V_m m c; unfold iblk; generalize V m c = A at h ⊢; exact congrFun h (spot t y)
theorem blk_v : iblk m c 3 t y = argV m c (spot t y) := by
  have h := V_v m c; unfold iblk; generalize V m c = A at h ⊢; exact congrFun h (spot t y)

/-- A point's results, entry by entry. -/
theorem pay_m (g x : Vec Ideal S1176x128 .f32) : k0_pay1 (F := Ideal) g x y = first (g y) (x y) := by
  pointwise [k0_pay1]; rfl
theorem pay_v (g x : Vec Ideal S1176x128 .f32) : k0_pay2 (F := Ideal) g x y = second (g y) (x y) := by
  pointwise [k0_pay2]; rfl
theorem pay_d (g x v w : Vec Ideal S1176x128 .f32) : k0_pay3 (F := Ideal) g x v w y = change (w y) (g y) (x y) (v y) := by
  pointwise [k0_pay3, k0_pay2, k0_pay1]; rfl

theorem final_d : (dats m 0 c).arrAt 4 cfg0.N = delta m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay_d y _ _ _ _).trans ?_
  rw [blk_w, blk_g, blk_m, blk_v]
  rfl

theorem final_m : (dats m 0 c).arrAt 5 cfg0.N = newM m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide)]
  refine (pay_m y _ _).trans ?_
  rw [blk_g, blk_m]
  rfl

theorem final_v : (dats m 0 c).arrAt 6 cfg0.N = newV m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide)]
  refine (pay_v y _ _).trans ?_
  rw [blk_g, blk_v]
  rfl

/-- The launch terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = delta m c
      ∧ r.2.mem ((c.tc : Thread nD τ).loc main_v0_1) = newM m c
      ∧ r.2.mem ((c.tc : Thread nD τ).loc main_v0_2) = newV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_d m c), (h c).2.1.trans (final_m m c),
    (h c).2.2.1.trans (final_v m c), (h c).2.2.2⟩) (Value.run_blocks m ρ)

/-- The launch's frames, at machine words and over the reals. -/
theorem frame_words : Cert.quiescent_Kernel26 := fun m ρ _ => Cert.Kernel26.Gen.frame m ρ
theorem frame_reals : Cert.quiescent_Kernel26Ideal := fun m ρ _ => Cert.Kernel26Ideal.Gen.frame m ρ

end Cert.Kernel26Ideal.Step

namespace Cert.Reference26Ideal.Step

open Cert.Reference26Ideal
open Idealize.ShloMosaic Idealize.SL.Sem
open Cert.Proj Cert.Step

variable (m : (ℓ : Loc nD τ sig) → Buf (Elt Ideal) ℓ) (c : Dev nD)

/-- The reference's arguments, in the layout of the results. -/
def argW : Mat 1176 128 .f32 := (m ((c.tc : Thread nD τ).loc main_arg0))
def argG : Mat 1176 128 .f32 := (m ((c.tc : Thread nD τ).loc main_arg1))
def argM : Mat 1176 128 .f32 := (m ((c.tc : Thread nD τ).loc main_arg2))
def argV : Mat 1176 128 .f32 := (m ((c.tc : Thread nD τ).loc main_arg3))

/-- The reference terminates with the step's results, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = changes (argW m c) (argG m c) (argM m c) (argV m c)
      ∧ r.2.mem ((c.tc : Thread nD τ).loc main_v4) = firsts (argG m c) (argM m c)
      ∧ r.2.mem ((c.tc : Thread nD τ).loc main_v10) = seconds (argG m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2.1.trans ?_, (h c).2.2.1.trans ?_, (h c).2.2.2⟩ <;> (funext y; pointwise; rfl))
    (Value.run m ρ)

/-- The reference's frame. -/
theorem frame : Cert.quiescent_Reference26Ideal := fun m ρ _ =>
  (θ_run defs _ _).mono (fun r h => ⟨fun c => (h c).2.2.2, Idealize.ShloMosaic.sem_eq_zero_of_no_sems (by decide) r.2⟩)
    (Value.run (F := Ideal) m ρ)

end Cert.Reference26Ideal.Step

namespace Cert.Kernel26Ideal.Step

open Idealize.ShloMosaic Idealize.SL.Sem

/-- The launch against the reference, over the reals. -/
theorem algebraic : Cert.algebraic_Kernel26Ideal_Reference26Ideal := by
  intro m ρ m' ρ' _ hagree
  refine ⟨_, _, _, run m ρ, ?_⟩
  refine (θ_run _ _ _).mono (fun r h c => ?_) (Cert.Reference26Ideal.Step.run m' ρ')
  obtain ⟨h0, h1, h2, h3⟩ := hagree c
  have H := h c
  unfold Cert.Reference26Ideal.Step.argW Cert.Reference26Ideal.Step.argG Cert.Reference26Ideal.Step.argM
    Cert.Reference26Ideal.Step.argV at H
  unfold delta newM newV argW argG argM argV
  rw [h0, h1, h2, h3] at H ⊢
  exact H

end Cert.Kernel26Ideal.Step

end
-- ==== Proof.Ada.Spec.lean ====
module

public import proofs.«01_k».proof.Proof.Proj.Spec

@[expose] public section

/-! # The modulation

`silu c` through a weight of 9216 columns, plus a bias.  The columns are kept in 4 parts of 2304, one per device. -/

noncomputable section

namespace Cert.Ada

open Idealize.ShloMosaic
open Cert.Ffn Cert.Proj

/-- Column `j` of part `s`. -/
def col (s : Fin 4) (j : Fin 2304) : Fin 9216 := ⟨s.val * 2304 + j.val, by omega⟩

/-- A matrix and a row, laid out by part. -/
def parts {a : ℕ} {φ : EltTy} (X : Mat a 9216 φ) : Vec Ideal (⟨3, ![4, a, 2304]⟩ : Shape) φ :=
  fun y => X (ix2 (y 1) (col (y 0) (y 2)))
def rowParts {φ : EltTy} (X : Vec Ideal (⟨1, ![9216]⟩ : Shape) φ) : Vec Ideal (⟨3, ![4, 1, 2304]⟩ : Shape) φ :=
  fun y => X (ix1 (col (y 0) (y 2)))

/-- `x` times its sigmoid. -/
def silu (x : EReal) : EReal := x * Ideal.logistic x

/-- The modulation of the conditions `C`. -/
def modulation (C : Mat 8 1024 .f32) (W : Mat 1024 9216 .bf16) (b : Vec Ideal (⟨1, ![9216]⟩ : Shape) .f32) :
    Vec Ideal (⟨3, ![4, 8, 2304]⟩ : Shape) .f32 :=
  fun y => (∑ d : Fin 1024, silu (C (ix2 (y 1) d)) * W (ix2 d (col (y 0) (y 2)))) + b (ix1 (col (y 0) (y 2)))

/-- The gradient of its weight at the cotangent `D`. -/
def weightGrad (C : Mat 32 1024 .f32) (D : Mat 32 9216 .f32) : Vec Ideal (⟨3, ![4, 1024, 2304]⟩ : Shape) .f32 :=
  fun y => ∑ r : Fin 32, silu (C (ix2 r (y 1))) * D (ix2 r (col (y 0) (y 2)))

/-- The gradient of its bias. -/
def biasGrad (D : Mat 32 9216 .f32) : Vec Ideal (⟨3, ![4, 1, 2304]⟩ : Shape) .f32 :=
  fun y => ∑ r : Fin 32, D (ix2 r (col (y 0) (y 2)))

/-- A window of one part. -/
theorem place_part {a : ℕ} (t : Fin 4) (emb : (⟨3, ![1, a, 2304]⟩ : Shape).Idx → (⟨3, ![4, a, 2304]⟩ : Shape).Idx)
    (h : Stands ![t.val, 0, 0] emb) (y : (⟨3, ![1, a, 2304]⟩ : Shape).Idx) : emb y = ix3 t (y 1) (y 2) := by
  funext x
  apply Fin.ext
  rw [h]
  match x with
  | 0 => show t.val * 1 + 1 * (y 0).val = t.val; have h0 : (y 0).val < 1 := (y 0).isLt; omega
  | 1 => show 0 * a + 1 * (y 1).val = (y 1).val; omega
  | 2 => show 0 * 2304 + 1 * (y 2).val = (y 2).val; omega

/-- A window of a whole matrix. -/
theorem place_matrix {p q : ℕ} (emb : (⟨2, ![p, q]⟩ : Shape).Idx → (⟨2, ![p, q]⟩ : Shape).Idx)
    (h : Stands ![0, 0] emb) (y : (⟨2, ![p, q]⟩ : Shape).Idx) : emb y = y := by
  funext x
  apply Fin.ext
  rw [h]
  match x with
  | 0 => show 0 * p + 1 * (y 0).val = (y 0).val; omega
  | 1 => show 0 * q + 1 * (y 1).val = (y 1).val; omega

end Cert.Ada

end
-- ==== Proof.Ada.Back.lean ====
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.Ada.Spec
public import Idealize.ShloMosaic.Lib.Pointwise
public import Idealize.ShloMosaic.Lib.Pipeline.ValueKit
public import Idealize.ShloMosaic.Lib.Claim

@[expose] public section

set_option maxRecDepth 16384

/-! # The gradients of the modulation's weight and bias

Point `t` computes part `t` of the columns from all the conditions and that part of the cotangent. -/

noncomputable section

namespace Cert.Kernel27Ideal.Ada

open Cert.Kernel27Ideal Cert.Kernel27Ideal.Gen
open Idealize.ShloMosaic Idealize.ShloMosaic.TcCoe Idealize.ShloMosaic.Tactic
open Idealize.SL.Sem
open Cert.Proj Cert.Ada

variable (m : (ℓ : Loc nD τ sig) → Buf (Elt Ideal) ℓ)

/-- The arguments and the results. -/
abbrev argC (c : Dev nD) : Mat 32 1024 .f32 := m ((c : Thread nD τ).loc main_arg0)
abbrev argD (c : Dev nD) : Mat 32 9216 .f32 := m ((c : Thread nD τ).loc main_arg1)
def gradW (c : Dev nD) : Vec Ideal (⟨3, ![4, 1024, 2304]⟩ : Shape) .f32 := weightGrad (argC m c) (argD m c)
def gradB (c : Dev nD) : Vec Ideal (⟨3, ![4, 1, 2304]⟩ : Shape) .f32 := biasGrad (argD m c)

theorem V_c (c : Dev nD) : V m c main_arg0 = argC m c := by entry_read; rfl
theorem V_d (c : Dev nD) : V m c main_v1 = parts (argD m c) := by
  entry_read; funext y; pointwise; rfl

theorem index_c : ∀ t : Fin grid0.N, cc0_transform_0 (grid0.coords t) = ![0, 0] := by decide +kernel
theorem index_d : ∀ t : Fin grid0.N, cc0_transform_1 (grid0.coords t) = ![t.val, 0, 0] := by decide +kernel
theorem index_w : ∀ t : Fin grid0.N, cc0_transform_2 (grid0.coords t) = ![t.val, 0, 0] := by decide +kernel
theorem index_b : ∀ t : Fin grid0.N, cc0_transform_3 (grid0.coords t) = ![t.val, 0, 0] := by decide +kernel

section
variable (c : Dev nD) (t : Fin 4) (A : (b : Ref sig .tc) → Buf (Elt Ideal) ((c : Thread nD τ).loc b))

theorem block0 (C : Mat 32 1024 .f32) (hA : A main_arg0 = C) (y : S32x1024.Idx) :
    ((cfg0.win 0).blk t).view.read (Elt Ideal) (A (Pipeline.arrRef spec0 0)) y = C y := by
  show A main_arg0 ((win0_0.blk t).view.emb y) = _
  rw [hA]
  exact congrArg C (place_matrix _ (fun y a => congrArg (fun n => n * S32x1024.size a + 1 * (y a).val) (congrFun (index_c t) a)) y)

theorem block1 (D : Mat 32 9216 .f32) (hA : A main_v1 = parts D) (y : S1x32x2304.Idx) :
    ((cfg0.win 1).blk t).view.read (Elt Ideal) (A (Pipeline.arrRef spec0 1)) y = D (ix2 (y 1) (col t (y 2))) := by
  show A main_v1 ((win0_1.blk t).view.emb y) = _
  rw [hA]
  exact congrArg (parts D) (place_part t _ (fun y a => congrArg (fun n => n * S1x32x2304.size a + 1 * (y a).val) (congrFun (index_d t) a)) y)

/-- Where the results' blocks stand. -/
theorem stand_w (y : S1x1024x2304.Idx) : (win0_2.blk t).view.emb y = (ix3 t (y 1) (y 2) : S4x1024x2304.Idx) :=
  place_part t _ (fun y a => congrArg (fun n => n * S1x1024x2304.size a + 1 * (y a).val) (congrFun (index_w t) a)) y
theorem stand_b (y : S1x1x2304.Idx) : (win0_3.blk t).view.emb y = (ix3 t (y 1) (y 2) : S4x1x2304.Idx) :=
  place_part t _ (fun y a => congrArg (fun n => n * S1x1x2304.size a + 1 * (y a).val) (congrFun (index_b t) a)) y
end

/-- The point's blocks. -/
theorem blk_c (c : Dev nD) (t : Fin 4) (y : S32x1024.Idx) : iblk m c 0 t y = argC m c y := by
  unfold iblk; exact block0 c t (V m c) _ (V_c m c) y
theorem blk_d (c : Dev nD) (t : Fin 4) (y : S1x32x2304.Idx) : iblk m c 1 t y = argD m c (ix2 (y 1) (col t (y 2))) := by
  unfold iblk; exact block1 c t (V m c) _ (V_d m c) y

/-- What a point computes. -/
theorem pay2_apply (x : Vec Ideal S32x1024 .f32) (d : Vec Ideal S1x32x2304 .f32) (y : S1x1024x2304.Idx) :
    k0_pay2 (F := Ideal) x d y = ∑ r : Fin 32, silu (x (ix2 r (y 1))) * d (ix3 0 r (y 2)) := by
  pointwise [k0_pay2, k0_pay1]
  rfl

theorem pay3_apply (d : Vec Ideal S1x32x2304 .f32) (y : S1x1x2304.Idx) :
    k0_pay3 (F := Ideal) d y = ∑ r : Fin 32, d (ix3 0 r (y 2)) := by
  pointwise [k0_pay3, k0_pay1]

theorem point_w (c : Dev nD) (t : Fin 4) (x : Vec Ideal S32x1024 .f32) (d : Vec Ideal S1x32x2304 .f32)
    (hx : ∀ i, x i = argC m c i) (hd : ∀ i, d i = argD m c (ix2 (i 1) (col t (i 2)))) (y : S1x1024x2304.Idx) :
    k0_pay2 (F := Ideal) x d y = gradW m c (ix3 t (y 1) (y 2)) := by
  rw [pay2_apply]
  unfold gradW weightGrad
  refine (Finset.sum_congr rfl fun r _ => ?_)
  rw [hx, hd]
  rfl

theorem point_b (c : Dev nD) (t : Fin 4) (d : Vec Ideal S1x32x2304 .f32)
    (hd : ∀ i, d i = argD m c (ix2 (i 1) (col t (i 2)))) (y : S1x1x2304.Idx) :
    k0_pay3 (F := Ideal) d y = gradB m c (ix3 t (y 1) (y 2)) := by
  rw [pay3_apply]
  unfold gradB biasGrad
  refine (Finset.sum_congr rfl fun r _ => ?_)
  rw [hd]
  rfl

theorem final_w (c : Dev nD) : (dats m 0 c).arrAt 2 cfg0.N = gradW m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (point_w m c t _ _ (blk_c m c t) (blk_d m c t) y).trans (congrArg (gradW m c) (stand_w t y)).symm

theorem final_b (c : Dev nD) : (dats m 0 c).arrAt 3 cfg0.N = gradB m c := by
  refine (dats m 0 c).arrAt_eq_of_covers 3 _ (by decide +kernel) fun t hf y => ?_
  rw [after0_3]
  unfold out0_3
  rw [View.canon_cons_unit_lit _ _ _ (by decide), View.ld_unit_lit _ _ (by decide)]
  exact (point_b m c t _ (blk_d m c t) y).trans (congrArg (gradB m c) (stand_b t y)).symm

/-- The launch terminates with the gradients, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = gradW m c
      ∧ r.2.mem ((c.tc : Thread nD τ).loc main_v2_1) = gradB m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2.1.trans (final_b m c), (h c).2.2⟩)
    (Value.run_blocks m ρ)

/-- The launch's frames, at machine words and over the reals. -/
theorem frame_words : Cert.quiescent_Kernel27 := fun m ρ _ => Cert.Kernel27.Gen.frame m ρ
theorem frame_reals : Cert.quiescent_Kernel27Ideal := fun m ρ _ => Cert.Kernel27Ideal.Gen.frame m ρ

end Cert.Kernel27Ideal.Ada

namespace Cert.Reference27Ideal.Ada

open Cert.Reference27Ideal
open Idealize.ShloMosaic Idealize.SL.Sem
open Cert.Proj Cert.Ada

/-- The gradients, each product with the cotangent first. -/
theorem swap (C : Mat 32 1024 .f32) (D : Mat 32 9216 .f32) (y : S4x1024x2304.Idx) :
    weightGrad C D y = ∑ r : Fin 32, D (ix2 r (col (y 0) (y 2))) * silu (C (ix2 r (y 1))) :=
  Finset.sum_congr rfl fun _ _ => mul_comm _ _

/-- The reference terminates with the gradients, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
        = weightGrad (m ((c.tc : Thread nD τ).loc main_arg0)) (m ((c.tc : Thread nD τ).loc main_arg1))
      ∧ r.2.mem ((c.tc : Thread nD τ).loc main_v17) = biasGrad (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2.1.trans ?_, (h c).2.2⟩
    · funext y; rw [swap]; pointwise; rfl
    · funext y; pointwise; exact Fin.sum_univ_one _) (Value.run m ρ)

/-- The reference's frame. -/
theorem frame : Cert.quiescent_Reference27Ideal := fun m ρ _ =>
  (θ_run defs _ _).mono (fun r h => ⟨fun c => (h c).2.2, Idealize.ShloMosaic.sem_eq_zero_of_no_sems (by decide) r.2⟩)
    (Value.run (F := Ideal) m ρ)

end Cert.Reference27Ideal.Ada

namespace Cert.Kernel27Ideal.Ada

open Cert.Kernel27Ideal
open Idealize.ShloMosaic Idealize.SL.Sem

/-- The launch against the reference, over the reals. -/
theorem algebraic : Cert.algebraic_Kernel27Ideal_Reference27Ideal := by
  intro m ρ m' ρ' _ hagree
  refine ⟨_, _, run m ρ, ?_⟩
  refine (θ_run _ _ _).mono (fun r h c => ?_) (Cert.Reference27Ideal.Ada.run m' ρ')
  obtain ⟨h0, h1⟩ := hagree c
  have H := h c
  rw [h0, h1] at H
  unfold gradW gradB argC argD
  rw [h0, h1]
  exact H

end Cert.Kernel27Ideal.Ada

end
-- ==== Proof.Ada.Forward.lean ====
module

public import proofs.«01_k».proof.Defs
public import proofs.«01_k».proof.Proof.Gen.Kernel28.Frame
public import proofs.«01_k».proof.Proof.Gen.Kernel28Ideal.Value
public import proofs.«01_k».proof.Proof.Gen.Reference28Ideal.Run
public import proofs.«01_k».proof.Proof.Ada.Spec
public import Idealize.ShloMosaic.Lib.Pointwise
public import Idealize.ShloMosaic.Lib.Pipeline.ValueKit
public import Idealize.ShloMosaic.Lib.Claim

@[expose] public section

set_option maxRecDepth 16384

/-! # The modulation

Point `t` computes part `t` of the columns from all the conditions. -/

noncomputable section

namespace Cert.Kernel28Ideal.Ada

open Cert.Kernel28Ideal Cert.Kernel28Ideal.Gen
open Idealize.ShloMosaic Idealize.ShloMosaic.TcCoe Idealize.ShloMosaic.Tactic
open Idealize.SL.Sem
open Cert.Proj Cert.Ada

variable (m : (ℓ : Loc nD τ sig) → Buf (Elt Ideal) ℓ)

/-- The arguments and the result. -/
abbrev argC (c : Dev nD) : Mat 8 1024 .f32 := m ((c : Thread nD τ).loc main_arg0)
abbrev argW (c : Dev nD) : Mat 1024 9216 .bf16 := m ((c : Thread nD τ).loc main_arg1)
abbrev argB (c : Dev nD) : Vec Ideal (⟨1, ![9216]⟩ : Shape) .f32 := m ((c : Thread nD τ).loc main_arg2)
def result (c : Dev nD) : Vec Ideal (⟨3, ![4, 8, 2304]⟩ : Shape) .f32 := modulation (argC m c) (argW m c) (argB m c)

theorem V_c (c : Dev nD) : V m c main_arg0 = argC m c := by entry_read; rfl
theorem V_w (c : Dev nD) : V m c main_v1 = parts (argW m c) := by
  entry_read; funext y; pointwise; rfl
theorem V_b (c : Dev nD) : V m c main_v2 = rowParts (argB m c) := by
  entry_read; funext y; pointwise; rfl

theorem index_c : ∀ t : Fin grid0.N, cc0_transform_0 (grid0.coords t) = ![0, 0] := by decide +kernel
theorem index_w : ∀ t : Fin grid0.N, cc0_transform_1 (grid0.coords t) = ![t.val, 0, 0] := by decide +kernel
theorem index_b : ∀ t : Fin grid0.N, cc0_transform_2 (grid0.coords t) = ![t.val, 0, 0] := by decide +kernel
theorem index_o : ∀ t : Fin grid0.N, cc0_transform_3 (grid0.coords t) = ![t.val, 0, 0] := by decide +kernel

section
variable (c : Dev nD) (t : Fin 4) (A : (b : Ref sig .tc) → Buf (Elt Ideal) ((c : Thread nD τ).loc b))

theorem block0 (C : Mat 8 1024 .f32) (hA : A main_arg0 = C) (y : S8x1024.Idx) :
    ((cfg0.win 0).blk t).view.read (Elt Ideal) (A (Pipeline.arrRef spec0 0)) y = C y := by
  show A main_arg0 ((win0_0.blk t).view.emb y) = _
  rw [hA]
  exact congrArg C (place_matrix _ (fun y a => congrArg (fun n => n * S8x1024.size a + 1 * (y a).val) (congrFun (index_c t) a)) y)

theorem block1 (W : Mat 1024 9216 .bf16) (hA : A main_v1 = parts W) (y : S1x1024x2304.Idx) :
    ((cfg0.win 1).blk t).view.read (Elt Ideal) (A (Pipeline.arrRef spec0 1)) y = W (ix2 (y 1) (col t (y 2))) := by
  show A main_v1 ((win0_1.blk t).view.emb y) = _
  rw [hA]
  exact congrArg (parts W) (place_part t _ (fun y a => congrArg (fun n => n * S1x1024x2304.size a + 1 * (y a).val) (congrFun (index_w t) a)) y)

theorem block2 (b : Vec Ideal (⟨1, ![9216]⟩ : Shape) .f32) (hA : A main_v2 = rowParts b) (y : S1x1x2304.Idx) :
    ((cfg0.win 2).blk t).view.read (Elt Ideal) (A (Pipeline.arrRef spec0 2)) y = b (ix1 (col t (y 2))) := by
  show A main_v2 ((win0_2.blk t).view.emb y) = _
  rw [hA]
  refine Eq.trans (b := rowParts b (ix3 t (y 1) (y 2))) (congrArg (rowParts b) ?_) rfl
  exact place_part t _ (fun y a => congrArg (fun n => n * S1x1x2304.size a + 1 * (y a).val) (congrFun (index_b t) a)) y

/-- Where the result's block stands. -/
theorem stand (y : S1x8x2304.Idx) : (win0_3.blk t).view.emb y = (ix3 t (y 1) (y 2) : S4x8x2304.Idx) :=
  place_part t _ (fun y a => congrArg (fun n => n * S1x8x2304.size a + 1 * (y a).val) (congrFun (index_o t) a)) y
end

/-- The point's blocks. -/
theorem blk_c (c : Dev nD) (t : Fin 4) (y : S8x1024.Idx) : iblk m c 0 t y = argC m c y := by
  unfold iblk; exact block0 c t (V m c) _ (V_c m c) y
theorem blk_w (c : Dev nD) (t : Fin 4) (y : S1x1024x2304.Idx) : iblk m c 1 t y = argW m c (ix2 (y 1) (col t (y 2))) := by
  unfold iblk; exact block1 c t (V m c) _ (V_w m c) y
theorem blk_b (c : Dev nD) (t : Fin 4) (y : S1x1x2304.Idx) : iblk m c 2 t y = argB m c (ix1 (col t (y 2))) := by
  unfold iblk; exact block2 c t (V m c) _ (V_b m c) y

/-- What a point computes. -/
theorem pay1_apply (x : Vec Ideal S8x1024 .f32) (w : Vec Ideal S1x1024x2304 .bf16) (b : Vec Ideal S1x1x2304 .f32)
    (y : S1x8x2304.Idx) :
    k0_pay1 (F := Ideal) x w b y
      = (∑ d : Fin 1024, silu (x (ix2 (y 1) d)) * w (ix3 0 d (y 2))) + b (ix3 0 0 (y 2)) := by
  pointwise [k0_pay1]
  rfl

theorem point (c : Dev nD) (t : Fin 4) (x : Vec Ideal S8x1024 .f32) (w : Vec Ideal S1x1024x2304 .bf16)
    (b : Vec Ideal S1x1x2304 .f32) (hx : ∀ i, x i = argC m c i) (hw : ∀ i, w i = argW m c (ix2 (i 1) (col t (i 2))))
    (hb : ∀ i, b i = argB m c (ix1 (col t (i 2)))) (y : S1x8x2304.Idx) :
    k0_pay1 (F := Ideal) x w b y = result m c (ix3 t (y 1) (y 2)) := by
  rw [pay1_apply, hb]
  unfold result modulation
  refine congrArg₂ (fun a b : EReal => a + b) (Finset.sum_congr rfl fun d _ => ?_) rfl
  rw [hx, hw]
  rfl

theorem final_o (c : Dev nD) : (dats m 0 c).arrAt 3 cfg0.N = result m c := by
  refine (dats m 0 c).arrAt_eq_of_covers 3 _ (by decide +kernel) fun t hf y => ?_
  rw [after0_3]
  unfold out0_3
  rw [View.canon_cons_unit_lit _ _ _ (by decide), View.ld_unit_lit _ _ (by decide), View.ld_unit_lit _ _ (by decide),
    View.ld_unit_lit _ _ (by decide)]
  exact (point m c t _ _ _ (blk_c m c t) (blk_w m c t) (blk_b m c t) y).trans (congrArg (result m c) (stand t y)).symm

/-- The launch terminates with the modulation, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_o m c), (h c).2⟩) (Value.run_blocks m ρ)

/-- The launch's frames, at machine words and over the reals. -/
theorem frame_words : Cert.quiescent_Kernel28 := fun m ρ _ => Cert.Kernel28.Gen.frame m ρ
theorem frame_reals : Cert.quiescent_Kernel28Ideal := fun m ρ _ => Cert.Kernel28Ideal.Gen.frame m ρ

end Cert.Kernel28Ideal.Ada

namespace Cert.Reference28Ideal.Ada

open Cert.Reference28Ideal
open Idealize.ShloMosaic Idealize.SL.Sem
open Cert.Ada

/-- The reference terminates with the modulation, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = modulation (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    refine ⟨(h c).1.trans ?_, (h c).2⟩
    funext y; pointwise; rfl) (Value.run m ρ)

/-- The reference's frame. -/
theorem frame : Cert.quiescent_Reference28Ideal := fun m ρ _ =>
  (θ_run defs _ _).mono (fun r h => ⟨fun c => (h c).2, Idealize.ShloMosaic.sem_eq_zero_of_no_sems (by decide) r.2⟩)
    (Value.run (F := Ideal) m ρ)

end Cert.Reference28Ideal.Ada

namespace Cert.Kernel28Ideal.Ada

open Cert.Kernel28Ideal
open Idealize.ShloMosaic Idealize.SL.Sem

/-- The launch against the reference, over the reals. -/
theorem algebraic : Cert.algebraic_Kernel28Ideal_Reference28Ideal := by
  intro m ρ m' ρ' _ hagree
  refine ⟨_, run m ρ, ?_⟩
  refine (θ_run _ _ _).mono (fun r h c => ?_) (Cert.Reference28Ideal.Ada.run m' ρ')
  obtain ⟨h0, h1, h2⟩ := hagree c
  have H := h c
  rw [h0, h1, h2] at H
  unfold result argC argW argB
  rw [h0, h1, h2]
  exact H

end Cert.Kernel28Ideal.Ada

end
-- ==== Proof.Proj.InRatesValue.lean ====
module

public import proofs.«01_k».proof.Proof.Gen.Kernel29Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of an input projection computes, at 128 columns

Point `t` multiplies block `t` of the tokens by the whole weight, which it reads transposed. -/

noncomputable section

namespace Cert.Kernel29Ideal.Proj

open Cert.Kernel29Ideal Cert.Kernel29Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments and the result. -/
abbrev argX (c : Dev nD) : Mat 8192 1024 .bf16 := m ((c : Thread nD τ).loc main_arg0)
abbrev argW (c : Dev nD) : Mat 1024 128 .bf16 := m ((c : Thread nD τ).loc main_arg1)
def result (c : Dev nD) : Sheet 8192 128 .f32 := times (argX m c) (argW m c)

theorem V_x (c : Dev nD) : V m c main_v0 = sheet (argX m c) := by
  entry_read; funext y; pointwise; rfl
theorem V_w (c : Dev nD) : V m c main_v2 = turned (argW m c) := by
  entry_read; funext y; pointwise; rfl

theorem index_x : ∀ t : Fin grid0.N, cc0_transform_0 (grid0.coords t) = ![0, t.val, 0] := by decide +kernel
theorem index_w : ∀ t : Fin grid0.N, cc0_transform_1 (grid0.coords t) = ![0, 0, 0] := by decide +kernel
theorem index_o : ∀ t : Fin grid0.N, cc0_transform_2 (grid0.coords t) = ![0, t.val, 0] := by decide +kernel

section
variable (c : Dev nD) (t : Fin 8) (A : (b : Ref sig .tc) → Buf (Elt Ideal) ((c : Thread nD τ).loc b))

theorem block0 (X : Mat 8192 1024 .bf16) (hA : A main_v0 = sheet X) (y : S1x1024x1024.Idx) :
    ((cfg0.win 0).blk t).view.read (Elt Ideal) (A (Pipeline.arrRef spec0 0)) y = X (ix2 (tok t (y 1)) (y 2)) := by
  show A main_v0 ((win0_0.blk t).view.emb y) = _
  rw [hA]
  exact congrArg (sheet X) (place_rows t _ (fun y a => congrArg (fun n => n * S1x1024x1024.size a + 1 * (y a).val) (congrFun (index_x t) a)) y)

theorem block1 (W : Mat 1024 128 .bf16) (hA : A main_v2 = turned W) (y : S1x128x1024.Idx) :
    ((cfg0.win 1).blk t).view.read (Elt Ideal) (A (Pipeline.arrRef spec0 1)) y = W (ix2 (y 2) (y 1)) := by
  show A main_v2 ((win0_1.blk t).view.emb y) = _
  rw [hA]
  exact congrArg (turned W) (place_all _ (fun y a => congrArg (fun n => n * S1x128x1024.size a + 1 * (y a).val) (congrFun (index_w t) a)) y)

/-- Where the result's block stands. -/
theorem stand (y : S1x1024x128.Idx) : (win0_2.blk t).view.emb y = (ix3 0 (tok t (y 1)) (y 2) : S1x8192x128.Idx) :=
  place_rows t _ (fun y a => congrArg (fun n => n * S1x1024x128.size a + 1 * (y a).val) (congrFun (index_o t) a)) y
end

/-- The point's blocks. -/
theorem blk_x (c : Dev nD) (t : Fin 8) (y : S1x1024x1024.Idx) : iblk m c 0 t y = argX m c (ix2 (tok t (y 1)) (y 2)) := by
  unfold iblk; exact block0 c t (V m c) _ (V_x m c) y
theorem blk_w (c : Dev nD) (t : Fin 8) (y : S1x128x1024.Idx) : iblk m c 1 t y = argW m c (ix2 (y 2) (y 1)) := by
  unfold iblk; exact block1 c t (V m c) _ (V_w m c) y

/-- The products of a point. -/
theorem pay1_apply (x : Vec Ideal S1x1024x1024 .bf16) (w : Vec Ideal S1x128x1024 .bf16) (y : S1x1024x128.Idx) :
    k0_pay1 (F := Ideal) x w y = ∑ d : Fin 1024, x (ix3 0 (y 1) d) * w (ix3 0 (y 2) d) := by
  pointwise [k0_pay1]

theorem product (c : Dev nD) (t : Fin 8) (y : S1x1024x128.Idx) :
    k0_pay1 (F := Ideal) (iblk m c 0 t) (iblk m c 1 t) y = result m c (ix3 0 (tok t (y 1)) (y 2)) :=
  (pay1_apply _ _ y).trans (Eq.trans (b := ∑ d : Fin 1024, argX m c (ix2 (tok t (y 1)) d) * argW m c (ix2 d (y 2)))
    (Finset.sum_congr rfl fun d _ => by rw [blk_x, blk_w]; rfl) rfl)

theorem final_o (c : Dev nD) : (dats m 0 c).arrAt 2 cfg0.N = result m c := by
  refine (dats m 0 c).arrAt_eq_of_covers 2 _ (by decide +kernel) fun t hf y => ?_
  rw [after0_2]
  unfold out0_2
  rw [View.canon_cons_unit_lit _ _ _ (by decide), View.ld_unit_lit _ _ (by decide), View.ld_unit_lit _ _ (by decide)]
  exact (product m c t y).trans (congrArg (result m c) (stand t y)).symm

end Cert.Kernel29Ideal.Proj

end
-- ==== Proof.Proj.InRatesClaims.lean ====
module

public import proofs.«01_k».proof.Defs
public import proofs.«01_k».proof.Proof.Gen.Kernel29.Frame
public import proofs.«01_k».proof.Proof.Gen.Reference29Ideal.Run
public import proofs.«01_k».proof.Proof.Proj.InRatesValue

@[expose] public section

set_option maxRecDepth 16384

/-! # An input projection, at 128 columns: the claims

The launch and the reference each end with the tokens through the weight. -/

noncomputable section

namespace Cert.Reference29Ideal.Proj

open Cert.Reference29Ideal
open Idealize.ShloMosaic Idealize.SL.Sem
open Cert.Proj

/-- The reference terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
        = (times (a := 8192) (b := 128) (k := 1024) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference29Ideal := fun m ρ _ =>
  (θ_run defs _ _).mono (fun r h => ⟨fun c => (h c).2, Idealize.ShloMosaic.sem_eq_zero_of_no_sems (by decide) r.2⟩)
    (Value.run (F := Ideal) m ρ)

end Cert.Reference29Ideal.Proj

namespace Cert.Kernel29Ideal.Proj

open Cert.Kernel29Ideal Cert.Kernel29Ideal.Gen
open Idealize.ShloMosaic Idealize.SL.Sem
open Cert.Proj

/-- The launch terminates with the product, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_o m c), (h c).2⟩) (Value.run_blocks m ρ)

/-- The launch's frames, at machine words and over the reals. -/
theorem frame_words : Cert.quiescent_Kernel29 := fun m ρ _ => Cert.Kernel29.Gen.frame m ρ
theorem frame_reals : Cert.quiescent_Kernel29Ideal := fun m ρ _ => Cert.Kernel29Ideal.Gen.frame m ρ

/-- The launch against the reference, over the reals. -/
theorem algebraic : Cert.algebraic_Kernel29Ideal_Reference29Ideal := by
  intro m ρ m' ρ' _ hagree
  refine ⟨_, run m ρ, ?_⟩
  refine (θ_run _ _ _).mono (fun r h c => ?_) (Cert.Reference29Ideal.Proj.run m' ρ')
  obtain ⟨h0, h1⟩ := hagree c
  have H := h c
  rw [h0, h1] at H
  unfold result argX argW
  rw [h0, h1]
  exact H

end Cert.Kernel29Ideal.Proj

end
-- ==== Proof.Proj.GradRatesValue.lean ====
module

public import proofs.«01_k».proof.Proof.Gen.Kernel30Ideal.Value
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # What the launch of a projection's weight gradient computes, at 128 columns

Point `t` takes block `t` of the tokens; the 8 points add their products up in the result. -/

noncomputable section

namespace Cert.Kernel30Ideal.Proj

open Cert.Kernel30Ideal Cert.Kernel30Ideal.Gen
open Idealize.ShloMosaic Idealize.ShloMosaic.TcCoe Idealize.ShloMosaic.Tactic
open Idealize.SL.Sem
open Cert.Ffn Cert.Proj

variable (m : (ℓ : Loc nD τ sig) → Buf (Elt Ideal) ℓ)

/-- The arguments. -/
abbrev argD (c : Dev nD) : Mat 8192 128 .bf16 := m ((c : Thread nD τ).loc main_arg0)
abbrev argX (c : Dev nD) : Mat 8192 1024 .bf16 := m ((c : Thread nD τ).loc main_arg1)

theorem V_d (c : Dev nD) : V m c main_v0 = sheet (argD m c) := by
  entry_read; funext y; pointwise; rfl
theorem V_x (c : Dev nD) : V m c main_v1 = sheet (argX m c) := by
  entry_read; funext y; pointwise; rfl

theorem index_d : ∀ t : Fin grid0.N, cc0_transform_0 (grid0.coords t) = ![0, t.val, 0] := by decide +kernel
theorem index_x : ∀ t : Fin grid0.N, cc0_transform_1 (grid0.coords t) = ![0, t.val, 0] := by decide +kernel
theorem index_w : ∀ t : Fin grid0.N, cc0_transform_2 (grid0.coords t) = ![0, 0, 0] := by decide +kernel

section
variable (c : Dev nD) (t : Fin 8) (A : (b : Ref sig .tc) → Buf (Elt Ideal) ((c : Thread nD τ).loc b))

theorem block0 (D : Mat 8192 128 .bf16) (hA : A main_v0 = sheet D) (y : S1x1024x128.Idx) :
    ((cfg0.win 0).blk t).view.read (Elt Ideal) (A (Pipeline.arrRef spec0 0)) y = D (ix2 (tok t (y 1)) (y 2)) := by
  show A main_v0 ((win0_0.blk t).view.emb y) = _
  rw [hA]
  exact congrArg (sheet D) (place_rows t _ (fun y a => congrArg (fun n => n * S1x1024x128.size a + 1 * (y a).val) (congrFun (index_d t) a)) y)

theorem block1 (X : Mat 8192 1024 .bf16) (hA : A main_v1 = sheet X) (y : S1x1024x1024.Idx) :
    ((cfg0.win 1).blk t).view.read (Elt Ideal) (A (Pipeline.arrRef spec0 1)) y = X (ix2 (tok t (y 1)) (y 2)) := by
  show A main_v1 ((win0_1.blk t).view.emb y) = _
  rw [hA]
  exact congrArg (sheet X) (place_rows t _ (fun y a => congrArg (fun n => n * S1x1024x1024.size a + 1 * (y a).val) (congrFun (index_x t) a)) y)

/-- The result's block is the whole result. -/
theorem whole (y : S1x128x1024.Idx) : (win0_2.blk t).view.emb y = y :=
  place_all _ (fun y a => congrArg (fun n => n * S1x128x1024.size a + 1 * (y a).val) (congrFun (index_w t) a)) y
end

/-- The point's blocks. -/
theorem blk_d (c : Dev nD) (t : Fin 8) (y : S1x1024x128.Idx) : iblk m c 0 t y = argD m c (ix2 (tok t (y 1)) (y 2)) := by
  unfold iblk; exact block0 c t (V m c) _ (V_d m c) y
theorem blk_x (c : Dev nD) (t : Fin 8) (y : S1x1024x1024.Idx) : iblk m c 1 t y = argX m c (ix2 (tok t (y 1)) (y 2)) := by
  unfold iblk; exact block1 c t (V m c) _ (V_x m c) y

/-- The products of a point. -/
theorem pay1_apply (d : Vec Ideal S1x1024x128 .bf16) (x : Vec Ideal S1x1024x1024 .bf16) (j : Fin 128) (e : Fin 1024) :
    k0_pay1 (F := Ideal) d x (ix2 j e) = ∑ r : Fin 1024, d (ix3 0 r j) * x (ix3 0 r e) := by
  pointwise [k0_pay1]

theorem pay2_apply (d : Vec Ideal S1x1024x128 .bf16) (x : Vec Ideal S1x1024x1024 .bf16) (y : S1x128x1024.Idx) :
    k0_pay2 (F := Ideal) d x y = k0_pay1 (F := Ideal) d x (ix2 (y 1) (y 2)) := by
  unfold k0_pay2; generalize k0_pay1 d x = p; pointwise

theorem pay3_apply (d : Vec Ideal S1x1024x128 .bf16) (x : Vec Ideal S1x1024x1024 .bf16) (o : Vec Ideal S1x128x1024 .f32)
    (y : S1x128x1024.Idx) :
    k0_pay3 (F := Ideal) d x o y = o y + k0_pay1 (F := Ideal) d x (ix2 (y 1) (y 2)) := by
  unfold k0_pay3; generalize k0_pay1 d x = p; pointwise

/-- The terms of an entry of the gradient. -/
def terms (c : Dev nD) (j : Fin 128) (e : Fin 1024) : Fin 8192 → EReal :=
  fun r => argD m c (ix2 r j) * argX m c (ix2 r e)

theorem product (c : Dev nD) (t : Fin 8) (j : Fin 128) (e : Fin 1024) :
    k0_pay1 (F := Ideal) (iblk m c 0 t) (iblk m c 1 t) (ix2 j e) = ∑ r : Fin 1024, terms m c j e (tok t r) :=
  (pay1_apply _ _ j e).trans (Finset.sum_congr rfl fun r _ => by rw [blk_d, blk_x]; rfl)

theorem first (c : Dev nD) (t : Fin cfg0.N) (h0 : t.val % 8 = 0) (h1 : ¬1 ≤ t.val) :
    outsAt0 m c t.val t.isLt = k0_pay2 (F := Ideal) (iblk m c 0 t) (iblk m c 1 t) := by
  rw [outsAt0_A m c t h0 h1]
  frame_out

theorem later (c : Dev nD) (t : Fin cfg0.N) (h0 : ¬t.val % 8 = 0) (h1 : 1 ≤ t.val) :
    outsAt0 m c t.val t.isLt = k0_pay3 (F := Ideal) (iblk m c 0 t) (iblk m c 1 t)
      (outsAt0 m c (t.val - 1) (Nat.lt_of_le_of_lt (Nat.sub_le _ _) t.isLt)) := by
  rw [outsAt0_B m c t h0 h1]
  frame_out

/-- An entry of the result's block after point `n`. -/
def entry (c : Dev nD) (y : S1x128x1024.Idx) (n : ℕ) (h : n < 8) : EReal := outsAt0 m c n (lt_of_lt_of_eq h N_0.symm) y

theorem entry_first (c : Dev nD) (y : S1x128x1024.Idx) (h : 0 < 8) :
    entry m c y 0 h = ∑ r, terms m c (y 1) (y 2) (tok ⟨0, h⟩ r) := by
  have e := congrFun (first m c ⟨0, lt_of_lt_of_eq h N_0.symm⟩ (Nat.zero_mod 8) (Nat.not_succ_le_zero 0)) y
  exact e.trans ((pay2_apply _ _ y).trans (product m c ⟨0, h⟩ _ _))

theorem entry_later (c : Dev nD) (y : S1x128x1024.Idx) (n : ℕ) (h : n + 1 < 8) :
    entry m c y (n + 1) h = entry m c y n (Nat.lt_of_succ_lt h) + ∑ r, terms m c (y 1) (y 2) (tok ⟨n + 1, h⟩ r) := by
  have e := congrFun (later m c ⟨n + 1, lt_of_lt_of_eq h N_0.symm⟩ (show ¬(n + 1) % 8 = 0 by omega) (show 1 ≤ n + 1 by omega)) y
  exact e.trans ((pay3_apply _ _ _ y).trans (congrArg₂ (fun a b : EReal => a + b) (Eq.refl (entry m c y n (Nat.lt_of_succ_lt h)))
    (product m c ⟨n + 1, h⟩ _ _)))

/-- The gradient. -/
def grad (c : Dev nD) : Sheet 128 1024 .f32 := tTimes (argD m c) (argX m c)

/-- After the last point, the result's block is the gradient. -/
theorem total (c : Dev nD) (y : S1x128x1024.Idx) (h : 7 < 8) : entry m c y 7 h = grad m c y :=
  fold_blocks (terms m c (y 1) (y 2)) (entry m c y) (entry_first m c y) (entry_later m c y)

theorem final_w (c : Dev nD) : (dats m 0 c).arrAt 2 cfg0.N = grad m c := by
  refine (dats m 0 c).arrAt_eq_of_covers 2 _ (by decide +kernel) fun t hf y => ?_
  have h7 : t.val = 7 := (by decide +kernel : ∀ t : Fin cfg0.N, (cfg0.win 2).flush t = true → t.val = 7) t hf
  obtain ⟨n, hn⟩ := t
  obtain rfl : n = 7 := h7
  rw [after0_2]
  have e : outsAt0 m c 7 hn y = entry m c y 7 (by decide) := rfl
  rw [e, total]
  exact (congrArg (grad m c) (whole ⟨7, by decide⟩ y)).symm

end Cert.Kernel30Ideal.Proj

end
-- ==== Proof.Proj.GradRatesClaims.lean ====
module

public import proofs.«01_k».proof.Defs
public import proofs.«01_k».proof.Proof.Gen.Kernel30.Frame
public import proofs.«01_k».proof.Proof.Gen.Reference30Ideal.Run
public import proofs.«01_k».proof.Proof.Proj.GradRatesValue

@[expose] public section

set_option maxRecDepth 16384

/-! # A projection's weight gradient, at 128 columns: the claims

The launch and the reference each end with the gradient of the weight, transposed. -/

noncomputable section

namespace Cert.Reference30Ideal.Proj

open Cert.Reference30Ideal
open Idealize.ShloMosaic Idealize.SL.Sem
open Cert.Proj

/-- The reference terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
        = (tTimes (a := 128) (b := 1024) (k := 8192) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c).1.trans ?_, (h c).2⟩
    funext y; pointwise; rfl) (Value.run m ρ)

/-- The reference's frame. -/
theorem frame : Cert.quiescent_Reference30Ideal := fun m ρ _ =>
  (θ_run defs _ _).mono (fun r h => ⟨fun c => (h c).2, Idealize.ShloMosaic.sem_eq_zero_of_no_sems (by decide) r.2⟩)
    (Value.run (F := Ideal) m ρ)

end Cert.Reference30Ideal.Proj

namespace Cert.Kernel30Ideal.Proj

open Cert.Kernel30Ideal Cert.Kernel30Ideal.Gen
open Idealize.ShloMosaic Idealize.SL.Sem
open Cert.Proj

/-- The launch terminates with the gradient, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_w m c), (h c).2⟩) (Value.run_blocks m ρ)

/-- The launch's frames, at machine words and over the reals. -/
theorem frame_words : Cert.quiescent_Kernel30 := fun m ρ _ => Cert.Kernel30.Gen.frame m ρ
theorem frame_reals : Cert.quiescent_Kernel30Ideal := fun m ρ _ => Cert.Kernel30Ideal.Gen.frame m ρ

/-- The launch against the reference, over the reals. -/
theorem algebraic : Cert.algebraic_Kernel30Ideal_Reference30Ideal := by
  intro m ρ m' ρ' _ hagree
  refine ⟨_, run m ρ, ?_⟩
  refine (θ_run _ _ _).mono (fun r h c => ?_) (Cert.Reference30Ideal.Proj.run m' ρ')
  obtain ⟨h0, h1⟩ := hagree c
  have H := h c
  rw [h0, h1] at H
  unfold grad argD argX
  rw [h0, h1]
  exact H

end Cert.Kernel30Ideal.Proj

end
-- ==== Proof.Norm.Spec.lean ====
module

public import proofs.«01_k».proof.Proof.Proj.Spec

@[expose] public section

/-! # The modulated norm, backwards

A token `x` of 1024 channels is divided by its root mean square, multiplied by a gain `g` and by `1 + s`, and shifted.
The gradients below are at the cotangent `d` of the result; `u` is what reaches `x` along the other path.  The tokens
are 4 sequences of 2048; a sequence has its own scale and shift. -/

noncomputable section

namespace Cert.Norm

open Idealize.ShloMosaic
open Cert.Ffn Cert.Proj

/-- Sequences of tokens; one channel vector; a channel vector per sequence. -/
abbrev Cube := Vec Ideal (⟨3, ![4, 2048, 1024]⟩ : Shape) .f32
abbrev Line := Vec Ideal (⟨1, ![1024]⟩ : Shape) .f32
abbrev PerSeq := Vec Ideal (⟨3, ![4, 1, 1024]⟩ : Shape) .f32
/-- One token. -/
abbrev Row := Fin 1024 → EReal

/-- The mean square of a token, with the constant that keeps it from zero; its inverse root. -/
def mean (x : Row) : EReal :=
  Ideal.div (∑ e : Fin 1024, x e * x e) (Ideal.ofBits FTy.f32 0x44800000#32) + Ideal.ofBits FTy.f32 0x358637BD#32
def inv (x : Row) : EReal := Ideal.rsqrt (mean x)

/-- The cotangent of the normed token before its gain, and of the normed token. -/
def scaled (s d : Row) : Row := fun e => d e * (1 + s e)
def pull (g s d : Row) : Row := fun e => scaled s d e * g e

/-- Half of what reaches `x` through its mean square, per entry of `x`. -/
def through (x g s d : Row) : EReal :=
  Ideal.div ((∑ e : Fin 1024, x e * pull g s d e) * (Ideal.ofBits FTy.f32 0xBF000000#32 * Ideal.div (inv x) (mean x)))
    (Ideal.ofBits FTy.f32 0x44800000#32)

/-- What reaches `x`. -/
def reach (x g s d u : Row) : Row :=
  fun e => u e + (pull g s d e * inv x + x e * through x g s d + through x g s d * x e)

/-- Token `r` of sequence `b`. -/
def row (X : Cube) (b : Fin 4) (r : Fin 2048) : Row := fun e => X (ix3 b r e)
def line (g : Line) : Row := fun e => g (ix1 e)
def scaleOf (S : Mat 4 1024 .f32) (b : Fin 4) : Row := fun e => S (ix2 b e)

/-- The gradients of the tokens, the gain, the shift and the scale. -/
def gradX (X : Cube) (g : Line) (S : Mat 4 1024 .f32) (D U : Cube) : Cube :=
  fun y => reach (row X (y 0) (y 1)) (line g) (scaleOf S (y 0)) (row D (y 0) (y 1)) (row U (y 0) (y 1)) (y 2)
def gainTerm (X : Cube) (S : Mat 4 1024 .f32) (D : Cube) (e : Fin 1024) (b : Fin 4) (r : Fin 2048) : EReal :=
  row X b r e * inv (row X b r) * scaled (scaleOf S b) (row D b r) e
def gradGain (X : Cube) (S : Mat 4 1024 .f32) (D : Cube) : Mat 1 1024 .f32 :=
  fun y => ∑ b : Fin 4, ∑ r : Fin 2048, gainTerm X S D (y 1) b r
def gradShift (D : Cube) : PerSeq := fun y => ∑ r : Fin 2048, row D (y 0) r (y 2)
def scaleTerm (X : Cube) (g : Line) (D : Cube) (e : Fin 1024) (b : Fin 4) (r : Fin 2048) : EReal :=
  row X b r e * inv (row X b r) * line g e * row D b r e
def gradScale (X : Cube) (g : Line) (D : Cube) : PerSeq := fun y => ∑ r : Fin 2048, scaleTerm X g D (y 2) (y 0) r

/-- An index by its coordinates. -/
theorem spread {a b n : ℕ} (y : (⟨3, ![a, b, n]⟩ : Shape).Idx) : ∃ i r e, y = ix3 i r e :=
  ⟨y 0, y 1, y 2, funext fun x => match x with | 0 => rfl | 1 => rfl | 2 => rfl⟩

/-! ## Sums taken block by block -/

/-- A sum over `a * b` terms, taken in `a` blocks of `b`. -/
theorem sum_split {N : ℕ} (a b : ℕ) (h : a * b = N) (f : Fin N → EReal) :
    ∑ i : Fin N, f i = ∑ i : Fin a, ∑ j : Fin b, f ⟨i.val * b + j.val, by
      rw [← h]; calc i.val * b + j.val < i.val * b + b := by omega
        _ = (i.val + 1) * b := by ring
        _ ≤ a * b := Nat.mul_le_mul_right _ i.isLt⟩ := by
  subst h
  rw [← finProdFinEquiv.sum_comp, Fintype.sum_prod_type]
  refine Finset.sum_congr rfl fun i _ => Finset.sum_congr rfl fun j _ => congrArg f (Fin.ext ?_)
  show j.val + b * i.val = i.val * b + j.val
  ring

/-- What an accumulator holds after its last point. -/
theorem gathered {N : ℕ} (P : Fin (N + 1) → EReal) (acc : (n : ℕ) → n < N + 1 → EReal)
    (first : ∀ h, acc 0 h = P ⟨0, h⟩)
    (later : ∀ n (h : n + 1 < N + 1), acc (n + 1) h = acc n (Nat.lt_of_succ_lt h) + P ⟨n + 1, h⟩) :
    acc N (Nat.lt_succ_self N) = ∑ k, P k := by
  have key : ∀ n (h : n < N + 1), acc n h = upto P (n + 1) := by
    intro n
    induction n with
    | zero =>
      intro h
      rw [first, upto_add P 0 1 h, upto_zero, zero_add]
      exact (Fin.sum_univ_one (fun r : Fin 1 => P ⟨0 + r.val, by omega⟩)).symm
    | succ n ih =>
      intro h
      rw [later n h, ih, upto_add P (n + 1) 1 h]
      exact congrArg₂ (fun a b : EReal => a + b) rfl (Fin.sum_univ_one (fun r : Fin 1 => P ⟨n + 1 + r.val, by omega⟩)).symm
  rw [key N, upto_all]

end Cert.Norm

end
-- ==== Proof.Norm.BackValue.lean ====
module

public import proofs.«01_k».proof.Proof.Gen.Kernel31Ideal.Value
public import proofs.«01_k».proof.Proof.Norm.Spec
public import Idealize.ShloMosaic.Lib.Pointwise
public import Idealize.ShloMosaic.Lib.Pipeline.ValueKit
public import Idealize.ShloMosaic.Lib.Claim

@[expose] public section

set_option maxRecDepth 16384

/-! # What the launch of the modulated norm's backward pass computes

Point `t` takes 512 tokens of sequence `t / 4`.  The gradient of the tokens is written point by point; the gain's
gradient is summed over all points, the shift's and the scale's over the 4 points of a sequence. -/

noncomputable section

namespace Cert.Kernel31Ideal.Norm

open Cert.Kernel31Ideal Cert.Kernel31Ideal.Gen
open Idealize.ShloMosaic Idealize.ShloMosaic.TcCoe Idealize.ShloMosaic.Tactic
open Idealize.SL.Sem
open Cert.Ffn Cert.Proj Cert.Norm

variable (m : (ℓ : Loc nD τ sig) → Buf (Elt Ideal) ℓ)

/-- The arguments the results depend on. -/
abbrev argX (c : Dev nD) : Cube := m ((c : Thread nD τ).loc main_arg0)
abbrev argG (c : Dev nD) : Line := m ((c : Thread nD τ).loc main_arg1)
abbrev argS (c : Dev nD) : Mat 4 1024 .f32 := m ((c : Thread nD τ).loc main_arg3)
abbrev argD (c : Dev nD) : Cube := m ((c : Thread nD τ).loc main_arg4)
abbrev argU (c : Dev nD) : Cube := m ((c : Thread nD τ).loc main_arg5)

theorem V_x (c : Dev nD) : V m c main_arg0 = argX m c := by entry_read; rfl
theorem V_g (c : Dev nD) : V m c main_v0 = fun y => argG m c (ix1 (y 1)) := by
  entry_read; funext y; pointwise
theorem V_s (c : Dev nD) : V m c main_v2 = fun y => argS m c (ix2 (y 0) (y 2)) := by
  entry_read; funext y; pointwise
theorem V_d (c : Dev nD) : V m c main_arg4 = argD m c := by entry_read; rfl
theorem V_u (c : Dev nD) : V m c main_arg5 = argU m c := by entry_read; rfl

/-- The sequence and the tokens of a point. -/
def seq (t : Fin 16) : Fin 4 := ⟨t.val / 4, by omega⟩
def spot (t : Fin 16) (r : Fin 512) : Fin 2048 := ⟨t.val % 4 * 512 + r.val, by omega⟩

theorem index_t : ∀ t : Fin grid0.N, cc0_transform_0 (grid0.coords t) = ![t.val / 4, t.val % 4, 0] := by decide +kernel
theorem index_g : ∀ t : Fin grid0.N, cc0_transform_1 (grid0.coords t) = ![0, 0] := by decide +kernel
theorem index_s : ∀ t : Fin grid0.N, cc0_transform_3 (grid0.coords t) = ![t.val / 4, 0, 0] := by decide +kernel

/-- Where a block of tokens stands. -/
theorem place_tokens (t : Fin 16) (emb : S1x512x1024.Idx → S4x2048x1024.Idx) (h : Stands ![t.val / 4, t.val % 4, 0] emb)
    (y : S1x512x1024.Idx) : emb y = ix3 (seq t) (spot t (y 1)) (y 2) := by
  funext x
  apply Fin.ext
  rw [h]
  match x with
  | 0 => show t.val / 4 * 1 + 1 * (y 0).val = t.val / 4; have h0 : (y 0).val < 1 := (y 0).isLt; omega
  | 1 => show t.val % 4 * 512 + 1 * (y 1).val = t.val % 4 * 512 + (y 1).val; omega
  | 2 => show 0 * 1024 + 1 * (y 2).val = (y 2).val; omega

/-- Where a sequence's vector stands. -/
theorem place_seq (t : Fin 16) (emb : S1x1x1024.Idx → S4x1x1024.Idx) (h : Stands ![t.val / 4, 0, 0] emb)
    (y : S1x1x1024.Idx) : emb y = ix3 (seq t) (y 1) (y 2) := by
  funext x
  apply Fin.ext
  rw [h]
  match x with
  | 0 => show t.val / 4 * 1 + 1 * (y 0).val = t.val / 4; have h0 : (y 0).val < 1 := (y 0).isLt; omega
  | 1 => show 0 * 1 + 1 * (y 1).val = (y 1).val; omega
  | 2 => show 0 * 1024 + 1 * (y 2).val = (y 2).val; omega

section
variable (c : Dev nD) (t : Fin 16) (A : (b : Ref sig .tc) → Buf (Elt Ideal) ((c : Thread nD τ).loc b))

theorem stand_t (y : S1x512x1024.Idx) : (win0_0.blk t).view.emb y = (ix3 (seq t) (spot t (y 1)) (y 2) : S4x2048x1024.Idx) :=
  place_tokens t _ (fun y a => congrArg (fun n => n * S1x512x1024.size a + 1 * (y a).val) (congrFun (index_t t) a)) y
theorem stand_s (y : S1x1x1024.Idx) : (win0_3.blk t).view.emb y = (ix3 (seq t) (y 1) (y 2) : S4x1x1024.Idx) :=
  place_seq t _ (fun y a => congrArg (fun n => n * S1x1x1024.size a + 1 * (y a).val) (congrFun (index_s t) a)) y
theorem stand_g (y : S1x1024.Idx) : (win0_1.blk t).view.emb y = y := by
  funext x
  apply Fin.ext
  refine (congrArg (fun n => n * S1x1024.size x + 1 * (y x).val) (congrFun (index_g t) x)).trans ?_
  match x with
  | 0 => show 0 * 1 + 1 * (y 0).val = (y 0).val; omega
  | 1 => show 0 * 1024 + 1 * (y 1).val = (y 1).val; omega

theorem block0 (X : Cube) (hA : A main_arg0 = X) (y : S1x512x1024.Idx) :
    ((cfg0.win 0).blk t).view.read (Elt Ideal) (A (Pipeline.arrRef spec0 0)) y = X (ix3 (seq t) (spot t (y 1)) (y 2)) := by
  show A main_arg0 ((win0_0.blk t).view.emb y) = _
  rw [hA]
  exact congrArg X (stand_t t y)
theorem block4 (X : Cube) (hA : A main_arg4 = X) (y : S1x512x1024.Idx) :
    ((cfg0.win 4).blk t).view.read (Elt Ideal) (A (Pipeline.arrRef spec0 4)) y = X (ix3 (seq t) (spot t (y 1)) (y 2)) := by
  show A main_arg4 ((win0_0.blk t).view.emb y) = _
  rw [hA]
  exact congrArg X (stand_t t y)
theorem block5 (X : Cube) (hA : A main_arg5 = X) (y : S1x512x1024.Idx) :
    ((cfg0.win 5).blk t).view.read (Elt Ideal) (A (Pipeline.arrRef spec0 5)) y = X (ix3 (seq t) (spot t (y 1)) (y 2)) := by
  show A main_arg5 ((win0_0.blk t).view.emb y) = _
  rw [hA]
  exact congrArg X (stand_t t y)
theorem block1 (g : Mat 1 1024 .f32) (hA : A main_v0 = g) (y : S1x1024.Idx) :
    ((cfg0.win 1).blk t).view.read (Elt Ideal) (A (Pipeline.arrRef spec0 1)) y = g y := by
  show A main_v0 ((win0_1.blk t).view.emb y) = _
  rw [hA]
  exact congrArg g (stand_g t y)
theorem block3 (s : PerSeq) (hA : A main_v2 = s) (y : S1x1x1024.Idx) :
    ((cfg0.win 3).blk t).view.read (Elt Ideal) (A (Pipeline.arrRef spec0 3)) y = s (ix3 (seq t) (y 1) (y 2)) := by
  show A main_v2 ((win0_3.blk t).view.emb y) = _
  rw [hA]
  exact congrArg s (stand_s t y)
end

/-- The point's blocks. -/
theorem blk_x (c : Dev nD) (t : Fin 16) (r : Fin 512) (e : Fin 1024) :
    iblk m c 0 t (ix3 0 r e) = row (argX m c) (seq t) (spot t r) e := by
  unfold iblk; exact block0 c t (V m c) _ (V_x m c) _
theorem blk_d (c : Dev nD) (t : Fin 16) (r : Fin 512) (e : Fin 1024) :
    iblk m c 4 t (ix3 0 r e) = row (argD m c) (seq t) (spot t r) e := by
  unfold iblk; exact block4 c t (V m c) _ (V_d m c) _
theorem blk_u (c : Dev nD) (t : Fin 16) (r : Fin 512) (e : Fin 1024) :
    iblk m c 5 t (ix3 0 r e) = row (argU m c) (seq t) (spot t r) e := by
  unfold iblk; exact block5 c t (V m c) _ (V_u m c) _
theorem blk_g (c : Dev nD) (t : Fin 16) (e : Fin 1024) : iblk m c 1 t (ix2 0 e) = line (argG m c) e := by
  unfold iblk; exact block1 c t (V m c) _ (V_g m c) _
theorem blk_s (c : Dev nD) (t : Fin 16) (e : Fin 1024) : iblk m c 3 t (ix3 0 0 e) = scaleOf (argS m c) (seq t) e := by
  unfold iblk; exact block3 c t (V m c) _ (V_s m c) _

/-! ## What a point computes -/

section
variable (x d u : Vec Ideal S1x512x1024 .f32) (g : Vec Ideal S1x1024 .f32) (s : Vec Ideal S1x1x1024 .f32)

/-- Token `r` of a block, and a block's single vectors. -/
def tokenOf (x : Vec Ideal S1x512x1024 .f32) (r : Fin 512) : Row := fun e => x (ix3 0 r e)
def gainOf (g : Vec Ideal S1x1024 .f32) : Row := fun e => g (ix2 0 e)
def vectorOf (s : Vec Ideal S1x1x1024 .f32) : Row := fun e => s (ix3 0 0 e)

theorem pay_inv (i : S512x1.Idx) : k0_pay7 (F := Ideal) x i = inv (tokenOf x (i 0)) := by
  pointwise [k0_pay7, k0_pay6, k0_pay4]; rfl
theorem pay_half (i : S512x1.Idx) : k0_pay8 (F := Ideal) x i
    = Ideal.ofBits FTy.f32 0xBF000000#32 * Ideal.div (inv (tokenOf x (i 0))) (mean (tokenOf x (i 0))) := by
  pointwise [k0_pay8, k0_pay7, k0_pay6, k0_pay4]; rfl
theorem pay_scaled (i : S512x1024.Idx) : k0_pay13 (F := Ideal) d s i = scaled (vectorOf s) (tokenOf d (i 0)) (i 1) := by
  pointwise [k0_pay13, k0_pay10, k0_pay2]; rfl

/-- The gradient of the tokens. -/
theorem pay_reach (r : Fin 512) (e : Fin 1024) :
    k0_pay16 (F := Ideal) (k0_pay3 u) (k0_pay4 x) (k0_pay5 g) (k0_pay7 x) (k0_pay8 x) (k0_pay13 d s) (ix3 0 r e)
      = reach (tokenOf x r) (gainOf g) (vectorOf s) (tokenOf d r) (tokenOf u r) e := by
  pointwise [k0_pay16, k0_pay3, k0_pay4, k0_pay5, pay_inv, pay_half, pay_scaled]
  simp only [Fin.sum_univ_one]
  unfold reach
  rw [← add_assoc, ← add_assoc]
  rfl

/-- The terms of the gain's gradient over a point. -/
theorem pay_gain (y : S1x1024.Idx) : k0_pay15 (F := Ideal) (k0_pay14 d x s) y
    = ∑ r : Fin 512, tokenOf x r (y 1) * inv (tokenOf x r) * scaled (vectorOf s) (tokenOf d r) (y 1) := by
  pointwise [k0_pay15, k0_pay14, k0_pay9, k0_pay4, pay_inv, pay_scaled]
  rfl
theorem pay_gain_add (o : Vec Ideal S1x1024 .f32) (y : S1x1024.Idx) : k0_pay17 (F := Ideal) (k0_pay14 d x s) o y
    = o y + k0_pay15 (F := Ideal) (k0_pay14 d x s) y := by
  unfold k0_pay17; generalize k0_pay15 (F := Ideal) (k0_pay14 d x s) = p; pointwise

/-- The terms of the shift's gradient. -/
theorem pay_shift (y : S1x1x1024.Idx) : k0_pay18 (F := Ideal) (k0_pay11 d) y = ∑ r : Fin 512, tokenOf d r (y 2) := by
  pointwise [k0_pay18, k0_pay11, k0_pay2]
  rfl
theorem pay_shift_add (o : Vec Ideal S1x1x1024 .f32) (y : S1x1x1024.Idx) : k0_pay19 (F := Ideal) (k0_pay11 d) o y
    = o y + k0_pay18 (F := Ideal) (k0_pay11 d) y := by
  unfold k0_pay19; generalize k0_pay18 (F := Ideal) (k0_pay11 d) = p; pointwise

/-- The terms of the scale's gradient. -/
theorem pay_scale (y : S1x1x1024.Idx) : k0_pay20 (F := Ideal) (k0_pay12 d x g) y
    = ∑ r : Fin 512, tokenOf x r (y 2) * inv (tokenOf x r) * gainOf g (y 2) * tokenOf d r (y 2) := by
  pointwise [k0_pay20, k0_pay12, k0_pay9, k0_pay10, k0_pay2, k0_pay5, k0_pay4, pay_inv]
  rfl
theorem pay_scale_add (p o : FVec Ideal S1x1x1024 .f32) (y : S1x1x1024.Idx) : k0_pay1 (F := Ideal) p o y = o y + p y := by
  pointwise [k0_pay1]
end

/-! ## What a point leaves

The first point of all sets the gain's gradient, the first point of a sequence its shift's and scale's; the other points
add to what the point before left. -/

section
variable (c : Dev nD) (t : Fin cfg0.N)

/-- What the point before left. -/
abbrev past : Vec Ideal S1x512x1024 .f32 × Vec Ideal S1x1024 .f32 × Vec Ideal S1x1x1024 .f32 × Vec Ideal S1x1x1024 .f32 :=
  outsAt0 m c (t.val - 1) (Nat.lt_of_le_of_lt (Nat.sub_le _ _) t.isLt)

/-- A point's own values. -/
abbrev ownX := k0_pay16 (F := Ideal) (k0_pay3 (iblk m c 5 t)) (k0_pay4 (iblk m c 0 t)) (k0_pay5 (iblk m c 1 t))
  (k0_pay7 (iblk m c 0 t)) (k0_pay8 (iblk m c 0 t)) (k0_pay13 (iblk m c 4 t) (iblk m c 3 t))
abbrev termsG := k0_pay14 (F := Ideal) (iblk m c 4 t) (iblk m c 0 t) (iblk m c 3 t)
abbrev sumH := k0_pay11 (F := Ideal) (iblk m c 4 t)
abbrev sumS := k0_pay20 (F := Ideal) (k0_pay12 (iblk m c 4 t) (iblk m c 0 t) (iblk m c 1 t))

theorem at_A (h0 : t.val % 16 = 0) (h1 : ¬1 ≤ t.val) (h2 : t.val % 4 = 0) (h3 : ¬1 ≤ t.val % 4) :
    outsAt0 m c t.val t.isLt = (ownX m c t, k0_pay15 (F := Ideal) (termsG m c t), k0_pay18 (F := Ideal) (sumH m c t), sumS m c t) := by
  rw [outsAt0_A m c t h0 h1 h2 h3 h2 h3]
  refine Prod.ext ?_ (Prod.ext ?_ (Prod.ext ?_ ?_)) <;> frame_out

theorem at_B (h0 : ¬t.val % 16 = 0) (h1 : 1 ≤ t.val) (h2 : ¬t.val % 4 = 0) (h3 : 1 ≤ t.val % 4) :
    outsAt0 m c t.val t.isLt = (ownX m c t, k0_pay17 (F := Ideal) (termsG m c t) (past m c t).2.1,
      k0_pay19 (F := Ideal) (sumH m c t) (past m c t).2.2.1, k0_pay1 (F := Ideal) (sumS m c t) (past m c t).2.2.2) := by
  rw [outsAt0_B m c t h0 h1 h2 h3 h2 h3]
  refine Prod.ext ?_ (Prod.ext ?_ (Prod.ext ?_ ?_)) <;> frame_out

theorem at_C (h0 : ¬t.val % 16 = 0) (h1 : 1 ≤ t.val) (h2 : t.val % 4 = 0) (h3 : ¬1 ≤ t.val % 4) :
    outsAt0 m c t.val t.isLt = (ownX m c t, k0_pay17 (F := Ideal) (termsG m c t) (past m c t).2.1,
      k0_pay18 (F := Ideal) (sumH m c t), sumS m c t) := by
  rw [outsAt0_C m c t h0 h1 h2 h3 h2 h3]
  refine Prod.ext ?_ (Prod.ext ?_ (Prod.ext ?_ ?_)) <;> frame_out

theorem below : t.val < 16 := lt_of_lt_of_eq t.isLt N_0

theorem left_x : (outsAt0 m c t.val t.isLt).1 = ownX m c t := by
  have := below t
  by_cases h : t.val = 0
  · exact congrArg Prod.fst (at_A m c t (by omega) (by omega) (by omega) (by omega))
  · by_cases h' : t.val % 4 = 0
    · exact congrArg Prod.fst (at_C m c t (by omega) (by omega) (by omega) (by omega))
    · exact congrArg Prod.fst (at_B m c t (by omega) (by omega) (by omega) (by omega))

theorem left_g_first (h : t.val = 0) : (outsAt0 m c t.val t.isLt).2.1 = k0_pay15 (F := Ideal) (termsG m c t) :=
  congrArg (fun p => p.2.1) (at_A m c t (by omega) (by omega) (by omega) (by omega))
theorem left_g_later (h : ¬t.val = 0) :
    (outsAt0 m c t.val t.isLt).2.1 = k0_pay17 (F := Ideal) (termsG m c t) (past m c t).2.1 := by
  have := below t
  by_cases h' : t.val % 4 = 0
  · exact congrArg (fun p => p.2.1) (at_C m c t (by omega) (by omega) (by omega) (by omega))
  · exact congrArg (fun p => p.2.1) (at_B m c t (by omega) (by omega) (by omega) (by omega))

theorem left_h_first (h : t.val % 4 = 0) : (outsAt0 m c t.val t.isLt).2.2.1 = k0_pay18 (F := Ideal) (sumH m c t) := by
  have := below t
  by_cases h' : t.val = 0
  · exact congrArg (fun p => p.2.2.1) (at_A m c t (by omega) (by omega) (by omega) (by omega))
  · exact congrArg (fun p => p.2.2.1) (at_C m c t (by omega) (by omega) (by omega) (by omega))
theorem left_h_later (h : ¬t.val % 4 = 0) :
    (outsAt0 m c t.val t.isLt).2.2.1 = k0_pay19 (F := Ideal) (sumH m c t) (past m c t).2.2.1 :=
  congrArg (fun p => p.2.2.1) (at_B m c t (by omega) (by omega) (by omega) (by omega))

theorem left_s_first (h : t.val % 4 = 0) : (outsAt0 m c t.val t.isLt).2.2.2 = sumS m c t := by
  have := below t
  by_cases h' : t.val = 0
  · exact congrArg (fun p => p.2.2.2) (at_A m c t (by omega) (by omega) (by omega) (by omega))
  · exact congrArg (fun p => p.2.2.2) (at_C m c t (by omega) (by omega) (by omega) (by omega))
theorem left_s_later (h : ¬t.val % 4 = 0) :
    (outsAt0 m c t.val t.isLt).2.2.2 = k0_pay1 (F := Ideal) (sumS m c t) (past m c t).2.2.2 :=
  congrArg (fun p => p.2.2.2) (at_B m c t (by omega) (by omega) (by omega) (by omega))
end

/-! ## The point's values, in the arguments -/

section
variable (c : Dev nD) (t : Fin 16)

theorem token_x (r : Fin 512) : tokenOf (iblk m c 0 t) r = row (argX m c) (seq t) (spot t r) := funext fun e => blk_x m c t r e
theorem token_d (r : Fin 512) : tokenOf (iblk m c 4 t) r = row (argD m c) (seq t) (spot t r) := funext fun e => blk_d m c t r e
theorem token_u (r : Fin 512) : tokenOf (iblk m c 5 t) r = row (argU m c) (seq t) (spot t r) := funext fun e => blk_u m c t r e
theorem gain_g : gainOf (iblk m c 1 t) = line (argG m c) := funext fun e => blk_g m c t e
theorem vector_s : vectorOf (iblk m c 3 t) = scaleOf (argS m c) (seq t) := funext fun e => blk_s m c t e

/-- The results. -/
def resX (c : Dev nD) : Cube := gradX (argX m c) (argG m c) (argS m c) (argD m c) (argU m c)
def resG (c : Dev nD) : Mat 1 1024 .f32 := gradGain (argX m c) (argS m c) (argD m c)
def resH (c : Dev nD) : PerSeq := gradShift (argD m c)
def resS (c : Dev nD) : PerSeq := gradScale (argX m c) (argG m c) (argD m c)

theorem value_x (r : Fin 512) (e : Fin 1024) : ownX m c t (ix3 0 r e) = resX m c (ix3 (seq t) (spot t r) e) := by
  refine (pay_reach _ _ _ _ _ r e).trans ?_
  rw [token_x, token_d, token_u, gain_g, vector_s]
  rfl

/-- A point's share of an entry of the other gradients. -/
def shareG (e : Fin 1024) : EReal := ∑ r : Fin 512, gainTerm (argX m c) (argS m c) (argD m c) e (seq t) (spot t r)
def shareH (e : Fin 1024) : EReal := ∑ r : Fin 512, row (argD m c) (seq t) (spot t r) e
def shareS (e : Fin 1024) : EReal := ∑ r : Fin 512, scaleTerm (argX m c) (argG m c) (argD m c) e (seq t) (spot t r)

theorem value_g (y : S1x1024.Idx) : k0_pay15 (F := Ideal) (termsG m c t) y = shareG m c t (y 1) := by
  refine (pay_gain _ _ _ y).trans ?_
  unfold shareG
  refine Finset.sum_congr rfl fun r _ => ?_
  rw [token_x, token_d, vector_s]
  rfl
theorem value_h (y : S1x1x1024.Idx) : k0_pay18 (F := Ideal) (sumH m c t) y = shareH m c t (y 2) := by
  refine (pay_shift _ y).trans ?_
  unfold shareH
  refine Finset.sum_congr rfl fun r _ => ?_
  rw [token_d]
theorem value_s (y : S1x1x1024.Idx) : sumS m c t y = shareS m c t (y 2) := by
  refine (pay_scale _ _ _ y).trans ?_
  unfold shareS
  refine Finset.sum_congr rfl fun r _ => ?_
  rw [token_x, token_d, gain_g]
  rfl
end

/-! ## The results -/

section
variable (c : Dev nD)

theorem tokens_all (t : Fin 16) (f : Fin 4 → Fin 2048 → EReal) (i j : Fin 4) (ht : t.val = i.val * 4 + j.val) :
    ∑ r : Fin 512, f (seq t) (spot t r) = ∑ r : Fin 512, f i ⟨j.val * 512 + r.val, by omega⟩ := by
  have hs : seq t = i := Fin.ext (by show t.val / 4 = i.val; omega)
  refine Finset.sum_congr rfl fun r _ => congrArg₂ f hs (Fin.ext ?_)
  show t.val % 4 * 512 + r.val = j.val * 512 + r.val
  omega

/-- The shares of the sixteen points, and of the four points of a sequence. -/
theorem total_all (f : Fin 4 → Fin 2048 → EReal) :
    ∑ t : Fin 16, ∑ r : Fin 512, f (seq t) (spot t r) = ∑ b : Fin 4, ∑ r : Fin 2048, f b r := by
  rw [sum_split 4 4 rfl]
  refine Finset.sum_congr rfl fun b _ => ?_
  rw [sum_split 4 512 rfl (f b)]
  exact Finset.sum_congr rfl fun j _ => tokens_all _ f b j rfl

theorem total_seq (b : Fin 4) (f : Fin 4 → Fin 2048 → EReal) :
    ∑ j : Fin 4, ∑ r : Fin 512, f (seq ⟨b.val * 4 + j.val, by omega⟩) (spot ⟨b.val * 4 + j.val, by omega⟩ r)
      = ∑ r : Fin 2048, f b r := by
  rw [sum_split 4 512 rfl (f b)]
  exact Finset.sum_congr rfl fun j _ => tokens_all _ f b j rfl

/-- What point `n` leaves of the gain's gradient. -/
def heldG (y : S1x1024.Idx) (n : ℕ) (h : n < 15 + 1) : EReal := (outsAt0 m c n (lt_of_lt_of_eq h N_0.symm)).2.1 y

theorem heldG_eq (y : S1x1024.Idx) (n : ℕ) (h : n < cfg0.N) : (outsAt0 m c n h).2.1 y = heldG m c y n (lt_of_lt_of_eq h N_0) := rfl

theorem heldG_first (y : S1x1024.Idx) (t : Fin 16) (e : t.val = 0) : heldG m c y t.val t.isLt = shareG m c t (y 1) :=
  (congrFun (left_g_first m c t e) y).trans (value_g m c t y)

theorem heldG_later (y : S1x1024.Idx) (t : Fin 16) (n : ℕ) (h : n < 15 + 1) (e : t.val = n + 1) :
    heldG m c y t.val t.isLt = heldG m c y n h + shareG m c t (y 1) := by
  obtain rfl : n = t.val - 1 := by omega
  refine (congrFun (left_g_later m c t (by omega)) y).trans ((pay_gain_add _ _ _ _ y).trans ?_)
  exact congrArg (fun v : EReal => heldG m c y (t.val - 1) h + v) (value_g m c t y)

theorem gain_last (y : S1x1024.Idx) : heldG m c y 15 (Nat.lt_succ_self 15) = resG m c y := by
  refine (gathered (N := 15) (fun t => shareG m c t (y 1)) (heldG m c y) ?_ ?_).trans ?_
  · exact fun h => heldG_first m c y ⟨0, h⟩ rfl
  · exact fun n h => heldG_later m c y ⟨n + 1, h⟩ n _ rfl
  · exact total_all (gainTerm (argX m c) (argS m c) (argD m c) (y 1))

theorem shift_last (b : Fin 4) (y : S1x1x1024.Idx) (h : b.val * 4 + 3 < cfg0.N) :
    (outsAt0 m c (b.val * 4 + 3) h).2.2.1 y = resH m c (ix3 b 0 (y 2)) := by
  refine (gathered (N := 3) (fun j => shareH m c ⟨b.val * 4 + j.val, by omega⟩ (y 2))
    (fun n hn => (outsAt0 m c (b.val * 4 + n) (lt_of_lt_of_eq (by omega : _ < 16) N_0.symm)).2.2.1 y) ?_ ?_).trans ?_
  · intro hn
    have k : b.val * 4 + 0 < 16 := by omega
    exact (congrFun (left_h_first m c ⟨b.val * 4 + 0, k⟩ (by show (b.val * 4 + 0) % 4 = 0; omega)) y).trans (value_h m c ⟨b.val * 4 + 0, k⟩ y)
  · intro n hn
    have k : b.val * 4 + (n + 1) < 16 := by omega
    refine (congrFun (left_h_later m c ⟨b.val * 4 + (n + 1), k⟩ (by show ¬(b.val * 4 + (n + 1)) % 4 = 0; omega)) y).trans
      ((pay_shift_add _ _ y).trans ?_)
    exact congrArg (fun v : EReal => (outsAt0 m c (b.val * 4 + n) (lt_of_lt_of_eq (by omega : _ < 16) N_0.symm)).2.2.1 y + v)
      (value_h m c ⟨b.val * 4 + (n + 1), k⟩ y)
  · exact total_seq b fun i r => row (argD m c) i r (y 2)

theorem scale_last (b : Fin 4) (y : S1x1x1024.Idx) (h : b.val * 4 + 3 < cfg0.N) :
    (outsAt0 m c (b.val * 4 + 3) h).2.2.2 y = resS m c (ix3 b 0 (y 2)) := by
  refine (gathered (N := 3) (fun j => shareS m c ⟨b.val * 4 + j.val, by omega⟩ (y 2))
    (fun n hn => (outsAt0 m c (b.val * 4 + n) (lt_of_lt_of_eq (by omega : _ < 16) N_0.symm)).2.2.2 y) ?_ ?_).trans ?_
  · intro hn
    have k : b.val * 4 + 0 < 16 := by omega
    exact (congrFun (left_s_first m c ⟨b.val * 4 + 0, k⟩ (by show (b.val * 4 + 0) % 4 = 0; omega)) y).trans (value_s m c ⟨b.val * 4 + 0, k⟩ y)
  · intro n hn
    have k : b.val * 4 + (n + 1) < 16 := by omega
    refine (congrFun (left_s_later m c ⟨b.val * 4 + (n + 1), k⟩ (by show ¬(b.val * 4 + (n + 1)) % 4 = 0; omega)) y).trans
      ((pay_scale_add _ _ y).trans ?_)
    exact congrArg (fun v : EReal => (outsAt0 m c (b.val * 4 + n) (lt_of_lt_of_eq (by omega : _ < 16) N_0.symm)).2.2.2 y + v)
      (value_s m c ⟨b.val * 4 + (n + 1), k⟩ y)
  · exact total_seq b (scaleTerm (argX m c) (argG m c) (argD m c) (y 2))

/-- The points after which the sums are kept. -/
theorem ends_g : ∀ t : Fin cfg0.N, (cfg0.win 7).flush t = true → t.val = 15 := by decide +kernel
theorem ends_h : ∀ t : Fin cfg0.N, (cfg0.win 8).flush t = true → t.val % 4 = 3 := by decide +kernel
theorem ends_s : ∀ t : Fin cfg0.N, (cfg0.win 9).flush t = true → t.val % 4 = 3 := by decide +kernel

theorem final_x : (dats m 0 c).arrAt 6 cfg0.N = resX m c := by
  refine (dats m 0 c).arrAt_eq_of_covers 6 _ (by decide +kernel) fun t hf y => ?_
  rw [after0_6, left_x]
  obtain ⟨i, r, e, rfl⟩ := spread (a := 1) (b := 512) (n := 1024) y
  obtain rfl : i = 0 := Subsingleton.elim _ _
  exact (value_x m c t r e).trans (congrArg (resX m c) (stand_t t (ix3 0 r e))).symm

theorem final_g : (dats m 0 c).arrAt 7 cfg0.N = resG m c := by
  refine (dats m 0 c).arrAt_eq_of_covers 7 _ (by decide +kernel) fun t hf y => ?_
  rw [after0_7]
  have last : ∀ (n : ℕ) (h : n < 15 + 1), n = 15 → heldG m c y n h = resG m c y := by
    rintro n h rfl
    exact gain_last m c y
  exact (heldG_eq m c y t.val t.isLt).trans
    ((last t.val (below t) (ends_g t hf)).trans (congrArg (resG m c) (stand_g t y)).symm)

/-- Where the block of the last point of a sequence stands. -/
theorem stand_last (b : Fin 4) (h : b.val * 4 + 3 < 16) (y : S1x1x1024.Idx) :
    (win0_3.blk (⟨b.val * 4 + 3, h⟩ : Fin 16)).view.emb y = (ix3 b 0 (y 2) : S4x1x1024.Idx) := by
  refine (stand_s ⟨b.val * 4 + 3, h⟩ y).trans ?_
  have hs : seq ⟨b.val * 4 + 3, h⟩ = b := Fin.ext (by show (b.val * 4 + 3) / 4 = b.val; omega)
  have h1 : (show Fin 1 from y 1) = (0 : Fin 1) := Subsingleton.elim _ _
  exact congrArg₂ (fun (i : Fin 4) (j : Fin 1) => (ix3 i j (y 2) : S4x1x1024.Idx)) hs h1

theorem final_h : (dats m 0 c).arrAt 8 cfg0.N = resH m c := by
  refine (dats m 0 c).arrAt_eq_of_covers 8 _ (by decide +kernel) fun t hf y => ?_
  rw [after0_8]
  obtain ⟨n, hn⟩ := t
  have e : n % 4 = 3 := ends_h _ hf
  have l : n < 16 := lt_of_lt_of_eq hn N_0
  obtain ⟨b, rfl⟩ : ∃ b : Fin 4, n = b.val * 4 + 3 := ⟨⟨n / 4, by omega⟩, by show n = n / 4 * 4 + 3; omega⟩
  exact (shift_last m c b y hn).trans (congrArg (resH m c) (stand_last b l y)).symm

theorem final_s : (dats m 0 c).arrAt 9 cfg0.N = resS m c := by
  refine (dats m 0 c).arrAt_eq_of_covers 9 _ (by decide +kernel) fun t hf y => ?_
  rw [after0_9]
  obtain ⟨n, hn⟩ := t
  have e : n % 4 = 3 := ends_s _ hf
  have l : n < 16 := lt_of_lt_of_eq hn N_0
  obtain ⟨b, rfl⟩ : ∃ b : Fin 4, n = b.val * 4 + 3 := ⟨⟨n / 4, by omega⟩, by show n = n / 4 * 4 + 3; omega⟩
  exact (scale_last m c b y hn).trans (congrArg (resS m c) (stand_last b l y)).symm
end

end Cert.Kernel31Ideal.Norm

end
-- ==== Proof.Norm.BackClaims.lean ====
module

public import proofs.«01_k».proof.Defs
public import proofs.«01_k».proof.Proof.Gen.Kernel31.Frame
public import proofs.«01_k».proof.Proof.Gen.Reference31Ideal.Run
public import proofs.«01_k».proof.Proof.Norm.BackValue
public import Idealize.ShloMosaic.Lib.Pointwise
public import Idealize.ShloMosaic.Lib.Claim

@[expose] public section

set_option maxRecDepth 16384

/-! # The claims of the modulated norm's gradients -/

noncomputable section

namespace Cert.Kernel31Ideal.Norm

open Cert.Kernel31Ideal Cert.Kernel31Ideal.Gen
open Idealize.ShloMosaic Idealize.SL.Sem

/-- The launch terminates with the gradients, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3_0) = resX m c
      ∧ r.2.mem ((c.tc : Thread nD τ).loc main_v3_1) = resG m c
      ∧ r.2.mem ((c.tc : Thread nD τ).loc main_v3_2) = resH m c
      ∧ r.2.mem ((c.tc : Thread nD τ).loc main_v3_3) = resS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_x m c), (h c).2.1.trans (final_g m c),
    (h c).2.2.1.trans (final_h m c), (h c).2.2.2.1.trans (final_s m c), (h c).2.2.2.2⟩) (Value.run_blocks m ρ)

/-- The launch's frames, at machine words and over the reals. -/
theorem frame_words : Cert.quiescent_Kernel31 := fun m ρ _ => Cert.Kernel31.Gen.frame m ρ
theorem frame_reals : Cert.quiescent_Kernel31Ideal := fun m ρ _ => Cert.Kernel31Ideal.Gen.frame m ρ

end Cert.Kernel31Ideal.Norm

namespace Cert.Reference31Ideal.Norm

open Cert.Reference31Ideal
open Idealize.ShloMosaic Idealize.SL.Sem
open Cert.Proj Cert.Norm

/-- A sum over the two leading axes. -/
theorem sum_leading {a b n : ℕ} (h : (⟨3, ![a, b, n]⟩ : Shape).ReducesTo [0, 1] ⟨1, ![n]⟩)
    (v : (⟨3, ![a, b, n]⟩ : Shape).Idx → EReal) (init : EReal) (j : (⟨1, ![n]⟩ : Shape).Idx) :
    Ideal.hostReduceAdd h v init j = init + ∑ i : Fin a, ∑ r : Fin b, v (ix3 i r (j 0)) := by
  unfold Ideal.hostReduceAdd
  have d : ∀ i, h.drop i = j ↔ (i 2 : Fin n) = j 0 := by
    intro i
    constructor
    · rintro rfl
      rfl
    · intro e
      funext x
      match x with
      | 0 => exact e
  refine congrArg (fun s : EReal => init + s) ?_
  rw [← Fintype.sum_prod_type' (fun (i : Fin a) (r : Fin b) => v (ix3 i r (j 0)))]
  refine Finset.sum_bij' (fun i _ => ((i 0 : Fin a), (i 1 : Fin b))) (fun x _ => ix3 x.1 x.2 (j 0))
    (fun _ _ => Finset.mem_univ _) (fun x _ => Finset.mem_filter.mpr ⟨Finset.mem_univ _, (d _).mpr rfl⟩) ?_ (fun _ _ => rfl) ?_
  · intro i hi
    have e := (d i).mp (Finset.mem_filter.mp hi).2
    funext x
    match x with
    | 0 => rfl
    | 1 => rfl
    | 2 => exact e.symm
  · intro i hi
    have e := (d i).mp (Finset.mem_filter.mp hi).2
    refine congrArg v ?_
    funext x
    match x with
    | 0 => rfl
    | 1 => rfl
    | 2 => exact e

/-- The reference terminates with the gradients, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = gradX (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c.tc : Thread nD τ).loc main_v55) = gradGain (m ((c.tc : Thread nD τ).loc main_arg0)) (m ((c.tc : Thread nD τ).loc main_arg3))
        (m ((c.tc : Thread nD τ).loc main_arg4))
      ∧ r.2.mem ((c.tc : Thread nD τ).loc main_v56) = gradShift (m ((c.tc : Thread nD τ).loc main_arg4))
      ∧ r.2.mem ((c.tc : Thread nD τ).loc main_v57) = gradScale (m ((c.tc : Thread nD τ).loc main_arg0)) (m ((c.tc : Thread nD τ).loc main_arg1))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨h1, h2, h3, h4, hk⟩ := h c
    refine ⟨h1.trans ?_, h2.trans ?_, h3.trans ?_, h4.trans ?_, hk⟩
    · funext y
      obtain ⟨b, r, e, rfl⟩ := spread (a := 4) (b := 2048) (n := 1024) y
      unfold Value.res_main_v54; pointwise; simp only [Fin.sum_univ_one]; rfl
    · funext y; pointwise [sum_leading]; simp only [Fin.sum_univ_one]; rfl
    · funext y; pointwise; simp only [Fin.sum_univ_one]; rfl
    · funext y; pointwise; simp only [Fin.sum_univ_one]; rfl) (Value.run m ρ)

/-- The reference's frame. -/
theorem frame : Cert.quiescent_Reference31Ideal := fun m ρ _ =>
  (θ_run defs _ _).mono (fun r h => ⟨fun c => (h c).2.2.2.2, Idealize.ShloMosaic.sem_eq_zero_of_no_sems (by decide) r.2⟩)
    (Value.run (F := Ideal) m ρ)

end Cert.Reference31Ideal.Norm

namespace Cert.Kernel31Ideal.Norm

open Cert.Kernel31Ideal
open Idealize.ShloMosaic Idealize.SL.Sem

/-- The launch against the reference, over the reals. -/
theorem algebraic : Cert.algebraic_Kernel31Ideal_Reference31Ideal := by
  intro m ρ m' ρ' _ hagree
  refine ⟨_, _, _, _, run m ρ, ?_⟩
  refine (θ_run _ _ _).mono (fun r h c => ?_) (Cert.Reference31Ideal.Norm.run m' ρ')
  obtain ⟨h0, h1, h2, h3, h4, h5⟩ := hagree c
  have H := h c
  rw [h0, h1, h2, h3, h4, h5] at H
  unfold resX resG resH resS argX argG argS argD argU
  rw [h0, h1, h2, h3, h4, h5]
  exact H

end Cert.Kernel31Ideal.Norm

end
-- ==== Proof.Gate.Spec.lean ====
module

public import proofs.«01_k».proof.Proof.Proj.Spec

@[expose] public section

/-! # The merge of the two mixing paths

Each channel of a token has two gates, one per path; the gates of the first path are the left half of the array of
gates and those of the second the right half.  The merged channel is the sum of the two paths' entries, each multiplied
by the sigmoid of its gate. -/

noncomputable section

namespace Cert.Gate

open Idealize.ShloMosaic
open Cert.Ffn Cert.Proj

/-- Tokens by gates; tokens by channels. -/
abbrev Gates := Mat 8192 2048 .f32
abbrev Path (φ : EltTy) := Mat 8192 1024 φ

/-- The gates of an entry. -/
def leftOf (y : (⟨2, ![8192, 1024]⟩ : Shape).Idx) : (⟨2, ![8192, 2048]⟩ : Shape).Idx :=
  ix2 (y 0) ⟨(show Fin 1024 from y 1).val, by have h : (y 1).val < 1024 := (y 1).isLt; show (y 1).val < 2048; omega⟩
def rightOf (y : (⟨2, ![8192, 1024]⟩ : Shape).Idx) : (⟨2, ![8192, 2048]⟩ : Shape).Idx :=
  ix2 (y 0) ⟨1024 + (show Fin 1024 from y 1).val, by have h : (y 1).val < 1024 := (y 1).isLt; show 1024 + (y 1).val < 2048; omega⟩

/-- An index by its coordinates. -/
theorem spread {a b : ℕ} (y : (⟨2, ![a, b]⟩ : Shape).Idx) : ∃ i j, y = ix2 i j :=
  ⟨y 0, y 1, funext fun x => match x with | 0 => rfl | 1 => rfl⟩

/-- An entry of the merged paths. -/
def merge (g h a b : EReal) : EReal := Ideal.logistic g * a + Ideal.logistic h * b
/-- The cotangent of a gate and of a path's entry, at the cotangent `d` of the merged entry. -/
def gateBack (g a d : EReal) : EReal := d * a * (Ideal.logistic g * (1 - Ideal.logistic g))
def pathBack (g d : EReal) : EReal := Ideal.logistic g * d

def merged (G : Gates) (A B : Path .f32) : Path .bf16 := fun y => merge (G (leftOf y)) (G (rightOf y)) (A y) (B y)
def leftGates (G : Gates) (A D : Path .f32) : Path .bf16 := fun y => gateBack (G (leftOf y)) (A y) (D y)
def rightGates (G : Gates) (B D : Path .f32) : Path .bf16 := fun y => gateBack (G (rightOf y)) (B y) (D y)
def leftPath (G : Gates) (D : Path .f32) : Path .bf16 := fun y => pathBack (G (leftOf y)) (D y)
def rightPath (G : Gates) (D : Path .f32) : Path .bf16 := fun y => pathBack (G (rightOf y)) (D y)

/-! ## Where the windows of 512 tokens stand -/

variable (t : ℕ) (e : (⟨2, ![512, 1024]⟩ : Shape).Idx → (⟨2, ![8192, 2048]⟩ : Shape).Idx)
  (o : (⟨2, ![512, 1024]⟩ : Shape).Idx → (⟨2, ![8192, 1024]⟩ : Shape).Idx)

theorem left_block (he : Stands ![t, 0] e) (ho : Stands ![t, 0] o) (y : (⟨2, ![512, 1024]⟩ : Shape).Idx) : e y = leftOf (o y) := by
  funext a
  apply Fin.ext
  rw [he]
  match a with
  | 0 => exact (ho y 0).symm
  | 1 =>
    have h : (o y 1).val = 0 * 1024 + 1 * (y 1).val := ho y 1
    show 0 * 1024 + 1 * (y 1).val = (o y 1).val
    omega

theorem right_block (he : Stands ![t, 1] e) (ho : Stands ![t, 0] o) (y : (⟨2, ![512, 1024]⟩ : Shape).Idx) : e y = rightOf (o y) := by
  funext a
  apply Fin.ext
  rw [he]
  match a with
  | 0 => exact (ho y 0).symm
  | 1 =>
    have h : (o y 1).val = 0 * 1024 + 1 * (y 1).val := ho y 1
    show 1 * 1024 + 1 * (y 1).val = 1024 + (o y 1).val
    omega

end Cert.Gate

end
-- ==== Proof.Gate.Merge.lean ====
module

public import proofs.«01_k».proof.Defs
public import proofs.«01_k».proof.Proof.Gen.Kernel32.Frame
public import proofs.«01_k».proof.Proof.Gen.Kernel32Ideal.Value
public import proofs.«01_k».proof.Proof.Gen.Reference32Ideal.Run
public import proofs.«01_k».proof.Proof.Gate.Spec
public import Idealize.ShloMosaic.Lib.Pointwise
public import Idealize.ShloMosaic.Lib.Pipeline.ValueKit
public import Idealize.ShloMosaic.Lib.Claim

@[expose] public section

set_option maxRecDepth 16384

/-! # The gated merge

A point takes 512 tokens; the two halves of the gates are two windows of one array. -/

noncomputable section

namespace Cert.Kernel32Ideal.Gate

open Cert.Kernel32Ideal Cert.Kernel32Ideal.Gen
open Idealize.ShloMosaic Idealize.ShloMosaic.TcCoe Idealize.ShloMosaic.Tactic
open Idealize.SL.Sem
open Cert.Ffn Cert.Proj Cert.Gate

variable (m : (ℓ : Loc nD τ sig) → Buf (Elt Ideal) ℓ) (c : Dev nD)

/-- The gates and the two paths. -/
def argG : Gates := m ((c : Thread nD τ).loc main_arg0)
def argA : Path .f32 := m ((c : Thread nD τ).loc main_arg1)
def argB : Path .f32 := m ((c : Thread nD τ).loc main_arg2)
/-- The merged paths. -/
def res : Path .bf16 := merged (argG m c) (argA m c) (argB m c)

theorem V_g : V m c main_arg0 = argG m c := by entry_read; rfl
theorem V_a : V m c main_arg1 = argA m c := by entry_read; rfl
theorem V_b : V m c main_arg2 = argB m c := by entry_read; rfl

theorem index_l : ∀ t : Fin grid0.N, cc0_transform_0 (grid0.coords t) = ![t.val, 0] := by decide +kernel
theorem index_r : ∀ t : Fin grid0.N, cc0_transform_1 (grid0.coords t) = ![t.val, 1] := by decide +kernel
theorem index_o : ∀ t : Fin grid0.N, cc0_transform_4 (grid0.coords t) = ![t.val, 0] := by decide +kernel

variable (t : Fin cfg0.N) (y : S512x1024.Idx)

/-- The entry of the arrays where entry `y` of point `t` stands. -/
abbrev spot : S8192x1024.Idx := (win0_4.blk t).view.emb y

theorem blk_l : iblk m c 0 t y = argG m c (leftOf (spot t y)) := by
  have h := V_g m c
  unfold iblk
  generalize V m c = A at h ⊢
  refine (congrFun h ((win0_0.blk t).view.emb y)).trans (congrArg _ ?_)
  exact left_block t.val _ _ (fun y a => congrArg (fun n => n * S512x1024.size a + 1 * (y a).val) (congrFun (index_l t) a))
    (fun y a => congrArg (fun n => n * S512x1024.size a + 1 * (y a).val) (congrFun (index_o t) a)) y
theorem blk_r : iblk m c 1 t y = argG m c (rightOf (spot t y)) := by
  have h := V_g m c
  unfold iblk
  generalize V m c = A at h ⊢
  refine (congrFun h ((win0_1.blk t).view.emb y)).trans (congrArg _ ?_)
  exact right_block t.val _ _ (fun y a => congrArg (fun n => n * S512x1024.size a + 1 * (y a).val) (congrFun (index_r t) a))
    (fun y a => congrArg (fun n => n * S512x1024.size a + 1 * (y a).val) (congrFun (index_o t) a)) y
theorem blk_a : iblk m c 2 t y = argA m c (spot t y) := by
  have h := V_a m c; unfold iblk; generalize V m c = A at h ⊢; exact congrFun h (spot t y)
theorem blk_b : iblk m c 3 t y = argB m c (spot t y) := by
  have h := V_b m c; unfold iblk; generalize V m c = A at h ⊢; exact congrFun h (spot t y)

/-- A point's result, entry by entry. -/
theorem pay (g h a b : Vec Ideal S512x1024 .f32) : k0_pay1 (F := Ideal) g h a b y = merge (g y) (h y) (a y) (b y) := by
  pointwise [k0_pay1]; rfl

theorem final : (dats m 0 c).arrAt 4 cfg0.N = res m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  refine (pay y _ _ _ _).trans ?_
  rw [blk_l, blk_r, blk_a, blk_b]
  rfl

/-- The launch terminates with the merged paths, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

/-- The launch's frames, at machine words and over the reals. -/
theorem frame_words : Cert.quiescent_Kernel32 := fun m ρ _ => Cert.Kernel32.Gen.frame m ρ
theorem frame_reals : Cert.quiescent_Kernel32Ideal := fun m ρ _ => Cert.Kernel32Ideal.Gen.frame m ρ

end Cert.Kernel32Ideal.Gate

namespace Cert.Reference32Ideal.Gate

open Cert.Reference32Ideal
open Idealize.ShloMosaic Idealize.SL.Sem
open Cert.Proj Cert.Gate

variable (m : (ℓ : Loc nD τ sig) → Buf (Elt Ideal) ℓ) (c : Dev nD)

/-- The reference's arguments, in the layout of the result. -/
def argG : Gates := m ((c.tc : Thread nD τ).loc main_arg0)
def argA : Path .f32 := m ((c.tc : Thread nD τ).loc main_arg1)
def argB : Path .f32 := m ((c.tc : Thread nD τ).loc main_arg2)

/-- The reference terminates with the merged paths, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = merged (argG m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by
    funext y
    obtain ⟨i, j, rfl⟩ := spread y
    pointwise
    rfl), (h c).2⟩) (Value.run m ρ)

/-- The reference's frame. -/
theorem frame : Cert.quiescent_Reference32Ideal := fun m ρ _ =>
  (θ_run defs _ _).mono (fun r h => ⟨fun c => (h c).2, Idealize.ShloMosaic.sem_eq_zero_of_no_sems (by decide) r.2⟩)
    (Value.run (F := Ideal) m ρ)

end Cert.Reference32Ideal.Gate

namespace Cert.Kernel32Ideal.Gate

open Idealize.ShloMosaic Idealize.SL.Sem

/-- The launch against the reference, over the reals. -/
theorem algebraic : Cert.algebraic_Kernel32Ideal_Reference32Ideal := by
  intro m ρ m' ρ' _ hagree
  refine ⟨_, run m ρ, ?_⟩
  refine (θ_run _ _ _).mono (fun r h c => ?_) (Cert.Reference32Ideal.Gate.run m' ρ')
  obtain ⟨h0, h1, h2⟩ := hagree c
  have H := h c
  unfold Cert.Reference32Ideal.Gate.argG Cert.Reference32Ideal.Gate.argA Cert.Reference32Ideal.Gate.argB at H
  unfold res argG argA argB
  rw [h0, h1, h2] at H ⊢
  exact H

end Cert.Kernel32Ideal.Gate

end
-- ==== Proof.Gate.MergeBack.lean ====
module

public import proofs.«01_k».proof.Defs
public import proofs.«01_k».proof.Proof.Gen.Kernel33.Frame
public import proofs.«01_k».proof.Proof.Gen.Kernel33Ideal.Value
public import proofs.«01_k».proof.Proof.Gen.Reference33Ideal.Run
public import proofs.«01_k».proof.Proof.Gate.Spec
public import Idealize.ShloMosaic.Lib.Pointwise
public import Idealize.ShloMosaic.Lib.Pipeline.ValueKit
public import Idealize.ShloMosaic.Lib.Claim

@[expose] public section

set_option maxRecDepth 16384

/-! # The gated merge, backwards

A point takes 512 tokens; the two halves of the gates are two windows of one array. -/

noncomputable section

namespace Cert.Kernel33Ideal.Gate

open Cert.Kernel33Ideal Cert.Kernel33Ideal.Gen
open Idealize.ShloMosaic Idealize.ShloMosaic.TcCoe Idealize.ShloMosaic.Tactic
open Idealize.SL.Sem
open Cert.Ffn Cert.Proj Cert.Gate

variable (m : (ℓ : Loc nD τ sig) → Buf (Elt Ideal) ℓ) (c : Dev nD)

/-- The gates, the two paths, and the cotangent of the merged paths. -/
def argG : Gates := m ((c : Thread nD τ).loc main_arg0)
def argA : Path .f32 := m ((c : Thread nD τ).loc main_arg1)
def argB : Path .f32 := m ((c : Thread nD τ).loc main_arg2)
def argD : Path .f32 := m ((c : Thread nD τ).loc main_arg3)
/-- The cotangents of the gates and of the paths. -/
def resGa : Path .bf16 := leftGates (argG m c) (argA m c) (argD m c)
def resGb : Path .bf16 := rightGates (argG m c) (argB m c) (argD m c)
def resA : Path .bf16 := leftPath (argG m c) (argD m c)
def resB : Path .bf16 := rightPath (argG m c) (argD m c)

theorem V_g : V m c main_arg0 = argG m c := by entry_read; rfl
theorem V_a : V m c main_arg1 = argA m c := by entry_read; rfl
theorem V_b : V m c main_arg2 = argB m c := by entry_read; rfl
theorem V_d : V m c main_arg3 = argD m c := by entry_read; rfl

theorem index_l : ∀ t : Fin grid0.N, cc0_transform_0 (grid0.coords t) = ![t.val, 0] := by decide +kernel
theorem index_r : ∀ t : Fin grid0.N, cc0_transform_1 (grid0.coords t) = ![t.val, 1] := by decide +kernel
theorem index_o : ∀ t : Fin grid0.N, cc0_transform_5 (grid0.coords t) = ![t.val, 0] := by decide +kernel

variable (t : Fin cfg0.N) (y : S512x1024.Idx)

/-- The entry of the arrays where entry `y` of point `t` stands. -/
abbrev spot : S8192x1024.Idx := (win0_5.blk t).view.emb y

theorem blk_l : iblk m c 0 t y = argG m c (leftOf (spot t y)) := by
  have h := V_g m c
  unfold iblk
  generalize V m c = A at h ⊢
  refine (congrFun h ((win0_0.blk t).view.emb y)).trans (congrArg _ ?_)
  exact left_block t.val _ _ (fun y a => congrArg (fun n => n * S512x1024.size a + 1 * (y a).val) (congrFun (index_l t) a))
    (fun y a => congrArg (fun n => n * S512x1024.size a + 1 * (y a).val) (congrFun (index_o t) a)) y
theorem blk_r : iblk m c 1 t y = argG m c (rightOf (spot t y)) := by
  have h := V_g m c
  unfold iblk
  generalize V m c = A at h ⊢
  refine (congrFun h ((win0_1.blk t).view.emb y)).trans (congrArg _ ?_)
  exact right_block t.val _ _ (fun y a => congrArg (fun n => n * S512x1024.size a + 1 * (y a).val) (congrFun (index_r t) a))
    (fun y a => congrArg (fun n => n * S512x1024.size a + 1 * (y a).val) (congrFun (index_o t) a)) y
theorem blk_a : iblk m c 2 t y = argA m c (spot t y) := by
  have h := V_a m c; unfold iblk; generalize V m c = A at h ⊢; exact congrFun h (spot t y)
theorem blk_b : iblk m c 3 t y = argB m c (spot t y) := by
  have h := V_b m c; unfold iblk; generalize V m c = A at h ⊢; exact congrFun h (spot t y)

theorem blk_d : iblk m c 4 t y = argD m c (spot t y) := by
  have h := V_d m c; unfold iblk; generalize V m c = A at h ⊢; exact congrFun h (spot t y)

/-- A point's results, entry by entry. -/
theorem pay_ga (g a d : Vec Ideal S512x1024 .f32) : k0_pay5 (F := Ideal) g a d y = gateBack (g y) (a y) (d y) := by
  pointwise [k0_pay5, k0_pay3, k0_pay1]; rfl
theorem pay_gb (g a d : Vec Ideal S512x1024 .f32) : k0_pay6 (F := Ideal) g a d y = gateBack (g y) (a y) (d y) := by
  pointwise [k0_pay6, k0_pay4, k0_pay2]; rfl
theorem pay_a (g d : Vec Ideal S512x1024 .f32) : k0_pay7 (F := Ideal) g d y = pathBack (g y) (d y) := by
  pointwise [k0_pay7, k0_pay3, k0_pay1]; rfl
theorem pay_b (g d : Vec Ideal S512x1024 .f32) : k0_pay8 (F := Ideal) g d y = pathBack (g y) (d y) := by
  pointwise [k0_pay8, k0_pay4, k0_pay2]; rfl

theorem final_ga : (dats m 0 c).arrAt 5 cfg0.N = resGa m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide), View.ld_unit_lit _ _ (by decide)]
  refine (pay_ga y _ _ _).trans ?_
  rw [blk_l, blk_a, blk_d]
  rfl

theorem final_gb : (dats m 0 c).arrAt 6 cfg0.N = resGb m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide), View.ld_unit_lit _ _ (by decide)]
  refine (pay_gb y _ _ _).trans ?_
  rw [blk_r, blk_b, blk_d]
  rfl

theorem final_a : (dats m 0 c).arrAt 7 cfg0.N = resA m c := by
  refine (dats m 0 c).arrAt_eq_of_covers 7 _ (by decide +kernel) fun t hf y => ?_
  rw [after0_7]
  unfold out0_7
  rw [View.canon_cons_unit_lit _ _ _ (by decide), View.ld_unit_lit _ _ (by decide), View.ld_unit_lit _ _ (by decide)]
  refine (pay_a y _ _).trans ?_
  rw [blk_l, blk_d]
  rfl

theorem final_b : (dats m 0 c).arrAt 8 cfg0.N = resB m c := by
  refine (dats m 0 c).arrAt_eq_of_covers 8 _ (by decide +kernel) fun t hf y => ?_
  rw [after0_8]
  unfold out0_8
  rw [View.canon_cons_unit_lit _ _ _ (by decide), View.ld_unit_lit _ _ (by decide), View.ld_unit_lit _ _ (by decide)]
  refine (pay_b y _ _).trans ?_
  rw [blk_r, blk_d]
  rfl

/-- The launch terminates with the cotangents, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = resGa m c
      ∧ r.2.mem ((c.tc : Thread nD τ).loc main_v0_1) = resGb m c
      ∧ r.2.mem ((c.tc : Thread nD τ).loc main_v0_2) = resA m c
      ∧ r.2.mem ((c.tc : Thread nD τ).loc main_v0_3) = resB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_ga m c), (h c).2.1.trans (final_gb m c),
    (h c).2.2.1.trans (final_a m c), (h c).2.2.2.1.trans (final_b m c), (h c).2.2.2.2⟩) (Value.run_blocks m ρ)

/-- The launch's frames, at machine words and over the reals. -/
theorem frame_words : Cert.quiescent_Kernel33 := fun m ρ _ => Cert.Kernel33.Gen.frame m ρ
theorem frame_reals : Cert.quiescent_Kernel33Ideal := fun m ρ _ => Cert.Kernel33Ideal.Gen.frame m ρ

end Cert.Kernel33Ideal.Gate

namespace Cert.Reference33Ideal.Gate

open Cert.Reference33Ideal
open Idealize.ShloMosaic Idealize.SL.Sem
open Cert.Proj Cert.Gate

variable (m : (ℓ : Loc nD τ sig) → Buf (Elt Ideal) ℓ) (c : Dev nD)

/-- The reference's arguments, in the layout of the results. -/
def argG : Gates := m ((c.tc : Thread nD τ).loc main_arg0)
def argA : Path .f32 := m ((c.tc : Thread nD τ).loc main_arg1)
def argB : Path .f32 := m ((c.tc : Thread nD τ).loc main_arg2)
def argD : Path .f32 := m ((c.tc : Thread nD τ).loc main_arg3)

/-- The reference terminates with the cotangents, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = leftGates (argG m c) (argA m c) (argD m c)
      ∧ r.2.mem ((c.tc : Thread nD τ).loc main_v32) = rightGates (argG m c) (argB m c) (argD m c)
      ∧ r.2.mem ((c.tc : Thread nD τ).loc main_v33) = leftPath (argG m c) (argD m c)
      ∧ r.2.mem ((c.tc : Thread nD τ).loc main_v34) = rightPath (argG m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h1, h2, h3, h4, hk⟩ := h c
    refine ⟨h1.trans ?_, h2.trans ?_, h3.trans ?_, h4.trans ?_, hk⟩ <;>
      (funext y; obtain ⟨i, j, rfl⟩ := spread y; pointwise; rfl)) (Value.run m ρ)

/-- The reference's frame. -/
theorem frame : Cert.quiescent_Reference33Ideal := fun m ρ _ =>
  (θ_run defs _ _).mono (fun r h => ⟨fun c => (h c).2.2.2.2, Idealize.ShloMosaic.sem_eq_zero_of_no_sems (by decide) r.2⟩)
    (Value.run (F := Ideal) m ρ)

end Cert.Reference33Ideal.Gate

namespace Cert.Kernel33Ideal.Gate

open Idealize.ShloMosaic Idealize.SL.Sem

/-- The launch against the reference, over the reals. -/
theorem algebraic : Cert.algebraic_Kernel33Ideal_Reference33Ideal := by
  intro m ρ m' ρ' _ hagree
  refine ⟨_, _, _, _, run m ρ, ?_⟩
  refine (θ_run _ _ _).mono (fun r h c => ?_) (Cert.Reference33Ideal.Gate.run m' ρ')
  obtain ⟨h0, h1, h2, h3⟩ := hagree c
  have H := h c
  unfold Cert.Reference33Ideal.Gate.argG Cert.Reference33Ideal.Gate.argA Cert.Reference33Ideal.Gate.argB
    Cert.Reference33Ideal.Gate.argD at H
  unfold resGa resGb resA resB argG argA argB argD
  rw [h0, h1, h2, h3] at H ⊢
  exact H

end Cert.Kernel33Ideal.Gate

end
-- ==== Proof.Step.Sum.lean ====
module

public import proofs.«01_k».proof.Defs
public import proofs.«01_k».proof.Proof.Gen.Kernel34.Frame
public import proofs.«01_k».proof.Proof.Gen.Kernel34Ideal.Value
public import proofs.«01_k».proof.Proof.Gen.Reference34Ideal.Run
public import proofs.«01_k».proof.Proof.Proj.Spec
public import Idealize.ShloMosaic.Lib.Pointwise
public import Idealize.ShloMosaic.Lib.Pipeline.ValueKit
public import Idealize.ShloMosaic.Lib.Claim

@[expose] public section

set_option maxRecDepth 16384

/-! # The sum of the packed small gradients

The eight packed arrays stand one behind the other.  A point adds the eight up in a block of 184 rows. -/

noncomputable section

namespace Cert.Step

open Idealize.ShloMosaic
open Cert.Proj

/-- Eight packed arrays, and their sum. -/
abbrev Packed := Vec Ideal (⟨3, ![8, 1472, 128]⟩ : Shape) .f32
def total (P : Packed) : Mat 1472 128 .f32 := fun y => ∑ k : Fin 8, P (ix3 k (y 0) (y 1))

end Cert.Step

namespace Cert.Kernel34Ideal.Step

open Cert.Kernel34Ideal Cert.Kernel34Ideal.Gen
open Idealize.ShloMosaic Idealize.ShloMosaic.TcCoe Idealize.ShloMosaic.Tactic
open Idealize.SL.Sem
open Cert.Proj Cert.Step

variable (m : (ℓ : Loc nD τ sig) → Buf (Elt Ideal) ℓ) (c : Dev nD)

/-- The packed arrays and their sum. -/
def argP : Packed := m ((c : Thread nD τ).loc main_arg0)
def res : Mat 1472 128 .f32 := total (argP m c)

theorem V_p : V m c main_arg0 = argP m c := by entry_read; rfl

theorem index_p : ∀ t : Fin grid0.N, cc0_transform_0 (grid0.coords t) = ![0, t.val, 0] := by decide +kernel
theorem index_o : ∀ t : Fin grid0.N, cc0_transform_1 (grid0.coords t) = ![t.val, 0] := by decide +kernel

variable (t : Fin cfg0.N) (y : S184x128.Idx)

/-- The entry of the sum where entry `y` of point `t` stands. -/
abbrev spot : S1472x128.Idx := (win0_1.blk t).view.emb y

theorem blk_p (k : Fin 8) : iblk m c 0 t (ix3 k (y 0) (y 1)) = argP m c (ix3 k (spot t y 0) (spot t y 1)) := by
  have h := V_p m c
  unfold iblk
  generalize V m c = A at h ⊢
  show A main_arg0 ((win0_0.blk t).view.emb (ix3 k (y 0) (y 1))) = _
  rw [h]
  refine congrArg (argP m c) ?_
  funext a
  apply Fin.ext
  have hp := congrFun (index_p t) a
  have ho : ∀ b, (spot t y b).val = ![t.val, 0] b * S184x128.size b + 1 * (y b).val :=
    fun b => congrArg (fun n => n * S184x128.size b + 1 * (y b).val) (congrFun (index_o t) b)
  refine (congrArg (fun n => n * S8x184x128.size a + 1 * ((ix3 k (y 0) (y 1) : S8x184x128.Idx) a).val) hp).trans ?_
  match a with
  | 0 => show 0 * 8 + 1 * k.val = k.val; omega
  | 1 => exact (ho 0).symm
  | 2 => exact (ho 1).symm

theorem final : (dats m 0 c).arrAt 1 cfg0.N = res m c := by
  refine (dats m 0 c).arrAt_eq_of_covers 1 _ (by decide +kernel) fun t hf y => ?_
  rw [after0_1]
  unfold out0_1
  refine (Value.canon1_eq _ _ _ _ _ _ _ _ y).trans ?_
  have slab : ∀ k : Fin 8, ∀ r : S8x184x128.Idx, (∀ a, (r a).val = (![k.val, (y 0).val, (y 1).val] : Fin 3 → ℕ) a) →
      iblk m c 0 t r = argP m c (ix3 k (spot t y 0) (spot t y 1)) := by
    intro k r hr
    rw [← blk_p m c t y k]
    refine congrArg _ (funext fun a => Fin.ext ?_)
    match a with
    | 0 => exact hr 0
    | 1 => exact hr 1
    | 2 => exact hr 2
  refine Eq.trans ?_ (Fin.sum_univ_eight (fun k : Fin 8 => argP m c (ix3 k (spot t y 0) (spot t y 1)))).symm
  have add : ∀ a b a' b' : EReal, a = a' → b = b' → FloatOps.addf (F := Ideal) (φ := .f32) a b = a' + b' := by
    rintro _ _ _ _ rfl rfl
    rfl
  refine add _ _ _ _ (add _ _ _ _ (add _ _ _ _ (add _ _ _ _ (add _ _ _ _ (add _ _ _ _ (add _ _ _ _ ?_ ?_) ?_) ?_) ?_) ?_) ?_) ?_
  · exact slab 0 _ fun a => match a with | 0 => rfl | 1 => by show 0 + 1 * (y 0).val = (y 0).val; omega | 2 => by show 0 + 1 * (y 1).val = (y 1).val; omega
  · exact slab 1 _ fun a => match a with | 0 => rfl | 1 => by show 0 + 1 * (y 0).val = (y 0).val; omega | 2 => by show 0 + 1 * (y 1).val = (y 1).val; omega
  · exact slab 2 _ fun a => match a with | 0 => rfl | 1 => by show 0 + 1 * (y 0).val = (y 0).val; omega | 2 => by show 0 + 1 * (y 1).val = (y 1).val; omega
  · exact slab 3 _ fun a => match a with | 0 => rfl | 1 => by show 0 + 1 * (y 0).val = (y 0).val; omega | 2 => by show 0 + 1 * (y 1).val = (y 1).val; omega
  · exact slab 4 _ fun a => match a with | 0 => rfl | 1 => by show 0 + 1 * (y 0).val = (y 0).val; omega | 2 => by show 0 + 1 * (y 1).val = (y 1).val; omega
  · exact slab 5 _ fun a => match a with | 0 => rfl | 1 => by show 0 + 1 * (y 0).val = (y 0).val; omega | 2 => by show 0 + 1 * (y 1).val = (y 1).val; omega
  · exact slab 6 _ fun a => match a with | 0 => rfl | 1 => by show 0 + 1 * (y 0).val = (y 0).val; omega | 2 => by show 0 + 1 * (y 1).val = (y 1).val; omega
  · exact slab 7 _ fun a => match a with | 0 => rfl | 1 => by show 0 + 1 * (y 0).val = (y 0).val; omega | 2 => by show 0 + 1 * (y 1).val = (y 1).val; omega

/-- The launch terminates with the sum, its argument unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0) :=
  (θ_run defs _ _).mono (fun _ h c => ⟨(h c).1.trans (final m c), (h c).2⟩) (Value.run_blocks m ρ)

/-- The launch's frames, at machine words and over the reals. -/
theorem frame_words : Cert.quiescent_Kernel34 := fun m ρ _ => Cert.Kernel34.Gen.frame m ρ
theorem frame_reals : Cert.quiescent_Kernel34Ideal := fun m ρ _ => Cert.Kernel34Ideal.Gen.frame m ρ

end Cert.Kernel34Ideal.Step

namespace Cert.Reference34Ideal.Step

open Cert.Reference34Ideal
open Idealize.ShloMosaic Idealize.SL.Sem
open Cert.Proj Cert.Step

variable (m : (ℓ : Loc nD τ sig) → Buf (Elt Ideal) ℓ) (c : Dev nD)

/-- The reference's argument, in the layout of the sum. -/
def argP : Packed := m ((c.tc : Thread nD τ).loc main_arg0)

/-- The reference terminates with the sum, its argument unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = total (argP m c)
      ∧ r.2.mem ((c.tc : Thread nD τ).loc main_arg0) = m ((c.tc : Thread nD τ).loc main_arg0) :=
  (θ_run defs _ _).mono (fun _ h c => ⟨(h c).1.trans (by funext y; pointwise; rfl), (h c).2⟩) (Value.run m ρ)

/-- The reference's frame. -/
theorem frame : Cert.quiescent_Reference34Ideal := fun m ρ _ =>
  (θ_run defs _ _).mono (fun r h => ⟨fun c => (h c).2, Idealize.ShloMosaic.sem_eq_zero_of_no_sems (by decide) r.2⟩)
    (Value.run (F := Ideal) m ρ)

end Cert.Reference34Ideal.Step

namespace Cert.Kernel34Ideal.Step

open Idealize.ShloMosaic Idealize.SL.Sem

/-- The launch against the reference, over the reals. -/
theorem algebraic : Cert.algebraic_Kernel34Ideal_Reference34Ideal := by
  intro m ρ m' ρ' _ hagree
  refine ⟨_, run m ρ, ?_⟩
  refine (θ_run _ _ _).mono (fun r h c => ?_) (Cert.Reference34Ideal.Step.run m' ρ')
  have h0 := hagree c
  have H := h c
  unfold Cert.Reference34Ideal.Step.argP at H
  unfold res argP
  rw [h0] at H ⊢
  exact H

end Cert.Kernel34Ideal.Step

end
-- ==== Proof.Gate.Glu.lean ====
module

public import proofs.«01_k».proof.Defs
public import proofs.«01_k».proof.Proof.Gen.Kernel35.Frame
public import proofs.«01_k».proof.Proof.Gen.Kernel35Ideal.Value
public import proofs.«01_k».proof.Proof.Gen.Reference35Ideal.Run
public import proofs.«01_k».proof.Proof.Gate.Spec
public import Idealize.ShloMosaic.Lib.Pointwise
public import Idealize.ShloMosaic.Lib.Pipeline.ValueKit
public import Idealize.ShloMosaic.Lib.Claim

@[expose] public section

set_option maxRecDepth 16384

/-! # The gated output of the state-space path

A token's states' output takes in its skipped input, goes through the smooth rectifier, and is multiplied by the sigmoid
of a dense map of itself.  A point takes 512 tokens. -/

noncomputable section

namespace Cert.Gate

open Idealize.ShloMosaic
open Cert.Ffn Cert.Proj

/-- A token's 512 entries. -/
abbrev Slim : Type := Fin 512 → EReal
/-- Tokens by entries. -/
abbrev Slims (φ : EltTy) := Mat 8192 512 φ

/-- The smooth rectifier, by the hyperbolic tangent. -/
def rectify (v : EReal) : EReal :=
  v * (Ideal.ofBits FTy.f32 0x3F000000#32
    * (1 + Ideal.tanh (Ideal.ofBits FTy.f32 0x3F4C422A#32 * (v + Ideal.ofBits FTy.f32 0x3D372713#32 * (v * v * v)))))
/-- A token before its gate, and after. -/
def rise (y u d : Slim) : Slim := fun e => rectify (y e + d e * u e)
def glu (y u d : Slim) (w : Fin 512 → Slim) (b : Slim) : Slim := fun e =>
  rise y u d e * Ideal.logistic ((∑ k : Fin 512, rise y u d k * w k e) + b e)

/-- All tokens after their gates. -/
def gated (Y U : Slims .f32) (d : Vec Ideal (⟨1, ![512]⟩ : Shape) .f32) (w : Mat 512 512 .bf16) (b : Vec Ideal (⟨1, ![512]⟩ : Shape) .f32) :
    Slims .bf16 :=
  fun y => glu (fun e => Y (ix2 (y 0) e)) (fun e => U (ix2 (y 0) e)) (fun e => d (ix1 e)) (fun k e => w (ix2 k e)) (fun e => b (ix1 e)) (y 1)

/-- Token `r` of point `t`. -/
def slot (t : Fin 16) (r : Fin 512) : Fin 8192 := ⟨512 * t.val + r.val, by have := t.isLt; have := r.isLt; omega⟩

theorem slot_block (t : Fin 16) (e : (⟨2, ![512, 512]⟩ : Shape).Idx → (⟨2, ![8192, 512]⟩ : Shape).Idx) (h : Stands ![t.val, 0] e)
    (r k : Fin 512) : e (ix2 r k) = ix2 (slot t r) k := by
  funext a
  apply Fin.ext
  rw [h]
  match a with
  | 0 => show t.val * 512 + 1 * r.val = 512 * t.val + r.val; omega
  | 1 => show 0 * 512 + 1 * k.val = k.val; omega
theorem whole_block (e : (⟨2, ![512, 512]⟩ : Shape).Idx → (⟨2, ![512, 512]⟩ : Shape).Idx) (h : Stands ![0, 0] e)
    (r k : Fin 512) : e (ix2 r k) = ix2 r k := by
  funext a
  apply Fin.ext
  rw [h]
  match a with
  | 0 => show 0 * 512 + 1 * r.val = r.val; omega
  | 1 => show 0 * 512 + 1 * k.val = k.val; omega
theorem line_block (e : (⟨2, ![1, 512]⟩ : Shape).Idx → (⟨2, ![1, 512]⟩ : Shape).Idx) (h : Stands ![0, 0] e)
    (k : Fin 512) : e (ix2 0 k) 1 = k := by
  apply Fin.ext
  rw [h]
  show 0 * 512 + 1 * k.val = k.val; omega

end Cert.Gate

namespace Cert.Kernel35Ideal.Gate

open Cert.Kernel35Ideal Cert.Kernel35Ideal.Gen
open Idealize.ShloMosaic Idealize.ShloMosaic.TcCoe Idealize.ShloMosaic.Tactic
open Idealize.SL.Sem
open Cert.Ffn Cert.Proj Cert.Gate

variable (m : (ℓ : Loc nD τ sig) → Buf (Elt Ideal) ℓ) (c : Dev nD)

/-- The states' outputs, the skipped inputs and their factors, and the gate's matrix and bias. -/
def argY : Slims .f32 := m ((c : Thread nD τ).loc main_arg0)
def argU : Slims .f32 := m ((c : Thread nD τ).loc main_arg1)
def argD : Vec Ideal (⟨1, ![512]⟩ : Shape) .f32 := m ((c : Thread nD τ).loc main_arg2)
def argW : Mat 512 512 .bf16 := m ((c : Thread nD τ).loc main_arg3)
def argB : Vec Ideal (⟨1, ![512]⟩ : Shape) .f32 := m ((c : Thread nD τ).loc main_arg4)
/-- The gated tokens. -/
def res : Slims .bf16 := gated (argY m c) (argU m c) (argD m c) (argW m c) (argB m c)

theorem V_y : V m c main_arg0 = argY m c := by entry_read; rfl
theorem V_u : V m c main_arg1 = argU m c := by entry_read; rfl
theorem V_d : V m c main_v0 = fun y => argD m c (ix1 (y 1)) := by entry_read; funext y; pointwise; rfl
theorem V_w : V m c main_arg3 = argW m c := by entry_read; rfl
theorem V_b : V m c main_v1 = fun y => argB m c (ix1 (y 1)) := by entry_read; funext y; pointwise; rfl

theorem index_x : ∀ t : Fin grid0.N, cc0_transform_0 (grid0.coords t) = ![t.val, 0] := by decide +kernel
theorem index_d : ∀ t : Fin grid0.N, cc0_transform_2 (grid0.coords t) = ![0, 0] := by decide +kernel
theorem index_w : ∀ t : Fin grid0.N, cc0_transform_3 (grid0.coords t) = ![0, 0] := by decide +kernel

variable (t : Fin 16)

theorem stands_x : Stands ![t.val, 0] (win0_0.blk t).view.emb :=
  fun y a => congrArg (fun n => n * S512x512.size a + 1 * (y a).val) (congrFun (index_x t) a)
theorem stands_d : Stands ![0, 0] (win0_2.blk t).view.emb :=
  fun y a => congrArg (fun n => n * S1x512.size a + 1 * (y a).val) (congrFun (index_d t) a)
theorem stands_w : Stands ![0, 0] (win0_3.blk t).view.emb :=
  fun y a => congrArg (fun n => n * S512x512.size a + 1 * (y a).val) (congrFun (index_w t) a)

theorem blk_y (r k : Fin 512) : iblk m c 0 t (ix2 r k) = argY m c (ix2 (slot t r) k) := by
  have h := V_y m c; unfold iblk; generalize V m c = A at h ⊢
  exact (congrFun h ((win0_0.blk t).view.emb (ix2 r k))).trans (congrArg _ (slot_block t _ (stands_x t) r k))
theorem blk_u (r k : Fin 512) : iblk m c 1 t (ix2 r k) = argU m c (ix2 (slot t r) k) := by
  have h := V_u m c; unfold iblk; generalize V m c = A at h ⊢
  exact (congrFun h ((win0_0.blk t).view.emb (ix2 r k))).trans (congrArg _ (slot_block t _ (stands_x t) r k))
theorem blk_d (k : Fin 512) : iblk m c 2 t (ix2 0 k) = argD m c (ix1 k) := by
  have h := V_d m c; unfold iblk; generalize V m c = A at h ⊢
  exact (congrFun h ((win0_2.blk t).view.emb (ix2 0 k))).trans (congrArg (fun k => argD m c (ix1 k)) (line_block _ (stands_d t) k))
theorem blk_w (r k : Fin 512) : iblk m c 3 t (ix2 r k) = argW m c (ix2 r k) := by
  have h := V_w m c; unfold iblk; generalize V m c = A at h ⊢
  exact (congrFun h ((win0_3.blk t).view.emb (ix2 r k))).trans (congrArg _ (whole_block _ (stands_w t) r k))
theorem blk_b (k : Fin 512) : iblk m c 4 t (ix2 0 k) = argB m c (ix1 k) := by
  have h := V_b m c; unfold iblk; generalize V m c = A at h ⊢
  exact (congrFun h ((win0_2.blk t).view.emb (ix2 0 k))).trans (congrArg (fun k => argB m c (ix1 k)) (line_block _ (stands_d t) k))

/-- A point's result, entry by entry. -/
theorem pay (y u : Vec Ideal S512x512 .f32) (d : Vec Ideal S1x512 .f32) (w : Vec Ideal S512x512 .bf16) (b : Vec Ideal S1x512 .f32)
    (r e : Fin 512) :
    k0_pay1 (F := Ideal) y u d w b (ix2 r e)
      = glu (fun e => y (ix2 r e)) (fun e => u (ix2 r e)) (fun e => d (ix2 0 e)) (fun k e => w (ix2 k e)) (fun e => b (ix2 0 e)) e := by
  pointwise [k0_pay1]
  unfold glu rise rectify
  simp only [mul_assoc]

theorem value (r e : Fin 512) :
    k0_pay1 (F := Ideal) (iblk m c 0 t) (iblk m c 1 t) (iblk m c 2 t) (iblk m c 3 t) (iblk m c 4 t) (ix2 r e)
      = res m c (ix2 (slot t r) e) := by
  refine (pay _ _ _ _ _ r e).trans ?_
  simp only [blk_y, blk_u, blk_d, blk_w, blk_b]
  rfl

theorem final : (dats m 0 c).arrAt 5 cfg0.N = res m c := by
  refine (dats m 0 c).arrAt_eq_of_covers 5 _ (by decide +kernel) fun t hf y => ?_
  rw [after0_5]
  unfold out0_5
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  obtain ⟨r, e, rfl⟩ := spread (a := 512) (b := 512) y
  exact (value m c t r e).trans (congrArg (res m c) (slot_block t _ (stands_x t) r e)).symm

/-- The launch terminates with the gated tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final m c), (h c).2⟩) (Value.run_blocks m ρ)

/-- The launch's frames, at machine words and over the reals. -/
theorem frame_words : Cert.quiescent_Kernel35 := fun m ρ _ => Cert.Kernel35.Gen.frame m ρ
theorem frame_reals : Cert.quiescent_Kernel35Ideal := fun m ρ _ => Cert.Kernel35Ideal.Gen.frame m ρ

end Cert.Kernel35Ideal.Gate

namespace Cert.Reference35Ideal.Gate

open Cert.Reference35Ideal
open Idealize.ShloMosaic Idealize.SL.Sem
open Cert.Proj Cert.Gate

variable (m : (ℓ : Loc nD τ sig) → Buf (Elt Ideal) ℓ) (c : Dev nD)

/-- The reference's arguments, in the same layout. -/
def argY : Slims .f32 := m ((c.tc : Thread nD τ).loc main_arg0)
def argU : Slims .f32 := m ((c.tc : Thread nD τ).loc main_arg1)
def argD : Vec Ideal (⟨1, ![512]⟩ : Shape) .f32 := m ((c.tc : Thread nD τ).loc main_arg2)
def argW : Mat 512 512 .bf16 := m ((c.tc : Thread nD τ).loc main_arg3)
def argB : Vec Ideal (⟨1, ![512]⟩ : Shape) .f32 := m ((c.tc : Thread nD τ).loc main_arg4)

/-- The reference terminates with the gated tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = gated (argY m c) (argU m c) (argD m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
    funext y
    obtain ⟨i, j, rfl⟩ := spread y
    pointwise
    rfl), (h c).2⟩) (Value.run m ρ)

/-- The reference's frame. -/
theorem frame : Cert.quiescent_Reference35Ideal := fun m ρ _ =>
  (θ_run defs _ _).mono (fun r h => ⟨fun c => (h c).2, Idealize.ShloMosaic.sem_eq_zero_of_no_sems (by decide) r.2⟩)
    (Value.run (F := Ideal) m ρ)

end Cert.Reference35Ideal.Gate

namespace Cert.Kernel35Ideal.Gate

open Idealize.ShloMosaic Idealize.SL.Sem

/-- The launch against the reference, over the reals. -/
theorem algebraic : Cert.algebraic_Kernel35Ideal_Reference35Ideal := by
  intro m ρ m' ρ' _ hagree
  refine ⟨_, run m ρ, ?_⟩
  refine (θ_run _ _ _).mono (fun r h c => ?_) (Cert.Reference35Ideal.Gate.run m' ρ')
  obtain ⟨h0, h1, h2, h3, h4⟩ := hagree c
  have H := h c
  unfold Cert.Reference35Ideal.Gate.argY Cert.Reference35Ideal.Gate.argU Cert.Reference35Ideal.Gate.argD
    Cert.Reference35Ideal.Gate.argW Cert.Reference35Ideal.Gate.argB at H
  unfold res argY argU argD argW argB
  rw [h0, h1, h2, h3, h4] at H ⊢
  exact H

end Cert.Kernel35Ideal.Gate

end
-- ==== Proof.Norm.Apply.lean ====
module

public import proofs.«01_k».proof.Proof.Norm.BackValue

@[expose] public section

/-! # The modulated norm

A token `x` of 1024 channels is divided by its root mean square, multiplied by a gain `g` and by `1 + s`, and shifted by
`h`.  Before the second and the third norm the token takes in a layer's result `f`, multiplied by a gate and by a number
`k`. -/

noncomputable section

namespace Cert.Norm

open Idealize.ShloMosaic
open Cert.Ffn Cert.Proj
open Cert.Kernel31Ideal.Norm (seq spot place_tokens place_seq tokenOf gainOf vectorOf)

/-- A normed and modulated token. -/
def apply (x g h s : Row) : Row := fun e => x e * inv x * g e * (1 + s e) + h e
/-- A token that has taken in a layer's result. -/
def after (k : EReal) (x f w : Row) : Row := fun e => x e + k * w e * f e

theorem after_one (x f w : Row) : after 1 x f w = fun e => x e + w e * f e := by
  funext e; unfold after; rw [one_mul]

/-- The tokens normed; the tokens that have taken in a layer's result; and these normed. -/
def normed (X : Cube) (g : Line) (H S : Mat 4 1024 .f32) : Vec Ideal (⟨3, ![4, 2048, 1024]⟩ : Shape) .bf16 :=
  fun y => apply (row X (y 0) (y 1)) (line g) (scaleOf H (y 0)) (scaleOf S (y 0)) (y 2)
def moved (k : EReal) (X F : Cube) (W : Mat 4 1024 .f32) : Cube :=
  fun y => after k (row X (y 0) (y 1)) (row F (y 0) (y 1)) (scaleOf W (y 0)) (y 2)
def movedNormed (k : EReal) (X F : Cube) (W : Mat 4 1024 .f32) (g : Line) (H S : Mat 4 1024 .f32) :
    Vec Ideal (⟨3, ![4, 2048, 1024]⟩ : Shape) .bf16 :=
  fun y => apply (after k (row X (y 0) (y 1)) (row F (y 0) (y 1)) (scaleOf W (y 0))) (line g) (scaleOf H (y 0)) (scaleOf S (y 0)) (y 2)

/-! ## Blocks of 512 tokens

A block's windows stand at sequence `t / 4`; these read the arrays there. -/

section
variable (t : Fin 16)

theorem tokens_block (X : Cube) (emb : (⟨3, ![1, 512, 1024]⟩ : Shape).Idx → (⟨3, ![4, 2048, 1024]⟩ : Shape).Idx)
    (h : Stands ![t.val / 4, t.val % 4, 0] emb) (r : Fin 512) :
    tokenOf (fun y => X (emb y)) r = row X (seq t) (spot t r) :=
  funext fun e => congrArg X (place_tokens t emb h (ix3 0 r e))

theorem vector_block (S : Mat 4 1024 .f32) (emb : (⟨3, ![1, 1, 1024]⟩ : Shape).Idx → (⟨3, ![4, 1, 1024]⟩ : Shape).Idx)
    (h : Stands ![t.val / 4, 0, 0] emb) :
    vectorOf (fun y => S (ix2 (emb y 0) (emb y 2))) = scaleOf S (seq t) := by
  funext e
  have p := place_seq t emb h (ix3 0 0 e)
  exact congrArg₂ (fun (a : Fin 4) (b : Fin 1024) => S (ix2 a b)) (congrFun p 0) (congrFun p 2)

theorem gain_block (g : Line) (emb : (⟨2, ![1, 1024]⟩ : Shape).Idx → (⟨2, ![1, 1024]⟩ : Shape).Idx)
    (h : Stands ![0, 0] emb) : gainOf (fun y => g (ix1 (emb y 1))) = line g := by
  funext e
  refine congrArg (fun b : Fin 1024 => g (ix1 b)) (Fin.ext ((h (ix2 0 e) 1).trans ?_))
  show 0 * 1024 + 1 * e.val = e.val
  omega
end

end Cert.Norm

end
-- ==== Proof.Norm.First.lean ====
module

public import proofs.«01_k».proof.Defs
public import proofs.«01_k».proof.Proof.Gen.Kernel37.Frame
public import proofs.«01_k».proof.Proof.Gen.Kernel37Ideal.Value
public import proofs.«01_k».proof.Proof.Gen.Reference37Ideal.Run
public import proofs.«01_k».proof.Proof.Norm.Apply

@[expose] public section

set_option maxRecDepth 16384

/-! # The first modulated norm

Point `t` takes 512 tokens of sequence `t / 4`. -/

noncomputable section

namespace Cert.Kernel37Ideal.Norm

open Cert.Kernel37Ideal Cert.Kernel37Ideal.Gen
open Idealize.ShloMosaic Idealize.ShloMosaic.TcCoe Idealize.ShloMosaic.Tactic
open Idealize.SL.Sem
open Cert.Ffn Cert.Proj Cert.Norm
open Cert.Kernel31Ideal.Norm (seq spot place_tokens tokenOf gainOf vectorOf)

variable (m : (ℓ : Loc nD τ sig) → Buf (Elt Ideal) ℓ) (c : Dev nD)

/-- The arguments: tokens, gain, shift and scale. -/
def argX : Cube := m ((c : Thread nD τ).loc main_arg0)
def argG : Line := m ((c : Thread nD τ).loc main_arg1)
def argH : Mat 4 1024 .f32 := m ((c : Thread nD τ).loc main_arg2)
def argS : Mat 4 1024 .f32 := m ((c : Thread nD τ).loc main_arg3)
/-- The result. -/
def res : Vec Ideal S4x2048x1024 .bf16 := normed (argX m c) (argG m c) (argH m c) (argS m c)

theorem V_x : V m c main_arg0 = argX m c := by entry_read; rfl
theorem V_g : V m c main_v0 = fun y => argG m c (ix1 (y 1)) := by entry_read; funext y; pointwise; rfl
theorem V_h : V m c main_v1 = fun y => argH m c (ix2 (y 0) (y 2)) := by entry_read; funext y; pointwise; rfl
theorem V_s : V m c main_v2 = fun y => argS m c (ix2 (y 0) (y 2)) := by entry_read; funext y; pointwise; rfl

theorem index_x : ∀ t : Fin grid0.N, cc0_transform_0 (grid0.coords t) = ![t.val / 4, t.val % 4, 0] := by decide +kernel
theorem index_g : ∀ t : Fin grid0.N, cc0_transform_1 (grid0.coords t) = ![0, 0] := by decide +kernel
theorem index_h : ∀ t : Fin grid0.N, cc0_transform_2 (grid0.coords t) = ![t.val / 4, 0, 0] := by decide +kernel

variable (t : Fin 16)

theorem blk_x (r : Fin 512) : tokenOf (iblk m c 0 t) r = row (argX m c) (seq t) (spot t r) := by
  have h := V_x m c
  unfold iblk
  generalize V m c = A at h ⊢
  refine Eq.trans (funext fun e => congrFun h ((win0_0.blk t).view.emb (ix3 0 r e))) (tokens_block t (argX m c) _ ?_ r)
  exact fun y a => congrArg (fun n => n * S1x512x1024.size a + 1 * (y a).val) (congrFun (index_x t) a)
theorem blk_g : gainOf (iblk m c 1 t) = line (argG m c) := by
  have h := V_g m c
  unfold iblk
  generalize V m c = A at h ⊢
  refine Eq.trans (funext fun e => congrFun h ((win0_1.blk t).view.emb (ix2 0 e))) (gain_block (argG m c) _ ?_)
  exact fun y a => congrArg (fun n => n * S1x1024.size a + 1 * (y a).val) (congrFun (index_g t) a)
theorem blk_h : vectorOf (iblk m c 2 t) = scaleOf (argH m c) (seq t) := by
  have h := V_h m c
  unfold iblk
  generalize V m c = A at h ⊢
  refine Eq.trans (funext fun e => congrFun h ((win0_2.blk t).view.emb (ix3 0 0 e))) (vector_block t (argH m c) _ ?_)
  exact fun y a => congrArg (fun n => n * S1x1x1024.size a + 1 * (y a).val) (congrFun (index_h t) a)
theorem blk_s : vectorOf (iblk m c 3 t) = scaleOf (argS m c) (seq t) := by
  have h := V_s m c
  unfold iblk
  generalize V m c = A at h ⊢
  refine Eq.trans (funext fun e => congrFun h ((win0_2.blk t).view.emb (ix3 0 0 e))) (vector_block t (argS m c) _ ?_)
  exact fun y a => congrArg (fun n => n * S1x1x1024.size a + 1 * (y a).val) (congrFun (index_h t) a)

/-- A point's result, token by token. -/
theorem pay (x : Vec Ideal S1x512x1024 .f32) (g : Vec Ideal S1x1024 .f32) (h s : Vec Ideal S1x1x1024 .f32) (r : Fin 512)
    (e : Fin 1024) : k0_pay1 (F := Ideal) x g h s (ix3 0 r e) = apply (tokenOf x r) (gainOf g) (vectorOf h) (vectorOf s) e := by
  pointwise [k0_pay1]; rfl

theorem value (r : Fin 512) (e : Fin 1024) :
    k0_pay1 (F := Ideal) (iblk m c 0 t) (iblk m c 1 t) (iblk m c 2 t) (iblk m c 3 t) (ix3 0 r e)
      = res m c (ix3 (seq t) (spot t r) e) := by
  refine (pay _ _ _ _ r e).trans ?_
  rw [blk_x, blk_g, blk_h, blk_s]
  rfl

theorem final : (dats m 0 c).arrAt 4 cfg0.N = res m c := by
  refine (dats m 0 c).arrAt_eq_of_covers 4 _ (by decide +kernel) fun t hf y => ?_
  rw [after0_4]
  unfold out0_4
  rw [View.canon_cons_unit_lit _ _ _ (by decide), View.ld_unit_lit _ _ (by decide), View.ld_unit_lit _ _ (by decide),
    View.ld_unit_lit _ _ (by decide), View.ld_unit_lit _ _ (by decide)]
  obtain ⟨i, r, e, rfl⟩ := spread (a := 1) (b := 512) (n := 1024) y
  obtain rfl : i = 0 := Subsingleton.elim _ _
  exact (value m c t r e).trans (congrArg (res m c) (place_tokens t _ (fun y a => congrArg (fun n => n * S1x512x1024.size a + 1 * (y a).val)
    (congrFun (index_x t) a)) (ix3 0 r e))).symm

/-- The launch terminates with the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m c), (h c).2⟩) (Value.run_blocks m ρ)

/-- The launch's frames, at machine words and over the reals. -/
theorem frame_words : Cert.quiescent_Kernel37 := fun m ρ _ => Cert.Kernel37.Gen.frame m ρ
theorem frame_reals : Cert.quiescent_Kernel37Ideal := fun m ρ _ => Cert.Kernel37Ideal.Gen.frame m ρ

end Cert.Kernel37Ideal.Norm

namespace Cert.Reference37Ideal.Norm

open Cert.Reference37Ideal
open Idealize.ShloMosaic Idealize.SL.Sem
open Cert.Proj Cert.Norm

variable (m : (ℓ : Loc nD τ sig) → Buf (Elt Ideal) ℓ) (c : Dev nD)

/-- The reference's arguments. -/
def argX : Cube := m ((c.tc : Thread nD τ).loc main_arg0)
def argG : Line := m ((c.tc : Thread nD τ).loc main_arg1)
def argH : Mat 4 1024 .f32 := m ((c.tc : Thread nD τ).loc main_arg2)
def argS : Mat 4 1024 .f32 := m ((c.tc : Thread nD τ).loc main_arg3)

/-- The reference terminates with the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = normed (argX m c) (argG m c) (argH m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
    funext y
    obtain ⟨b, r, e, rfl⟩ := spread (a := 4) (b := 2048) (n := 1024) y
    pointwise
    rfl), (h c).2⟩) (Value.run m ρ)

/-- The reference's frame. -/
theorem frame : Cert.quiescent_Reference37Ideal := fun m ρ _ =>
  (θ_run defs _ _).mono (fun r h => ⟨fun c => (h c).2, Idealize.ShloMosaic.sem_eq_zero_of_no_sems (by decide) r.2⟩)
    (Value.run (F := Ideal) m ρ)

end Cert.Reference37Ideal.Norm

namespace Cert.Kernel37Ideal.Norm

open Idealize.ShloMosaic Idealize.SL.Sem

/-- The launch against the reference, over the reals. -/
theorem algebraic : Cert.algebraic_Kernel37Ideal_Reference37Ideal := by
  intro m ρ m' ρ' _ hagree
  refine ⟨_, run m ρ, ?_⟩
  refine (θ_run _ _ _).mono (fun r h c => ?_) (Cert.Reference37Ideal.Norm.run m' ρ')
  obtain ⟨h0, h1, h2, h3⟩ := hagree c
  have H := h c
  unfold Cert.Reference37Ideal.Norm.argX Cert.Reference37Ideal.Norm.argG Cert.Reference37Ideal.Norm.argH
    Cert.Reference37Ideal.Norm.argS at H
  unfold res argX argG argH argS
  rw [h0, h1, h2, h3] at H ⊢
  exact H

end Cert.Kernel37Ideal.Norm

end
-- ==== Proof.Norm.Second.lean ====
module

public import proofs.«01_k».proof.Defs
public import proofs.«01_k».proof.Proof.Gen.Kernel38.Frame
public import proofs.«01_k».proof.Proof.Gen.Kernel38Ideal.Value
public import proofs.«01_k».proof.Proof.Gen.Reference38Ideal.Run
public import proofs.«01_k».proof.Proof.Norm.Apply

@[expose] public section

set_option maxRecDepth 16384

/-! # The second modulated norm

Point `t` takes 512 tokens of sequence `t / 4`; they take in half of the first layer's gated result and are normed. -/

noncomputable section

namespace Cert.Kernel38Ideal.Norm

open Cert.Kernel38Ideal Cert.Kernel38Ideal.Gen
open Idealize.ShloMosaic Idealize.ShloMosaic.TcCoe Idealize.ShloMosaic.Tactic
open Idealize.SL.Sem
open Cert.Ffn Cert.Proj Cert.Norm
open Cert.Kernel31Ideal.Norm (seq spot place_tokens tokenOf gainOf vectorOf)

variable (m : (ℓ : Loc nD τ sig) → Buf (Elt Ideal) ℓ) (c : Dev nD)

/-- The arguments: tokens, a layer's result and its gate, gain, shift and scale. -/
def argX : Cube := m ((c : Thread nD τ).loc main_arg0)
def argF : Cube := m ((c : Thread nD τ).loc main_arg1)
def argW : Mat 4 1024 .f32 := m ((c : Thread nD τ).loc main_arg2)
def argG : Line := m ((c : Thread nD τ).loc main_arg3)
def argH : Mat 4 1024 .f32 := m ((c : Thread nD τ).loc main_arg4)
def argS : Mat 4 1024 .f32 := m ((c : Thread nD τ).loc main_arg5)
/-- The number before the gate, and the results. -/
abbrev coef : EReal := Ideal.ofBits FTy.f32 0x3F000000#32
def resX : Cube := moved coef (argX m c) (argF m c) (argW m c)
def resA : Vec Ideal S4x2048x1024 .bf16 := movedNormed coef (argX m c) (argF m c) (argW m c) (argG m c) (argH m c) (argS m c)

theorem V_x : V m c main_arg0 = argX m c := by entry_read; rfl
theorem V_f : V m c main_arg1 = argF m c := by entry_read; rfl
theorem V_w : V m c main_v0 = fun y => argW m c (ix2 (y 0) (y 2)) := by entry_read; funext y; pointwise; rfl
theorem V_g : V m c main_v1 = fun y => argG m c (ix1 (y 1)) := by entry_read; funext y; pointwise; rfl
theorem V_h : V m c main_v2 = fun y => argH m c (ix2 (y 0) (y 2)) := by entry_read; funext y; pointwise; rfl
theorem V_s : V m c main_v3 = fun y => argS m c (ix2 (y 0) (y 2)) := by entry_read; funext y; pointwise; rfl

theorem index_x : ∀ t : Fin grid0.N, cc0_transform_0 (grid0.coords t) = ![t.val / 4, t.val % 4, 0] := by decide +kernel
theorem index_w : ∀ t : Fin grid0.N, cc0_transform_2 (grid0.coords t) = ![t.val / 4, 0, 0] := by decide +kernel
theorem index_g : ∀ t : Fin grid0.N, cc0_transform_3 (grid0.coords t) = ![0, 0] := by decide +kernel

variable (t : Fin 16)

/-- Where the windows of tokens, of a sequence's vector and of the gain stand. -/
theorem stands_x : Stands ![t.val / 4, t.val % 4, 0] (win0_0.blk t).view.emb :=
  fun y a => congrArg (fun n => n * S1x512x1024.size a + 1 * (y a).val) (congrFun (index_x t) a)
theorem stands_w : Stands ![t.val / 4, 0, 0] (win0_2.blk t).view.emb :=
  fun y a => congrArg (fun n => n * S1x1x1024.size a + 1 * (y a).val) (congrFun (index_w t) a)
theorem stands_g : Stands ![0, 0] (win0_3.blk t).view.emb :=
  fun y a => congrArg (fun n => n * S1x1024.size a + 1 * (y a).val) (congrFun (index_g t) a)

theorem blk_x (r : Fin 512) : tokenOf (iblk m c 0 t) r = row (argX m c) (seq t) (spot t r) := by
  have h := V_x m c; unfold iblk; generalize V m c = A at h ⊢
  exact Eq.trans (funext fun e => congrFun h ((win0_0.blk t).view.emb (ix3 0 r e))) (tokens_block t (argX m c) _ (stands_x t) r)
theorem blk_f (r : Fin 512) : tokenOf (iblk m c 1 t) r = row (argF m c) (seq t) (spot t r) := by
  have h := V_f m c; unfold iblk; generalize V m c = A at h ⊢
  exact Eq.trans (funext fun e => congrFun h ((win0_0.blk t).view.emb (ix3 0 r e))) (tokens_block t (argF m c) _ (stands_x t) r)
theorem blk_w : vectorOf (iblk m c 2 t) = scaleOf (argW m c) (seq t) := by
  have h := V_w m c; unfold iblk; generalize V m c = A at h ⊢
  exact Eq.trans (funext fun e => congrFun h ((win0_2.blk t).view.emb (ix3 0 0 e))) (vector_block t (argW m c) _ (stands_w t))
theorem blk_g : gainOf (iblk m c 3 t) = line (argG m c) := by
  have h := V_g m c; unfold iblk; generalize V m c = A at h ⊢
  exact Eq.trans (funext fun e => congrFun h ((win0_3.blk t).view.emb (ix2 0 e))) (gain_block (argG m c) _ (stands_g t))
theorem blk_h : vectorOf (iblk m c 4 t) = scaleOf (argH m c) (seq t) := by
  have h := V_h m c; unfold iblk; generalize V m c = A at h ⊢
  exact Eq.trans (funext fun e => congrFun h ((win0_2.blk t).view.emb (ix3 0 0 e))) (vector_block t (argH m c) _ (stands_w t))
theorem blk_s : vectorOf (iblk m c 5 t) = scaleOf (argS m c) (seq t) := by
  have h := V_s m c; unfold iblk; generalize V m c = A at h ⊢
  exact Eq.trans (funext fun e => congrFun h ((win0_2.blk t).view.emb (ix3 0 0 e))) (vector_block t (argS m c) _ (stands_w t))

/-- A point's results, token by token. -/
theorem pay_after (x f : Vec Ideal S1x512x1024 .f32) (w : Vec Ideal S1x1x1024 .f32) (i : S512x1024.Idx) :
    k0_pay3 (F := Ideal) x f w i = after coef (tokenOf x (i 0)) (tokenOf f (i 0)) (vectorOf w) (i 1) := by
  pointwise [k0_pay3]; rfl
theorem pay_x (x f : Vec Ideal S1x512x1024 .f32) (w : Vec Ideal S1x1x1024 .f32) (r : Fin 512) (e : Fin 1024) :
    k0_pay1 (F := Ideal) (k0_pay3 x f w) (ix3 0 r e) = after coef (tokenOf x r) (tokenOf f r) (vectorOf w) e := by
  pointwise [k0_pay1, pay_after]
theorem pay_a (x f : Vec Ideal S1x512x1024 .f32) (w : Vec Ideal S1x1x1024 .f32) (g : Vec Ideal S1x1024 .f32)
    (h s : Vec Ideal S1x1x1024 .f32) (r : Fin 512) (e : Fin 1024) :
    k0_pay2 (F := Ideal) (k0_pay4 x f w g h s) (ix3 0 r e)
      = apply (after coef (tokenOf x r) (tokenOf f r) (vectorOf w)) (gainOf g) (vectorOf h) (vectorOf s) e := by
  pointwise [k0_pay2, k0_pay4, pay_after]; rfl

theorem value_x (r : Fin 512) (e : Fin 1024) :
    k0_pay1 (F := Ideal) (k0_pay3 (iblk m c 0 t) (iblk m c 1 t) (iblk m c 2 t)) (ix3 0 r e)
      = resX m c (ix3 (seq t) (spot t r) e) := by
  refine (pay_x _ _ _ r e).trans ?_
  rw [blk_x, blk_f, blk_w]
  rfl
theorem value_a (r : Fin 512) (e : Fin 1024) :
    k0_pay2 (F := Ideal) (k0_pay4 (iblk m c 0 t) (iblk m c 1 t) (iblk m c 2 t) (iblk m c 3 t) (iblk m c 4 t) (iblk m c 5 t)) (ix3 0 r e)
      = resA m c (ix3 (seq t) (spot t r) e) := by
  refine (pay_a _ _ _ _ _ _ r e).trans ?_
  rw [blk_x, blk_f, blk_w, blk_g, blk_h, blk_s]
  rfl

theorem final_x : (dats m 0 c).arrAt 6 cfg0.N = resX m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide),
    View.ld_unit_lit _ _ (by decide)]
  obtain ⟨i, r, e, rfl⟩ := spread (a := 1) (b := 512) (n := 1024) y
  obtain rfl : i = 0 := Subsingleton.elim _ _
  exact (value_x m c t r e).trans (congrArg (resX m c) (place_tokens t _ (stands_x t) (ix3 0 r e))).symm

theorem final_a : (dats m 0 c).arrAt 7 cfg0.N = resA m c := by
  refine (dats m 0 c).arrAt_eq_of_covers 7 _ (by decide +kernel) fun t hf y => ?_
  rw [after0_7]
  unfold out0_7
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide),
    View.ld_unit_lit _ _ (by decide)]
  obtain ⟨i, r, e, rfl⟩ := spread (a := 1) (b := 512) (n := 1024) y
  obtain rfl : i = 0 := Subsingleton.elim _ _
  exact (value_a m c t r e).trans (congrArg (resA m c) (place_tokens t _ (stands_x t) (ix3 0 r e))).symm

/-- The launch terminates with the tokens and the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = resX m c
      ∧ r.2.mem ((c.tc : Thread nD τ).loc main_v4_1) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_x m c), (h c).2.1.trans (final_a m c), (h c).2.2⟩) (Value.run_blocks m ρ)

/-- The launch's frames, at machine words and over the reals. -/
theorem frame_words : Cert.quiescent_Kernel38 := fun m ρ _ => Cert.Kernel38.Gen.frame m ρ
theorem frame_reals : Cert.quiescent_Kernel38Ideal := fun m ρ _ => Cert.Kernel38Ideal.Gen.frame m ρ

end Cert.Kernel38Ideal.Norm

namespace Cert.Reference38Ideal.Norm

open Cert.Reference38Ideal
open Idealize.ShloMosaic Idealize.SL.Sem
open Cert.Proj Cert.Norm

variable (m : (ℓ : Loc nD τ sig) → Buf (Elt Ideal) ℓ) (c : Dev nD)

/-- The reference's arguments. -/
def argX : Cube := m ((c.tc : Thread nD τ).loc main_arg0)
def argF : Cube := m ((c.tc : Thread nD τ).loc main_arg1)
def argW : Mat 4 1024 .f32 := m ((c.tc : Thread nD τ).loc main_arg2)
def argG : Line := m ((c.tc : Thread nD τ).loc main_arg3)
def argH : Mat 4 1024 .f32 := m ((c.tc : Thread nD τ).loc main_arg4)
def argS : Mat 4 1024 .f32 := m ((c.tc : Thread nD τ).loc main_arg5)
abbrev coef : EReal := Ideal.ofBits FTy.f32 0x3F000000#32

/-- The reference terminates with the tokens and the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = moved coef (argX m c) (argF m c) (argW m c)
      ∧ r.2.mem ((c.tc : Thread nD τ).loc main_v27) = movedNormed coef (argX m c) (argF m c) (argW m c) (argG m c) (argH m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    refine ⟨(h c).1.trans ?_, (h c).2.1.trans ?_, (h c).2.2⟩ <;>
      (funext y; obtain ⟨b, r, e, rfl⟩ := spread (a := 4) (b := 2048) (n := 1024) y; pointwise; rfl)) (Value.run m ρ)

/-- The reference's frame. -/
theorem frame : Cert.quiescent_Reference38Ideal := fun m ρ _ =>
  (θ_run defs _ _).mono (fun r h => ⟨fun c => (h c).2.2, Idealize.ShloMosaic.sem_eq_zero_of_no_sems (by decide) r.2⟩)
    (Value.run (F := Ideal) m ρ)

end Cert.Reference38Ideal.Norm

namespace Cert.Kernel38Ideal.Norm

open Idealize.ShloMosaic Idealize.SL.Sem

/-- The launch against the reference, over the reals. -/
theorem algebraic : Cert.algebraic_Kernel38Ideal_Reference38Ideal := by
  intro m ρ m' ρ' _ hagree
  refine ⟨_, _, run m ρ, ?_⟩
  refine (θ_run _ _ _).mono (fun r h c => ?_) (Cert.Reference38Ideal.Norm.run m' ρ')
  obtain ⟨h0, h1, h2, h3, h4, h5⟩ := hagree c
  have H := h c
  unfold Cert.Reference38Ideal.Norm.argX Cert.Reference38Ideal.Norm.argF Cert.Reference38Ideal.Norm.argW
    Cert.Reference38Ideal.Norm.argG Cert.Reference38Ideal.Norm.argH Cert.Reference38Ideal.Norm.argS at H
  unfold resX resA argX argF argW argG argH argS
  rw [h0, h1, h2, h3, h4, h5] at H ⊢
  exact H

end Cert.Kernel38Ideal.Norm

end
-- ==== Proof.Norm.Third.lean ====
module

public import proofs.«01_k».proof.Defs
public import proofs.«01_k».proof.Proof.Gen.Kernel39.Frame
public import proofs.«01_k».proof.Proof.Gen.Kernel39Ideal.Value
public import proofs.«01_k».proof.Proof.Gen.Reference39Ideal.Run
public import proofs.«01_k».proof.Proof.Norm.Apply

@[expose] public section

set_option maxRecDepth 16394

/-! # The third modulated norm

Point `t` takes 512 tokens of sequence `t / 4`; they take in the mixing layer's gated result and are normed. -/

noncomputable section

namespace Cert.Kernel39Ideal.Norm

open Cert.Kernel39Ideal Cert.Kernel39Ideal.Gen
open Idealize.ShloMosaic Idealize.ShloMosaic.TcCoe Idealize.ShloMosaic.Tactic
open Idealize.SL.Sem
open Cert.Ffn Cert.Proj Cert.Norm
open Cert.Kernel31Ideal.Norm (seq spot place_tokens tokenOf gainOf vectorOf)

variable (m : (ℓ : Loc nD τ sig) → Buf (Elt Ideal) ℓ) (c : Dev nD)

/-- The arguments: tokens, a layer's result and its gate, gain, shift and scale. -/
def argX : Cube := m ((c : Thread nD τ).loc main_arg0)
def argF : Cube := m ((c : Thread nD τ).loc main_arg1)
def argW : Mat 4 1024 .f32 := m ((c : Thread nD τ).loc main_arg2)
def argG : Line := m ((c : Thread nD τ).loc main_arg3)
def argH : Mat 4 1024 .f32 := m ((c : Thread nD τ).loc main_arg4)
def argS : Mat 4 1024 .f32 := m ((c : Thread nD τ).loc main_arg5)
/-- The number before the gate, and the results. -/
abbrev coef : EReal := 1
def resX : Cube := moved coef (argX m c) (argF m c) (argW m c)
def resA : Vec Ideal S4x2048x1024 .bf16 := movedNormed coef (argX m c) (argF m c) (argW m c) (argG m c) (argH m c) (argS m c)

theorem V_x : V m c main_arg0 = argX m c := by entry_read; rfl
theorem V_f : V m c main_arg1 = argF m c := by entry_read; rfl
theorem V_w : V m c main_v0 = fun y => argW m c (ix2 (y 0) (y 2)) := by entry_read; funext y; pointwise; rfl
theorem V_g : V m c main_v1 = fun y => argG m c (ix1 (y 1)) := by entry_read; funext y; pointwise; rfl
theorem V_h : V m c main_v2 = fun y => argH m c (ix2 (y 0) (y 2)) := by entry_read; funext y; pointwise; rfl
theorem V_s : V m c main_v3 = fun y => argS m c (ix2 (y 0) (y 2)) := by entry_read; funext y; pointwise; rfl

theorem index_x : ∀ t : Fin grid0.N, cc0_transform_0 (grid0.coords t) = ![t.val / 4, t.val % 4, 0] := by decide +kernel
theorem index_w : ∀ t : Fin grid0.N, cc0_transform_2 (grid0.coords t) = ![t.val / 4, 0, 0] := by decide +kernel
theorem index_g : ∀ t : Fin grid0.N, cc0_transform_3 (grid0.coords t) = ![0, 0] := by decide +kernel

variable (t : Fin 16)

/-- Where the windows of tokens, of a sequence's vector and of the gain stand. -/
theorem stands_x : Stands ![t.val / 4, t.val % 4, 0] (win0_0.blk t).view.emb :=
  fun y a => congrArg (fun n => n * S1x512x1024.size a + 1 * (y a).val) (congrFun (index_x t) a)
theorem stands_w : Stands ![t.val / 4, 0, 0] (win0_2.blk t).view.emb :=
  fun y a => congrArg (fun n => n * S1x1x1024.size a + 1 * (y a).val) (congrFun (index_w t) a)
theorem stands_g : Stands ![0, 0] (win0_3.blk t).view.emb :=
  fun y a => congrArg (fun n => n * S1x1024.size a + 1 * (y a).val) (congrFun (index_g t) a)

theorem blk_x (r : Fin 512) : tokenOf (iblk m c 0 t) r = row (argX m c) (seq t) (spot t r) := by
  have h := V_x m c; unfold iblk; generalize V m c = A at h ⊢
  exact Eq.trans (funext fun e => congrFun h ((win0_0.blk t).view.emb (ix3 0 r e))) (tokens_block t (argX m c) _ (stands_x t) r)
theorem blk_f (r : Fin 512) : tokenOf (iblk m c 1 t) r = row (argF m c) (seq t) (spot t r) := by
  have h := V_f m c; unfold iblk; generalize V m c = A at h ⊢
  exact Eq.trans (funext fun e => congrFun h ((win0_0.blk t).view.emb (ix3 0 r e))) (tokens_block t (argF m c) _ (stands_x t) r)
theorem blk_w : vectorOf (iblk m c 2 t) = scaleOf (argW m c) (seq t) := by
  have h := V_w m c; unfold iblk; generalize V m c = A at h ⊢
  exact Eq.trans (funext fun e => congrFun h ((win0_2.blk t).view.emb (ix3 0 0 e))) (vector_block t (argW m c) _ (stands_w t))
theorem blk_g : gainOf (iblk m c 3 t) = line (argG m c) := by
  have h := V_g m c; unfold iblk; generalize V m c = A at h ⊢
  exact Eq.trans (funext fun e => congrFun h ((win0_3.blk t).view.emb (ix2 0 e))) (gain_block (argG m c) _ (stands_g t))
theorem blk_h : vectorOf (iblk m c 4 t) = scaleOf (argH m c) (seq t) := by
  have h := V_h m c; unfold iblk; generalize V m c = A at h ⊢
  exact Eq.trans (funext fun e => congrFun h ((win0_2.blk t).view.emb (ix3 0 0 e))) (vector_block t (argH m c) _ (stands_w t))
theorem blk_s : vectorOf (iblk m c 5 t) = scaleOf (argS m c) (seq t) := by
  have h := V_s m c; unfold iblk; generalize V m c = A at h ⊢
  exact Eq.trans (funext fun e => congrFun h ((win0_2.blk t).view.emb (ix3 0 0 e))) (vector_block t (argS m c) _ (stands_w t))

/-- A point's results, token by token. -/
theorem pay_after (x f : Vec Ideal S1x512x1024 .f32) (w : Vec Ideal S1x1x1024 .f32) (i : S512x1024.Idx) :
    k0_pay3 (F := Ideal) x f w i = after coef (tokenOf x (i 0)) (tokenOf f (i 0)) (vectorOf w) (i 1) := by
  pointwise [k0_pay3]; rw [after_one]; rfl
theorem pay_x (x f : Vec Ideal S1x512x1024 .f32) (w : Vec Ideal S1x1x1024 .f32) (r : Fin 512) (e : Fin 1024) :
    k0_pay1 (F := Ideal) (k0_pay3 x f w) (ix3 0 r e) = after coef (tokenOf x r) (tokenOf f r) (vectorOf w) e := by
  pointwise [k0_pay1, pay_after]
theorem pay_a (x f : Vec Ideal S1x512x1024 .f32) (w : Vec Ideal S1x1x1024 .f32) (g : Vec Ideal S1x1024 .f32)
    (h s : Vec Ideal S1x1x1024 .f32) (r : Fin 512) (e : Fin 1024) :
    k0_pay2 (F := Ideal) (k0_pay4 x f w g h s) (ix3 0 r e)
      = apply (after coef (tokenOf x r) (tokenOf f r) (vectorOf w)) (gainOf g) (vectorOf h) (vectorOf s) e := by
  pointwise [k0_pay2, k0_pay4, pay_after]; rfl

theorem value_x (r : Fin 512) (e : Fin 1024) :
    k0_pay1 (F := Ideal) (k0_pay3 (iblk m c 0 t) (iblk m c 1 t) (iblk m c 2 t)) (ix3 0 r e)
      = resX m c (ix3 (seq t) (spot t r) e) := by
  refine (pay_x _ _ _ r e).trans ?_
  rw [blk_x, blk_f, blk_w]
  rfl
theorem value_a (r : Fin 512) (e : Fin 1024) :
    k0_pay2 (F := Ideal) (k0_pay4 (iblk m c 0 t) (iblk m c 1 t) (iblk m c 2 t) (iblk m c 3 t) (iblk m c 4 t) (iblk m c 5 t)) (ix3 0 r e)
      = resA m c (ix3 (seq t) (spot t r) e) := by
  refine (pay_a _ _ _ _ _ _ r e).trans ?_
  rw [blk_x, blk_f, blk_w, blk_g, blk_h, blk_s]
  rfl

theorem final_x : (dats m 0 c).arrAt 6 cfg0.N = resX m c := by
  refine (dats m 0 c).arrAt_eq_of_covers 6 _ (by decide +kernel) fun t hf y => ?_
  rw [after0_6]
  unfold out0_6
  rw [View.canon_cons_unit_lit _ _ _ (by decide), View.ld_unit_lit _ _ (by decide), View.ld_unit_lit _ _ (by decide),
    View.ld_unit_lit _ _ (by decide)]
  obtain ⟨i, r, e, rfl⟩ := spread (a := 1) (b := 512) (n := 1024) y
  obtain rfl : i = 0 := Subsingleton.elim _ _
  exact (value_x m c t r e).trans (congrArg (resX m c) (place_tokens t _ (stands_x t) (ix3 0 r e))).symm

theorem final_a : (dats m 0 c).arrAt 7 cfg0.N = resA m c := by
  refine (dats m 0 c).arrAt_eq_of_covers 7 _ (by decide +kernel) fun t hf y => ?_
  rw [after0_7]
  unfold out0_7
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide),
    View.ld_unit_lit _ _ (by decide)]
  obtain ⟨i, r, e, rfl⟩ := spread (a := 1) (b := 512) (n := 1024) y
  obtain rfl : i = 0 := Subsingleton.elim _ _
  exact (value_a m c t r e).trans (congrArg (resA m c) (place_tokens t _ (stands_x t) (ix3 0 r e))).symm

/-- The launch terminates with the tokens and the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v4_0) = resX m c
      ∧ r.2.mem ((c.tc : Thread nD τ).loc main_v4_1) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_x m c), (h c).2.1.trans (final_a m c), (h c).2.2⟩) (Value.run_blocks m ρ)

/-- The launch's frames, at machine words and over the reals. -/
theorem frame_words : Cert.quiescent_Kernel39 := fun m ρ _ => Cert.Kernel39.Gen.frame m ρ
theorem frame_reals : Cert.quiescent_Kernel39Ideal := fun m ρ _ => Cert.Kernel39Ideal.Gen.frame m ρ

end Cert.Kernel39Ideal.Norm

namespace Cert.Reference39Ideal.Norm

open Cert.Reference39Ideal
open Idealize.ShloMosaic Idealize.SL.Sem
open Cert.Proj Cert.Norm

variable (m : (ℓ : Loc nD τ sig) → Buf (Elt Ideal) ℓ) (c : Dev nD)

/-- The reference's arguments. -/
def argX : Cube := m ((c.tc : Thread nD τ).loc main_arg0)
def argF : Cube := m ((c.tc : Thread nD τ).loc main_arg1)
def argW : Mat 4 1024 .f32 := m ((c.tc : Thread nD τ).loc main_arg2)
def argG : Line := m ((c.tc : Thread nD τ).loc main_arg3)
def argH : Mat 4 1024 .f32 := m ((c.tc : Thread nD τ).loc main_arg4)
def argS : Mat 4 1024 .f32 := m ((c.tc : Thread nD τ).loc main_arg5)
abbrev coef : EReal := 1

/-- The reference terminates with the tokens and the normed tokens, its arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = moved coef (argX m c) (argF m c) (argW m c)
      ∧ r.2.mem ((c.tc : Thread nD τ).loc main_v27) = movedNormed coef (argX m c) (argF m c) (argW m c) (argG m c) (argH m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    refine ⟨(h c).1.trans ?_, (h c).2.1.trans ?_, (h c).2.2⟩
    · funext y; obtain ⟨b, r, e, rfl⟩ := spread (a := 4) (b := 2048) (n := 1024) y
      pointwise; unfold moved; rw [after_one]; rfl
    · funext y; obtain ⟨b, r, e, rfl⟩ := spread (a := 4) (b := 2048) (n := 1024) y
      pointwise; unfold movedNormed; rw [after_one]; rfl) (Value.run m ρ)

/-- The reference's frame. -/
theorem frame : Cert.quiescent_Reference39Ideal := fun m ρ _ =>
  (θ_run defs _ _).mono (fun r h => ⟨fun c => (h c).2.2, Idealize.ShloMosaic.sem_eq_zero_of_no_sems (by decide) r.2⟩)
    (Value.run (F := Ideal) m ρ)

end Cert.Reference39Ideal.Norm

namespace Cert.Kernel39Ideal.Norm

open Idealize.ShloMosaic Idealize.SL.Sem

/-- The launch against the reference, over the reals. -/
theorem algebraic : Cert.algebraic_Kernel39Ideal_Reference39Ideal := by
  intro m ρ m' ρ' _ hagree
  refine ⟨_, _, run m ρ, ?_⟩
  refine (θ_run _ _ _).mono (fun r h c => ?_) (Cert.Reference39Ideal.Norm.run m' ρ')
  obtain ⟨h0, h1, h2, h3, h4, h5⟩ := hagree c
  have H := h c
  unfold Cert.Reference39Ideal.Norm.argX Cert.Reference39Ideal.Norm.argF Cert.Reference39Ideal.Norm.argW
    Cert.Reference39Ideal.Norm.argG Cert.Reference39Ideal.Norm.argH Cert.Reference39Ideal.Norm.argS at H
  unfold resX resA argX argF argW argG argH argS
  rw [h0, h1, h2, h3, h4, h5] at H ⊢
  exact H

end Cert.Kernel39Ideal.Norm

end
-- ==== Proof.lean ====
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Scan.Claims
public import proofs.«01_k».proof.Proof.Gen.Kernel2
public import proofs.«01_k».proof.Proof.Gen.Kernel2Ideal.Frame
public import proofs.«01_k».proof.Proof.Gen.Reference2Ideal.Run
public import proofs.«01_k».proof.Proof.Back.Claims
public import proofs.«01_k».proof.Proof.Gen.Kernel3.Frame
public import proofs.«01_k».proof.Proof.Ffn.GradClaims
public import proofs.«01_k».proof.Proof.Gen.Kernel4.Frame
public import proofs.«01_k».proof.Proof.Ffn.ActsClaims
public import proofs.«01_k».proof.Proof.Gen.Kernel5.Frame
public import proofs.«01_k».proof.Proof.Ffn.BackClaims
public import proofs.«01_k».proof.Proof.Gen.Pre_finite
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Proj.InBackClaims
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Proj.GradClaims
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Proj.GradNarrowClaims
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Proj.GradWideClaims
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Proj.InGatesClaims
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Proj.BackClaims
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Proj.InWideClaims
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Proj.BackMixClaims
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Proj.OutNarrowClaims
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Proj.OutMixClaims
public import proofs.«01_k».proof.Proof.Gen.Kernel6.Frame
public import proofs.«01_k».proof.Proof.Ffn.UpClaims
public import proofs.«01_k».proof.Proof.Gen.Kernel7.Frame
public import proofs.«01_k».proof.Proof.Ffn.DownClaims
public import Idealize.ShloMosaic.Adequacy
public import Idealize.ShloMosaic.Init
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Step.Down
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Step.Up
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Step.In
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Step.Ada
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Step.Glu
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Step.Proj
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Step.Out
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Step.Conv
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Step.Small
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Ada.Back
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Ada.Forward
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Proj.InRatesClaims
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Proj.GradRatesClaims
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Norm.BackClaims
public import proofs.«01_k».proof.Proof.Gate.Merge
public import proofs.«01_k».proof.Proof.Gate.MergeBack
public import proofs.«01_k».proof.Proof.Step.Sum
public import proofs.«01_k».proof.Proof.Gate.Glu
public import proofs.«01_k».proof.Proof.Norm.First
public import proofs.«01_k».proof.Proof.Norm.Second
public import proofs.«01_k».proof.Proof.Norm.Third
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run

@[expose] public section

noncomputable section

/-! # The claims, from their modules -/

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Pre_finite.Gen.facts,
  Cert.KernelIdeal.Scan.frame_words, Cert.KernelIdeal.Scan.frame_reals, Cert.KernelIdeal.Scan.frame_reference,
  Cert.Kernel2Ideal.Back.frame_words, Cert.Kernel2Ideal.Back.frame_reals, Cert.Kernel2Ideal.Back.frame_reference,
  Cert.Kernel3Ideal.Ffn.frame_words, Cert.Kernel3Ideal.Ffn.frame_reals, Cert.Reference3Ideal.Ffn.frame,
  Cert.Kernel4Ideal.Ffn.frame_words, Cert.Kernel4Ideal.Ffn.frame_reals, Cert.Reference4Ideal.Ffn.frame,
  Cert.Kernel5Ideal.Ffn.frame_words, Cert.Kernel5Ideal.Ffn.frame_reals, Cert.Kernel5Ideal.Ffn.frame_reals_finite,
  Cert.Reference5Ideal.Ffn.frame, Cert.Reference5Ideal.Ffn.frame_finite,
  Cert.Kernel6Ideal.Ffn.frame_words, Cert.Kernel6Ideal.Ffn.frame_reals, Cert.Reference6Ideal.Ffn.frame,
  Cert.Kernel7Ideal.Ffn.frame_words, Cert.Kernel7Ideal.Ffn.frame_reals, Cert.Reference7Ideal.Ffn.frame,
  Cert.Kernel8Ideal.Proj.frame_words, Cert.Kernel8Ideal.Proj.frame_reals, Cert.Reference8Ideal.Proj.frame,
  Cert.Kernel9Ideal.Proj.frame_words, Cert.Kernel9Ideal.Proj.frame_reals, Cert.Reference9Ideal.Proj.frame,
  Cert.Kernel10Ideal.Proj.frame_words, Cert.Kernel10Ideal.Proj.frame_reals, Cert.Reference10Ideal.Proj.frame,
  Cert.Kernel11Ideal.Proj.frame_words, Cert.Kernel11Ideal.Proj.frame_reals, Cert.Reference11Ideal.Proj.frame,
  Cert.Kernel12Ideal.Proj.frame_words, Cert.Kernel12Ideal.Proj.frame_reals, Cert.Reference12Ideal.Proj.frame,
  Cert.Kernel13Ideal.Proj.frame_words, Cert.Kernel13Ideal.Proj.frame_reals, Cert.Reference13Ideal.Proj.frame,
  Cert.Kernel14Ideal.Proj.frame_words, Cert.Kernel14Ideal.Proj.frame_reals, Cert.Reference14Ideal.Proj.frame,
  Cert.Kernel15Ideal.Proj.frame_words, Cert.Kernel15Ideal.Proj.frame_reals, Cert.Reference15Ideal.Proj.frame,
  Cert.Kernel16Ideal.Proj.frame_words, Cert.Kernel16Ideal.Proj.frame_reals, Cert.Reference16Ideal.Proj.frame,
  Cert.Kernel17Ideal.Proj.frame_words, Cert.Kernel17Ideal.Proj.frame_reals, Cert.Reference17Ideal.Proj.frame,
  Cert.Kernel18Ideal.Step.frame_words, Cert.Kernel18Ideal.Step.frame_reals, Cert.Reference18Ideal.Step.frame,
  Cert.Kernel19Ideal.Step.frame_words, Cert.Kernel19Ideal.Step.frame_reals, Cert.Reference19Ideal.Step.frame,
  Cert.Kernel20Ideal.Step.frame_words, Cert.Kernel20Ideal.Step.frame_reals, Cert.Reference20Ideal.Step.frame,
  Cert.Kernel21Ideal.Step.frame_words, Cert.Kernel21Ideal.Step.frame_reals, Cert.Reference21Ideal.Step.frame,
  Cert.Kernel22Ideal.Step.frame_words, Cert.Kernel22Ideal.Step.frame_reals, Cert.Reference22Ideal.Step.frame,
  Cert.Kernel23Ideal.Step.frame_words, Cert.Kernel23Ideal.Step.frame_reals, Cert.Reference23Ideal.Step.frame,
  Cert.Kernel24Ideal.Step.frame_words, Cert.Kernel24Ideal.Step.frame_reals, Cert.Reference24Ideal.Step.frame,
  Cert.Kernel25Ideal.Step.frame_words, Cert.Kernel25Ideal.Step.frame_reals, Cert.Reference25Ideal.Step.frame,
  Cert.Kernel26Ideal.Step.frame_words, Cert.Kernel26Ideal.Step.frame_reals, Cert.Reference26Ideal.Step.frame,
  Cert.Kernel27Ideal.Ada.frame_words, Cert.Kernel27Ideal.Ada.frame_reals, Cert.Reference27Ideal.Ada.frame,
  Cert.Kernel28Ideal.Ada.frame_words, Cert.Kernel28Ideal.Ada.frame_reals, Cert.Reference28Ideal.Ada.frame,
  Cert.Kernel29Ideal.Proj.frame_words, Cert.Kernel29Ideal.Proj.frame_reals, Cert.Reference29Ideal.Proj.frame,
  Cert.Kernel30Ideal.Proj.frame_words, Cert.Kernel30Ideal.Proj.frame_reals, Cert.Reference30Ideal.Proj.frame,
  Cert.Kernel31Ideal.Norm.frame_words, Cert.Kernel31Ideal.Norm.frame_reals, Cert.Reference31Ideal.Norm.frame,
  Cert.Kernel32Ideal.Gate.frame_words, Cert.Kernel32Ideal.Gate.frame_reals, Cert.Reference32Ideal.Gate.frame,
  Cert.Kernel33Ideal.Gate.frame_words, Cert.Kernel33Ideal.Gate.frame_reals, Cert.Reference33Ideal.Gate.frame,
  Cert.Kernel34Ideal.Step.frame_words, Cert.Kernel34Ideal.Step.frame_reals, Cert.Reference34Ideal.Step.frame,
  Cert.Kernel35Ideal.Gate.frame_words, Cert.Kernel35Ideal.Gate.frame_reals, Cert.Reference35Ideal.Gate.frame,
  Cert.Kernel37Ideal.Norm.frame_words, Cert.Kernel37Ideal.Norm.frame_reals, Cert.Reference37Ideal.Norm.frame,
  Cert.Kernel38Ideal.Norm.frame_words, Cert.Kernel38Ideal.Norm.frame_reals, Cert.Reference38Ideal.Norm.frame,
  Cert.Kernel39Ideal.Norm.frame_words, Cert.Kernel39Ideal.Norm.frame_reals, Cert.Reference39Ideal.Norm.frame,
  trivial, Cert.KernelIdeal.Scan.algebraic, trivial, Cert.Kernel2Ideal.Back.algebraic,
  trivial, Cert.Kernel3Ideal.Ffn.algebraic,
  trivial, Cert.Kernel4Ideal.Ffn.algebraic,
  trivial, Cert.Kernel5Ideal.Ffn.algebraic,
  trivial, Cert.Kernel6Ideal.Ffn.algebraic,
  trivial, Cert.Kernel7Ideal.Ffn.algebraic,
  trivial, Cert.Kernel8Ideal.Proj.algebraic,
  trivial, Cert.Kernel9Ideal.Proj.algebraic,
  trivial, Cert.Kernel10Ideal.Proj.algebraic,
  trivial, Cert.Kernel11Ideal.Proj.algebraic,
  trivial, Cert.Kernel12Ideal.Proj.algebraic,
  trivial, Cert.Kernel13Ideal.Proj.algebraic,
  trivial, Cert.Kernel14Ideal.Proj.algebraic,
  trivial, Cert.Kernel15Ideal.Proj.algebraic,
  trivial, Cert.Kernel16Ideal.Proj.algebraic,
  trivial, Cert.Kernel17Ideal.Proj.algebraic,
  trivial, Cert.Kernel18Ideal.Step.algebraic,
  trivial, Cert.Kernel19Ideal.Step.algebraic,
  trivial, Cert.Kernel20Ideal.Step.algebraic,
  trivial, Cert.Kernel21Ideal.Step.algebraic,
  trivial, Cert.Kernel22Ideal.Step.algebraic,
  trivial, Cert.Kernel23Ideal.Step.algebraic,
  trivial, Cert.Kernel24Ideal.Step.algebraic,
  trivial, Cert.Kernel25Ideal.Step.algebraic,
  trivial, Cert.Kernel26Ideal.Step.algebraic,
  trivial, Cert.Kernel27Ideal.Ada.algebraic,
  trivial, Cert.Kernel28Ideal.Ada.algebraic,
  trivial, Cert.Kernel29Ideal.Proj.algebraic,
  trivial, Cert.Kernel30Ideal.Proj.algebraic,
  trivial, Cert.Kernel31Ideal.Norm.algebraic,
  trivial, Cert.Kernel32Ideal.Gate.algebraic,
  trivial, Cert.Kernel33Ideal.Gate.algebraic,
  trivial, Cert.Kernel34Ideal.Step.algebraic,
  trivial, Cert.Kernel35Ideal.Gate.algebraic,
  trivial, Cert.Kernel37Ideal.Norm.algebraic,
  trivial, Cert.Kernel38Ideal.Norm.algebraic,
  trivial, Cert.Kernel39Ideal.Norm.algebraic⟩

end Cert.Proof

end
